-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v235_0)) (v1 : (c : Dev Cert.KernelIdeal.nD) → Buf (Elt Ideal) ((c.tc : Thread Cert.KernelIdeal.nD Cert.KernelIdeal.τ).loc Cert.KernelIdeal.main_v235_1)) (v2 : (c : Dev Cert.KernelIdeal.nD) → Buf (Elt Ideal) ((c.tc : Thread Cert.KernelIdeal.nD Cert.KernelIdeal.τ).loc Cert.KernelIdeal.main_v235_2)) (v3 : (c : Dev Cert.KernelIdeal.nD) → Buf (Elt Ideal) ((c.tc : Thread Cert.KernelIdeal.nD Cert.KernelIdeal.τ).loc Cert.KernelIdeal.main_v236)) (v4 : (c : Dev Cert.KernelIdeal.nD) → Buf (Elt Ideal) ((c.tc : Thread Cert.KernelIdeal.nD Cert.KernelIdeal.τ).loc Cert.KernelIdeal.main_v466_0)) (v5 : (c : Dev Cert.KernelIdeal.nD) → Buf (Elt Ideal) ((c.tc : Thread Cert.KernelIdeal.nD Cert.KernelIdeal.τ).loc Cert.KernelIdeal.main_v466_1)) (v6 : (c : Dev Cert.KernelIdeal.nD) → Buf (Elt Ideal) ((c.tc : Thread Cert.KernelIdeal.nD Cert.KernelIdeal.τ).loc Cert.KernelIdeal.main_v466_2)) (v7 : (c : Dev Cert.KernelIdeal.nD) → Buf (Elt Ideal) ((c.tc : Thread Cert.KernelIdeal.nD Cert.KernelIdeal.τ).loc Cert.KernelIdeal.main_v467)) (v8 : (c : Dev Cert.KernelIdeal.nD) → Buf (Elt Ideal) ((c.tc : Thread Cert.KernelIdeal.nD Cert.KernelIdeal.τ).loc Cert.KernelIdeal.main_v697_0)) (v9 : (c : Dev Cert.KernelIdeal.nD) → Buf (Elt Ideal) ((c.tc : Thread Cert.KernelIdeal.nD Cert.KernelIdeal.τ).loc Cert.KernelIdeal.main_v697_1)) (v10 : (c : Dev Cert.KernelIdeal.nD) → Buf (Elt Ideal) ((c.tc : Thread Cert.KernelIdeal.nD Cert.KernelIdeal.τ).loc Cert.KernelIdeal.main_v697_2)) (v11 : (c : Dev Cert.KernelIdeal.nD) → Buf (Elt Ideal) ((c.tc : Thread Cert.KernelIdeal.nD Cert.KernelIdeal.τ).loc Cert.KernelIdeal.main_v698)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v235_0) = v0 c
          ∧ r.2.mem ((c.tc : Thread Cert.KernelIdeal.nD Cert.KernelIdeal.τ).loc Cert.KernelIdeal.main_v235_1) = v1 c
          ∧ r.2.mem ((c.tc : Thread Cert.KernelIdeal.nD Cert.KernelIdeal.τ).loc Cert.KernelIdeal.main_v235_2) = v2 c
          ∧ r.2.mem ((c.tc : Thread Cert.KernelIdeal.nD Cert.KernelIdeal.τ).loc Cert.KernelIdeal.main_v236) = v3 c
          ∧ r.2.mem ((c.tc : Thread Cert.KernelIdeal.nD Cert.KernelIdeal.τ).loc Cert.KernelIdeal.main_v466_0) = v4 c
          ∧ r.2.mem ((c.tc : Thread Cert.KernelIdeal.nD Cert.KernelIdeal.τ).loc Cert.KernelIdeal.main_v466_1) = v5 c
          ∧ r.2.mem ((c.tc : Thread Cert.KernelIdeal.nD Cert.KernelIdeal.τ).loc Cert.KernelIdeal.main_v466_2) = v6 c
          ∧ r.2.mem ((c.tc : Thread Cert.KernelIdeal.nD Cert.KernelIdeal.τ).loc Cert.KernelIdeal.main_v467) = v7 c
          ∧ r.2.mem ((c.tc : Thread Cert.KernelIdeal.nD Cert.KernelIdeal.τ).loc Cert.KernelIdeal.main_v697_0) = v8 c
          ∧ r.2.mem ((c.tc : Thread Cert.KernelIdeal.nD Cert.KernelIdeal.τ).loc Cert.KernelIdeal.main_v697_1) = v9 c
          ∧ r.2.mem ((c.tc : Thread Cert.KernelIdeal.nD Cert.KernelIdeal.τ).loc Cert.KernelIdeal.main_v697_2) = v10 c
          ∧ r.2.mem ((c.tc : Thread Cert.KernelIdeal.nD Cert.KernelIdeal.τ).loc Cert.KernelIdeal.main_v698) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v196) = v4 c
          ∧ r.2.mem ((c.tc : Thread Cert.ReferenceIdeal.nD Cert.ReferenceIdeal.τ).loc Cert.ReferenceIdeal.main_v190) = v5 c
          ∧ r.2.mem ((c.tc : Thread Cert.ReferenceIdeal.nD Cert.ReferenceIdeal.τ).loc Cert.ReferenceIdeal.main_v188) = v6 c
          ∧ r.2.mem ((c.tc : Thread Cert.ReferenceIdeal.nD Cert.ReferenceIdeal.τ).loc Cert.ReferenceIdeal.main_v199) = v7 c
          ∧ r.2.mem ((c.tc : Thread Cert.ReferenceIdeal.nD Cert.ReferenceIdeal.τ).loc Cert.ReferenceIdeal.main_v296) = v8 c
          ∧ r.2.mem ((c.tc : Thread Cert.ReferenceIdeal.nD Cert.ReferenceIdeal.τ).loc Cert.ReferenceIdeal.main_v290) = v9 c
          ∧ r.2.mem ((c.tc : Thread Cert.ReferenceIdeal.nD Cert.ReferenceIdeal.τ).loc Cert.ReferenceIdeal.main_v288) = v10 c
          ∧ r.2.mem ((c.tc : Thread Cert.ReferenceIdeal.nD Cert.ReferenceIdeal.τ).loc Cert.ReferenceIdeal.main_v299) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S64x1000x5 : Shape := ⟨3, ![64, 1000, 5]⟩
abbrev S_ : Shape := ⟨0, ![]⟩

class Facts : Prop where
  bcast_S_S64x1000x5 : S_.BroadcastsInDim S64x1000x5 (![] : Fin 0 → Fin S64x1000x5.rank)
  reducesTo_S64x1000x5_S_d0_1_2 : S64x1000x5.ReducesTo [0, 1, 2] S_
  h_S_ : 0 < S_.numel

variable [Facts]

def fn {F : FTy → Type} [FloatOps F] (main_arg0 : FVec F S64x1000x5 .f32) : IVec S_ 1 :=
  let main_cst : FVec F S_ .f32 := constant S_ .f32 0x00000000#32
  let main_v0 : FVec F S64x1000x5 .f32 := broadcastInDim S64x1000x5 ![] bcast_S_S64x1000x5 main_cst
  let main_v1 : IVec S64x1000x5 1 := cmpf .oge main_arg0 main_v0
  let main_c : IVec S_ 1 := constantI S_ 1 1#1
  let main_v2 : IVec S_ 1 := (fun x v => Host.reduce IntOp.andi x v reducesTo_S64x1000x5_S_d0_1_2 h_S_) main_v1 main_c
  main_v2
-- ==== Kernel.lean ====
abbrev S64x1000x5 : Shape := ⟨3, ![64, 1000, 5]⟩
abbrev S3 : Shape := ⟨1, ![3]⟩
abbrev S1x3 : Shape := ⟨2, ![1, 3]⟩
abbrev S5x2 : Shape := ⟨2, ![5, 2]⟩
abbrev S64x1000x1 : Shape := ⟨3, ![64, 1000, 1]⟩
abbrev S64x1000 : Shape := ⟨2, ![64, 1000]⟩
abbrev S_ : Shape := ⟨0, ![]⟩
abbrev S1x1000 : Shape := ⟨2, ![1, 1000]⟩
abbrev S1000 : Shape := ⟨1, ![1000]⟩
abbrev S1000x1 : Shape := ⟨2, ![1000, 1]⟩
abbrev S1000x3 : Shape := ⟨2, ![1000, 3]⟩
abbrev S1x1x3 : Shape := ⟨3, ![1, 1, 3]⟩
abbrev S64x1000x3 : Shape := ⟨3, ![64, 1000, 3]⟩
abbrev S1x1000x3 : Shape := ⟨3, ![1, 1000, 3]⟩
abbrev S1x64x1000x3 : Shape := ⟨4, ![1, 64, 1000, 3]⟩
abbrev S5x64x1000x3 : Shape := ⟨4, ![5, 64, 1000, 3]⟩
abbrev S960000 : Shape := ⟨1, ![960000]⟩
abbrev S16384 : Shape := ⟨1, ![16384]⟩
abbrev S16384x1 : Shape := ⟨2, ![16384, 1]⟩
abbrev S16384x2 : Shape := ⟨2, ![16384, 2]⟩
abbrev S5x16384 : Shape := ⟨2, ![5, 16384]⟩
abbrev S1x16384 : Shape := ⟨2, ![1, 16384]⟩
abbrev S16384x5 : Shape := ⟨2, ![16384, 5]⟩
abbrev S8192 : Shape := ⟨1, ![8192]⟩
abbrev S8192x1 : Shape := ⟨2, ![8192, 1]⟩
abbrev S8192x2 : Shape := ⟨2, ![8192, 2]⟩
abbrev S5x8192 : Shape := ⟨2, ![5, 8192]⟩
abbrev S1x8192 : Shape := ⟨2, ![1, 8192]⟩
abbrev S8192x5 : Shape := ⟨2, ![8192, 5]⟩
abbrev S4096 : Shape := ⟨1, ![4096]⟩
abbrev S4096x1 : Shape := ⟨2, ![4096, 1]⟩
abbrev S4096x2 : Shape := ⟨2, ![4096, 2]⟩
abbrev S5x4096 : Shape := ⟨2, ![5, 4096]⟩
abbrev S1x4096 : Shape := ⟨2, ![1, 4096]⟩
abbrev S4096x5 : Shape := ⟨2, ![4096, 5]⟩

abbrev nBuf : Space → Nat
  | .hbm => 1567
  | .vmem => 39
  | .smem => 0
  | _ => 0

abbrev hbmTy0_0 (i : Nat) : BufTy := match i % 128 with
  | 0 => ⟨S64x1000x5, .f32⟩
  | 1 => ⟨S3, .f32⟩
  | 2 => ⟨S1x3, .f32⟩
  | 3 => ⟨S3, .f32⟩
  | 4 => ⟨S1x3, .f32⟩
  | 5 => ⟨S5x2, .f32⟩
  | 6 => ⟨S3, .f32⟩
  | 7 => ⟨S1x3, .f32⟩
  | 8 => ⟨S3, .f32⟩
  | 9 => ⟨S1x3, .f32⟩
  | 10 => ⟨S5x2, .f32⟩
  | 11 => ⟨S3, .f32⟩
  | 12 => ⟨S1x3, .f32⟩
  | 13 => ⟨S3, .f32⟩
  | 14 => ⟨S1x3, .f32⟩
  | 15 => ⟨S5x2, .f32⟩
  | 16 => ⟨S64x1000x1, .f32⟩
  | 17 => ⟨S64x1000, .f32⟩
  | 18 => ⟨S64x1000x1, .f32⟩
  | 19 => ⟨S64x1000, .f32⟩
  | 20 => ⟨S_, .f32⟩
  | 21 => ⟨S64x1000, .f32⟩
  | 22 => ⟨S64x1000, .f32⟩
  | 23 => ⟨S64x1000x1, .f32⟩
  | 24 => ⟨S64x1000, .f32⟩
  | 25 => ⟨S_, .f32⟩
  | 26 => ⟨S64x1000, .f32⟩
  | 27 => ⟨S64x1000, .f32⟩
  | 28 => ⟨S64x1000x1, .f32⟩
  | 29 => ⟨S64x1000, .f32⟩
  | 30 => ⟨S_, .f32⟩
  | 31 => ⟨S64x1000, .f32⟩
  | 32 => ⟨S64x1000, .f32⟩
  | 33 => ⟨S64x1000x1, .f32⟩
  | 34 => ⟨S64x1000, .f32⟩
  | 35 => ⟨S_, .f32⟩
  | 36 => ⟨S64x1000, .f32⟩
  | 37 => ⟨S64x1000, .f32⟩
  | 38 => ⟨S1x1000, .f32⟩
  | 39 => ⟨S1000, .f32⟩
  | 40 => ⟨S1x1000, .f32⟩
  | 41 => ⟨S1000, .f32⟩
  | 42 => ⟨S1000x1, .f32⟩
  | 43 => ⟨S1000x3, .f32⟩
  | 44 => ⟨S1000x3, .f32⟩
  | 45 => ⟨S1000x3, .f32⟩
  | 46 => ⟨S1000x1, .f32⟩
  | 47 => ⟨S1000x3, .f32⟩
  | 48 => ⟨S1000x3, .f32⟩
  | 49 => ⟨S1000x3, .f32⟩
  | 50 => ⟨S_, .f32⟩
  | 51 => ⟨S1000x3, .f32⟩
  | 52 => ⟨S1000x3, .f32⟩
  | 53 => ⟨S1000x3, .f32⟩
  | 54 => ⟨S_, .f32⟩
  | 55 => ⟨S1000x3, .f32⟩
  | 56 => ⟨S1000x3, .f32⟩
  | 57 => ⟨S1000x3, .f32⟩
  | 58 => ⟨S1000x3, .f32⟩
  | 59 => ⟨S_, .f32⟩
  | 60 => ⟨S1000x3, .f32⟩
  | 61 => ⟨S1000x3, .i1⟩
  | 62 => ⟨S_, .f32⟩
  | 63 => ⟨S_, .f32⟩
  | 64 => ⟨S1000x3, .f32⟩
  | 65 => ⟨S1000x3, .f32⟩
  | 66 => ⟨S_, .f32⟩
  | 67 => ⟨S1000x3, .f32⟩
  | 68 => ⟨S1000x3, .i1⟩
  | 69 => ⟨S3, .f32⟩
  | 70 => ⟨S_, .f32⟩
  | 71 => ⟨S3, .f32⟩
  | 72 => ⟨S3, .f32⟩
  | 73 => ⟨S1x1x3, .f32⟩
  | 74 => ⟨S64x1000x1, .f32⟩
  | 75 => ⟨S64x1000x1, .f32⟩
  | 76 => ⟨S64x1000x1, .f32⟩
  | 77 => ⟨S64x1000x1, .f32⟩
  | 78 => ⟨S64x1000x1, .f32⟩
  | 79 => ⟨S64x1000x1, .f32⟩
  | 80 => ⟨S64x1000x1, .f32⟩
  | 81 => ⟨S64x1000x1, .f32⟩
  | 82 => ⟨S64x1000x3, .f32⟩
  | 83 => ⟨S64x1000x3, .f32⟩
  | 84 => ⟨S64x1000x3, .f32⟩
  | 85 => ⟨S64x1000x3, .f32⟩
  | 86 => ⟨S64x1000x3, .f32⟩
  | 87 => ⟨S1x1000x3, .i1⟩
  | 88 => ⟨S_, .f32⟩
  | 89 => ⟨S_, .f32⟩
  | 90 => ⟨S64x1000x3, .i1⟩
  | 91 => ⟨S64x1000x3, .f32⟩
  | 92 => ⟨S64x1000x3, .f32⟩
  | 93 => ⟨S1x1000x3, .i1⟩
  | 94 => ⟨S64x1000x1, .f32⟩
  | 95 => ⟨S_, .f32⟩
  | 96 => ⟨S_, .f32⟩
  | 97 => ⟨S64x1000x3, .i1⟩
  | 98 => ⟨S64x1000x3, .f32⟩
  | 99 => ⟨S64x1000x3, .f32⟩
  | 100 => ⟨S64x1000x3, .f32⟩
  | 101 => ⟨S1x1000x3, .i1⟩
  | 102 => ⟨S64x1000x1, .f32⟩
  | 103 => ⟨S_, .f32⟩
  | 104 => ⟨S_, .f32⟩
  | 105 => ⟨S64x1000x3, .i1⟩
  | 106 => ⟨S64x1000x3, .f32⟩
  | 107 => ⟨S64x1000x3, .f32⟩
  | 108 => ⟨S64x1000x3, .f32⟩
  | 109 => ⟨S_, .f32⟩
  | 110 => ⟨S64x1000x3, .f32⟩
  | 111 => ⟨S64x1000x3, .i1⟩
  | 112 => ⟨S_, .f32⟩
  | 113 => ⟨S64x1000x3, .f32⟩
  | 114 => ⟨S64x1000x3, .f32⟩
  | 115 => ⟨S_, .f32⟩
  | 116 => ⟨S_, .f32⟩
  | 117 => ⟨S64x1000x3, .f32⟩
  | 118 => ⟨S64x1000x3, .f32⟩
  | 119 => ⟨S_, .f32⟩
  | 120 => ⟨S64x1000x3, .f32⟩
  | 121 => ⟨S64x1000x3, .i1⟩
  | 122 => ⟨S_, .f32⟩
  | 123 => ⟨S64x1000x3, .f32⟩
  | 124 => ⟨S64x1000x3, .f32⟩
  | 125 => ⟨S_, .f32⟩
  | 126 => ⟨S_, .f32⟩
  | 127 => ⟨S64x1000x3, .f32⟩
  | _ => ⟨S64x1000x5, .f32⟩

abbrev hbmTy0_1 (i : Nat) : BufTy := match i % 128 with
  | 0 => ⟨S64x1000x3, .f32⟩
  | 1 => ⟨S_, .f32⟩
  | 2 => ⟨S_, .f32⟩
  | 3 => ⟨S64x1000x3, .f32⟩
  | 4 => ⟨S64x1000x3, .f32⟩
  | 5 => ⟨S_, .f32⟩
  | 6 => ⟨S64x1000x3, .f32⟩
  | 7 => ⟨S64x1000x3, .i1⟩
  | 8 => ⟨S_, .f32⟩
  | 9 => ⟨S64x1000x3, .f32⟩
  | 10 => ⟨S64x1000x3, .i1⟩
  | 11 => ⟨S_, .f32⟩
  | 12 => ⟨S_, .i1⟩
  | 13 => ⟨S64x1000x3, .i1⟩
  | 14 => ⟨S64x1000x3, .i1⟩
  | 15 => ⟨S64x1000x3, .i1⟩
  | 16 => ⟨S64x1000x3, .f32⟩
  | 17 => ⟨S64x1000x3, .f32⟩
  | 18 => ⟨S64x1000x3, .f32⟩
  | 19 => ⟨S_, .f32⟩
  | 20 => ⟨S64x1000x3, .f32⟩
  | 21 => ⟨S64x1000x3, .i1⟩
  | 22 => ⟨S_, .f32⟩
  | 23 => ⟨S64x1000x3, .f32⟩
  | 24 => ⟨S64x1000x3, .i1⟩
  | 25 => ⟨S64x1000x3, .i1⟩
  | 26 => ⟨S_, .f32⟩
  | 27 => ⟨S_, .f32⟩
  | 28 => ⟨S64x1000x3, .f32⟩
  | 29 => ⟨S64x1000x3, .f32⟩
  | 30 => ⟨S_, .f32⟩
  | 31 => ⟨S64x1000x3, .f32⟩
  | 32 => ⟨S64x1000x3, .i1⟩
  | 33 => ⟨S_, .f32⟩
  | 34 => ⟨S64x1000x3, .f32⟩
  | 35 => ⟨S64x1000x3, .i1⟩
  | 36 => ⟨S_, .f32⟩
  | 37 => ⟨S_, .i1⟩
  | 38 => ⟨S64x1000x3, .i1⟩
  | 39 => ⟨S64x1000x3, .i1⟩
  | 40 => ⟨S64x1000x3, .i1⟩
  | 41 => ⟨S64x1000x3, .f32⟩
  | 42 => ⟨S64x1000x3, .f32⟩
  | 43 => ⟨S64x1000x3, .f32⟩
  | 44 => ⟨S_, .f32⟩
  | 45 => ⟨S64x1000x3, .f32⟩
  | 46 => ⟨S64x1000x3, .i1⟩
  | 47 => ⟨S_, .f32⟩
  | 48 => ⟨S64x1000x3, .f32⟩
  | 49 => ⟨S64x1000x3, .i1⟩
  | 50 => ⟨S64x1000x3, .i1⟩
  | 51 => ⟨S_, .f32⟩
  | 52 => ⟨S_, .f32⟩
  | 53 => ⟨S64x1000x3, .f32⟩
  | 54 => ⟨S64x1000x3, .f32⟩
  | 55 => ⟨S_, .f32⟩
  | 56 => ⟨S64x1000x3, .f32⟩
  | 57 => ⟨S64x1000x3, .i1⟩
  | 58 => ⟨S_, .f32⟩
  | 59 => ⟨S64x1000x3, .f32⟩
  | 60 => ⟨S64x1000x3, .i1⟩
  | 61 => ⟨S_, .f32⟩
  | 62 => ⟨S_, .i1⟩
  | 63 => ⟨S64x1000x3, .i1⟩
  | 64 => ⟨S64x1000x3, .i1⟩
  | 65 => ⟨S64x1000x3, .i1⟩
  | 66 => ⟨S64x1000x3, .f32⟩
  | 67 => ⟨S64x1000x3, .f32⟩
  | 68 => ⟨S64x1000x3, .f32⟩
  | 69 => ⟨S_, .f32⟩
  | 70 => ⟨S64x1000x3, .f32⟩
  | 71 => ⟨S64x1000x3, .i1⟩
  | 72 => ⟨S_, .f32⟩
  | 73 => ⟨S64x1000x3, .f32⟩
  | 74 => ⟨S64x1000x3, .i1⟩
  | 75 => ⟨S64x1000x3, .i1⟩
  | 76 => ⟨S_, .f32⟩
  | 77 => ⟨S_, .f32⟩
  | 78 => ⟨S64x1000x3, .f32⟩
  | 79 => ⟨S64x1000x3, .f32⟩
  | 80 => ⟨S_, .f32⟩
  | 81 => ⟨S64x1000x3, .f32⟩
  | 82 => ⟨S64x1000x3, .i1⟩
  | 83 => ⟨S_, .f32⟩
  | 84 => ⟨S64x1000x3, .f32⟩
  | 85 => ⟨S64x1000x3, .i1⟩
  | 86 => ⟨S_, .f32⟩
  | 87 => ⟨S_, .i1⟩
  | 88 => ⟨S64x1000x3, .i1⟩
  | 89 => ⟨S64x1000x3, .i1⟩
  | 90 => ⟨S64x1000x3, .i1⟩
  | 91 => ⟨S64x1000x3, .f32⟩
  | 92 => ⟨S64x1000x3, .f32⟩
  | 93 => ⟨S64x1000x3, .f32⟩
  | 94 => ⟨S_, .f32⟩
  | 95 => ⟨S64x1000x3, .f32⟩
  | 96 => ⟨S64x1000x3, .i1⟩
  | 97 => ⟨S_, .f32⟩
  | 98 => ⟨S64x1000x3, .f32⟩
  | 99 => ⟨S64x1000x3, .i1⟩
  | 100 => ⟨S64x1000x3, .i1⟩
  | 101 => ⟨S_, .i1⟩
  | 102 => ⟨S64x1000x3, .i1⟩
  | 103 => ⟨S1x64x1000x3, .i1⟩
  | 104 => ⟨S1x64x1000x3, .i1⟩
  | 105 => ⟨S1x64x1000x3, .i1⟩
  | 106 => ⟨S1x64x1000x3, .i1⟩
  | 107 => ⟨S1x64x1000x3, .i1⟩
  | 108 => ⟨S5x64x1000x3, .i1⟩
  | 109 => ⟨S1x64x1000x3, .f32⟩
  | 110 => ⟨S_, .f32⟩
  | 111 => ⟨S_, .f32⟩
  | 112 => ⟨S5x64x1000x3, .f32⟩
  | 113 => ⟨S5x64x1000x3, .f32⟩
  | 114 => ⟨S5x64x1000x3, .f32⟩
  | 115 => ⟨S960000, .f32⟩
  | 116 => ⟨S960000, .f32⟩
  | 117 => ⟨S960000, .i32⟩
  | 118 => ⟨S960000, .f32⟩
  | 119 => ⟨S960000, .i32⟩
  | 120 => ⟨S16384, .i32⟩
  | 121 => ⟨S_, .i32⟩
  | 122 => ⟨S_, .i32⟩
  | 123 => ⟨S16384, .i32⟩
  | 124 => ⟨S16384, .i32⟩
  | 125 => ⟨S16384, .i32⟩
  | 126 => ⟨S_, .i32⟩
  | 127 => ⟨S16384, .i32⟩
  | _ => ⟨S64x1000x5, .f32⟩

abbrev hbmTy0_2 (i : Nat) : BufTy := match i % 128 with
  | 0 => ⟨S16384, .i1⟩
  | 1 => ⟨S16384, .i32⟩
  | 2 => ⟨S16384, .i32⟩
  | 3 => ⟨S_, .i32⟩
  | 4 => ⟨S16384, .i32⟩
  | 5 => ⟨S16384, .i1⟩
  | 6 => ⟨S16384, .i1⟩
  | 7 => ⟨S_, .i32⟩
  | 8 => ⟨S16384, .i32⟩
  | 9 => ⟨S16384, .i32⟩
  | 10 => ⟨S16384, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i1⟩
  | 25 => ⟨S_, .i32⟩
  | 26 => ⟨S_, .i1⟩
  | 27 => ⟨S16384, .i1⟩
  | 28 => ⟨S16384, .i1⟩
  | 29 => ⟨S16384, .i1⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S16384, .f32⟩
  | 42 => ⟨S_, .f32⟩
  | 43 => ⟨S16384, .f32⟩
  | 44 => ⟨S16384, .i1⟩
  | 45 => ⟨S_, .i32⟩
  | 46 => ⟨S_, .i32⟩
  | 47 => ⟨S16384, .i32⟩
  | 48 => ⟨S16384, .i32⟩
  | 49 => ⟨S16384, .i32⟩
  | 50 => ⟨S_, .i32⟩
  | 51 => ⟨S16384, .i32⟩
  | 52 => ⟨S16384, .i1⟩
  | 53 => ⟨S16384, .i32⟩
  | 54 => ⟨S16384, .i32⟩
  | 55 => ⟨S_, .i32⟩
  | 56 => ⟨S16384, .i32⟩
  | 57 => ⟨S16384, .i1⟩
  | 58 => ⟨S16384, .i1⟩
  | 59 => ⟨S_, .i32⟩
  | 60 => ⟨S16384, .i32⟩
  | 61 => ⟨S16384, .i32⟩
  | 62 => ⟨S16384, .i32⟩
  | 63 => ⟨S_, .i32⟩
  | 64 => ⟨S_, .i32⟩
  | 65 => ⟨S16384, .i32⟩
  | 66 => ⟨S16384, .i32⟩
  | 67 => ⟨S16384, .i32⟩
  | 68 => ⟨S_, .i32⟩
  | 69 => ⟨S16384, .i32⟩
  | 70 => ⟨S16384, .i1⟩
  | 71 => ⟨S16384, .i32⟩
  | 72 => ⟨S16384, .i32⟩
  | 73 => ⟨S_, .i32⟩
  | 74 => ⟨S16384, .i32⟩
  | 75 => ⟨S16384, .i1⟩
  | 76 => ⟨S16384, .i1⟩
  | 77 => ⟨S_, .i32⟩
  | 78 => ⟨S16384, .i32⟩
  | 79 => ⟨S16384, .i32⟩
  | 80 => ⟨S16384, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S16384, .i32⟩
  | 88 => ⟨S16384, .i32⟩
  | 89 => ⟨S_, .i32⟩
  | 90 => ⟨S16384, .i32⟩
  | 91 => ⟨S16384, .i1⟩
  | 92 => ⟨S_, .i32⟩
  | 93 => ⟨S16384, .i32⟩
  | 94 => ⟨S16384, .i1⟩
  | 95 => ⟨S_, .i32⟩
  | 96 => ⟨S_, .i1⟩
  | 97 => ⟨S16384, .i1⟩
  | 98 => ⟨S16384, .i1⟩
  | 99 => ⟨S16384, .i1⟩
  | 100 => ⟨S16384, .i32⟩
  | 101 => ⟨S16384, .i32⟩
  | 102 => ⟨S16384, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S16384, .i32⟩
  | 110 => ⟨S16384, .i32⟩
  | 111 => ⟨S_, .i32⟩
  | 112 => ⟨S16384, .i32⟩
  | 113 => ⟨S16384, .i1⟩
  | 114 => ⟨S_, .i32⟩
  | 115 => ⟨S16384, .i32⟩
  | 116 => ⟨S16384, .i1⟩
  | 117 => ⟨S_, .i32⟩
  | 118 => ⟨S_, .i1⟩
  | 119 => ⟨S16384, .i1⟩
  | 120 => ⟨S16384, .i1⟩
  | 121 => ⟨S16384, .i1⟩
  | 122 => ⟨S16384, .i32⟩
  | 123 => ⟨S16384, .i32⟩
  | 124 => ⟨S16384, .i32⟩
  | 125 => ⟨S_, .i32⟩
  | 126 => ⟨S16384, .i32⟩
  | 127 => ⟨S16384, .i1⟩
  | _ => ⟨S64x1000x5, .f32⟩

abbrev hbmTy0_3 (i : Nat) : BufTy := match i % 128 with
  | 0 => ⟨S_, .i32⟩
  | 1 => ⟨S16384, .i32⟩
  | 2 => ⟨S16384, .i32⟩
  | 3 => ⟨S16384, .i32⟩
  | 4 => ⟨S_, .i32⟩
  | 5 => ⟨S16384, .i32⟩
  | 6 => ⟨S16384, .i1⟩
  | 7 => ⟨S_, .i32⟩
  | 8 => ⟨S16384, .i32⟩
  | 9 => ⟨S16384, .i32⟩
  | 10 => ⟨S16384, .i32⟩
  | 11 => ⟨S16384x1, .i32⟩
  | 12 => ⟨S16384x1, .i32⟩
  | 13 => ⟨S16384x2, .i32⟩
  | 14 => ⟨S16384, .f32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384x1, .i32⟩
  | 31 => ⟨S16384x2, .i32⟩
  | 32 => ⟨S16384, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S16384x1, .i32⟩
  | 49 => ⟨S16384x2, .i32⟩
  | 50 => ⟨S16384, .f32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S16384x1, .i32⟩
  | 67 => ⟨S16384x2, .i32⟩
  | 68 => ⟨S16384, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S16384x1, .i32⟩
  | 85 => ⟨S16384x2, .i32⟩
  | 86 => ⟨S16384, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S_, .i32⟩
  | 95 => ⟨S16384, .i32⟩
  | 96 => ⟨S16384, .i32⟩
  | 97 => ⟨S16384x1, .i32⟩
  | 98 => ⟨S16384x1, .i32⟩
  | 99 => ⟨S16384x2, .i32⟩
  | 100 => ⟨S16384, .f32⟩
  | 101 => ⟨S_, .f32⟩
  | 102 => ⟨S_, .f32⟩
  | 103 => ⟨S16384, .f32⟩
  | 104 => ⟨S16384, .f32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S_, .i32⟩
  | 113 => ⟨S16384, .i32⟩
  | 114 => ⟨S16384, .i32⟩
  | 115 => ⟨S16384x1, .i32⟩
  | 116 => ⟨S16384x1, .i32⟩
  | 117 => ⟨S16384x2, .i32⟩
  | 118 => ⟨S16384, .f32⟩
  | 119 => ⟨S_, .f32⟩
  | 120 => ⟨S_, .f32⟩
  | 121 => ⟨S16384, .f32⟩
  | 122 => ⟨S16384, .f32⟩
  | 123 => ⟨S_, .f32⟩
  | 124 => ⟨S_, .f32⟩
  | 125 => ⟨S16384, .f32⟩
  | 126 => ⟨S16384, .f32⟩
  | 127 => ⟨S_, .f32⟩
  | _ => ⟨S64x1000x5, .f32⟩

abbrev hbmTy0_4 (i : Nat) : BufTy := match i % 128 with
  | 0 => ⟨S_, .f32⟩
  | 1 => ⟨S16384, .f32⟩
  | 2 => ⟨S16384, .f32⟩
  | 3 => ⟨S_, .f32⟩
  | 4 => ⟨S_, .f32⟩
  | 5 => ⟨S16384, .f32⟩
  | 6 => ⟨S16384, .f32⟩
  | 7 => ⟨S_, .f32⟩
  | 8 => ⟨S_, .f32⟩
  | 9 => ⟨S16384, .f32⟩
  | 10 => ⟨S16384, .f32⟩
  | 11 => ⟨S_, .f32⟩
  | 12 => ⟨S_, .f32⟩
  | 13 => ⟨S16384, .f32⟩
  | 14 => ⟨S16384, .f32⟩
  | 15 => ⟨S16384, .i32⟩
  | 16 => ⟨S16384, .i32⟩
  | 17 => ⟨S16384, .i32⟩
  | 18 => ⟨S16384, .i32⟩
  | 19 => ⟨S5x16384, .f32⟩
  | 20 => ⟨S16384x5, .f32⟩
  | 21 => ⟨S64x1000x1, .f32⟩
  | 22 => ⟨S64x1000, .f32⟩
  | 23 => ⟨S64x1000x1, .f32⟩
  | 24 => ⟨S64x1000, .f32⟩
  | 25 => ⟨S_, .f32⟩
  | 26 => ⟨S64x1000, .f32⟩
  | 27 => ⟨S64x1000, .f32⟩
  | 28 => ⟨S64x1000x1, .f32⟩
  | 29 => ⟨S64x1000, .f32⟩
  | 30 => ⟨S_, .f32⟩
  | 31 => ⟨S64x1000, .f32⟩
  | 32 => ⟨S64x1000, .f32⟩
  | 33 => ⟨S64x1000x1, .f32⟩
  | 34 => ⟨S64x1000, .f32⟩
  | 35 => ⟨S_, .f32⟩
  | 36 => ⟨S64x1000, .f32⟩
  | 37 => ⟨S64x1000, .f32⟩
  | 38 => ⟨S64x1000x1, .f32⟩
  | 39 => ⟨S64x1000, .f32⟩
  | 40 => ⟨S_, .f32⟩
  | 41 => ⟨S64x1000, .f32⟩
  | 42 => ⟨S64x1000, .f32⟩
  | 43 => ⟨S1x1000, .f32⟩
  | 44 => ⟨S1000, .f32⟩
  | 45 => ⟨S1x1000, .f32⟩
  | 46 => ⟨S1000, .f32⟩
  | 47 => ⟨S1000x1, .f32⟩
  | 48 => ⟨S1000x3, .f32⟩
  | 49 => ⟨S1000x3, .f32⟩
  | 50 => ⟨S1000x3, .f32⟩
  | 51 => ⟨S1000x1, .f32⟩
  | 52 => ⟨S1000x3, .f32⟩
  | 53 => ⟨S1000x3, .f32⟩
  | 54 => ⟨S1000x3, .f32⟩
  | 55 => ⟨S_, .f32⟩
  | 56 => ⟨S1000x3, .f32⟩
  | 57 => ⟨S1000x3, .f32⟩
  | 58 => ⟨S1000x3, .f32⟩
  | 59 => ⟨S_, .f32⟩
  | 60 => ⟨S1000x3, .f32⟩
  | 61 => ⟨S1000x3, .f32⟩
  | 62 => ⟨S1000x3, .f32⟩
  | 63 => ⟨S1000x3, .f32⟩
  | 64 => ⟨S_, .f32⟩
  | 65 => ⟨S1000x3, .f32⟩
  | 66 => ⟨S1000x3, .i1⟩
  | 67 => ⟨S_, .f32⟩
  | 68 => ⟨S_, .f32⟩
  | 69 => ⟨S1000x3, .f32⟩
  | 70 => ⟨S1000x3, .f32⟩
  | 71 => ⟨S_, .f32⟩
  | 72 => ⟨S1000x3, .f32⟩
  | 73 => ⟨S1000x3, .i1⟩
  | 74 => ⟨S3, .f32⟩
  | 75 => ⟨S_, .f32⟩
  | 76 => ⟨S3, .f32⟩
  | 77 => ⟨S3, .f32⟩
  | 78 => ⟨S1x1x3, .f32⟩
  | 79 => ⟨S64x1000x1, .f32⟩
  | 80 => ⟨S64x1000x1, .f32⟩
  | 81 => ⟨S64x1000x1, .f32⟩
  | 82 => ⟨S64x1000x1, .f32⟩
  | 83 => ⟨S64x1000x1, .f32⟩
  | 84 => ⟨S64x1000x1, .f32⟩
  | 85 => ⟨S64x1000x1, .f32⟩
  | 86 => ⟨S64x1000x1, .f32⟩
  | 87 => ⟨S64x1000x3, .f32⟩
  | 88 => ⟨S64x1000x3, .f32⟩
  | 89 => ⟨S64x1000x3, .f32⟩
  | 90 => ⟨S64x1000x3, .f32⟩
  | 91 => ⟨S64x1000x3, .f32⟩
  | 92 => ⟨S1x1000x3, .i1⟩
  | 93 => ⟨S_, .f32⟩
  | 94 => ⟨S_, .f32⟩
  | 95 => ⟨S64x1000x3, .i1⟩
  | 96 => ⟨S64x1000x3, .f32⟩
  | 97 => ⟨S64x1000x3, .f32⟩
  | 98 => ⟨S1x1000x3, .i1⟩
  | 99 => ⟨S64x1000x1, .f32⟩
  | 100 => ⟨S_, .f32⟩
  | 101 => ⟨S_, .f32⟩
  | 102 => ⟨S64x1000x3, .i1⟩
  | 103 => ⟨S64x1000x3, .f32⟩
  | 104 => ⟨S64x1000x3, .f32⟩
  | 105 => ⟨S64x1000x3, .f32⟩
  | 106 => ⟨S1x1000x3, .i1⟩
  | 107 => ⟨S64x1000x1, .f32⟩
  | 108 => ⟨S_, .f32⟩
  | 109 => ⟨S_, .f32⟩
  | 110 => ⟨S64x1000x3, .i1⟩
  | 111 => ⟨S64x1000x3, .f32⟩
  | 112 => ⟨S64x1000x3, .f32⟩
  | 113 => ⟨S64x1000x3, .f32⟩
  | 114 => ⟨S_, .f32⟩
  | 115 => ⟨S64x1000x3, .f32⟩
  | 116 => ⟨S64x1000x3, .i1⟩
  | 117 => ⟨S_, .f32⟩
  | 118 => ⟨S64x1000x3, .f32⟩
  | 119 => ⟨S64x1000x3, .f32⟩
  | 120 => ⟨S_, .f32⟩
  | 121 => ⟨S_, .f32⟩
  | 122 => ⟨S64x1000x3, .f32⟩
  | 123 => ⟨S64x1000x3, .f32⟩
  | 124 => ⟨S_, .f32⟩
  | 125 => ⟨S64x1000x3, .f32⟩
  | 126 => ⟨S64x1000x3, .i1⟩
  | 127 => ⟨S_, .f32⟩
  | _ => ⟨S64x1000x5, .f32⟩

abbrev hbmTy0_5 (i : Nat) : BufTy := match i % 128 with
  | 0 => ⟨S64x1000x3, .f32⟩
  | 1 => ⟨S64x1000x3, .f32⟩
  | 2 => ⟨S_, .f32⟩
  | 3 => ⟨S_, .f32⟩
  | 4 => ⟨S64x1000x3, .f32⟩
  | 5 => ⟨S64x1000x3, .f32⟩
  | 6 => ⟨S_, .f32⟩
  | 7 => ⟨S_, .f32⟩
  | 8 => ⟨S64x1000x3, .f32⟩
  | 9 => ⟨S64x1000x3, .f32⟩
  | 10 => ⟨S_, .f32⟩
  | 11 => ⟨S64x1000x3, .f32⟩
  | 12 => ⟨S64x1000x3, .i1⟩
  | 13 => ⟨S_, .f32⟩
  | 14 => ⟨S64x1000x3, .f32⟩
  | 15 => ⟨S64x1000x3, .i1⟩
  | 16 => ⟨S_, .f32⟩
  | 17 => ⟨S_, .i1⟩
  | 18 => ⟨S64x1000x3, .i1⟩
  | 19 => ⟨S64x1000x3, .i1⟩
  | 20 => ⟨S64x1000x3, .i1⟩
  | 21 => ⟨S64x1000x3, .f32⟩
  | 22 => ⟨S64x1000x3, .f32⟩
  | 23 => ⟨S64x1000x3, .f32⟩
  | 24 => ⟨S_, .f32⟩
  | 25 => ⟨S64x1000x3, .f32⟩
  | 26 => ⟨S64x1000x3, .i1⟩
  | 27 => ⟨S_, .f32⟩
  | 28 => ⟨S64x1000x3, .f32⟩
  | 29 => ⟨S64x1000x3, .i1⟩
  | 30 => ⟨S64x1000x3, .i1⟩
  | 31 => ⟨S_, .f32⟩
  | 32 => ⟨S_, .f32⟩
  | 33 => ⟨S64x1000x3, .f32⟩
  | 34 => ⟨S64x1000x3, .f32⟩
  | 35 => ⟨S_, .f32⟩
  | 36 => ⟨S64x1000x3, .f32⟩
  | 37 => ⟨S64x1000x3, .i1⟩
  | 38 => ⟨S_, .f32⟩
  | 39 => ⟨S64x1000x3, .f32⟩
  | 40 => ⟨S64x1000x3, .i1⟩
  | 41 => ⟨S_, .f32⟩
  | 42 => ⟨S_, .i1⟩
  | 43 => ⟨S64x1000x3, .i1⟩
  | 44 => ⟨S64x1000x3, .i1⟩
  | 45 => ⟨S64x1000x3, .i1⟩
  | 46 => ⟨S64x1000x3, .f32⟩
  | 47 => ⟨S64x1000x3, .f32⟩
  | 48 => ⟨S64x1000x3, .f32⟩
  | 49 => ⟨S_, .f32⟩
  | 50 => ⟨S64x1000x3, .f32⟩
  | 51 => ⟨S64x1000x3, .i1⟩
  | 52 => ⟨S_, .f32⟩
  | 53 => ⟨S64x1000x3, .f32⟩
  | 54 => ⟨S64x1000x3, .i1⟩
  | 55 => ⟨S64x1000x3, .i1⟩
  | 56 => ⟨S_, .f32⟩
  | 57 => ⟨S_, .f32⟩
  | 58 => ⟨S64x1000x3, .f32⟩
  | 59 => ⟨S64x1000x3, .f32⟩
  | 60 => ⟨S_, .f32⟩
  | 61 => ⟨S64x1000x3, .f32⟩
  | 62 => ⟨S64x1000x3, .i1⟩
  | 63 => ⟨S_, .f32⟩
  | 64 => ⟨S64x1000x3, .f32⟩
  | 65 => ⟨S64x1000x3, .i1⟩
  | 66 => ⟨S_, .f32⟩
  | 67 => ⟨S_, .i1⟩
  | 68 => ⟨S64x1000x3, .i1⟩
  | 69 => ⟨S64x1000x3, .i1⟩
  | 70 => ⟨S64x1000x3, .i1⟩
  | 71 => ⟨S64x1000x3, .f32⟩
  | 72 => ⟨S64x1000x3, .f32⟩
  | 73 => ⟨S64x1000x3, .f32⟩
  | 74 => ⟨S_, .f32⟩
  | 75 => ⟨S64x1000x3, .f32⟩
  | 76 => ⟨S64x1000x3, .i1⟩
  | 77 => ⟨S_, .f32⟩
  | 78 => ⟨S64x1000x3, .f32⟩
  | 79 => ⟨S64x1000x3, .i1⟩
  | 80 => ⟨S64x1000x3, .i1⟩
  | 81 => ⟨S_, .f32⟩
  | 82 => ⟨S_, .f32⟩
  | 83 => ⟨S64x1000x3, .f32⟩
  | 84 => ⟨S64x1000x3, .f32⟩
  | 85 => ⟨S_, .f32⟩
  | 86 => ⟨S64x1000x3, .f32⟩
  | 87 => ⟨S64x1000x3, .i1⟩
  | 88 => ⟨S_, .f32⟩
  | 89 => ⟨S64x1000x3, .f32⟩
  | 90 => ⟨S64x1000x3, .i1⟩
  | 91 => ⟨S_, .f32⟩
  | 92 => ⟨S_, .i1⟩
  | 93 => ⟨S64x1000x3, .i1⟩
  | 94 => ⟨S64x1000x3, .i1⟩
  | 95 => ⟨S64x1000x3, .i1⟩
  | 96 => ⟨S64x1000x3, .f32⟩
  | 97 => ⟨S64x1000x3, .f32⟩
  | 98 => ⟨S64x1000x3, .f32⟩
  | 99 => ⟨S_, .f32⟩
  | 100 => ⟨S64x1000x3, .f32⟩
  | 101 => ⟨S64x1000x3, .i1⟩
  | 102 => ⟨S_, .f32⟩
  | 103 => ⟨S64x1000x3, .f32⟩
  | 104 => ⟨S64x1000x3, .i1⟩
  | 105 => ⟨S64x1000x3, .i1⟩
  | 106 => ⟨S_, .i1⟩
  | 107 => ⟨S64x1000x3, .i1⟩
  | 108 => ⟨S1x64x1000x3, .i1⟩
  | 109 => ⟨S1x64x1000x3, .i1⟩
  | 110 => ⟨S1x64x1000x3, .i1⟩
  | 111 => ⟨S1x64x1000x3, .i1⟩
  | 112 => ⟨S1x64x1000x3, .i1⟩
  | 113 => ⟨S5x64x1000x3, .i1⟩
  | 114 => ⟨S1x64x1000x3, .f32⟩
  | 115 => ⟨S_, .f32⟩
  | 116 => ⟨S_, .f32⟩
  | 117 => ⟨S5x64x1000x3, .f32⟩
  | 118 => ⟨S5x64x1000x3, .f32⟩
  | 119 => ⟨S5x64x1000x3, .f32⟩
  | 120 => ⟨S960000, .f32⟩
  | 121 => ⟨S960000, .f32⟩
  | 122 => ⟨S960000, .i32⟩
  | 123 => ⟨S960000, .f32⟩
  | 124 => ⟨S960000, .i32⟩
  | 125 => ⟨S8192, .i32⟩
  | 126 => ⟨S_, .i32⟩
  | 127 => ⟨S_, .i32⟩
  | _ => ⟨S64x1000x5, .f32⟩

abbrev hbmTy0_6 (i : Nat) : BufTy := match i % 128 with
  | 0 => ⟨S8192, .i32⟩
  | 1 => ⟨S8192, .i32⟩
  | 2 => ⟨S8192, .i32⟩
  | 3 => ⟨S_, .i32⟩
  | 4 => ⟨S8192, .i32⟩
  | 5 => ⟨S8192, .i1⟩
  | 6 => ⟨S8192, .i32⟩
  | 7 => ⟨S8192, .i32⟩
  | 8 => ⟨S_, .i32⟩
  | 9 => ⟨S8192, .i32⟩
  | 10 => ⟨S8192, .i1⟩
  | 11 => ⟨S8192, .i1⟩
  | 12 => ⟨S_, .i32⟩
  | 13 => ⟨S8192, .i32⟩
  | 14 => ⟨S8192, .i32⟩
  | 15 => ⟨S8192, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i1⟩
  | 30 => ⟨S_, .i32⟩
  | 31 => ⟨S_, .i1⟩
  | 32 => ⟨S8192, .i1⟩
  | 33 => ⟨S8192, .i1⟩
  | 34 => ⟨S8192, .i1⟩
  | 35 => ⟨S8192, .i32⟩
  | 36 => ⟨S8192, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192, .f32⟩
  | 47 => ⟨S_, .f32⟩
  | 48 => ⟨S8192, .f32⟩
  | 49 => ⟨S8192, .i1⟩
  | 50 => ⟨S_, .i32⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i1⟩
  | 58 => ⟨S8192, .i32⟩
  | 59 => ⟨S8192, .i32⟩
  | 60 => ⟨S_, .i32⟩
  | 61 => ⟨S8192, .i32⟩
  | 62 => ⟨S8192, .i1⟩
  | 63 => ⟨S8192, .i1⟩
  | 64 => ⟨S_, .i32⟩
  | 65 => ⟨S8192, .i32⟩
  | 66 => ⟨S8192, .i32⟩
  | 67 => ⟨S8192, .i32⟩
  | 68 => ⟨S_, .i32⟩
  | 69 => ⟨S_, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i1⟩
  | 76 => ⟨S8192, .i32⟩
  | 77 => ⟨S8192, .i32⟩
  | 78 => ⟨S_, .i32⟩
  | 79 => ⟨S8192, .i32⟩
  | 80 => ⟨S8192, .i1⟩
  | 81 => ⟨S8192, .i1⟩
  | 82 => ⟨S_, .i32⟩
  | 83 => ⟨S8192, .i32⟩
  | 84 => ⟨S8192, .i32⟩
  | 85 => ⟨S8192, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i1⟩
  | 100 => ⟨S_, .i32⟩
  | 101 => ⟨S_, .i1⟩
  | 102 => ⟨S8192, .i1⟩
  | 103 => ⟨S8192, .i1⟩
  | 104 => ⟨S8192, .i1⟩
  | 105 => ⟨S8192, .i32⟩
  | 106 => ⟨S8192, .i32⟩
  | 107 => ⟨S8192, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i1⟩
  | 119 => ⟨S_, .i32⟩
  | 120 => ⟨S8192, .i32⟩
  | 121 => ⟨S8192, .i1⟩
  | 122 => ⟨S_, .i32⟩
  | 123 => ⟨S_, .i1⟩
  | 124 => ⟨S8192, .i1⟩
  | 125 => ⟨S8192, .i1⟩
  | 126 => ⟨S8192, .i1⟩
  | 127 => ⟨S8192, .i32⟩
  | _ => ⟨S64x1000x5, .f32⟩

abbrev hbmTy0_7 (i : Nat) : BufTy := match i % 128 with
  | 0 => ⟨S8192, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x1, .i32⟩
  | 18 => ⟨S8192x2, .i32⟩
  | 19 => ⟨S8192, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x1, .i32⟩
  | 36 => ⟨S8192x2, .i32⟩
  | 37 => ⟨S8192, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x1, .i32⟩
  | 54 => ⟨S8192x2, .i32⟩
  | 55 => ⟨S8192, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x1, .i32⟩
  | 72 => ⟨S8192x2, .i32⟩
  | 73 => ⟨S8192, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x1, .i32⟩
  | 90 => ⟨S8192x2, .i32⟩
  | 91 => ⟨S8192, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192x1, .i32⟩
  | 103 => ⟨S8192x1, .i32⟩
  | 104 => ⟨S8192x2, .i32⟩
  | 105 => ⟨S8192, .f32⟩
  | 106 => ⟨S_, .f32⟩
  | 107 => ⟨S_, .f32⟩
  | 108 => ⟨S8192, .f32⟩
  | 109 => ⟨S8192, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192x1, .i32⟩
  | 121 => ⟨S8192x1, .i32⟩
  | 122 => ⟨S8192x2, .i32⟩
  | 123 => ⟨S8192, .f32⟩
  | 124 => ⟨S_, .f32⟩
  | 125 => ⟨S_, .f32⟩
  | 126 => ⟨S8192, .f32⟩
  | 127 => ⟨S8192, .f32⟩
  | _ => ⟨S64x1000x5, .f32⟩

abbrev hbmTy0_8 (i : Nat) : BufTy := match i % 128 with
  | 0 => ⟨S_, .f32⟩
  | 1 => ⟨S_, .f32⟩
  | 2 => ⟨S8192, .f32⟩
  | 3 => ⟨S8192, .f32⟩
  | 4 => ⟨S_, .f32⟩
  | 5 => ⟨S_, .f32⟩
  | 6 => ⟨S8192, .f32⟩
  | 7 => ⟨S8192, .f32⟩
  | 8 => ⟨S_, .f32⟩
  | 9 => ⟨S_, .f32⟩
  | 10 => ⟨S8192, .f32⟩
  | 11 => ⟨S8192, .f32⟩
  | 12 => ⟨S_, .f32⟩
  | 13 => ⟨S_, .f32⟩
  | 14 => ⟨S8192, .f32⟩
  | 15 => ⟨S8192, .f32⟩
  | 16 => ⟨S_, .f32⟩
  | 17 => ⟨S_, .f32⟩
  | 18 => ⟨S8192, .f32⟩
  | 19 => ⟨S8192, .f32⟩
  | 20 => ⟨S8192, .i32⟩
  | 21 => ⟨S8192, .i32⟩
  | 22 => ⟨S8192, .i32⟩
  | 23 => ⟨S8192, .i32⟩
  | 24 => ⟨S5x8192, .f32⟩
  | 25 => ⟨S8192x5, .f32⟩
  | 26 => ⟨S64x1000x1, .f32⟩
  | 27 => ⟨S64x1000, .f32⟩
  | 28 => ⟨S64x1000x1, .f32⟩
  | 29 => ⟨S64x1000, .f32⟩
  | 30 => ⟨S_, .f32⟩
  | 31 => ⟨S64x1000, .f32⟩
  | 32 => ⟨S64x1000, .f32⟩
  | 33 => ⟨S64x1000x1, .f32⟩
  | 34 => ⟨S64x1000, .f32⟩
  | 35 => ⟨S_, .f32⟩
  | 36 => ⟨S64x1000, .f32⟩
  | 37 => ⟨S64x1000, .f32⟩
  | 38 => ⟨S64x1000x1, .f32⟩
  | 39 => ⟨S64x1000, .f32⟩
  | 40 => ⟨S_, .f32⟩
  | 41 => ⟨S64x1000, .f32⟩
  | 42 => ⟨S64x1000, .f32⟩
  | 43 => ⟨S64x1000x1, .f32⟩
  | 44 => ⟨S64x1000, .f32⟩
  | 45 => ⟨S_, .f32⟩
  | 46 => ⟨S64x1000, .f32⟩
  | 47 => ⟨S64x1000, .f32⟩
  | 48 => ⟨S1x1000, .f32⟩
  | 49 => ⟨S1000, .f32⟩
  | 50 => ⟨S1x1000, .f32⟩
  | 51 => ⟨S1000, .f32⟩
  | 52 => ⟨S1000x1, .f32⟩
  | 53 => ⟨S1000x3, .f32⟩
  | 54 => ⟨S1000x3, .f32⟩
  | 55 => ⟨S1000x3, .f32⟩
  | 56 => ⟨S1000x1, .f32⟩
  | 57 => ⟨S1000x3, .f32⟩
  | 58 => ⟨S1000x3, .f32⟩
  | 59 => ⟨S1000x3, .f32⟩
  | 60 => ⟨S_, .f32⟩
  | 61 => ⟨S1000x3, .f32⟩
  | 62 => ⟨S1000x3, .f32⟩
  | 63 => ⟨S1000x3, .f32⟩
  | 64 => ⟨S_, .f32⟩
  | 65 => ⟨S1000x3, .f32⟩
  | 66 => ⟨S1000x3, .f32⟩
  | 67 => ⟨S1000x3, .f32⟩
  | 68 => ⟨S1000x3, .f32⟩
  | 69 => ⟨S_, .f32⟩
  | 70 => ⟨S1000x3, .f32⟩
  | 71 => ⟨S1000x3, .i1⟩
  | 72 => ⟨S_, .f32⟩
  | 73 => ⟨S_, .f32⟩
  | 74 => ⟨S1000x3, .f32⟩
  | 75 => ⟨S1000x3, .f32⟩
  | 76 => ⟨S_, .f32⟩
  | 77 => ⟨S1000x3, .f32⟩
  | 78 => ⟨S1000x3, .i1⟩
  | 79 => ⟨S3, .f32⟩
  | 80 => ⟨S_, .f32⟩
  | 81 => ⟨S3, .f32⟩
  | 82 => ⟨S3, .f32⟩
  | 83 => ⟨S1x1x3, .f32⟩
  | 84 => ⟨S64x1000x1, .f32⟩
  | 85 => ⟨S64x1000x1, .f32⟩
  | 86 => ⟨S64x1000x1, .f32⟩
  | 87 => ⟨S64x1000x1, .f32⟩
  | 88 => ⟨S64x1000x1, .f32⟩
  | 89 => ⟨S64x1000x1, .f32⟩
  | 90 => ⟨S64x1000x1, .f32⟩
  | 91 => ⟨S64x1000x1, .f32⟩
  | 92 => ⟨S64x1000x3, .f32⟩
  | 93 => ⟨S64x1000x3, .f32⟩
  | 94 => ⟨S64x1000x3, .f32⟩
  | 95 => ⟨S64x1000x3, .f32⟩
  | 96 => ⟨S64x1000x3, .f32⟩
  | 97 => ⟨S1x1000x3, .i1⟩
  | 98 => ⟨S_, .f32⟩
  | 99 => ⟨S_, .f32⟩
  | 100 => ⟨S64x1000x3, .i1⟩
  | 101 => ⟨S64x1000x3, .f32⟩
  | 102 => ⟨S64x1000x3, .f32⟩
  | 103 => ⟨S1x1000x3, .i1⟩
  | 104 => ⟨S64x1000x1, .f32⟩
  | 105 => ⟨S_, .f32⟩
  | 106 => ⟨S_, .f32⟩
  | 107 => ⟨S64x1000x3, .i1⟩
  | 108 => ⟨S64x1000x3, .f32⟩
  | 109 => ⟨S64x1000x3, .f32⟩
  | 110 => ⟨S64x1000x3, .f32⟩
  | 111 => ⟨S1x1000x3, .i1⟩
  | 112 => ⟨S64x1000x1, .f32⟩
  | 113 => ⟨S_, .f32⟩
  | 114 => ⟨S_, .f32⟩
  | 115 => ⟨S64x1000x3, .i1⟩
  | 116 => ⟨S64x1000x3, .f32⟩
  | 117 => ⟨S64x1000x3, .f32⟩
  | 118 => ⟨S64x1000x3, .f32⟩
  | 119 => ⟨S_, .f32⟩
  | 120 => ⟨S64x1000x3, .f32⟩
  | 121 => ⟨S64x1000x3, .i1⟩
  | 122 => ⟨S_, .f32⟩
  | 123 => ⟨S64x1000x3, .f32⟩
  | 124 => ⟨S64x1000x3, .f32⟩
  | 125 => ⟨S_, .f32⟩
  | 126 => ⟨S_, .f32⟩
  | 127 => ⟨S64x1000x3, .f32⟩
  | _ => ⟨S64x1000x5, .f32⟩

abbrev hbmTy0_9 (i : Nat) : BufTy := match i % 128 with
  | 0 => ⟨S64x1000x3, .f32⟩
  | 1 => ⟨S_, .f32⟩
  | 2 => ⟨S64x1000x3, .f32⟩
  | 3 => ⟨S64x1000x3, .i1⟩
  | 4 => ⟨S_, .f32⟩
  | 5 => ⟨S64x1000x3, .f32⟩
  | 6 => ⟨S64x1000x3, .f32⟩
  | 7 => ⟨S_, .f32⟩
  | 8 => ⟨S_, .f32⟩
  | 9 => ⟨S64x1000x3, .f32⟩
  | 10 => ⟨S64x1000x3, .f32⟩
  | 11 => ⟨S_, .f32⟩
  | 12 => ⟨S_, .f32⟩
  | 13 => ⟨S64x1000x3, .f32⟩
  | 14 => ⟨S64x1000x3, .f32⟩
  | 15 => ⟨S_, .f32⟩
  | 16 => ⟨S64x1000x3, .f32⟩
  | 17 => ⟨S64x1000x3, .i1⟩
  | 18 => ⟨S_, .f32⟩
  | 19 => ⟨S64x1000x3, .f32⟩
  | 20 => ⟨S64x1000x3, .i1⟩
  | 21 => ⟨S_, .f32⟩
  | 22 => ⟨S_, .i1⟩
  | 23 => ⟨S64x1000x3, .i1⟩
  | 24 => ⟨S64x1000x3, .i1⟩
  | 25 => ⟨S64x1000x3, .i1⟩
  | 26 => ⟨S64x1000x3, .f32⟩
  | 27 => ⟨S64x1000x3, .f32⟩
  | 28 => ⟨S64x1000x3, .f32⟩
  | 29 => ⟨S_, .f32⟩
  | 30 => ⟨S64x1000x3, .f32⟩
  | 31 => ⟨S64x1000x3, .i1⟩
  | 32 => ⟨S_, .f32⟩
  | 33 => ⟨S64x1000x3, .f32⟩
  | 34 => ⟨S64x1000x3, .i1⟩
  | 35 => ⟨S64x1000x3, .i1⟩
  | 36 => ⟨S_, .f32⟩
  | 37 => ⟨S_, .f32⟩
  | 38 => ⟨S64x1000x3, .f32⟩
  | 39 => ⟨S64x1000x3, .f32⟩
  | 40 => ⟨S_, .f32⟩
  | 41 => ⟨S64x1000x3, .f32⟩
  | 42 => ⟨S64x1000x3, .i1⟩
  | 43 => ⟨S_, .f32⟩
  | 44 => ⟨S64x1000x3, .f32⟩
  | 45 => ⟨S64x1000x3, .i1⟩
  | 46 => ⟨S_, .f32⟩
  | 47 => ⟨S_, .i1⟩
  | 48 => ⟨S64x1000x3, .i1⟩
  | 49 => ⟨S64x1000x3, .i1⟩
  | 50 => ⟨S64x1000x3, .i1⟩
  | 51 => ⟨S64x1000x3, .f32⟩
  | 52 => ⟨S64x1000x3, .f32⟩
  | 53 => ⟨S64x1000x3, .f32⟩
  | 54 => ⟨S_, .f32⟩
  | 55 => ⟨S64x1000x3, .f32⟩
  | 56 => ⟨S64x1000x3, .i1⟩
  | 57 => ⟨S_, .f32⟩
  | 58 => ⟨S64x1000x3, .f32⟩
  | 59 => ⟨S64x1000x3, .i1⟩
  | 60 => ⟨S64x1000x3, .i1⟩
  | 61 => ⟨S_, .f32⟩
  | 62 => ⟨S_, .f32⟩
  | 63 => ⟨S64x1000x3, .f32⟩
  | 64 => ⟨S64x1000x3, .f32⟩
  | 65 => ⟨S_, .f32⟩
  | 66 => ⟨S64x1000x3, .f32⟩
  | 67 => ⟨S64x1000x3, .i1⟩
  | 68 => ⟨S_, .f32⟩
  | 69 => ⟨S64x1000x3, .f32⟩
  | 70 => ⟨S64x1000x3, .i1⟩
  | 71 => ⟨S_, .f32⟩
  | 72 => ⟨S_, .i1⟩
  | 73 => ⟨S64x1000x3, .i1⟩
  | 74 => ⟨S64x1000x3, .i1⟩
  | 75 => ⟨S64x1000x3, .i1⟩
  | 76 => ⟨S64x1000x3, .f32⟩
  | 77 => ⟨S64x1000x3, .f32⟩
  | 78 => ⟨S64x1000x3, .f32⟩
  | 79 => ⟨S_, .f32⟩
  | 80 => ⟨S64x1000x3, .f32⟩
  | 81 => ⟨S64x1000x3, .i1⟩
  | 82 => ⟨S_, .f32⟩
  | 83 => ⟨S64x1000x3, .f32⟩
  | 84 => ⟨S64x1000x3, .i1⟩
  | 85 => ⟨S64x1000x3, .i1⟩
  | 86 => ⟨S_, .f32⟩
  | 87 => ⟨S_, .f32⟩
  | 88 => ⟨S64x1000x3, .f32⟩
  | 89 => ⟨S64x1000x3, .f32⟩
  | 90 => ⟨S_, .f32⟩
  | 91 => ⟨S64x1000x3, .f32⟩
  | 92 => ⟨S64x1000x3, .i1⟩
  | 93 => ⟨S_, .f32⟩
  | 94 => ⟨S64x1000x3, .f32⟩
  | 95 => ⟨S64x1000x3, .i1⟩
  | 96 => ⟨S_, .f32⟩
  | 97 => ⟨S_, .i1⟩
  | 98 => ⟨S64x1000x3, .i1⟩
  | 99 => ⟨S64x1000x3, .i1⟩
  | 100 => ⟨S64x1000x3, .i1⟩
  | 101 => ⟨S64x1000x3, .f32⟩
  | 102 => ⟨S64x1000x3, .f32⟩
  | 103 => ⟨S64x1000x3, .f32⟩
  | 104 => ⟨S_, .f32⟩
  | 105 => ⟨S64x1000x3, .f32⟩
  | 106 => ⟨S64x1000x3, .i1⟩
  | 107 => ⟨S_, .f32⟩
  | 108 => ⟨S64x1000x3, .f32⟩
  | 109 => ⟨S64x1000x3, .i1⟩
  | 110 => ⟨S64x1000x3, .i1⟩
  | 111 => ⟨S_, .i1⟩
  | 112 => ⟨S64x1000x3, .i1⟩
  | 113 => ⟨S1x64x1000x3, .i1⟩
  | 114 => ⟨S1x64x1000x3, .i1⟩
  | 115 => ⟨S1x64x1000x3, .i1⟩
  | 116 => ⟨S1x64x1000x3, .i1⟩
  | 117 => ⟨S1x64x1000x3, .i1⟩
  | 118 => ⟨S5x64x1000x3, .i1⟩
  | 119 => ⟨S1x64x1000x3, .f32⟩
  | 120 => ⟨S_, .f32⟩
  | 121 => ⟨S_, .f32⟩
  | 122 => ⟨S5x64x1000x3, .f32⟩
  | 123 => ⟨S5x64x1000x3, .f32⟩
  | 124 => ⟨S5x64x1000x3, .f32⟩
  | 125 => ⟨S960000, .f32⟩
  | 126 => ⟨S960000, .f32⟩
  | 127 => ⟨S960000, .i32⟩
  | _ => ⟨S64x1000x5, .f32⟩

abbrev hbmTy0_10 (i : Nat) : BufTy := match i % 128 with
  | 0 => ⟨S960000, .f32⟩
  | 1 => ⟨S960000, .i32⟩
  | 2 => ⟨S4096, .i32⟩
  | 3 => ⟨S_, .i32⟩
  | 4 => ⟨S_, .i32⟩
  | 5 => ⟨S4096, .i32⟩
  | 6 => ⟨S4096, .i32⟩
  | 7 => ⟨S4096, .i32⟩
  | 8 => ⟨S_, .i32⟩
  | 9 => ⟨S4096, .i32⟩
  | 10 => ⟨S4096, .i1⟩
  | 11 => ⟨S4096, .i32⟩
  | 12 => ⟨S4096, .i32⟩
  | 13 => ⟨S_, .i32⟩
  | 14 => ⟨S4096, .i32⟩
  | 15 => ⟨S4096, .i1⟩
  | 16 => ⟨S4096, .i1⟩
  | 17 => ⟨S_, .i32⟩
  | 18 => ⟨S4096, .i32⟩
  | 19 => ⟨S4096, .i32⟩
  | 20 => ⟨S4096, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i1⟩
  | 35 => ⟨S_, .i32⟩
  | 36 => ⟨S_, .i1⟩
  | 37 => ⟨S4096, .i1⟩
  | 38 => ⟨S4096, .i1⟩
  | 39 => ⟨S4096, .i1⟩
  | 40 => ⟨S4096, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096, .f32⟩
  | 52 => ⟨S_, .f32⟩
  | 53 => ⟨S4096, .f32⟩
  | 54 => ⟨S4096, .i1⟩
  | 55 => ⟨S_, .i32⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i1⟩
  | 63 => ⟨S4096, .i32⟩
  | 64 => ⟨S4096, .i32⟩
  | 65 => ⟨S_, .i32⟩
  | 66 => ⟨S4096, .i32⟩
  | 67 => ⟨S4096, .i1⟩
  | 68 => ⟨S4096, .i1⟩
  | 69 => ⟨S_, .i32⟩
  | 70 => ⟨S4096, .i32⟩
  | 71 => ⟨S4096, .i32⟩
  | 72 => ⟨S4096, .i32⟩
  | 73 => ⟨S_, .i32⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i1⟩
  | 81 => ⟨S4096, .i32⟩
  | 82 => ⟨S4096, .i32⟩
  | 83 => ⟨S_, .i32⟩
  | 84 => ⟨S4096, .i32⟩
  | 85 => ⟨S4096, .i1⟩
  | 86 => ⟨S4096, .i1⟩
  | 87 => ⟨S_, .i32⟩
  | 88 => ⟨S4096, .i32⟩
  | 89 => ⟨S4096, .i32⟩
  | 90 => ⟨S4096, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i1⟩
  | 102 => ⟨S_, .i32⟩
  | 103 => ⟨S4096, .i32⟩
  | 104 => ⟨S4096, .i1⟩
  | 105 => ⟨S_, .i32⟩
  | 106 => ⟨S_, .i1⟩
  | 107 => ⟨S4096, .i1⟩
  | 108 => ⟨S4096, .i1⟩
  | 109 => ⟨S4096, .i1⟩
  | 110 => ⟨S4096, .i32⟩
  | 111 => ⟨S4096, .i32⟩
  | 112 => ⟨S4096, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i1⟩
  | 124 => ⟨S_, .i32⟩
  | 125 => ⟨S4096, .i32⟩
  | 126 => ⟨S4096, .i1⟩
  | 127 => ⟨S_, .i32⟩
  | _ => ⟨S64x1000x5, .f32⟩

abbrev hbmTy0_11 (i : Nat) : BufTy := match i % 128 with
  | 0 => ⟨S_, .i1⟩
  | 1 => ⟨S4096, .i1⟩
  | 2 => ⟨S4096, .i1⟩
  | 3 => ⟨S4096, .i1⟩
  | 4 => ⟨S4096, .i32⟩
  | 5 => ⟨S4096, .i32⟩
  | 6 => ⟨S4096, .i32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x1, .i32⟩
  | 23 => ⟨S4096x2, .i32⟩
  | 24 => ⟨S4096, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x1, .i32⟩
  | 41 => ⟨S4096x2, .i32⟩
  | 42 => ⟨S4096, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x1, .i32⟩
  | 59 => ⟨S4096x2, .i32⟩
  | 60 => ⟨S4096, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096x1, .i32⟩
  | 77 => ⟨S4096x2, .i32⟩
  | 78 => ⟨S4096, .f32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S4096x1, .i32⟩
  | 95 => ⟨S4096x2, .i32⟩
  | 96 => ⟨S4096, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096x1, .i32⟩
  | 108 => ⟨S4096x1, .i32⟩
  | 109 => ⟨S4096x2, .i32⟩
  | 110 => ⟨S4096, .f32⟩
  | 111 => ⟨S_, .f32⟩
  | 112 => ⟨S_, .f32⟩
  | 113 => ⟨S4096, .f32⟩
  | 114 => ⟨S4096, .f32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096x1, .i32⟩
  | 126 => ⟨S4096x1, .i32⟩
  | 127 => ⟨S4096x2, .i32⟩
  | _ => ⟨S64x1000x5, .f32⟩

abbrev hbmTy0_12 (i : Nat) : BufTy := match i % 128 with
  | 0 => ⟨S4096, .f32⟩
  | 1 => ⟨S_, .f32⟩
  | 2 => ⟨S_, .f32⟩
  | 3 => ⟨S4096, .f32⟩
  | 4 => ⟨S4096, .f32⟩
  | 5 => ⟨S_, .f32⟩
  | 6 => ⟨S_, .f32⟩
  | 7 => ⟨S4096, .f32⟩
  | 8 => ⟨S4096, .f32⟩
  | 9 => ⟨S_, .f32⟩
  | 10 => ⟨S_, .f32⟩
  | 11 => ⟨S4096, .f32⟩
  | 12 => ⟨S4096, .f32⟩
  | 13 => ⟨S_, .f32⟩
  | 14 => ⟨S_, .f32⟩
  | 15 => ⟨S4096, .f32⟩
  | 16 => ⟨S4096, .f32⟩
  | 17 => ⟨S_, .f32⟩
  | 18 => ⟨S_, .f32⟩
  | 19 => ⟨S4096, .f32⟩
  | 20 => ⟨S4096, .f32⟩
  | 21 => ⟨S_, .f32⟩
  | 22 => ⟨S_, .f32⟩
  | 23 => ⟨S4096, .f32⟩
  | 24 => ⟨S4096, .f32⟩
  | 25 => ⟨S4096, .i32⟩
  | 26 => ⟨S4096, .i32⟩
  | 27 => ⟨S4096, .i32⟩
  | 28 => ⟨S4096, .i32⟩
  | 29 => ⟨S5x4096, .f32⟩
  | 30 => ⟨S4096x5, .f32⟩
  | _ => ⟨S64x1000x5, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S64x1000x5, .f32⟩

abbrev bufTy : (tb : Table) → Fin (tcTables nBuf tb) → BufTy
  | .hbm, ⟨i, _⟩ => hbmTy i
  | .local _ .vmem, ⟨0, _⟩ => ⟨S16384, .f32⟩
  | .local _ .vmem, ⟨1, _⟩ => ⟨S16384, .f32⟩
  | .local _ .vmem, ⟨2, _⟩ => ⟨S16384, .f32⟩
  | .local _ .vmem, ⟨3, _⟩ => ⟨S16384, .f32⟩
  | .local _ .vmem, ⟨4, _⟩ => ⟨S16384, .f32⟩
  | .local _ .vmem, ⟨5, _⟩ => ⟨S16384, .f32⟩
  | .local _ .vmem, ⟨6, _⟩ => ⟨S16384, .f32⟩
  | .local _ .vmem, ⟨7, _⟩ => ⟨S16384, .i32⟩
  | .local _ .vmem, ⟨8, _⟩ => ⟨S16384, .i32⟩
  | .local _ .vmem, ⟨9, _⟩ => ⟨S16384, .i32⟩
  | .local _ .vmem, ⟨10, _⟩ => ⟨S16384, .i32⟩
  | .local _ .vmem, ⟨11, _⟩ => ⟨S16384, .i32⟩
  | .local _ .vmem, ⟨12, _⟩ => ⟨S5x16384, .f32⟩
  | .local _ .vmem, ⟨13, _⟩ => ⟨S8192, .f32⟩
  | .local _ .vmem, ⟨14, _⟩ => ⟨S8192, .f32⟩
  | .local _ .vmem, ⟨15, _⟩ => ⟨S8192, .f32⟩
  | .local _ .vmem, ⟨16, _⟩ => ⟨S8192, .f32⟩
  | .local _ .vmem, ⟨17, _⟩ => ⟨S8192, .f32⟩
  | .local _ .vmem, ⟨18, _⟩ => ⟨S8192, .f32⟩
  | .local _ .vmem, ⟨19, _⟩ => ⟨S8192, .f32⟩
  | .local _ .vmem, ⟨20, _⟩ => ⟨S8192, .i32⟩
  | .local _ .vmem, ⟨21, _⟩ => ⟨S8192, .i32⟩
  | .local _ .vmem, ⟨22, _⟩ => ⟨S8192, .i32⟩
  | .local _ .vmem, ⟨23, _⟩ => ⟨S8192, .i32⟩
  | .local _ .vmem, ⟨24, _⟩ => ⟨S8192, .i32⟩
  | .local _ .vmem, ⟨25, _⟩ => ⟨S5x8192, .f32⟩
  | .local _ .vmem, ⟨26, _⟩ => ⟨S4096, .f32⟩
  | .local _ .vmem, ⟨27, _⟩ => ⟨S4096, .f32⟩
  | .local _ .vmem, ⟨28, _⟩ => ⟨S4096, .f32⟩
  | .local _ .vmem, ⟨29, _⟩ => ⟨S4096, .f32⟩
  | .local _ .vmem, ⟨30, _⟩ => ⟨S4096, .f32⟩
  | .local _ .vmem, ⟨31, _⟩ => ⟨S4096, .f32⟩
  | .local _ .vmem, ⟨32, _⟩ => ⟨S4096, .f32⟩
  | .local _ .vmem, ⟨33, _⟩ => ⟨S4096, .i32⟩
  | .local _ .vmem, ⟨34, _⟩ => ⟨S4096, .i32⟩
  | .local _ .vmem, ⟨35, _⟩ => ⟨S4096, .i32⟩
  | .local _ .vmem, ⟨36, _⟩ => ⟨S4096, .i32⟩
  | .local _ .vmem, ⟨37, _⟩ => ⟨S4096, .i32⟩
  | .local _ .vmem, ⟨38, _⟩ => ⟨S5x4096, .f32⟩
  | _, _ => ⟨S64x1000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_cst_2 : Ref sig .tc := ⟨.hbm, 6, rfl⟩
abbrev main_v2 : Ref sig .tc := ⟨.hbm, 7, rfl⟩
abbrev main_cst_3 : Ref sig .tc := ⟨.hbm, 8, rfl⟩
abbrev main_v3 : Ref sig .tc := ⟨.hbm, 9, rfl⟩
abbrev main_cst_4 : Ref sig .tc := ⟨.hbm, 10, rfl⟩
abbrev main_cst_5 : Ref sig .tc := ⟨.hbm, 11, rfl⟩
abbrev main_v4 : Ref sig .tc := ⟨.hbm, 12, rfl⟩
abbrev main_cst_6 : Ref sig .tc := ⟨.hbm, 13, rfl⟩
abbrev main_v5 : Ref sig .tc := ⟨.hbm, 14, rfl⟩
abbrev main_cst_7 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_8 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_9 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_10 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_11 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_12 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_13 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_14 : Ref sig .tc := ⟨.hbm, 59, rfl⟩
abbrev main_v43 : Ref sig .tc := ⟨.hbm, 60, rfl⟩
abbrev main_v44 : Ref sig .tc := ⟨.hbm, 61, rfl⟩
abbrev main_cst_15 : Ref sig .tc := ⟨.hbm, 62, rfl⟩
abbrev main_call0_v0 : Ref sig .tc := ⟨.hbm, 63, rfl⟩
abbrev main_call0_v1 : Ref sig .tc := ⟨.hbm, 64, rfl⟩
abbrev main_v45 : Ref sig .tc := ⟨.hbm, 65, rfl⟩
abbrev main_cst_16 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_17 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_18 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v72 : Ref sig .tc := ⟨.hbm, 108, rfl⟩
abbrev main_cst_21 : Ref sig .tc := ⟨.hbm, 109, rfl⟩
abbrev main_v73 : Ref sig .tc := ⟨.hbm, 110, rfl⟩
abbrev main_v74 : Ref sig .tc := ⟨.hbm, 111, rfl⟩
abbrev main_cst_22 : Ref sig .tc := ⟨.hbm, 112, rfl⟩
abbrev main_v75 : Ref sig .tc := ⟨.hbm, 113, rfl⟩
abbrev main_v76 : Ref sig .tc := ⟨.hbm, 114, rfl⟩
abbrev main_cst_23 : Ref sig .tc := ⟨.hbm, 115, rfl⟩
abbrev main_call4_v0 : Ref sig .tc := ⟨.hbm, 116, rfl⟩
abbrev main_call4_v1 : Ref sig .tc := ⟨.hbm, 117, rfl⟩
abbrev main_v77 : Ref sig .tc := ⟨.hbm, 118, rfl⟩
abbrev main_cst_24 : Ref sig .tc := ⟨.hbm, 119, rfl⟩
abbrev main_v78 : Ref sig .tc := ⟨.hbm, 120, rfl⟩
abbrev main_v79 : Ref sig .tc := ⟨.hbm, 121, rfl⟩
abbrev main_cst_25 : Ref sig .tc := ⟨.hbm, 122, rfl⟩
abbrev main_v80 : Ref sig .tc := ⟨.hbm, 123, rfl⟩
abbrev main_v81 : Ref sig .tc := ⟨.hbm, 124, rfl⟩
abbrev main_cst_26 : Ref sig .tc := ⟨.hbm, 125, rfl⟩
abbrev main_call5_v0 : Ref sig .tc := ⟨.hbm, 126, rfl⟩
abbrev main_call5_v1 : Ref sig .tc := ⟨.hbm, 127, rfl⟩
abbrev main_v82 : Ref sig .tc := ⟨.hbm, 128, rfl⟩
abbrev main_cst_27 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_cst : Ref sig .tc := ⟨.hbm, 133, rfl⟩
abbrev main_call6_v3 : Ref sig .tc := ⟨.hbm, 134, rfl⟩
abbrev main_call6_v4 : Ref sig .tc := ⟨.hbm, 135, rfl⟩
abbrev main_call6_cst_0 : Ref sig .tc := ⟨.hbm, 136, rfl⟩
abbrev main_call6_v5 : Ref sig .tc := ⟨.hbm, 137, rfl⟩
abbrev main_call6_v6 : Ref sig .tc := ⟨.hbm, 138, rfl⟩
abbrev main_call6_cst_1 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_v12 : Ref sig .tc := ⟨.hbm, 145, rfl⟩
abbrev main_v83 : Ref sig .tc := ⟨.hbm, 146, rfl⟩
abbrev main_cst_28 : Ref sig .tc := ⟨.hbm, 147, rfl⟩
abbrev main_v84 : Ref sig .tc := ⟨.hbm, 148, rfl⟩
abbrev main_v85 : Ref sig .tc := ⟨.hbm, 149, rfl⟩
abbrev main_cst_29 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_30 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_cst : Ref sig .tc := ⟨.hbm, 158, rfl⟩
abbrev main_call7_v3 : Ref sig .tc := ⟨.hbm, 159, rfl⟩
abbrev main_call7_v4 : Ref sig .tc := ⟨.hbm, 160, rfl⟩
abbrev main_call7_cst_0 : Ref sig .tc := ⟨.hbm, 161, rfl⟩
abbrev main_call7_v5 : Ref sig .tc := ⟨.hbm, 162, rfl⟩
abbrev main_call7_v6 : Ref sig .tc := ⟨.hbm, 163, rfl⟩
abbrev main_call7_cst_1 : Ref sig .tc := ⟨.hbm, 164, rfl⟩
abbrev main_call7_v7 : Ref sig .tc := ⟨.hbm, 165, rfl⟩
abbrev main_call7_v8 : Ref sig .tc := ⟨.hbm, 166, rfl⟩
abbrev main_call7_v9 : Ref sig .tc := ⟨.hbm, 167, rfl⟩
abbrev main_call7_v10 : Ref sig .tc := ⟨.hbm, 168, rfl⟩
abbrev main_call7_v11 : Ref sig .tc := ⟨.hbm, 169, rfl⟩
abbrev main_call7_v12 : Ref sig .tc := ⟨.hbm, 170, rfl⟩
abbrev main_v89 : Ref sig .tc := ⟨.hbm, 171, rfl⟩
abbrev main_cst_31 : Ref sig .tc := ⟨.hbm, 172, rfl⟩
abbrev main_v90 : Ref sig .tc := ⟨.hbm, 173, rfl⟩
abbrev main_v91 : Ref sig .tc := ⟨.hbm, 174, rfl⟩
abbrev main_cst_32 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_cst_33 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_call8_cst : Ref sig .tc := ⟨.hbm, 183, rfl⟩
abbrev main_call8_v3 : Ref sig .tc := ⟨.hbm, 184, rfl⟩
abbrev main_call8_v4 : Ref sig .tc := ⟨.hbm, 185, rfl⟩
abbrev main_call8_cst_0 : Ref sig .tc := ⟨.hbm, 186, rfl⟩
abbrev main_call8_v5 : Ref sig .tc := ⟨.hbm, 187, rfl⟩
abbrev main_call8_v6 : Ref sig .tc := ⟨.hbm, 188, rfl⟩
abbrev main_call8_cst_1 : Ref sig .tc := ⟨.hbm, 189, rfl⟩
abbrev main_call8_v7 : Ref sig .tc := ⟨.hbm, 190, rfl⟩
abbrev main_call8_v8 : Ref sig .tc := ⟨.hbm, 191, rfl⟩
abbrev main_call8_v9 : Ref sig .tc := ⟨.hbm, 192, rfl⟩
abbrev main_call8_v10 : Ref sig .tc := ⟨.hbm, 193, rfl⟩
abbrev main_call8_v11 : Ref sig .tc := ⟨.hbm, 194, rfl⟩
abbrev main_call8_v12 : Ref sig .tc := ⟨.hbm, 195, rfl⟩
abbrev main_v95 : Ref sig .tc := ⟨.hbm, 196, rfl⟩
abbrev main_cst_34 : Ref sig .tc := ⟨.hbm, 197, rfl⟩
abbrev main_v96 : Ref sig .tc := ⟨.hbm, 198, rfl⟩
abbrev main_v97 : Ref sig .tc := ⟨.hbm, 199, rfl⟩
abbrev main_cst_35 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_cst_36 : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_call9_cst : Ref sig .tc := ⟨.hbm, 208, rfl⟩
abbrev main_call9_v3 : Ref sig .tc := ⟨.hbm, 209, rfl⟩
abbrev main_call9_v4 : Ref sig .tc := ⟨.hbm, 210, rfl⟩
abbrev main_call9_cst_0 : Ref sig .tc := ⟨.hbm, 211, rfl⟩
abbrev main_call9_v5 : Ref sig .tc := ⟨.hbm, 212, rfl⟩
abbrev main_call9_v6 : Ref sig .tc := ⟨.hbm, 213, rfl⟩
abbrev main_call9_cst_1 : Ref sig .tc := ⟨.hbm, 214, rfl⟩
abbrev main_call9_v7 : Ref sig .tc := ⟨.hbm, 215, rfl⟩
abbrev main_call9_v8 : Ref sig .tc := ⟨.hbm, 216, rfl⟩
abbrev main_call9_v9 : Ref sig .tc := ⟨.hbm, 217, rfl⟩
abbrev main_call9_v10 : Ref sig .tc := ⟨.hbm, 218, rfl⟩
abbrev main_call9_v11 : Ref sig .tc := ⟨.hbm, 219, rfl⟩
abbrev main_call9_v12 : Ref sig .tc := ⟨.hbm, 220, rfl⟩
abbrev main_v101 : Ref sig .tc := ⟨.hbm, 221, rfl⟩
abbrev main_cst_37 : Ref sig .tc := ⟨.hbm, 222, rfl⟩
abbrev main_v102 : Ref sig .tc := ⟨.hbm, 223, rfl⟩
abbrev main_v103 : Ref sig .tc := ⟨.hbm, 224, rfl⟩
abbrev main_cst_38 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_c : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_cst_39 : Ref sig .tc := ⟨.hbm, 238, rfl⟩
abbrev main_call10_v0 : Ref sig .tc := ⟨.hbm, 239, rfl⟩
abbrev main_call10_v1 : Ref sig .tc := ⟨.hbm, 240, rfl⟩
abbrev main_call10_v2 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_call11_v0 : Ref sig .tc := ⟨.hbm, 245, rfl⟩
abbrev main_call11_v1_0 : Ref sig .tc := ⟨.hbm, 246, rfl⟩
abbrev main_v118 : Ref sig .tc := ⟨.hbm, 247, rfl⟩
abbrev main_v119 : Ref sig .tc := ⟨.hbm, 248, rfl⟩
abbrev main_c_40 : Ref sig .tc := ⟨.hbm, 249, rfl⟩
abbrev main_call12_v0 : Ref sig .tc := ⟨.hbm, 250, rfl⟩
abbrev main_call12_v1 : Ref sig .tc := ⟨.hbm, 251, rfl⟩
abbrev main_call12_v2 : Ref sig .tc := ⟨.hbm, 252, rfl⟩
abbrev main_call12_v3 : Ref sig .tc := ⟨.hbm, 253, rfl⟩
abbrev main_call12_v4 : Ref sig .tc := ⟨.hbm, 254, rfl⟩
abbrev main_call12_v5 : Ref sig .tc := ⟨.hbm, 255, rfl⟩
abbrev main_call12_v6 : Ref sig .tc := ⟨.hbm, 256, rfl⟩
abbrev main_call12_v7 : Ref sig .tc := ⟨.hbm, 257, rfl⟩
abbrev main_call12_v8 : Ref sig .tc := ⟨.hbm, 258, rfl⟩
abbrev main_call12_c : Ref sig .tc := ⟨.hbm, 259, rfl⟩
abbrev main_call12_v9 : Ref sig .tc := ⟨.hbm, 260, rfl⟩
abbrev main_call12_v10 : Ref sig .tc := ⟨.hbm, 261, rfl⟩
abbrev main_call12_v11 : Ref sig .tc := ⟨.hbm, 262, rfl⟩
abbrev main_call12_c_0 : Ref sig .tc := ⟨.hbm, 263, rfl⟩
abbrev main_call12_v12 : Ref sig .tc := ⟨.hbm, 264, rfl⟩
abbrev main_call12_v13 : Ref sig .tc := ⟨.hbm, 265, rfl⟩
abbrev main_v120 : Ref sig .tc := ⟨.hbm, 266, rfl⟩
abbrev main_c_41 : Ref sig .tc := ⟨.hbm, 267, rfl⟩
abbrev main_call13_v0 : Ref sig .tc := ⟨.hbm, 268, rfl⟩
abbrev main_call13_c : Ref sig .tc := ⟨.hbm, 269, rfl⟩
abbrev main_call13_v1 : Ref sig .tc := ⟨.hbm, 270, rfl⟩
abbrev main_call13_c_0 : Ref sig .tc := ⟨.hbm, 271, rfl⟩
abbrev main_call13_v2 : Ref sig .tc := ⟨.hbm, 272, rfl⟩
abbrev main_call13_v3 : Ref sig .tc := ⟨.hbm, 273, rfl⟩
abbrev main_call13_v4 : Ref sig .tc := ⟨.hbm, 274, rfl⟩
abbrev main_call13_c_1 : Ref sig .tc := ⟨.hbm, 275, rfl⟩
abbrev main_call13_v5 : Ref sig .tc := ⟨.hbm, 276, rfl⟩
abbrev main_call13_v6 : Ref sig .tc := ⟨.hbm, 277, rfl⟩
abbrev main_call13_c_2 : Ref sig .tc := ⟨.hbm, 278, rfl⟩
abbrev main_call13_v7 : Ref sig .tc := ⟨.hbm, 279, rfl⟩
abbrev main_call13_v8 : Ref sig .tc := ⟨.hbm, 280, rfl⟩
abbrev main_call13_c_3 : Ref sig .tc := ⟨.hbm, 281, rfl⟩
abbrev main_call13_v9 : Ref sig .tc := ⟨.hbm, 282, rfl⟩
abbrev main_call13_v10 : Ref sig .tc := ⟨.hbm, 283, rfl⟩
abbrev main_call13_v11 : Ref sig .tc := ⟨.hbm, 284, rfl⟩
abbrev main_call13_v12 : Ref sig .tc := ⟨.hbm, 285, rfl⟩
abbrev main_call13_v13 : Ref sig .tc := ⟨.hbm, 286, rfl⟩
abbrev main_call13_v14 : Ref sig .tc := ⟨.hbm, 287, rfl⟩
abbrev main_v121 : Ref sig .tc := ⟨.hbm, 288, rfl⟩
abbrev main_c_42 : Ref sig .tc := ⟨.hbm, 289, rfl⟩
abbrev main_v122 : Ref sig .tc := ⟨.hbm, 290, rfl⟩
abbrev main_v123 : Ref sig .tc := ⟨.hbm, 291, rfl⟩
abbrev main_c_43 : Ref sig .tc := ⟨.hbm, 292, rfl⟩
abbrev main_v124 : Ref sig .tc := ⟨.hbm, 293, rfl⟩
abbrev main_v125 : Ref sig .tc := ⟨.hbm, 294, rfl⟩
abbrev main_v126 : Ref sig .tc := ⟨.hbm, 295, rfl⟩
abbrev main_v127 : Ref sig .tc := ⟨.hbm, 296, rfl⟩
abbrev main_v128 : Ref sig .tc := ⟨.hbm, 297, rfl⟩
abbrev main_cst_44 : Ref sig .tc := ⟨.hbm, 298, rfl⟩
abbrev main_v129 : Ref sig .tc := ⟨.hbm, 299, rfl⟩
abbrev main_v130 : Ref sig .tc := ⟨.hbm, 300, rfl⟩
abbrev main_c_45 : Ref sig .tc := ⟨.hbm, 301, rfl⟩
abbrev main_call14_v0 : Ref sig .tc := ⟨.hbm, 302, rfl⟩
abbrev main_call14_v1 : Ref sig .tc := ⟨.hbm, 303, rfl⟩
abbrev main_call14_v2 : Ref sig .tc := ⟨.hbm, 304, rfl⟩
abbrev main_call14_v3 : Ref sig .tc := ⟨.hbm, 305, rfl⟩
abbrev main_call14_v4 : Ref sig .tc := ⟨.hbm, 306, rfl⟩
abbrev main_call14_v5 : Ref sig .tc := ⟨.hbm, 307, rfl⟩
abbrev main_call14_v6 : Ref sig .tc := ⟨.hbm, 308, rfl⟩
abbrev main_call14_v7 : Ref sig .tc := ⟨.hbm, 309, rfl⟩
abbrev main_call14_v8 : Ref sig .tc := ⟨.hbm, 310, rfl⟩
abbrev main_call14_c : Ref sig .tc := ⟨.hbm, 311, rfl⟩
abbrev main_call14_v9 : Ref sig .tc := ⟨.hbm, 312, rfl⟩
abbrev main_call14_v10 : Ref sig .tc := ⟨.hbm, 313, rfl⟩
abbrev main_call14_v11 : Ref sig .tc := ⟨.hbm, 314, rfl⟩
abbrev main_call14_c_0 : Ref sig .tc := ⟨.hbm, 315, rfl⟩
abbrev main_call14_v12 : Ref sig .tc := ⟨.hbm, 316, rfl⟩
abbrev main_call14_v13 : Ref sig .tc := ⟨.hbm, 317, rfl⟩
abbrev main_v131 : Ref sig .tc := ⟨.hbm, 318, rfl⟩
abbrev main_c_46 : Ref sig .tc := ⟨.hbm, 319, rfl⟩
abbrev main_call15_v0 : Ref sig .tc := ⟨.hbm, 320, rfl⟩
abbrev main_call15_v1 : Ref sig .tc := ⟨.hbm, 321, rfl⟩
abbrev main_call15_v2 : Ref sig .tc := ⟨.hbm, 322, rfl⟩
abbrev main_call15_v3 : Ref sig .tc := ⟨.hbm, 323, rfl⟩
abbrev main_call15_v4 : Ref sig .tc := ⟨.hbm, 324, rfl⟩
abbrev main_call15_v5 : Ref sig .tc := ⟨.hbm, 325, rfl⟩
abbrev main_call15_v6 : Ref sig .tc := ⟨.hbm, 326, rfl⟩
abbrev main_call15_v7 : Ref sig .tc := ⟨.hbm, 327, rfl⟩
abbrev main_call15_v8 : Ref sig .tc := ⟨.hbm, 328, rfl⟩
abbrev main_call15_c : Ref sig .tc := ⟨.hbm, 329, rfl⟩
abbrev main_call15_v9 : Ref sig .tc := ⟨.hbm, 330, rfl⟩
abbrev main_call15_v10 : Ref sig .tc := ⟨.hbm, 331, rfl⟩
abbrev main_call15_v11 : Ref sig .tc := ⟨.hbm, 332, rfl⟩
abbrev main_call15_c_0 : Ref sig .tc := ⟨.hbm, 333, rfl⟩
abbrev main_call15_v12 : Ref sig .tc := ⟨.hbm, 334, rfl⟩
abbrev main_call15_v13 : Ref sig .tc := ⟨.hbm, 335, rfl⟩
abbrev main_v132 : Ref sig .tc := ⟨.hbm, 336, rfl⟩
abbrev main_c_47 : Ref sig .tc := ⟨.hbm, 337, rfl⟩
abbrev main_call16_v0 : Ref sig .tc := ⟨.hbm, 338, rfl⟩
abbrev main_call16_c : Ref sig .tc := ⟨.hbm, 339, rfl⟩
abbrev main_call16_v1 : Ref sig .tc := ⟨.hbm, 340, rfl⟩
abbrev main_call16_c_0 : Ref sig .tc := ⟨.hbm, 341, rfl⟩
abbrev main_call16_v2 : Ref sig .tc := ⟨.hbm, 342, rfl⟩
abbrev main_call16_v3 : Ref sig .tc := ⟨.hbm, 343, rfl⟩
abbrev main_call16_v4 : Ref sig .tc := ⟨.hbm, 344, rfl⟩
abbrev main_call16_c_1 : Ref sig .tc := ⟨.hbm, 345, rfl⟩
abbrev main_call16_v5 : Ref sig .tc := ⟨.hbm, 346, rfl⟩
abbrev main_call16_v6 : Ref sig .tc := ⟨.hbm, 347, rfl⟩
abbrev main_call16_c_2 : Ref sig .tc := ⟨.hbm, 348, rfl⟩
abbrev main_call16_v7 : Ref sig .tc := ⟨.hbm, 349, rfl⟩
abbrev main_call16_v8 : Ref sig .tc := ⟨.hbm, 350, rfl⟩
abbrev main_call16_c_3 : Ref sig .tc := ⟨.hbm, 351, rfl⟩
abbrev main_call16_v9 : Ref sig .tc := ⟨.hbm, 352, rfl⟩
abbrev main_call16_v10 : Ref sig .tc := ⟨.hbm, 353, rfl⟩
abbrev main_call16_v11 : Ref sig .tc := ⟨.hbm, 354, rfl⟩
abbrev main_call16_v12 : Ref sig .tc := ⟨.hbm, 355, rfl⟩
abbrev main_call16_v13 : Ref sig .tc := ⟨.hbm, 356, rfl⟩
abbrev main_call16_v14 : Ref sig .tc := ⟨.hbm, 357, rfl⟩
abbrev main_v133 : Ref sig .tc := ⟨.hbm, 358, rfl⟩
abbrev main_c_48 : Ref sig .tc := ⟨.hbm, 359, rfl⟩
abbrev main_call17_v0 : Ref sig .tc := ⟨.hbm, 360, rfl⟩
abbrev main_call17_c : Ref sig .tc := ⟨.hbm, 361, rfl⟩
abbrev main_call17_v1 : Ref sig .tc := ⟨.hbm, 362, rfl⟩
abbrev main_call17_c_0 : Ref sig .tc := ⟨.hbm, 363, rfl⟩
abbrev main_call17_v2 : Ref sig .tc := ⟨.hbm, 364, rfl⟩
abbrev main_call17_v3 : Ref sig .tc := ⟨.hbm, 365, rfl⟩
abbrev main_call17_v4 : Ref sig .tc := ⟨.hbm, 366, rfl⟩
abbrev main_call17_c_1 : Ref sig .tc := ⟨.hbm, 367, rfl⟩
abbrev main_call17_v5 : Ref sig .tc := ⟨.hbm, 368, rfl⟩
abbrev main_call17_v6 : Ref sig .tc := ⟨.hbm, 369, rfl⟩
abbrev main_call17_c_2 : Ref sig .tc := ⟨.hbm, 370, rfl⟩
abbrev main_call17_v7 : Ref sig .tc := ⟨.hbm, 371, rfl⟩
abbrev main_call17_v8 : Ref sig .tc := ⟨.hbm, 372, rfl⟩
abbrev main_call17_c_3 : Ref sig .tc := ⟨.hbm, 373, rfl⟩
abbrev main_call17_v9 : Ref sig .tc := ⟨.hbm, 374, rfl⟩
abbrev main_call17_v10 : Ref sig .tc := ⟨.hbm, 375, rfl⟩
abbrev main_call17_v11 : Ref sig .tc := ⟨.hbm, 376, rfl⟩
abbrev main_call17_v12 : Ref sig .tc := ⟨.hbm, 377, rfl⟩
abbrev main_call17_v13 : Ref sig .tc := ⟨.hbm, 378, rfl⟩
abbrev main_call17_v14 : Ref sig .tc := ⟨.hbm, 379, rfl⟩
abbrev main_v134 : Ref sig .tc := ⟨.hbm, 380, rfl⟩
abbrev main_c_49 : Ref sig .tc := ⟨.hbm, 381, rfl⟩
abbrev main_v135 : Ref sig .tc := ⟨.hbm, 382, rfl⟩
abbrev main_v136 : Ref sig .tc := ⟨.hbm, 383, rfl⟩
abbrev main_c_50 : Ref sig .tc := ⟨.hbm, 384, rfl⟩
abbrev main_v137 : Ref sig .tc := ⟨.hbm, 385, rfl⟩
abbrev main_v138 : Ref sig .tc := ⟨.hbm, 386, rfl⟩
abbrev main_v139 : Ref sig .tc := ⟨.hbm, 387, rfl⟩
abbrev main_c_51 : Ref sig .tc := ⟨.hbm, 388, rfl⟩
abbrev main_v140 : Ref sig .tc := ⟨.hbm, 389, rfl⟩
abbrev main_v141 : Ref sig .tc := ⟨.hbm, 390, rfl⟩
abbrev main_c_52 : Ref sig .tc := ⟨.hbm, 391, rfl⟩
abbrev main_v142 : Ref sig .tc := ⟨.hbm, 392, rfl⟩
abbrev main_v143 : Ref sig .tc := ⟨.hbm, 393, rfl⟩
abbrev main_v144 : Ref sig .tc := ⟨.hbm, 394, rfl⟩
abbrev main_v145 : Ref sig .tc := ⟨.hbm, 395, rfl⟩
abbrev main_v146 : Ref sig .tc := ⟨.hbm, 396, rfl⟩
abbrev main_v147 : Ref sig .tc := ⟨.hbm, 397, rfl⟩
abbrev main_v148 : Ref sig .tc := ⟨.hbm, 398, rfl⟩
abbrev main_c_53 : Ref sig .tc := ⟨.hbm, 399, rfl⟩
abbrev main_v149 : Ref sig .tc := ⟨.hbm, 400, rfl⟩
abbrev main_v150 : Ref sig .tc := ⟨.hbm, 401, rfl⟩
abbrev main_c_54 : Ref sig .tc := ⟨.hbm, 402, rfl⟩
abbrev main_v151 : Ref sig .tc := ⟨.hbm, 403, rfl⟩
abbrev main_v152 : Ref sig .tc := ⟨.hbm, 404, rfl⟩
abbrev main_v153 : Ref sig .tc := ⟨.hbm, 405, rfl⟩
abbrev main_c_55 : Ref sig .tc := ⟨.hbm, 406, rfl⟩
abbrev main_v154 : Ref sig .tc := ⟨.hbm, 407, rfl⟩
abbrev main_v155 : Ref sig .tc := ⟨.hbm, 408, rfl⟩
abbrev main_c_56 : Ref sig .tc := ⟨.hbm, 409, rfl⟩
abbrev main_v156 : Ref sig .tc := ⟨.hbm, 410, rfl⟩
abbrev main_v157 : Ref sig .tc := ⟨.hbm, 411, rfl⟩
abbrev main_v158 : Ref sig .tc := ⟨.hbm, 412, rfl⟩
abbrev main_v159 : Ref sig .tc := ⟨.hbm, 413, rfl⟩
abbrev main_v160 : Ref sig .tc := ⟨.hbm, 414, rfl⟩
abbrev main_v161 : Ref sig .tc := ⟨.hbm, 415, rfl⟩
abbrev main_v162 : Ref sig .tc := ⟨.hbm, 416, rfl⟩
abbrev main_c_57 : Ref sig .tc := ⟨.hbm, 417, rfl⟩
abbrev main_v163 : Ref sig .tc := ⟨.hbm, 418, rfl⟩
abbrev main_v164 : Ref sig .tc := ⟨.hbm, 419, rfl⟩
abbrev main_c_58 : Ref sig .tc := ⟨.hbm, 420, rfl⟩
abbrev main_v165 : Ref sig .tc := ⟨.hbm, 421, rfl⟩
abbrev main_v166 : Ref sig .tc := ⟨.hbm, 422, rfl⟩
abbrev main_v167 : Ref sig .tc := ⟨.hbm, 423, rfl⟩
abbrev main_c_59 : Ref sig .tc := ⟨.hbm, 424, rfl⟩
abbrev main_v168 : Ref sig .tc := ⟨.hbm, 425, rfl⟩
abbrev main_v169 : Ref sig .tc := ⟨.hbm, 426, rfl⟩
abbrev main_c_60 : Ref sig .tc := ⟨.hbm, 427, rfl⟩
abbrev main_v170 : Ref sig .tc := ⟨.hbm, 428, rfl⟩
abbrev main_v171 : Ref sig .tc := ⟨.hbm, 429, rfl⟩
abbrev main_v172 : Ref sig .tc := ⟨.hbm, 430, rfl⟩
abbrev main_v173 : Ref sig .tc := ⟨.hbm, 431, rfl⟩
abbrev main_v174 : Ref sig .tc := ⟨.hbm, 432, rfl⟩
abbrev main_v175 : Ref sig .tc := ⟨.hbm, 433, rfl⟩
abbrev main_v176 : Ref sig .tc := ⟨.hbm, 434, rfl⟩
abbrev main_c_61 : Ref sig .tc := ⟨.hbm, 435, rfl⟩
abbrev main_v177 : Ref sig .tc := ⟨.hbm, 436, rfl⟩
abbrev main_v178 : Ref sig .tc := ⟨.hbm, 437, rfl⟩
abbrev main_c_62 : Ref sig .tc := ⟨.hbm, 438, rfl⟩
abbrev main_v179 : Ref sig .tc := ⟨.hbm, 439, rfl⟩
abbrev main_v180 : Ref sig .tc := ⟨.hbm, 440, rfl⟩
abbrev main_v181 : Ref sig .tc := ⟨.hbm, 441, rfl⟩
abbrev main_c_63 : Ref sig .tc := ⟨.hbm, 442, rfl⟩
abbrev main_v182 : Ref sig .tc := ⟨.hbm, 443, rfl⟩
abbrev main_v183 : Ref sig .tc := ⟨.hbm, 444, rfl⟩
abbrev main_c_64 : Ref sig .tc := ⟨.hbm, 445, rfl⟩
abbrev main_v184 : Ref sig .tc := ⟨.hbm, 446, rfl⟩
abbrev main_v185 : Ref sig .tc := ⟨.hbm, 447, rfl⟩
abbrev main_v186 : Ref sig .tc := ⟨.hbm, 448, rfl⟩
abbrev main_v187 : Ref sig .tc := ⟨.hbm, 449, rfl⟩
abbrev main_v188 : Ref sig .tc := ⟨.hbm, 450, rfl⟩
abbrev main_v189 : Ref sig .tc := ⟨.hbm, 451, rfl⟩
abbrev main_v190 : Ref sig .tc := ⟨.hbm, 452, rfl⟩
abbrev main_c_65 : Ref sig .tc := ⟨.hbm, 453, rfl⟩
abbrev main_v191 : Ref sig .tc := ⟨.hbm, 454, rfl⟩
abbrev main_v192 : Ref sig .tc := ⟨.hbm, 455, rfl⟩
abbrev main_c_66 : Ref sig .tc := ⟨.hbm, 456, rfl⟩
abbrev main_v193 : Ref sig .tc := ⟨.hbm, 457, rfl⟩
abbrev main_v194 : Ref sig .tc := ⟨.hbm, 458, rfl⟩
abbrev main_v195 : Ref sig .tc := ⟨.hbm, 459, rfl⟩
abbrev main_c_67 : Ref sig .tc := ⟨.hbm, 460, rfl⟩
abbrev main_v196 : Ref sig .tc := ⟨.hbm, 461, rfl⟩
abbrev main_v197 : Ref sig .tc := ⟨.hbm, 462, rfl⟩
abbrev main_c_68 : Ref sig .tc := ⟨.hbm, 463, rfl⟩
abbrev main_v198 : Ref sig .tc := ⟨.hbm, 464, rfl⟩
abbrev main_v199 : Ref sig .tc := ⟨.hbm, 465, rfl⟩
abbrev main_v200 : Ref sig .tc := ⟨.hbm, 466, rfl⟩
abbrev main_v201 : Ref sig .tc := ⟨.hbm, 467, rfl⟩
abbrev main_v202 : Ref sig .tc := ⟨.hbm, 468, rfl⟩
abbrev main_v203 : Ref sig .tc := ⟨.hbm, 469, rfl⟩
abbrev main_v204 : Ref sig .tc := ⟨.hbm, 470, rfl⟩
abbrev main_c_69 : Ref sig .tc := ⟨.hbm, 471, rfl⟩
abbrev main_v205 : Ref sig .tc := ⟨.hbm, 472, rfl⟩
abbrev main_v206 : Ref sig .tc := ⟨.hbm, 473, rfl⟩
abbrev main_c_70 : Ref sig .tc := ⟨.hbm, 474, rfl⟩
abbrev main_v207 : Ref sig .tc := ⟨.hbm, 475, rfl⟩
abbrev main_v208 : Ref sig .tc := ⟨.hbm, 476, rfl⟩
abbrev main_v209 : Ref sig .tc := ⟨.hbm, 477, rfl⟩
abbrev main_c_71 : Ref sig .tc := ⟨.hbm, 478, rfl⟩
abbrev main_v210 : Ref sig .tc := ⟨.hbm, 479, rfl⟩
abbrev main_v211 : Ref sig .tc := ⟨.hbm, 480, rfl⟩
abbrev main_v212 : Ref sig .tc := ⟨.hbm, 481, rfl⟩
abbrev main_v213 : Ref sig .tc := ⟨.hbm, 482, rfl⟩
abbrev main_v214 : Ref sig .tc := ⟨.hbm, 483, rfl⟩
abbrev main_v215 : Ref sig .tc := ⟨.hbm, 484, rfl⟩
abbrev main_cst_72 : Ref sig .tc := ⟨.hbm, 485, rfl⟩
abbrev main_call18_v0 : Ref sig .tc := ⟨.hbm, 486, rfl⟩
abbrev main_call18_v1 : Ref sig .tc := ⟨.hbm, 487, rfl⟩
abbrev main_v216 : Ref sig .tc := ⟨.hbm, 488, rfl⟩
abbrev main_c_73 : Ref sig .tc := ⟨.hbm, 489, rfl⟩
abbrev main_v217 : Ref sig .tc := ⟨.hbm, 490, rfl⟩
abbrev main_v218 : Ref sig .tc := ⟨.hbm, 491, rfl⟩
abbrev main_c_74 : Ref sig .tc := ⟨.hbm, 492, rfl⟩
abbrev main_v219 : Ref sig .tc := ⟨.hbm, 493, rfl⟩
abbrev main_v220 : Ref sig .tc := ⟨.hbm, 494, rfl⟩
abbrev main_v221 : Ref sig .tc := ⟨.hbm, 495, rfl⟩
abbrev main_c_75 : Ref sig .tc := ⟨.hbm, 496, rfl⟩
abbrev main_v222 : Ref sig .tc := ⟨.hbm, 497, rfl⟩
abbrev main_v223 : Ref sig .tc := ⟨.hbm, 498, rfl⟩
abbrev main_v224 : Ref sig .tc := ⟨.hbm, 499, rfl⟩
abbrev main_v225 : Ref sig .tc := ⟨.hbm, 500, rfl⟩
abbrev main_v226 : Ref sig .tc := ⟨.hbm, 501, rfl⟩
abbrev main_v227 : Ref sig .tc := ⟨.hbm, 502, rfl⟩
abbrev main_cst_76 : Ref sig .tc := ⟨.hbm, 503, rfl⟩
abbrev main_call19_v0 : Ref sig .tc := ⟨.hbm, 504, rfl⟩
abbrev main_call19_v1 : Ref sig .tc := ⟨.hbm, 505, rfl⟩
abbrev main_v228 : Ref sig .tc := ⟨.hbm, 506, rfl⟩
abbrev main_cst_77 : Ref sig .tc := ⟨.hbm, 507, rfl⟩
abbrev main_call20_v0 : Ref sig .tc := ⟨.hbm, 508, rfl⟩
abbrev main_call20_v1 : Ref sig .tc := ⟨.hbm, 509, rfl⟩
abbrev main_v229 : Ref sig .tc := ⟨.hbm, 510, rfl⟩
abbrev main_cst_78 : Ref sig .tc := ⟨.hbm, 511, rfl⟩
abbrev main_call21_v0 : Ref sig .tc := ⟨.hbm, 512, rfl⟩
abbrev main_call21_v1 : Ref sig .tc := ⟨.hbm, 513, rfl⟩
abbrev main_v230 : Ref sig .tc := ⟨.hbm, 514, rfl⟩
abbrev main_cst_79 : Ref sig .tc := ⟨.hbm, 515, rfl⟩
abbrev main_call22_v0 : Ref sig .tc := ⟨.hbm, 516, rfl⟩
abbrev main_call22_v1 : Ref sig .tc := ⟨.hbm, 517, rfl⟩
abbrev main_v231 : Ref sig .tc := ⟨.hbm, 518, rfl⟩
abbrev main_cst_80 : Ref sig .tc := ⟨.hbm, 519, rfl⟩
abbrev main_call23_v0 : Ref sig .tc := ⟨.hbm, 520, rfl⟩
abbrev main_call23_v1 : Ref sig .tc := ⟨.hbm, 521, rfl⟩
abbrev main_v232 : Ref sig .tc := ⟨.hbm, 522, rfl⟩
abbrev main_cst_81 : Ref sig .tc := ⟨.hbm, 523, rfl⟩
abbrev main_call24_v0 : Ref sig .tc := ⟨.hbm, 524, rfl⟩
abbrev main_call24_v1 : Ref sig .tc := ⟨.hbm, 525, rfl⟩
abbrev main_v233 : Ref sig .tc := ⟨.hbm, 526, rfl⟩
abbrev main_v234 : Ref sig .tc := ⟨.hbm, 527, rfl⟩
abbrev main_v235_0 : Ref sig .tc := ⟨.hbm, 528, rfl⟩
abbrev main_v235_1 : Ref sig .tc := ⟨.hbm, 529, rfl⟩
abbrev main_v235_2 : Ref sig .tc := ⟨.hbm, 530, rfl⟩
abbrev main_v235_3 : Ref sig .tc := ⟨.hbm, 531, rfl⟩
abbrev main_v236 : Ref sig .tc := ⟨.hbm, 532, rfl⟩
abbrev main_v237 : Ref sig .tc := ⟨.hbm, 533, rfl⟩
abbrev main_v238 : Ref sig .tc := ⟨.hbm, 534, rfl⟩
abbrev main_v239 : Ref sig .tc := ⟨.hbm, 535, rfl⟩
abbrev main_v240 : Ref sig .tc := ⟨.hbm, 536, rfl⟩
abbrev main_cst_82 : Ref sig .tc := ⟨.hbm, 537, rfl⟩
abbrev main_v241 : Ref sig .tc := ⟨.hbm, 538, rfl⟩
abbrev main_v242 : Ref sig .tc := ⟨.hbm, 539, rfl⟩
abbrev main_v243 : Ref sig .tc := ⟨.hbm, 540, rfl⟩
abbrev main_v244 : Ref sig .tc := ⟨.hbm, 541, rfl⟩
abbrev main_cst_83 : Ref sig .tc := ⟨.hbm, 542, rfl⟩
abbrev main_v245 : Ref sig .tc := ⟨.hbm, 543, rfl⟩
abbrev main_v246 : Ref sig .tc := ⟨.hbm, 544, rfl⟩
abbrev main_v247 : Ref sig .tc := ⟨.hbm, 545, rfl⟩
abbrev main_v248 : Ref sig .tc := ⟨.hbm, 546, rfl⟩
abbrev main_cst_84 : Ref sig .tc := ⟨.hbm, 547, rfl⟩
abbrev main_v249 : Ref sig .tc := ⟨.hbm, 548, rfl⟩
abbrev main_v250 : Ref sig .tc := ⟨.hbm, 549, rfl⟩
abbrev main_v251 : Ref sig .tc := ⟨.hbm, 550, rfl⟩
abbrev main_v252 : Ref sig .tc := ⟨.hbm, 551, rfl⟩
abbrev main_cst_85 : Ref sig .tc := ⟨.hbm, 552, rfl⟩
abbrev main_v253 : Ref sig .tc := ⟨.hbm, 553, rfl⟩
abbrev main_v254 : Ref sig .tc := ⟨.hbm, 554, rfl⟩
abbrev main_v255 : Ref sig .tc := ⟨.hbm, 555, rfl⟩
abbrev main_v256 : Ref sig .tc := ⟨.hbm, 556, rfl⟩
abbrev main_v257 : Ref sig .tc := ⟨.hbm, 557, rfl⟩
abbrev main_v258 : Ref sig .tc := ⟨.hbm, 558, rfl⟩
abbrev main_v259 : Ref sig .tc := ⟨.hbm, 559, rfl⟩
abbrev main_v260 : Ref sig .tc := ⟨.hbm, 560, rfl⟩
abbrev main_v261 : Ref sig .tc := ⟨.hbm, 561, rfl⟩
abbrev main_v262 : Ref sig .tc := ⟨.hbm, 562, rfl⟩
abbrev main_v263 : Ref sig .tc := ⟨.hbm, 563, rfl⟩
abbrev main_v264 : Ref sig .tc := ⟨.hbm, 564, rfl⟩
abbrev main_v265 : Ref sig .tc := ⟨.hbm, 565, rfl⟩
abbrev main_v266 : Ref sig .tc := ⟨.hbm, 566, rfl⟩
abbrev main_cst_86 : Ref sig .tc := ⟨.hbm, 567, rfl⟩
abbrev main_v267 : Ref sig .tc := ⟨.hbm, 568, rfl⟩
abbrev main_v268 : Ref sig .tc := ⟨.hbm, 569, rfl⟩
abbrev main_v269 : Ref sig .tc := ⟨.hbm, 570, rfl⟩
abbrev main_cst_87 : Ref sig .tc := ⟨.hbm, 571, rfl⟩
abbrev main_v270 : Ref sig .tc := ⟨.hbm, 572, rfl⟩
abbrev main_v271 : Ref sig .tc := ⟨.hbm, 573, rfl⟩
abbrev main_v272 : Ref sig .tc := ⟨.hbm, 574, rfl⟩
abbrev main_v273 : Ref sig .tc := ⟨.hbm, 575, rfl⟩
abbrev main_cst_88 : Ref sig .tc := ⟨.hbm, 576, rfl⟩
abbrev main_v274 : Ref sig .tc := ⟨.hbm, 577, rfl⟩
abbrev main_v275 : Ref sig .tc := ⟨.hbm, 578, rfl⟩
abbrev main_cst_89 : Ref sig .tc := ⟨.hbm, 579, rfl⟩
abbrev main_call25_v0 : Ref sig .tc := ⟨.hbm, 580, rfl⟩
abbrev main_call25_v1 : Ref sig .tc := ⟨.hbm, 581, rfl⟩
abbrev main_v276 : Ref sig .tc := ⟨.hbm, 582, rfl⟩
abbrev main_cst_90 : Ref sig .tc := ⟨.hbm, 583, rfl⟩
abbrev main_v277 : Ref sig .tc := ⟨.hbm, 584, rfl⟩
abbrev main_v278 : Ref sig .tc := ⟨.hbm, 585, rfl⟩
abbrev main_v279 : Ref sig .tc := ⟨.hbm, 586, rfl⟩
abbrev main_cst_91 : Ref sig .tc := ⟨.hbm, 587, rfl⟩
abbrev main_v280 : Ref sig .tc := ⟨.hbm, 588, rfl⟩
abbrev main_v281 : Ref sig .tc := ⟨.hbm, 589, rfl⟩
abbrev main_v282 : Ref sig .tc := ⟨.hbm, 590, rfl⟩
abbrev main_v283 : Ref sig .tc := ⟨.hbm, 591, rfl⟩
abbrev main_v284 : Ref sig .tc := ⟨.hbm, 592, rfl⟩
abbrev main_v285 : Ref sig .tc := ⟨.hbm, 593, rfl⟩
abbrev main_v286 : Ref sig .tc := ⟨.hbm, 594, rfl⟩
abbrev main_v287 : Ref sig .tc := ⟨.hbm, 595, rfl⟩
abbrev main_v288 : Ref sig .tc := ⟨.hbm, 596, rfl⟩
abbrev main_v289 : Ref sig .tc := ⟨.hbm, 597, rfl⟩
abbrev main_v290 : Ref sig .tc := ⟨.hbm, 598, rfl⟩
abbrev main_v291 : Ref sig .tc := ⟨.hbm, 599, rfl⟩
abbrev main_v292 : Ref sig .tc := ⟨.hbm, 600, rfl⟩
abbrev main_v293 : Ref sig .tc := ⟨.hbm, 601, rfl⟩
abbrev main_v294 : Ref sig .tc := ⟨.hbm, 602, rfl⟩
abbrev main_v295 : Ref sig .tc := ⟨.hbm, 603, rfl⟩
abbrev main_v296 : Ref sig .tc := ⟨.hbm, 604, rfl⟩
abbrev main_cst_92 : Ref sig .tc := ⟨.hbm, 605, rfl⟩
abbrev main_call26_v0 : Ref sig .tc := ⟨.hbm, 606, rfl⟩
abbrev main_call26_v1 : Ref sig .tc := ⟨.hbm, 607, rfl⟩
abbrev main_call26_v2 : Ref sig .tc := ⟨.hbm, 608, rfl⟩
abbrev main_v297 : Ref sig .tc := ⟨.hbm, 609, rfl⟩
abbrev main_v298 : Ref sig .tc := ⟨.hbm, 610, rfl⟩
abbrev main_v299 : Ref sig .tc := ⟨.hbm, 611, rfl⟩
abbrev main_cst_93 : Ref sig .tc := ⟨.hbm, 612, rfl⟩
abbrev main_call27_v0 : Ref sig .tc := ⟨.hbm, 613, rfl⟩
abbrev main_call27_v1 : Ref sig .tc := ⟨.hbm, 614, rfl⟩
abbrev main_call27_v2 : Ref sig .tc := ⟨.hbm, 615, rfl⟩
abbrev main_call27_v3 : Ref sig .tc := ⟨.hbm, 616, rfl⟩
abbrev main_v300 : Ref sig .tc := ⟨.hbm, 617, rfl⟩
abbrev main_v301 : Ref sig .tc := ⟨.hbm, 618, rfl⟩
abbrev main_v302 : Ref sig .tc := ⟨.hbm, 619, rfl⟩
abbrev main_cst_94 : Ref sig .tc := ⟨.hbm, 620, rfl⟩
abbrev main_call28_v0 : Ref sig .tc := ⟨.hbm, 621, rfl⟩
abbrev main_call28_v1 : Ref sig .tc := ⟨.hbm, 622, rfl⟩
abbrev main_call28_v2 : Ref sig .tc := ⟨.hbm, 623, rfl⟩
abbrev main_call28_v3 : Ref sig .tc := ⟨.hbm, 624, rfl⟩
abbrev main_v303 : Ref sig .tc := ⟨.hbm, 625, rfl⟩
abbrev main_cst_95 : Ref sig .tc := ⟨.hbm, 626, rfl⟩
abbrev main_v304 : Ref sig .tc := ⟨.hbm, 627, rfl⟩
abbrev main_v305 : Ref sig .tc := ⟨.hbm, 628, rfl⟩
abbrev main_cst_96 : Ref sig .tc := ⟨.hbm, 629, rfl⟩
abbrev main_v306 : Ref sig .tc := ⟨.hbm, 630, rfl⟩
abbrev main_v307 : Ref sig .tc := ⟨.hbm, 631, rfl⟩
abbrev main_cst_97 : Ref sig .tc := ⟨.hbm, 632, rfl⟩
abbrev main_call29_v0 : Ref sig .tc := ⟨.hbm, 633, rfl⟩
abbrev main_call29_v1 : Ref sig .tc := ⟨.hbm, 634, rfl⟩
abbrev main_v308 : Ref sig .tc := ⟨.hbm, 635, rfl⟩
abbrev main_cst_98 : Ref sig .tc := ⟨.hbm, 636, rfl⟩
abbrev main_v309 : Ref sig .tc := ⟨.hbm, 637, rfl⟩
abbrev main_v310 : Ref sig .tc := ⟨.hbm, 638, rfl⟩
abbrev main_cst_99 : Ref sig .tc := ⟨.hbm, 639, rfl⟩
abbrev main_v311 : Ref sig .tc := ⟨.hbm, 640, rfl⟩
abbrev main_v312 : Ref sig .tc := ⟨.hbm, 641, rfl⟩
abbrev main_cst_100 : Ref sig .tc := ⟨.hbm, 642, rfl⟩
abbrev main_call30_v0 : Ref sig .tc := ⟨.hbm, 643, rfl⟩
abbrev main_call30_v1 : Ref sig .tc := ⟨.hbm, 644, rfl⟩
abbrev main_v313 : Ref sig .tc := ⟨.hbm, 645, rfl⟩
abbrev main_cst_101 : Ref sig .tc := ⟨.hbm, 646, rfl⟩
abbrev main_call31_v0 : Ref sig .tc := ⟨.hbm, 647, rfl⟩
abbrev main_call31_v1 : Ref sig .tc := ⟨.hbm, 648, rfl⟩
abbrev main_call31_v2 : Ref sig .tc := ⟨.hbm, 649, rfl⟩
abbrev main_call31_cst : Ref sig .tc := ⟨.hbm, 650, rfl⟩
abbrev main_call31_v3 : Ref sig .tc := ⟨.hbm, 651, rfl⟩
abbrev main_call31_v4 : Ref sig .tc := ⟨.hbm, 652, rfl⟩
abbrev main_call31_cst_0 : Ref sig .tc := ⟨.hbm, 653, rfl⟩
abbrev main_call31_v5 : Ref sig .tc := ⟨.hbm, 654, rfl⟩
abbrev main_call31_v6 : Ref sig .tc := ⟨.hbm, 655, rfl⟩
abbrev main_call31_cst_1 : Ref sig .tc := ⟨.hbm, 656, rfl⟩
abbrev main_call31_v7 : Ref sig .tc := ⟨.hbm, 657, rfl⟩
abbrev main_call31_v8 : Ref sig .tc := ⟨.hbm, 658, rfl⟩
abbrev main_call31_v9 : Ref sig .tc := ⟨.hbm, 659, rfl⟩
abbrev main_call31_v10 : Ref sig .tc := ⟨.hbm, 660, rfl⟩
abbrev main_call31_v11 : Ref sig .tc := ⟨.hbm, 661, rfl⟩
abbrev main_call31_v12 : Ref sig .tc := ⟨.hbm, 662, rfl⟩
abbrev main_v314 : Ref sig .tc := ⟨.hbm, 663, rfl⟩
abbrev main_cst_102 : Ref sig .tc := ⟨.hbm, 664, rfl⟩
abbrev main_v315 : Ref sig .tc := ⟨.hbm, 665, rfl⟩
abbrev main_v316 : Ref sig .tc := ⟨.hbm, 666, rfl⟩
abbrev main_cst_103 : Ref sig .tc := ⟨.hbm, 667, rfl⟩
abbrev main_v317 : Ref sig .tc := ⟨.hbm, 668, rfl⟩
abbrev main_v318 : Ref sig .tc := ⟨.hbm, 669, rfl⟩
abbrev main_v319 : Ref sig .tc := ⟨.hbm, 670, rfl⟩
abbrev main_cst_104 : Ref sig .tc := ⟨.hbm, 671, rfl⟩
abbrev main_call32_v0 : Ref sig .tc := ⟨.hbm, 672, rfl⟩
abbrev main_call32_v1 : Ref sig .tc := ⟨.hbm, 673, rfl⟩
abbrev main_call32_v2 : Ref sig .tc := ⟨.hbm, 674, rfl⟩
abbrev main_call32_cst : Ref sig .tc := ⟨.hbm, 675, rfl⟩
abbrev main_call32_v3 : Ref sig .tc := ⟨.hbm, 676, rfl⟩
abbrev main_call32_v4 : Ref sig .tc := ⟨.hbm, 677, rfl⟩
abbrev main_call32_cst_0 : Ref sig .tc := ⟨.hbm, 678, rfl⟩
abbrev main_call32_v5 : Ref sig .tc := ⟨.hbm, 679, rfl⟩
abbrev main_call32_v6 : Ref sig .tc := ⟨.hbm, 680, rfl⟩
abbrev main_call32_cst_1 : Ref sig .tc := ⟨.hbm, 681, rfl⟩
abbrev main_call32_v7 : Ref sig .tc := ⟨.hbm, 682, rfl⟩
abbrev main_call32_v8 : Ref sig .tc := ⟨.hbm, 683, rfl⟩
abbrev main_call32_v9 : Ref sig .tc := ⟨.hbm, 684, rfl⟩
abbrev main_call32_v10 : Ref sig .tc := ⟨.hbm, 685, rfl⟩
abbrev main_call32_v11 : Ref sig .tc := ⟨.hbm, 686, rfl⟩
abbrev main_call32_v12 : Ref sig .tc := ⟨.hbm, 687, rfl⟩
abbrev main_v320 : Ref sig .tc := ⟨.hbm, 688, rfl⟩
abbrev main_cst_105 : Ref sig .tc := ⟨.hbm, 689, rfl⟩
abbrev main_v321 : Ref sig .tc := ⟨.hbm, 690, rfl⟩
abbrev main_v322 : Ref sig .tc := ⟨.hbm, 691, rfl⟩
abbrev main_cst_106 : Ref sig .tc := ⟨.hbm, 692, rfl⟩
abbrev main_v323 : Ref sig .tc := ⟨.hbm, 693, rfl⟩
abbrev main_v324 : Ref sig .tc := ⟨.hbm, 694, rfl⟩
abbrev main_v325 : Ref sig .tc := ⟨.hbm, 695, rfl⟩
abbrev main_cst_107 : Ref sig .tc := ⟨.hbm, 696, rfl⟩
abbrev main_call33_v0 : Ref sig .tc := ⟨.hbm, 697, rfl⟩
abbrev main_call33_v1 : Ref sig .tc := ⟨.hbm, 698, rfl⟩
abbrev main_call33_v2 : Ref sig .tc := ⟨.hbm, 699, rfl⟩
abbrev main_call33_cst : Ref sig .tc := ⟨.hbm, 700, rfl⟩
abbrev main_call33_v3 : Ref sig .tc := ⟨.hbm, 701, rfl⟩
abbrev main_call33_v4 : Ref sig .tc := ⟨.hbm, 702, rfl⟩
abbrev main_call33_cst_0 : Ref sig .tc := ⟨.hbm, 703, rfl⟩
abbrev main_call33_v5 : Ref sig .tc := ⟨.hbm, 704, rfl⟩
abbrev main_call33_v6 : Ref sig .tc := ⟨.hbm, 705, rfl⟩
abbrev main_call33_cst_1 : Ref sig .tc := ⟨.hbm, 706, rfl⟩
abbrev main_call33_v7 : Ref sig .tc := ⟨.hbm, 707, rfl⟩
abbrev main_call33_v8 : Ref sig .tc := ⟨.hbm, 708, rfl⟩
abbrev main_call33_v9 : Ref sig .tc := ⟨.hbm, 709, rfl⟩
abbrev main_call33_v10 : Ref sig .tc := ⟨.hbm, 710, rfl⟩
abbrev main_call33_v11 : Ref sig .tc := ⟨.hbm, 711, rfl⟩
abbrev main_call33_v12 : Ref sig .tc := ⟨.hbm, 712, rfl⟩
abbrev main_v326 : Ref sig .tc := ⟨.hbm, 713, rfl⟩
abbrev main_cst_108 : Ref sig .tc := ⟨.hbm, 714, rfl⟩
abbrev main_v327 : Ref sig .tc := ⟨.hbm, 715, rfl⟩
abbrev main_v328 : Ref sig .tc := ⟨.hbm, 716, rfl⟩
abbrev main_cst_109 : Ref sig .tc := ⟨.hbm, 717, rfl⟩
abbrev main_v329 : Ref sig .tc := ⟨.hbm, 718, rfl⟩
abbrev main_v330 : Ref sig .tc := ⟨.hbm, 719, rfl⟩
abbrev main_v331 : Ref sig .tc := ⟨.hbm, 720, rfl⟩
abbrev main_cst_110 : Ref sig .tc := ⟨.hbm, 721, rfl⟩
abbrev main_call34_v0 : Ref sig .tc := ⟨.hbm, 722, rfl⟩
abbrev main_call34_v1 : Ref sig .tc := ⟨.hbm, 723, rfl⟩
abbrev main_call34_v2 : Ref sig .tc := ⟨.hbm, 724, rfl⟩
abbrev main_call34_cst : Ref sig .tc := ⟨.hbm, 725, rfl⟩
abbrev main_call34_v3 : Ref sig .tc := ⟨.hbm, 726, rfl⟩
abbrev main_call34_v4 : Ref sig .tc := ⟨.hbm, 727, rfl⟩
abbrev main_call34_cst_0 : Ref sig .tc := ⟨.hbm, 728, rfl⟩
abbrev main_call34_v5 : Ref sig .tc := ⟨.hbm, 729, rfl⟩
abbrev main_call34_v6 : Ref sig .tc := ⟨.hbm, 730, rfl⟩
abbrev main_call34_cst_1 : Ref sig .tc := ⟨.hbm, 731, rfl⟩
abbrev main_call34_v7 : Ref sig .tc := ⟨.hbm, 732, rfl⟩
abbrev main_call34_v8 : Ref sig .tc := ⟨.hbm, 733, rfl⟩
abbrev main_call34_v9 : Ref sig .tc := ⟨.hbm, 734, rfl⟩
abbrev main_call34_v10 : Ref sig .tc := ⟨.hbm, 735, rfl⟩
abbrev main_call34_v11 : Ref sig .tc := ⟨.hbm, 736, rfl⟩
abbrev main_call34_v12 : Ref sig .tc := ⟨.hbm, 737, rfl⟩
abbrev main_v332 : Ref sig .tc := ⟨.hbm, 738, rfl⟩
abbrev main_cst_111 : Ref sig .tc := ⟨.hbm, 739, rfl⟩
abbrev main_v333 : Ref sig .tc := ⟨.hbm, 740, rfl⟩
abbrev main_v334 : Ref sig .tc := ⟨.hbm, 741, rfl⟩
abbrev main_cst_112 : Ref sig .tc := ⟨.hbm, 742, rfl⟩
abbrev main_v335 : Ref sig .tc := ⟨.hbm, 743, rfl⟩
abbrev main_v336 : Ref sig .tc := ⟨.hbm, 744, rfl⟩
abbrev main_v337 : Ref sig .tc := ⟨.hbm, 745, rfl⟩
abbrev main_c_113 : Ref sig .tc := ⟨.hbm, 746, rfl⟩
abbrev main_v338 : Ref sig .tc := ⟨.hbm, 747, rfl⟩
abbrev main_v339 : Ref sig .tc := ⟨.hbm, 748, rfl⟩
abbrev main_v340 : Ref sig .tc := ⟨.hbm, 749, rfl⟩
abbrev main_v341 : Ref sig .tc := ⟨.hbm, 750, rfl⟩
abbrev main_v342 : Ref sig .tc := ⟨.hbm, 751, rfl⟩
abbrev main_v343 : Ref sig .tc := ⟨.hbm, 752, rfl⟩
abbrev main_v344 : Ref sig .tc := ⟨.hbm, 753, rfl⟩
abbrev main_v345 : Ref sig .tc := ⟨.hbm, 754, rfl⟩
abbrev main_cst_114 : Ref sig .tc := ⟨.hbm, 755, rfl⟩
abbrev main_call35_v0 : Ref sig .tc := ⟨.hbm, 756, rfl⟩
abbrev main_call35_v1 : Ref sig .tc := ⟨.hbm, 757, rfl⟩
abbrev main_call35_v2 : Ref sig .tc := ⟨.hbm, 758, rfl⟩
abbrev main_v346 : Ref sig .tc := ⟨.hbm, 759, rfl⟩
abbrev main_v347 : Ref sig .tc := ⟨.hbm, 760, rfl⟩
abbrev main_v348 : Ref sig .tc := ⟨.hbm, 761, rfl⟩
abbrev main_call36_v0 : Ref sig .tc := ⟨.hbm, 762, rfl⟩
abbrev main_call36_v1_0 : Ref sig .tc := ⟨.hbm, 763, rfl⟩
abbrev main_v349 : Ref sig .tc := ⟨.hbm, 764, rfl⟩
abbrev main_v350 : Ref sig .tc := ⟨.hbm, 765, rfl⟩
abbrev main_c_115 : Ref sig .tc := ⟨.hbm, 766, rfl⟩
abbrev main_call37_v0 : Ref sig .tc := ⟨.hbm, 767, rfl⟩
abbrev main_call37_v1 : Ref sig .tc := ⟨.hbm, 768, rfl⟩
abbrev main_call37_v2 : Ref sig .tc := ⟨.hbm, 769, rfl⟩
abbrev main_call37_v3 : Ref sig .tc := ⟨.hbm, 770, rfl⟩
abbrev main_call37_v4 : Ref sig .tc := ⟨.hbm, 771, rfl⟩
abbrev main_call37_v5 : Ref sig .tc := ⟨.hbm, 772, rfl⟩
abbrev main_call37_v6 : Ref sig .tc := ⟨.hbm, 773, rfl⟩
abbrev main_call37_v7 : Ref sig .tc := ⟨.hbm, 774, rfl⟩
abbrev main_call37_v8 : Ref sig .tc := ⟨.hbm, 775, rfl⟩
abbrev main_call37_c : Ref sig .tc := ⟨.hbm, 776, rfl⟩
abbrev main_call37_v9 : Ref sig .tc := ⟨.hbm, 777, rfl⟩
abbrev main_call37_v10 : Ref sig .tc := ⟨.hbm, 778, rfl⟩
abbrev main_call37_v11 : Ref sig .tc := ⟨.hbm, 779, rfl⟩
abbrev main_call37_c_0 : Ref sig .tc := ⟨.hbm, 780, rfl⟩
abbrev main_call37_v12 : Ref sig .tc := ⟨.hbm, 781, rfl⟩
abbrev main_call37_v13 : Ref sig .tc := ⟨.hbm, 782, rfl⟩
abbrev main_v351 : Ref sig .tc := ⟨.hbm, 783, rfl⟩
abbrev main_c_116 : Ref sig .tc := ⟨.hbm, 784, rfl⟩
abbrev main_call38_v0 : Ref sig .tc := ⟨.hbm, 785, rfl⟩
abbrev main_call38_c : Ref sig .tc := ⟨.hbm, 786, rfl⟩
abbrev main_call38_v1 : Ref sig .tc := ⟨.hbm, 787, rfl⟩
abbrev main_call38_c_0 : Ref sig .tc := ⟨.hbm, 788, rfl⟩
abbrev main_call38_v2 : Ref sig .tc := ⟨.hbm, 789, rfl⟩
abbrev main_call38_v3 : Ref sig .tc := ⟨.hbm, 790, rfl⟩
abbrev main_call38_v4 : Ref sig .tc := ⟨.hbm, 791, rfl⟩
abbrev main_call38_c_1 : Ref sig .tc := ⟨.hbm, 792, rfl⟩
abbrev main_call38_v5 : Ref sig .tc := ⟨.hbm, 793, rfl⟩
abbrev main_call38_v6 : Ref sig .tc := ⟨.hbm, 794, rfl⟩
abbrev main_call38_c_2 : Ref sig .tc := ⟨.hbm, 795, rfl⟩
abbrev main_call38_v7 : Ref sig .tc := ⟨.hbm, 796, rfl⟩
abbrev main_call38_v8 : Ref sig .tc := ⟨.hbm, 797, rfl⟩
abbrev main_call38_c_3 : Ref sig .tc := ⟨.hbm, 798, rfl⟩
abbrev main_call38_v9 : Ref sig .tc := ⟨.hbm, 799, rfl⟩
abbrev main_call38_v10 : Ref sig .tc := ⟨.hbm, 800, rfl⟩
abbrev main_call38_v11 : Ref sig .tc := ⟨.hbm, 801, rfl⟩
abbrev main_call38_v12 : Ref sig .tc := ⟨.hbm, 802, rfl⟩
abbrev main_call38_v13 : Ref sig .tc := ⟨.hbm, 803, rfl⟩
abbrev main_call38_v14 : Ref sig .tc := ⟨.hbm, 804, rfl⟩
abbrev main_v352 : Ref sig .tc := ⟨.hbm, 805, rfl⟩
abbrev main_c_117 : Ref sig .tc := ⟨.hbm, 806, rfl⟩
abbrev main_v353 : Ref sig .tc := ⟨.hbm, 807, rfl⟩
abbrev main_v354 : Ref sig .tc := ⟨.hbm, 808, rfl⟩
abbrev main_c_118 : Ref sig .tc := ⟨.hbm, 809, rfl⟩
abbrev main_v355 : Ref sig .tc := ⟨.hbm, 810, rfl⟩
abbrev main_v356 : Ref sig .tc := ⟨.hbm, 811, rfl⟩
abbrev main_v357 : Ref sig .tc := ⟨.hbm, 812, rfl⟩
abbrev main_v358 : Ref sig .tc := ⟨.hbm, 813, rfl⟩
abbrev main_v359 : Ref sig .tc := ⟨.hbm, 814, rfl⟩
abbrev main_cst_119 : Ref sig .tc := ⟨.hbm, 815, rfl⟩
abbrev main_v360 : Ref sig .tc := ⟨.hbm, 816, rfl⟩
abbrev main_v361 : Ref sig .tc := ⟨.hbm, 817, rfl⟩
abbrev main_c_120 : Ref sig .tc := ⟨.hbm, 818, rfl⟩
abbrev main_call39_v0 : Ref sig .tc := ⟨.hbm, 819, rfl⟩
abbrev main_call39_v1 : Ref sig .tc := ⟨.hbm, 820, rfl⟩
abbrev main_call39_v2 : Ref sig .tc := ⟨.hbm, 821, rfl⟩
abbrev main_call39_v3 : Ref sig .tc := ⟨.hbm, 822, rfl⟩
abbrev main_call39_v4 : Ref sig .tc := ⟨.hbm, 823, rfl⟩
abbrev main_call39_v5 : Ref sig .tc := ⟨.hbm, 824, rfl⟩
abbrev main_call39_v6 : Ref sig .tc := ⟨.hbm, 825, rfl⟩
abbrev main_call39_v7 : Ref sig .tc := ⟨.hbm, 826, rfl⟩
abbrev main_call39_v8 : Ref sig .tc := ⟨.hbm, 827, rfl⟩
abbrev main_call39_c : Ref sig .tc := ⟨.hbm, 828, rfl⟩
abbrev main_call39_v9 : Ref sig .tc := ⟨.hbm, 829, rfl⟩
abbrev main_call39_v10 : Ref sig .tc := ⟨.hbm, 830, rfl⟩
abbrev main_call39_v11 : Ref sig .tc := ⟨.hbm, 831, rfl⟩
abbrev main_call39_c_0 : Ref sig .tc := ⟨.hbm, 832, rfl⟩
abbrev main_call39_v12 : Ref sig .tc := ⟨.hbm, 833, rfl⟩
abbrev main_call39_v13 : Ref sig .tc := ⟨.hbm, 834, rfl⟩
abbrev main_v362 : Ref sig .tc := ⟨.hbm, 835, rfl⟩
abbrev main_c_121 : Ref sig .tc := ⟨.hbm, 836, rfl⟩
abbrev main_call40_v0 : Ref sig .tc := ⟨.hbm, 837, rfl⟩
abbrev main_call40_v1 : Ref sig .tc := ⟨.hbm, 838, rfl⟩
abbrev main_call40_v2 : Ref sig .tc := ⟨.hbm, 839, rfl⟩
abbrev main_call40_v3 : Ref sig .tc := ⟨.hbm, 840, rfl⟩
abbrev main_call40_v4 : Ref sig .tc := ⟨.hbm, 841, rfl⟩
abbrev main_call40_v5 : Ref sig .tc := ⟨.hbm, 842, rfl⟩
abbrev main_call40_v6 : Ref sig .tc := ⟨.hbm, 843, rfl⟩
abbrev main_call40_v7 : Ref sig .tc := ⟨.hbm, 844, rfl⟩
abbrev main_call40_v8 : Ref sig .tc := ⟨.hbm, 845, rfl⟩
abbrev main_call40_c : Ref sig .tc := ⟨.hbm, 846, rfl⟩
abbrev main_call40_v9 : Ref sig .tc := ⟨.hbm, 847, rfl⟩
abbrev main_call40_v10 : Ref sig .tc := ⟨.hbm, 848, rfl⟩
abbrev main_call40_v11 : Ref sig .tc := ⟨.hbm, 849, rfl⟩
abbrev main_call40_c_0 : Ref sig .tc := ⟨.hbm, 850, rfl⟩
abbrev main_call40_v12 : Ref sig .tc := ⟨.hbm, 851, rfl⟩
abbrev main_call40_v13 : Ref sig .tc := ⟨.hbm, 852, rfl⟩
abbrev main_v363 : Ref sig .tc := ⟨.hbm, 853, rfl⟩
abbrev main_c_122 : Ref sig .tc := ⟨.hbm, 854, rfl⟩
abbrev main_call41_v0 : Ref sig .tc := ⟨.hbm, 855, rfl⟩
abbrev main_call41_c : Ref sig .tc := ⟨.hbm, 856, rfl⟩
abbrev main_call41_v1 : Ref sig .tc := ⟨.hbm, 857, rfl⟩
abbrev main_call41_c_0 : Ref sig .tc := ⟨.hbm, 858, rfl⟩
abbrev main_call41_v2 : Ref sig .tc := ⟨.hbm, 859, rfl⟩
abbrev main_call41_v3 : Ref sig .tc := ⟨.hbm, 860, rfl⟩
abbrev main_call41_v4 : Ref sig .tc := ⟨.hbm, 861, rfl⟩
abbrev main_call41_c_1 : Ref sig .tc := ⟨.hbm, 862, rfl⟩
abbrev main_call41_v5 : Ref sig .tc := ⟨.hbm, 863, rfl⟩
abbrev main_call41_v6 : Ref sig .tc := ⟨.hbm, 864, rfl⟩
abbrev main_call41_c_2 : Ref sig .tc := ⟨.hbm, 865, rfl⟩
abbrev main_call41_v7 : Ref sig .tc := ⟨.hbm, 866, rfl⟩
abbrev main_call41_v8 : Ref sig .tc := ⟨.hbm, 867, rfl⟩
abbrev main_call41_c_3 : Ref sig .tc := ⟨.hbm, 868, rfl⟩
abbrev main_call41_v9 : Ref sig .tc := ⟨.hbm, 869, rfl⟩
abbrev main_call41_v10 : Ref sig .tc := ⟨.hbm, 870, rfl⟩
abbrev main_call41_v11 : Ref sig .tc := ⟨.hbm, 871, rfl⟩
abbrev main_call41_v12 : Ref sig .tc := ⟨.hbm, 872, rfl⟩
abbrev main_call41_v13 : Ref sig .tc := ⟨.hbm, 873, rfl⟩
abbrev main_call41_v14 : Ref sig .tc := ⟨.hbm, 874, rfl⟩
abbrev main_v364 : Ref sig .tc := ⟨.hbm, 875, rfl⟩
abbrev main_c_123 : Ref sig .tc := ⟨.hbm, 876, rfl⟩
abbrev main_call42_v0 : Ref sig .tc := ⟨.hbm, 877, rfl⟩
abbrev main_call42_c : Ref sig .tc := ⟨.hbm, 878, rfl⟩
abbrev main_call42_v1 : Ref sig .tc := ⟨.hbm, 879, rfl⟩
abbrev main_call42_c_0 : Ref sig .tc := ⟨.hbm, 880, rfl⟩
abbrev main_call42_v2 : Ref sig .tc := ⟨.hbm, 881, rfl⟩
abbrev main_call42_v3 : Ref sig .tc := ⟨.hbm, 882, rfl⟩
abbrev main_call42_v4 : Ref sig .tc := ⟨.hbm, 883, rfl⟩
abbrev main_call42_c_1 : Ref sig .tc := ⟨.hbm, 884, rfl⟩
abbrev main_call42_v5 : Ref sig .tc := ⟨.hbm, 885, rfl⟩
abbrev main_call42_v6 : Ref sig .tc := ⟨.hbm, 886, rfl⟩
abbrev main_call42_c_2 : Ref sig .tc := ⟨.hbm, 887, rfl⟩
abbrev main_call42_v7 : Ref sig .tc := ⟨.hbm, 888, rfl⟩
abbrev main_call42_v8 : Ref sig .tc := ⟨.hbm, 889, rfl⟩
abbrev main_call42_c_3 : Ref sig .tc := ⟨.hbm, 890, rfl⟩
abbrev main_call42_v9 : Ref sig .tc := ⟨.hbm, 891, rfl⟩
abbrev main_call42_v10 : Ref sig .tc := ⟨.hbm, 892, rfl⟩
abbrev main_call42_v11 : Ref sig .tc := ⟨.hbm, 893, rfl⟩
abbrev main_call42_v12 : Ref sig .tc := ⟨.hbm, 894, rfl⟩
abbrev main_call42_v13 : Ref sig .tc := ⟨.hbm, 895, rfl⟩
abbrev main_call42_v14 : Ref sig .tc := ⟨.hbm, 896, rfl⟩
abbrev main_v365 : Ref sig .tc := ⟨.hbm, 897, rfl⟩
abbrev main_c_124 : Ref sig .tc := ⟨.hbm, 898, rfl⟩
abbrev main_v366 : Ref sig .tc := ⟨.hbm, 899, rfl⟩
abbrev main_v367 : Ref sig .tc := ⟨.hbm, 900, rfl⟩
abbrev main_c_125 : Ref sig .tc := ⟨.hbm, 901, rfl⟩
abbrev main_v368 : Ref sig .tc := ⟨.hbm, 902, rfl⟩
abbrev main_v369 : Ref sig .tc := ⟨.hbm, 903, rfl⟩
abbrev main_v370 : Ref sig .tc := ⟨.hbm, 904, rfl⟩
abbrev main_c_126 : Ref sig .tc := ⟨.hbm, 905, rfl⟩
abbrev main_v371 : Ref sig .tc := ⟨.hbm, 906, rfl⟩
abbrev main_v372 : Ref sig .tc := ⟨.hbm, 907, rfl⟩
abbrev main_c_127 : Ref sig .tc := ⟨.hbm, 908, rfl⟩
abbrev main_v373 : Ref sig .tc := ⟨.hbm, 909, rfl⟩
abbrev main_v374 : Ref sig .tc := ⟨.hbm, 910, rfl⟩
abbrev main_v375 : Ref sig .tc := ⟨.hbm, 911, rfl⟩
abbrev main_v376 : Ref sig .tc := ⟨.hbm, 912, rfl⟩
abbrev main_v377 : Ref sig .tc := ⟨.hbm, 913, rfl⟩
abbrev main_v378 : Ref sig .tc := ⟨.hbm, 914, rfl⟩
abbrev main_v379 : Ref sig .tc := ⟨.hbm, 915, rfl⟩
abbrev main_c_128 : Ref sig .tc := ⟨.hbm, 916, rfl⟩
abbrev main_v380 : Ref sig .tc := ⟨.hbm, 917, rfl⟩
abbrev main_v381 : Ref sig .tc := ⟨.hbm, 918, rfl⟩
abbrev main_c_129 : Ref sig .tc := ⟨.hbm, 919, rfl⟩
abbrev main_v382 : Ref sig .tc := ⟨.hbm, 920, rfl⟩
abbrev main_v383 : Ref sig .tc := ⟨.hbm, 921, rfl⟩
abbrev main_v384 : Ref sig .tc := ⟨.hbm, 922, rfl⟩
abbrev main_c_130 : Ref sig .tc := ⟨.hbm, 923, rfl⟩
abbrev main_v385 : Ref sig .tc := ⟨.hbm, 924, rfl⟩
abbrev main_v386 : Ref sig .tc := ⟨.hbm, 925, rfl⟩
abbrev main_c_131 : Ref sig .tc := ⟨.hbm, 926, rfl⟩
abbrev main_v387 : Ref sig .tc := ⟨.hbm, 927, rfl⟩
abbrev main_v388 : Ref sig .tc := ⟨.hbm, 928, rfl⟩
abbrev main_v389 : Ref sig .tc := ⟨.hbm, 929, rfl⟩
abbrev main_v390 : Ref sig .tc := ⟨.hbm, 930, rfl⟩
abbrev main_v391 : Ref sig .tc := ⟨.hbm, 931, rfl⟩
abbrev main_v392 : Ref sig .tc := ⟨.hbm, 932, rfl⟩
abbrev main_v393 : Ref sig .tc := ⟨.hbm, 933, rfl⟩
abbrev main_c_132 : Ref sig .tc := ⟨.hbm, 934, rfl⟩
abbrev main_v394 : Ref sig .tc := ⟨.hbm, 935, rfl⟩
abbrev main_v395 : Ref sig .tc := ⟨.hbm, 936, rfl⟩
abbrev main_c_133 : Ref sig .tc := ⟨.hbm, 937, rfl⟩
abbrev main_v396 : Ref sig .tc := ⟨.hbm, 938, rfl⟩
abbrev main_v397 : Ref sig .tc := ⟨.hbm, 939, rfl⟩
abbrev main_v398 : Ref sig .tc := ⟨.hbm, 940, rfl⟩
abbrev main_c_134 : Ref sig .tc := ⟨.hbm, 941, rfl⟩
abbrev main_v399 : Ref sig .tc := ⟨.hbm, 942, rfl⟩
abbrev main_v400 : Ref sig .tc := ⟨.hbm, 943, rfl⟩
abbrev main_c_135 : Ref sig .tc := ⟨.hbm, 944, rfl⟩
abbrev main_v401 : Ref sig .tc := ⟨.hbm, 945, rfl⟩
abbrev main_v402 : Ref sig .tc := ⟨.hbm, 946, rfl⟩
abbrev main_v403 : Ref sig .tc := ⟨.hbm, 947, rfl⟩
abbrev main_v404 : Ref sig .tc := ⟨.hbm, 948, rfl⟩
abbrev main_v405 : Ref sig .tc := ⟨.hbm, 949, rfl⟩
abbrev main_v406 : Ref sig .tc := ⟨.hbm, 950, rfl⟩
abbrev main_v407 : Ref sig .tc := ⟨.hbm, 951, rfl⟩
abbrev main_c_136 : Ref sig .tc := ⟨.hbm, 952, rfl⟩
abbrev main_v408 : Ref sig .tc := ⟨.hbm, 953, rfl⟩
abbrev main_v409 : Ref sig .tc := ⟨.hbm, 954, rfl⟩
abbrev main_c_137 : Ref sig .tc := ⟨.hbm, 955, rfl⟩
abbrev main_v410 : Ref sig .tc := ⟨.hbm, 956, rfl⟩
abbrev main_v411 : Ref sig .tc := ⟨.hbm, 957, rfl⟩
abbrev main_v412 : Ref sig .tc := ⟨.hbm, 958, rfl⟩
abbrev main_c_138 : Ref sig .tc := ⟨.hbm, 959, rfl⟩
abbrev main_v413 : Ref sig .tc := ⟨.hbm, 960, rfl⟩
abbrev main_v414 : Ref sig .tc := ⟨.hbm, 961, rfl⟩
abbrev main_c_139 : Ref sig .tc := ⟨.hbm, 962, rfl⟩
abbrev main_v415 : Ref sig .tc := ⟨.hbm, 963, rfl⟩
abbrev main_v416 : Ref sig .tc := ⟨.hbm, 964, rfl⟩
abbrev main_v417 : Ref sig .tc := ⟨.hbm, 965, rfl⟩
abbrev main_v418 : Ref sig .tc := ⟨.hbm, 966, rfl⟩
abbrev main_v419 : Ref sig .tc := ⟨.hbm, 967, rfl⟩
abbrev main_v420 : Ref sig .tc := ⟨.hbm, 968, rfl⟩
abbrev main_v421 : Ref sig .tc := ⟨.hbm, 969, rfl⟩
abbrev main_c_140 : Ref sig .tc := ⟨.hbm, 970, rfl⟩
abbrev main_v422 : Ref sig .tc := ⟨.hbm, 971, rfl⟩
abbrev main_v423 : Ref sig .tc := ⟨.hbm, 972, rfl⟩
abbrev main_c_141 : Ref sig .tc := ⟨.hbm, 973, rfl⟩
abbrev main_v424 : Ref sig .tc := ⟨.hbm, 974, rfl⟩
abbrev main_v425 : Ref sig .tc := ⟨.hbm, 975, rfl⟩
abbrev main_v426 : Ref sig .tc := ⟨.hbm, 976, rfl⟩
abbrev main_c_142 : Ref sig .tc := ⟨.hbm, 977, rfl⟩
abbrev main_v427 : Ref sig .tc := ⟨.hbm, 978, rfl⟩
abbrev main_v428 : Ref sig .tc := ⟨.hbm, 979, rfl⟩
abbrev main_c_143 : Ref sig .tc := ⟨.hbm, 980, rfl⟩
abbrev main_v429 : Ref sig .tc := ⟨.hbm, 981, rfl⟩
abbrev main_v430 : Ref sig .tc := ⟨.hbm, 982, rfl⟩
abbrev main_v431 : Ref sig .tc := ⟨.hbm, 983, rfl⟩
abbrev main_v432 : Ref sig .tc := ⟨.hbm, 984, rfl⟩
abbrev main_v433 : Ref sig .tc := ⟨.hbm, 985, rfl⟩
abbrev main_v434 : Ref sig .tc := ⟨.hbm, 986, rfl⟩
abbrev main_v435 : Ref sig .tc := ⟨.hbm, 987, rfl⟩
abbrev main_c_144 : Ref sig .tc := ⟨.hbm, 988, rfl⟩
abbrev main_v436 : Ref sig .tc := ⟨.hbm, 989, rfl⟩
abbrev main_v437 : Ref sig .tc := ⟨.hbm, 990, rfl⟩
abbrev main_c_145 : Ref sig .tc := ⟨.hbm, 991, rfl⟩
abbrev main_v438 : Ref sig .tc := ⟨.hbm, 992, rfl⟩
abbrev main_v439 : Ref sig .tc := ⟨.hbm, 993, rfl⟩
abbrev main_v440 : Ref sig .tc := ⟨.hbm, 994, rfl⟩
abbrev main_c_146 : Ref sig .tc := ⟨.hbm, 995, rfl⟩
abbrev main_v441 : Ref sig .tc := ⟨.hbm, 996, rfl⟩
abbrev main_v442 : Ref sig .tc := ⟨.hbm, 997, rfl⟩
abbrev main_v443 : Ref sig .tc := ⟨.hbm, 998, rfl⟩
abbrev main_v444 : Ref sig .tc := ⟨.hbm, 999, rfl⟩
abbrev main_v445 : Ref sig .tc := ⟨.hbm, 1000, rfl⟩
abbrev main_v446 : Ref sig .tc := ⟨.hbm, 1001, rfl⟩
abbrev main_cst_147 : Ref sig .tc := ⟨.hbm, 1002, rfl⟩
abbrev main_call43_v0 : Ref sig .tc := ⟨.hbm, 1003, rfl⟩
abbrev main_call43_v1 : Ref sig .tc := ⟨.hbm, 1004, rfl⟩
abbrev main_v447 : Ref sig .tc := ⟨.hbm, 1005, rfl⟩
abbrev main_c_148 : Ref sig .tc := ⟨.hbm, 1006, rfl⟩
abbrev main_v448 : Ref sig .tc := ⟨.hbm, 1007, rfl⟩
abbrev main_v449 : Ref sig .tc := ⟨.hbm, 1008, rfl⟩
abbrev main_c_149 : Ref sig .tc := ⟨.hbm, 1009, rfl⟩
abbrev main_v450 : Ref sig .tc := ⟨.hbm, 1010, rfl⟩
abbrev main_v451 : Ref sig .tc := ⟨.hbm, 1011, rfl⟩
abbrev main_v452 : Ref sig .tc := ⟨.hbm, 1012, rfl⟩
abbrev main_c_150 : Ref sig .tc := ⟨.hbm, 1013, rfl⟩
abbrev main_v453 : Ref sig .tc := ⟨.hbm, 1014, rfl⟩
abbrev main_v454 : Ref sig .tc := ⟨.hbm, 1015, rfl⟩
abbrev main_v455 : Ref sig .tc := ⟨.hbm, 1016, rfl⟩
abbrev main_v456 : Ref sig .tc := ⟨.hbm, 1017, rfl⟩
abbrev main_v457 : Ref sig .tc := ⟨.hbm, 1018, rfl⟩
abbrev main_v458 : Ref sig .tc := ⟨.hbm, 1019, rfl⟩
abbrev main_cst_151 : Ref sig .tc := ⟨.hbm, 1020, rfl⟩
abbrev main_call44_v0 : Ref sig .tc := ⟨.hbm, 1021, rfl⟩
abbrev main_call44_v1 : Ref sig .tc := ⟨.hbm, 1022, rfl⟩
abbrev main_v459 : Ref sig .tc := ⟨.hbm, 1023, rfl⟩
abbrev main_cst_152 : Ref sig .tc := ⟨.hbm, 1024, rfl⟩
abbrev main_call45_v0 : Ref sig .tc := ⟨.hbm, 1025, rfl⟩
abbrev main_call45_v1 : Ref sig .tc := ⟨.hbm, 1026, rfl⟩
abbrev main_v460 : Ref sig .tc := ⟨.hbm, 1027, rfl⟩
abbrev main_cst_153 : Ref sig .tc := ⟨.hbm, 1028, rfl⟩
abbrev main_call46_v0 : Ref sig .tc := ⟨.hbm, 1029, rfl⟩
abbrev main_call46_v1 : Ref sig .tc := ⟨.hbm, 1030, rfl⟩
abbrev main_v461 : Ref sig .tc := ⟨.hbm, 1031, rfl⟩
abbrev main_cst_154 : Ref sig .tc := ⟨.hbm, 1032, rfl⟩
abbrev main_call47_v0 : Ref sig .tc := ⟨.hbm, 1033, rfl⟩
abbrev main_call47_v1 : Ref sig .tc := ⟨.hbm, 1034, rfl⟩
abbrev main_v462 : Ref sig .tc := ⟨.hbm, 1035, rfl⟩
abbrev main_cst_155 : Ref sig .tc := ⟨.hbm, 1036, rfl⟩
abbrev main_call48_v0 : Ref sig .tc := ⟨.hbm, 1037, rfl⟩
abbrev main_call48_v1 : Ref sig .tc := ⟨.hbm, 1038, rfl⟩
abbrev main_v463 : Ref sig .tc := ⟨.hbm, 1039, rfl⟩
abbrev main_cst_156 : Ref sig .tc := ⟨.hbm, 1040, rfl⟩
abbrev main_call49_v0 : Ref sig .tc := ⟨.hbm, 1041, rfl⟩
abbrev main_call49_v1 : Ref sig .tc := ⟨.hbm, 1042, rfl⟩
abbrev main_v464 : Ref sig .tc := ⟨.hbm, 1043, rfl⟩
abbrev main_v465 : Ref sig .tc := ⟨.hbm, 1044, rfl⟩
abbrev main_v466_0 : Ref sig .tc := ⟨.hbm, 1045, rfl⟩
abbrev main_v466_1 : Ref sig .tc := ⟨.hbm, 1046, rfl⟩
abbrev main_v466_2 : Ref sig .tc := ⟨.hbm, 1047, rfl⟩
abbrev main_v466_3 : Ref sig .tc := ⟨.hbm, 1048, rfl⟩
abbrev main_v467 : Ref sig .tc := ⟨.hbm, 1049, rfl⟩
abbrev main_v468 : Ref sig .tc := ⟨.hbm, 1050, rfl⟩
abbrev main_v469 : Ref sig .tc := ⟨.hbm, 1051, rfl⟩
abbrev main_v470 : Ref sig .tc := ⟨.hbm, 1052, rfl⟩
abbrev main_v471 : Ref sig .tc := ⟨.hbm, 1053, rfl⟩
abbrev main_cst_157 : Ref sig .tc := ⟨.hbm, 1054, rfl⟩
abbrev main_v472 : Ref sig .tc := ⟨.hbm, 1055, rfl⟩
abbrev main_v473 : Ref sig .tc := ⟨.hbm, 1056, rfl⟩
abbrev main_v474 : Ref sig .tc := ⟨.hbm, 1057, rfl⟩
abbrev main_v475 : Ref sig .tc := ⟨.hbm, 1058, rfl⟩
abbrev main_cst_158 : Ref sig .tc := ⟨.hbm, 1059, rfl⟩
abbrev main_v476 : Ref sig .tc := ⟨.hbm, 1060, rfl⟩
abbrev main_v477 : Ref sig .tc := ⟨.hbm, 1061, rfl⟩
abbrev main_v478 : Ref sig .tc := ⟨.hbm, 1062, rfl⟩
abbrev main_v479 : Ref sig .tc := ⟨.hbm, 1063, rfl⟩
abbrev main_cst_159 : Ref sig .tc := ⟨.hbm, 1064, rfl⟩
abbrev main_v480 : Ref sig .tc := ⟨.hbm, 1065, rfl⟩
abbrev main_v481 : Ref sig .tc := ⟨.hbm, 1066, rfl⟩
abbrev main_v482 : Ref sig .tc := ⟨.hbm, 1067, rfl⟩
abbrev main_v483 : Ref sig .tc := ⟨.hbm, 1068, rfl⟩
abbrev main_cst_160 : Ref sig .tc := ⟨.hbm, 1069, rfl⟩
abbrev main_v484 : Ref sig .tc := ⟨.hbm, 1070, rfl⟩
abbrev main_v485 : Ref sig .tc := ⟨.hbm, 1071, rfl⟩
abbrev main_v486 : Ref sig .tc := ⟨.hbm, 1072, rfl⟩
abbrev main_v487 : Ref sig .tc := ⟨.hbm, 1073, rfl⟩
abbrev main_v488 : Ref sig .tc := ⟨.hbm, 1074, rfl⟩
abbrev main_v489 : Ref sig .tc := ⟨.hbm, 1075, rfl⟩
abbrev main_v490 : Ref sig .tc := ⟨.hbm, 1076, rfl⟩
abbrev main_v491 : Ref sig .tc := ⟨.hbm, 1077, rfl⟩
abbrev main_v492 : Ref sig .tc := ⟨.hbm, 1078, rfl⟩
abbrev main_v493 : Ref sig .tc := ⟨.hbm, 1079, rfl⟩
abbrev main_v494 : Ref sig .tc := ⟨.hbm, 1080, rfl⟩
abbrev main_v495 : Ref sig .tc := ⟨.hbm, 1081, rfl⟩
abbrev main_v496 : Ref sig .tc := ⟨.hbm, 1082, rfl⟩
abbrev main_v497 : Ref sig .tc := ⟨.hbm, 1083, rfl⟩
abbrev main_cst_161 : Ref sig .tc := ⟨.hbm, 1084, rfl⟩
abbrev main_v498 : Ref sig .tc := ⟨.hbm, 1085, rfl⟩
abbrev main_v499 : Ref sig .tc := ⟨.hbm, 1086, rfl⟩
abbrev main_v500 : Ref sig .tc := ⟨.hbm, 1087, rfl⟩
abbrev main_cst_162 : Ref sig .tc := ⟨.hbm, 1088, rfl⟩
abbrev main_v501 : Ref sig .tc := ⟨.hbm, 1089, rfl⟩
abbrev main_v502 : Ref sig .tc := ⟨.hbm, 1090, rfl⟩
abbrev main_v503 : Ref sig .tc := ⟨.hbm, 1091, rfl⟩
abbrev main_v504 : Ref sig .tc := ⟨.hbm, 1092, rfl⟩
abbrev main_cst_163 : Ref sig .tc := ⟨.hbm, 1093, rfl⟩
abbrev main_v505 : Ref sig .tc := ⟨.hbm, 1094, rfl⟩
abbrev main_v506 : Ref sig .tc := ⟨.hbm, 1095, rfl⟩
abbrev main_cst_164 : Ref sig .tc := ⟨.hbm, 1096, rfl⟩
abbrev main_call50_v0 : Ref sig .tc := ⟨.hbm, 1097, rfl⟩
abbrev main_call50_v1 : Ref sig .tc := ⟨.hbm, 1098, rfl⟩
abbrev main_v507 : Ref sig .tc := ⟨.hbm, 1099, rfl⟩
abbrev main_cst_165 : Ref sig .tc := ⟨.hbm, 1100, rfl⟩
abbrev main_v508 : Ref sig .tc := ⟨.hbm, 1101, rfl⟩
abbrev main_v509 : Ref sig .tc := ⟨.hbm, 1102, rfl⟩
abbrev main_v510 : Ref sig .tc := ⟨.hbm, 1103, rfl⟩
abbrev main_cst_166 : Ref sig .tc := ⟨.hbm, 1104, rfl⟩
abbrev main_v511 : Ref sig .tc := ⟨.hbm, 1105, rfl⟩
abbrev main_v512 : Ref sig .tc := ⟨.hbm, 1106, rfl⟩
abbrev main_v513 : Ref sig .tc := ⟨.hbm, 1107, rfl⟩
abbrev main_v514 : Ref sig .tc := ⟨.hbm, 1108, rfl⟩
abbrev main_v515 : Ref sig .tc := ⟨.hbm, 1109, rfl⟩
abbrev main_v516 : Ref sig .tc := ⟨.hbm, 1110, rfl⟩
abbrev main_v517 : Ref sig .tc := ⟨.hbm, 1111, rfl⟩
abbrev main_v518 : Ref sig .tc := ⟨.hbm, 1112, rfl⟩
abbrev main_v519 : Ref sig .tc := ⟨.hbm, 1113, rfl⟩
abbrev main_v520 : Ref sig .tc := ⟨.hbm, 1114, rfl⟩
abbrev main_v521 : Ref sig .tc := ⟨.hbm, 1115, rfl⟩
abbrev main_v522 : Ref sig .tc := ⟨.hbm, 1116, rfl⟩
abbrev main_v523 : Ref sig .tc := ⟨.hbm, 1117, rfl⟩
abbrev main_v524 : Ref sig .tc := ⟨.hbm, 1118, rfl⟩
abbrev main_v525 : Ref sig .tc := ⟨.hbm, 1119, rfl⟩
abbrev main_v526 : Ref sig .tc := ⟨.hbm, 1120, rfl⟩
abbrev main_v527 : Ref sig .tc := ⟨.hbm, 1121, rfl⟩
abbrev main_cst_167 : Ref sig .tc := ⟨.hbm, 1122, rfl⟩
abbrev main_call51_v0 : Ref sig .tc := ⟨.hbm, 1123, rfl⟩
abbrev main_call51_v1 : Ref sig .tc := ⟨.hbm, 1124, rfl⟩
abbrev main_call51_v2 : Ref sig .tc := ⟨.hbm, 1125, rfl⟩
abbrev main_v528 : Ref sig .tc := ⟨.hbm, 1126, rfl⟩
abbrev main_v529 : Ref sig .tc := ⟨.hbm, 1127, rfl⟩
abbrev main_v530 : Ref sig .tc := ⟨.hbm, 1128, rfl⟩
abbrev main_cst_168 : Ref sig .tc := ⟨.hbm, 1129, rfl⟩
abbrev main_call52_v0 : Ref sig .tc := ⟨.hbm, 1130, rfl⟩
abbrev main_call52_v1 : Ref sig .tc := ⟨.hbm, 1131, rfl⟩
abbrev main_call52_v2 : Ref sig .tc := ⟨.hbm, 1132, rfl⟩
abbrev main_call52_v3 : Ref sig .tc := ⟨.hbm, 1133, rfl⟩
abbrev main_v531 : Ref sig .tc := ⟨.hbm, 1134, rfl⟩
abbrev main_v532 : Ref sig .tc := ⟨.hbm, 1135, rfl⟩
abbrev main_v533 : Ref sig .tc := ⟨.hbm, 1136, rfl⟩
abbrev main_cst_169 : Ref sig .tc := ⟨.hbm, 1137, rfl⟩
abbrev main_call53_v0 : Ref sig .tc := ⟨.hbm, 1138, rfl⟩
abbrev main_call53_v1 : Ref sig .tc := ⟨.hbm, 1139, rfl⟩
abbrev main_call53_v2 : Ref sig .tc := ⟨.hbm, 1140, rfl⟩
abbrev main_call53_v3 : Ref sig .tc := ⟨.hbm, 1141, rfl⟩
abbrev main_v534 : Ref sig .tc := ⟨.hbm, 1142, rfl⟩
abbrev main_cst_170 : Ref sig .tc := ⟨.hbm, 1143, rfl⟩
abbrev main_v535 : Ref sig .tc := ⟨.hbm, 1144, rfl⟩
abbrev main_v536 : Ref sig .tc := ⟨.hbm, 1145, rfl⟩
abbrev main_cst_171 : Ref sig .tc := ⟨.hbm, 1146, rfl⟩
abbrev main_v537 : Ref sig .tc := ⟨.hbm, 1147, rfl⟩
abbrev main_v538 : Ref sig .tc := ⟨.hbm, 1148, rfl⟩
abbrev main_cst_172 : Ref sig .tc := ⟨.hbm, 1149, rfl⟩
abbrev main_call54_v0 : Ref sig .tc := ⟨.hbm, 1150, rfl⟩
abbrev main_call54_v1 : Ref sig .tc := ⟨.hbm, 1151, rfl⟩
abbrev main_v539 : Ref sig .tc := ⟨.hbm, 1152, rfl⟩
abbrev main_cst_173 : Ref sig .tc := ⟨.hbm, 1153, rfl⟩
abbrev main_v540 : Ref sig .tc := ⟨.hbm, 1154, rfl⟩
abbrev main_v541 : Ref sig .tc := ⟨.hbm, 1155, rfl⟩
abbrev main_cst_174 : Ref sig .tc := ⟨.hbm, 1156, rfl⟩
abbrev main_v542 : Ref sig .tc := ⟨.hbm, 1157, rfl⟩
abbrev main_v543 : Ref sig .tc := ⟨.hbm, 1158, rfl⟩
abbrev main_cst_175 : Ref sig .tc := ⟨.hbm, 1159, rfl⟩
abbrev main_call55_v0 : Ref sig .tc := ⟨.hbm, 1160, rfl⟩
abbrev main_call55_v1 : Ref sig .tc := ⟨.hbm, 1161, rfl⟩
abbrev main_v544 : Ref sig .tc := ⟨.hbm, 1162, rfl⟩
abbrev main_cst_176 : Ref sig .tc := ⟨.hbm, 1163, rfl⟩
abbrev main_call56_v0 : Ref sig .tc := ⟨.hbm, 1164, rfl⟩
abbrev main_call56_v1 : Ref sig .tc := ⟨.hbm, 1165, rfl⟩
abbrev main_call56_v2 : Ref sig .tc := ⟨.hbm, 1166, rfl⟩
abbrev main_call56_cst : Ref sig .tc := ⟨.hbm, 1167, rfl⟩
abbrev main_call56_v3 : Ref sig .tc := ⟨.hbm, 1168, rfl⟩
abbrev main_call56_v4 : Ref sig .tc := ⟨.hbm, 1169, rfl⟩
abbrev main_call56_cst_0 : Ref sig .tc := ⟨.hbm, 1170, rfl⟩
abbrev main_call56_v5 : Ref sig .tc := ⟨.hbm, 1171, rfl⟩
abbrev main_call56_v6 : Ref sig .tc := ⟨.hbm, 1172, rfl⟩
abbrev main_call56_cst_1 : Ref sig .tc := ⟨.hbm, 1173, rfl⟩
abbrev main_call56_v7 : Ref sig .tc := ⟨.hbm, 1174, rfl⟩
abbrev main_call56_v8 : Ref sig .tc := ⟨.hbm, 1175, rfl⟩
abbrev main_call56_v9 : Ref sig .tc := ⟨.hbm, 1176, rfl⟩
abbrev main_call56_v10 : Ref sig .tc := ⟨.hbm, 1177, rfl⟩
abbrev main_call56_v11 : Ref sig .tc := ⟨.hbm, 1178, rfl⟩
abbrev main_call56_v12 : Ref sig .tc := ⟨.hbm, 1179, rfl⟩
abbrev main_v545 : Ref sig .tc := ⟨.hbm, 1180, rfl⟩
abbrev main_cst_177 : Ref sig .tc := ⟨.hbm, 1181, rfl⟩
abbrev main_v546 : Ref sig .tc := ⟨.hbm, 1182, rfl⟩
abbrev main_v547 : Ref sig .tc := ⟨.hbm, 1183, rfl⟩
abbrev main_cst_178 : Ref sig .tc := ⟨.hbm, 1184, rfl⟩
abbrev main_v548 : Ref sig .tc := ⟨.hbm, 1185, rfl⟩
abbrev main_v549 : Ref sig .tc := ⟨.hbm, 1186, rfl⟩
abbrev main_v550 : Ref sig .tc := ⟨.hbm, 1187, rfl⟩
abbrev main_cst_179 : Ref sig .tc := ⟨.hbm, 1188, rfl⟩
abbrev main_call57_v0 : Ref sig .tc := ⟨.hbm, 1189, rfl⟩
abbrev main_call57_v1 : Ref sig .tc := ⟨.hbm, 1190, rfl⟩
abbrev main_call57_v2 : Ref sig .tc := ⟨.hbm, 1191, rfl⟩
abbrev main_call57_cst : Ref sig .tc := ⟨.hbm, 1192, rfl⟩
abbrev main_call57_v3 : Ref sig .tc := ⟨.hbm, 1193, rfl⟩
abbrev main_call57_v4 : Ref sig .tc := ⟨.hbm, 1194, rfl⟩
abbrev main_call57_cst_0 : Ref sig .tc := ⟨.hbm, 1195, rfl⟩
abbrev main_call57_v5 : Ref sig .tc := ⟨.hbm, 1196, rfl⟩
abbrev main_call57_v6 : Ref sig .tc := ⟨.hbm, 1197, rfl⟩
abbrev main_call57_cst_1 : Ref sig .tc := ⟨.hbm, 1198, rfl⟩
abbrev main_call57_v7 : Ref sig .tc := ⟨.hbm, 1199, rfl⟩
abbrev main_call57_v8 : Ref sig .tc := ⟨.hbm, 1200, rfl⟩
abbrev main_call57_v9 : Ref sig .tc := ⟨.hbm, 1201, rfl⟩
abbrev main_call57_v10 : Ref sig .tc := ⟨.hbm, 1202, rfl⟩
abbrev main_call57_v11 : Ref sig .tc := ⟨.hbm, 1203, rfl⟩
abbrev main_call57_v12 : Ref sig .tc := ⟨.hbm, 1204, rfl⟩
abbrev main_v551 : Ref sig .tc := ⟨.hbm, 1205, rfl⟩
abbrev main_cst_180 : Ref sig .tc := ⟨.hbm, 1206, rfl⟩
abbrev main_v552 : Ref sig .tc := ⟨.hbm, 1207, rfl⟩
abbrev main_v553 : Ref sig .tc := ⟨.hbm, 1208, rfl⟩
abbrev main_cst_181 : Ref sig .tc := ⟨.hbm, 1209, rfl⟩
abbrev main_v554 : Ref sig .tc := ⟨.hbm, 1210, rfl⟩
abbrev main_v555 : Ref sig .tc := ⟨.hbm, 1211, rfl⟩
abbrev main_v556 : Ref sig .tc := ⟨.hbm, 1212, rfl⟩
abbrev main_cst_182 : Ref sig .tc := ⟨.hbm, 1213, rfl⟩
abbrev main_call58_v0 : Ref sig .tc := ⟨.hbm, 1214, rfl⟩
abbrev main_call58_v1 : Ref sig .tc := ⟨.hbm, 1215, rfl⟩
abbrev main_call58_v2 : Ref sig .tc := ⟨.hbm, 1216, rfl⟩
abbrev main_call58_cst : Ref sig .tc := ⟨.hbm, 1217, rfl⟩
abbrev main_call58_v3 : Ref sig .tc := ⟨.hbm, 1218, rfl⟩
abbrev main_call58_v4 : Ref sig .tc := ⟨.hbm, 1219, rfl⟩
abbrev main_call58_cst_0 : Ref sig .tc := ⟨.hbm, 1220, rfl⟩
abbrev main_call58_v5 : Ref sig .tc := ⟨.hbm, 1221, rfl⟩
abbrev main_call58_v6 : Ref sig .tc := ⟨.hbm, 1222, rfl⟩
abbrev main_call58_cst_1 : Ref sig .tc := ⟨.hbm, 1223, rfl⟩
abbrev main_call58_v7 : Ref sig .tc := ⟨.hbm, 1224, rfl⟩
abbrev main_call58_v8 : Ref sig .tc := ⟨.hbm, 1225, rfl⟩
abbrev main_call58_v9 : Ref sig .tc := ⟨.hbm, 1226, rfl⟩
abbrev main_call58_v10 : Ref sig .tc := ⟨.hbm, 1227, rfl⟩
abbrev main_call58_v11 : Ref sig .tc := ⟨.hbm, 1228, rfl⟩
abbrev main_call58_v12 : Ref sig .tc := ⟨.hbm, 1229, rfl⟩
abbrev main_v557 : Ref sig .tc := ⟨.hbm, 1230, rfl⟩
abbrev main_cst_183 : Ref sig .tc := ⟨.hbm, 1231, rfl⟩
abbrev main_v558 : Ref sig .tc := ⟨.hbm, 1232, rfl⟩
abbrev main_v559 : Ref sig .tc := ⟨.hbm, 1233, rfl⟩
abbrev main_cst_184 : Ref sig .tc := ⟨.hbm, 1234, rfl⟩
abbrev main_v560 : Ref sig .tc := ⟨.hbm, 1235, rfl⟩
abbrev main_v561 : Ref sig .tc := ⟨.hbm, 1236, rfl⟩
abbrev main_v562 : Ref sig .tc := ⟨.hbm, 1237, rfl⟩
abbrev main_cst_185 : Ref sig .tc := ⟨.hbm, 1238, rfl⟩
abbrev main_call59_v0 : Ref sig .tc := ⟨.hbm, 1239, rfl⟩
abbrev main_call59_v1 : Ref sig .tc := ⟨.hbm, 1240, rfl⟩
abbrev main_call59_v2 : Ref sig .tc := ⟨.hbm, 1241, rfl⟩
abbrev main_call59_cst : Ref sig .tc := ⟨.hbm, 1242, rfl⟩
abbrev main_call59_v3 : Ref sig .tc := ⟨.hbm, 1243, rfl⟩
abbrev main_call59_v4 : Ref sig .tc := ⟨.hbm, 1244, rfl⟩
abbrev main_call59_cst_0 : Ref sig .tc := ⟨.hbm, 1245, rfl⟩
abbrev main_call59_v5 : Ref sig .tc := ⟨.hbm, 1246, rfl⟩
abbrev main_call59_v6 : Ref sig .tc := ⟨.hbm, 1247, rfl⟩
abbrev main_call59_cst_1 : Ref sig .tc := ⟨.hbm, 1248, rfl⟩
abbrev main_call59_v7 : Ref sig .tc := ⟨.hbm, 1249, rfl⟩
abbrev main_call59_v8 : Ref sig .tc := ⟨.hbm, 1250, rfl⟩
abbrev main_call59_v9 : Ref sig .tc := ⟨.hbm, 1251, rfl⟩
abbrev main_call59_v10 : Ref sig .tc := ⟨.hbm, 1252, rfl⟩
abbrev main_call59_v11 : Ref sig .tc := ⟨.hbm, 1253, rfl⟩
abbrev main_call59_v12 : Ref sig .tc := ⟨.hbm, 1254, rfl⟩
abbrev main_v563 : Ref sig .tc := ⟨.hbm, 1255, rfl⟩
abbrev main_cst_186 : Ref sig .tc := ⟨.hbm, 1256, rfl⟩
abbrev main_v564 : Ref sig .tc := ⟨.hbm, 1257, rfl⟩
abbrev main_v565 : Ref sig .tc := ⟨.hbm, 1258, rfl⟩
abbrev main_cst_187 : Ref sig .tc := ⟨.hbm, 1259, rfl⟩
abbrev main_v566 : Ref sig .tc := ⟨.hbm, 1260, rfl⟩
abbrev main_v567 : Ref sig .tc := ⟨.hbm, 1261, rfl⟩
abbrev main_v568 : Ref sig .tc := ⟨.hbm, 1262, rfl⟩
abbrev main_c_188 : Ref sig .tc := ⟨.hbm, 1263, rfl⟩
abbrev main_v569 : Ref sig .tc := ⟨.hbm, 1264, rfl⟩
abbrev main_v570 : Ref sig .tc := ⟨.hbm, 1265, rfl⟩
abbrev main_v571 : Ref sig .tc := ⟨.hbm, 1266, rfl⟩
abbrev main_v572 : Ref sig .tc := ⟨.hbm, 1267, rfl⟩
abbrev main_v573 : Ref sig .tc := ⟨.hbm, 1268, rfl⟩
abbrev main_v574 : Ref sig .tc := ⟨.hbm, 1269, rfl⟩
abbrev main_v575 : Ref sig .tc := ⟨.hbm, 1270, rfl⟩
abbrev main_v576 : Ref sig .tc := ⟨.hbm, 1271, rfl⟩
abbrev main_cst_189 : Ref sig .tc := ⟨.hbm, 1272, rfl⟩
abbrev main_call60_v0 : Ref sig .tc := ⟨.hbm, 1273, rfl⟩
abbrev main_call60_v1 : Ref sig .tc := ⟨.hbm, 1274, rfl⟩
abbrev main_call60_v2 : Ref sig .tc := ⟨.hbm, 1275, rfl⟩
abbrev main_v577 : Ref sig .tc := ⟨.hbm, 1276, rfl⟩
abbrev main_v578 : Ref sig .tc := ⟨.hbm, 1277, rfl⟩
abbrev main_v579 : Ref sig .tc := ⟨.hbm, 1278, rfl⟩
abbrev main_call61_v0 : Ref sig .tc := ⟨.hbm, 1279, rfl⟩
abbrev main_call61_v1_0 : Ref sig .tc := ⟨.hbm, 1280, rfl⟩
abbrev main_v580 : Ref sig .tc := ⟨.hbm, 1281, rfl⟩
abbrev main_v581 : Ref sig .tc := ⟨.hbm, 1282, rfl⟩
abbrev main_c_190 : Ref sig .tc := ⟨.hbm, 1283, rfl⟩
abbrev main_call62_v0 : Ref sig .tc := ⟨.hbm, 1284, rfl⟩
abbrev main_call62_v1 : Ref sig .tc := ⟨.hbm, 1285, rfl⟩
abbrev main_call62_v2 : Ref sig .tc := ⟨.hbm, 1286, rfl⟩
abbrev main_call62_v3 : Ref sig .tc := ⟨.hbm, 1287, rfl⟩
abbrev main_call62_v4 : Ref sig .tc := ⟨.hbm, 1288, rfl⟩
abbrev main_call62_v5 : Ref sig .tc := ⟨.hbm, 1289, rfl⟩
abbrev main_call62_v6 : Ref sig .tc := ⟨.hbm, 1290, rfl⟩
abbrev main_call62_v7 : Ref sig .tc := ⟨.hbm, 1291, rfl⟩
abbrev main_call62_v8 : Ref sig .tc := ⟨.hbm, 1292, rfl⟩
abbrev main_call62_c : Ref sig .tc := ⟨.hbm, 1293, rfl⟩
abbrev main_call62_v9 : Ref sig .tc := ⟨.hbm, 1294, rfl⟩
abbrev main_call62_v10 : Ref sig .tc := ⟨.hbm, 1295, rfl⟩
abbrev main_call62_v11 : Ref sig .tc := ⟨.hbm, 1296, rfl⟩
abbrev main_call62_c_0 : Ref sig .tc := ⟨.hbm, 1297, rfl⟩
abbrev main_call62_v12 : Ref sig .tc := ⟨.hbm, 1298, rfl⟩
abbrev main_call62_v13 : Ref sig .tc := ⟨.hbm, 1299, rfl⟩
abbrev main_v582 : Ref sig .tc := ⟨.hbm, 1300, rfl⟩
abbrev main_c_191 : Ref sig .tc := ⟨.hbm, 1301, rfl⟩
abbrev main_call63_v0 : Ref sig .tc := ⟨.hbm, 1302, rfl⟩
abbrev main_call63_c : Ref sig .tc := ⟨.hbm, 1303, rfl⟩
abbrev main_call63_v1 : Ref sig .tc := ⟨.hbm, 1304, rfl⟩
abbrev main_call63_c_0 : Ref sig .tc := ⟨.hbm, 1305, rfl⟩
abbrev main_call63_v2 : Ref sig .tc := ⟨.hbm, 1306, rfl⟩
abbrev main_call63_v3 : Ref sig .tc := ⟨.hbm, 1307, rfl⟩
abbrev main_call63_v4 : Ref sig .tc := ⟨.hbm, 1308, rfl⟩
abbrev main_call63_c_1 : Ref sig .tc := ⟨.hbm, 1309, rfl⟩
abbrev main_call63_v5 : Ref sig .tc := ⟨.hbm, 1310, rfl⟩
abbrev main_call63_v6 : Ref sig .tc := ⟨.hbm, 1311, rfl⟩
abbrev main_call63_c_2 : Ref sig .tc := ⟨.hbm, 1312, rfl⟩
abbrev main_call63_v7 : Ref sig .tc := ⟨.hbm, 1313, rfl⟩
abbrev main_call63_v8 : Ref sig .tc := ⟨.hbm, 1314, rfl⟩
abbrev main_call63_c_3 : Ref sig .tc := ⟨.hbm, 1315, rfl⟩
abbrev main_call63_v9 : Ref sig .tc := ⟨.hbm, 1316, rfl⟩
abbrev main_call63_v10 : Ref sig .tc := ⟨.hbm, 1317, rfl⟩
abbrev main_call63_v11 : Ref sig .tc := ⟨.hbm, 1318, rfl⟩
abbrev main_call63_v12 : Ref sig .tc := ⟨.hbm, 1319, rfl⟩
abbrev main_call63_v13 : Ref sig .tc := ⟨.hbm, 1320, rfl⟩
abbrev main_call63_v14 : Ref sig .tc := ⟨.hbm, 1321, rfl⟩
abbrev main_v583 : Ref sig .tc := ⟨.hbm, 1322, rfl⟩
abbrev main_c_192 : Ref sig .tc := ⟨.hbm, 1323, rfl⟩
abbrev main_v584 : Ref sig .tc := ⟨.hbm, 1324, rfl⟩
abbrev main_v585 : Ref sig .tc := ⟨.hbm, 1325, rfl⟩
abbrev main_c_193 : Ref sig .tc := ⟨.hbm, 1326, rfl⟩
abbrev main_v586 : Ref sig .tc := ⟨.hbm, 1327, rfl⟩
abbrev main_v587 : Ref sig .tc := ⟨.hbm, 1328, rfl⟩
abbrev main_v588 : Ref sig .tc := ⟨.hbm, 1329, rfl⟩
abbrev main_v589 : Ref sig .tc := ⟨.hbm, 1330, rfl⟩
abbrev main_v590 : Ref sig .tc := ⟨.hbm, 1331, rfl⟩
abbrev main_cst_194 : Ref sig .tc := ⟨.hbm, 1332, rfl⟩
abbrev main_v591 : Ref sig .tc := ⟨.hbm, 1333, rfl⟩
abbrev main_v592 : Ref sig .tc := ⟨.hbm, 1334, rfl⟩
abbrev main_c_195 : Ref sig .tc := ⟨.hbm, 1335, rfl⟩
abbrev main_call64_v0 : Ref sig .tc := ⟨.hbm, 1336, rfl⟩
abbrev main_call64_v1 : Ref sig .tc := ⟨.hbm, 1337, rfl⟩
abbrev main_call64_v2 : Ref sig .tc := ⟨.hbm, 1338, rfl⟩
abbrev main_call64_v3 : Ref sig .tc := ⟨.hbm, 1339, rfl⟩
abbrev main_call64_v4 : Ref sig .tc := ⟨.hbm, 1340, rfl⟩
abbrev main_call64_v5 : Ref sig .tc := ⟨.hbm, 1341, rfl⟩
abbrev main_call64_v6 : Ref sig .tc := ⟨.hbm, 1342, rfl⟩
abbrev main_call64_v7 : Ref sig .tc := ⟨.hbm, 1343, rfl⟩
abbrev main_call64_v8 : Ref sig .tc := ⟨.hbm, 1344, rfl⟩
abbrev main_call64_c : Ref sig .tc := ⟨.hbm, 1345, rfl⟩
abbrev main_call64_v9 : Ref sig .tc := ⟨.hbm, 1346, rfl⟩
abbrev main_call64_v10 : Ref sig .tc := ⟨.hbm, 1347, rfl⟩
abbrev main_call64_v11 : Ref sig .tc := ⟨.hbm, 1348, rfl⟩
abbrev main_call64_c_0 : Ref sig .tc := ⟨.hbm, 1349, rfl⟩
abbrev main_call64_v12 : Ref sig .tc := ⟨.hbm, 1350, rfl⟩
abbrev main_call64_v13 : Ref sig .tc := ⟨.hbm, 1351, rfl⟩
abbrev main_v593 : Ref sig .tc := ⟨.hbm, 1352, rfl⟩
abbrev main_c_196 : Ref sig .tc := ⟨.hbm, 1353, rfl⟩
abbrev main_call65_v0 : Ref sig .tc := ⟨.hbm, 1354, rfl⟩
abbrev main_call65_v1 : Ref sig .tc := ⟨.hbm, 1355, rfl⟩
abbrev main_call65_v2 : Ref sig .tc := ⟨.hbm, 1356, rfl⟩
abbrev main_call65_v3 : Ref sig .tc := ⟨.hbm, 1357, rfl⟩
abbrev main_call65_v4 : Ref sig .tc := ⟨.hbm, 1358, rfl⟩
abbrev main_call65_v5 : Ref sig .tc := ⟨.hbm, 1359, rfl⟩
abbrev main_call65_v6 : Ref sig .tc := ⟨.hbm, 1360, rfl⟩
abbrev main_call65_v7 : Ref sig .tc := ⟨.hbm, 1361, rfl⟩
abbrev main_call65_v8 : Ref sig .tc := ⟨.hbm, 1362, rfl⟩
abbrev main_call65_c : Ref sig .tc := ⟨.hbm, 1363, rfl⟩
abbrev main_call65_v9 : Ref sig .tc := ⟨.hbm, 1364, rfl⟩
abbrev main_call65_v10 : Ref sig .tc := ⟨.hbm, 1365, rfl⟩
abbrev main_call65_v11 : Ref sig .tc := ⟨.hbm, 1366, rfl⟩
abbrev main_call65_c_0 : Ref sig .tc := ⟨.hbm, 1367, rfl⟩
abbrev main_call65_v12 : Ref sig .tc := ⟨.hbm, 1368, rfl⟩
abbrev main_call65_v13 : Ref sig .tc := ⟨.hbm, 1369, rfl⟩
abbrev main_v594 : Ref sig .tc := ⟨.hbm, 1370, rfl⟩
abbrev main_c_197 : Ref sig .tc := ⟨.hbm, 1371, rfl⟩
abbrev main_call66_v0 : Ref sig .tc := ⟨.hbm, 1372, rfl⟩
abbrev main_call66_c : Ref sig .tc := ⟨.hbm, 1373, rfl⟩
abbrev main_call66_v1 : Ref sig .tc := ⟨.hbm, 1374, rfl⟩
abbrev main_call66_c_0 : Ref sig .tc := ⟨.hbm, 1375, rfl⟩
abbrev main_call66_v2 : Ref sig .tc := ⟨.hbm, 1376, rfl⟩
abbrev main_call66_v3 : Ref sig .tc := ⟨.hbm, 1377, rfl⟩
abbrev main_call66_v4 : Ref sig .tc := ⟨.hbm, 1378, rfl⟩
abbrev main_call66_c_1 : Ref sig .tc := ⟨.hbm, 1379, rfl⟩
abbrev main_call66_v5 : Ref sig .tc := ⟨.hbm, 1380, rfl⟩
abbrev main_call66_v6 : Ref sig .tc := ⟨.hbm, 1381, rfl⟩
abbrev main_call66_c_2 : Ref sig .tc := ⟨.hbm, 1382, rfl⟩
abbrev main_call66_v7 : Ref sig .tc := ⟨.hbm, 1383, rfl⟩
abbrev main_call66_v8 : Ref sig .tc := ⟨.hbm, 1384, rfl⟩
abbrev main_call66_c_3 : Ref sig .tc := ⟨.hbm, 1385, rfl⟩
abbrev main_call66_v9 : Ref sig .tc := ⟨.hbm, 1386, rfl⟩
abbrev main_call66_v10 : Ref sig .tc := ⟨.hbm, 1387, rfl⟩
abbrev main_call66_v11 : Ref sig .tc := ⟨.hbm, 1388, rfl⟩
abbrev main_call66_v12 : Ref sig .tc := ⟨.hbm, 1389, rfl⟩
abbrev main_call66_v13 : Ref sig .tc := ⟨.hbm, 1390, rfl⟩
abbrev main_call66_v14 : Ref sig .tc := ⟨.hbm, 1391, rfl⟩
abbrev main_v595 : Ref sig .tc := ⟨.hbm, 1392, rfl⟩
abbrev main_c_198 : Ref sig .tc := ⟨.hbm, 1393, rfl⟩
abbrev main_call67_v0 : Ref sig .tc := ⟨.hbm, 1394, rfl⟩
abbrev main_call67_c : Ref sig .tc := ⟨.hbm, 1395, rfl⟩
abbrev main_call67_v1 : Ref sig .tc := ⟨.hbm, 1396, rfl⟩
abbrev main_call67_c_0 : Ref sig .tc := ⟨.hbm, 1397, rfl⟩
abbrev main_call67_v2 : Ref sig .tc := ⟨.hbm, 1398, rfl⟩
abbrev main_call67_v3 : Ref sig .tc := ⟨.hbm, 1399, rfl⟩
abbrev main_call67_v4 : Ref sig .tc := ⟨.hbm, 1400, rfl⟩
abbrev main_call67_c_1 : Ref sig .tc := ⟨.hbm, 1401, rfl⟩
abbrev main_call67_v5 : Ref sig .tc := ⟨.hbm, 1402, rfl⟩
abbrev main_call67_v6 : Ref sig .tc := ⟨.hbm, 1403, rfl⟩
abbrev main_call67_c_2 : Ref sig .tc := ⟨.hbm, 1404, rfl⟩
abbrev main_call67_v7 : Ref sig .tc := ⟨.hbm, 1405, rfl⟩
abbrev main_call67_v8 : Ref sig .tc := ⟨.hbm, 1406, rfl⟩
abbrev main_call67_c_3 : Ref sig .tc := ⟨.hbm, 1407, rfl⟩
abbrev main_call67_v9 : Ref sig .tc := ⟨.hbm, 1408, rfl⟩
abbrev main_call67_v10 : Ref sig .tc := ⟨.hbm, 1409, rfl⟩
abbrev main_call67_v11 : Ref sig .tc := ⟨.hbm, 1410, rfl⟩
abbrev main_call67_v12 : Ref sig .tc := ⟨.hbm, 1411, rfl⟩
abbrev main_call67_v13 : Ref sig .tc := ⟨.hbm, 1412, rfl⟩
abbrev main_call67_v14 : Ref sig .tc := ⟨.hbm, 1413, rfl⟩
abbrev main_v596 : Ref sig .tc := ⟨.hbm, 1414, rfl⟩
abbrev main_c_199 : Ref sig .tc := ⟨.hbm, 1415, rfl⟩
abbrev main_v597 : Ref sig .tc := ⟨.hbm, 1416, rfl⟩
abbrev main_v598 : Ref sig .tc := ⟨.hbm, 1417, rfl⟩
abbrev main_c_200 : Ref sig .tc := ⟨.hbm, 1418, rfl⟩
abbrev main_v599 : Ref sig .tc := ⟨.hbm, 1419, rfl⟩
abbrev main_v600 : Ref sig .tc := ⟨.hbm, 1420, rfl⟩
abbrev main_v601 : Ref sig .tc := ⟨.hbm, 1421, rfl⟩
abbrev main_c_201 : Ref sig .tc := ⟨.hbm, 1422, rfl⟩
abbrev main_v602 : Ref sig .tc := ⟨.hbm, 1423, rfl⟩
abbrev main_v603 : Ref sig .tc := ⟨.hbm, 1424, rfl⟩
abbrev main_c_202 : Ref sig .tc := ⟨.hbm, 1425, rfl⟩
abbrev main_v604 : Ref sig .tc := ⟨.hbm, 1426, rfl⟩
abbrev main_v605 : Ref sig .tc := ⟨.hbm, 1427, rfl⟩
abbrev main_v606 : Ref sig .tc := ⟨.hbm, 1428, rfl⟩
abbrev main_v607 : Ref sig .tc := ⟨.hbm, 1429, rfl⟩
abbrev main_v608 : Ref sig .tc := ⟨.hbm, 1430, rfl⟩
abbrev main_v609 : Ref sig .tc := ⟨.hbm, 1431, rfl⟩
abbrev main_v610 : Ref sig .tc := ⟨.hbm, 1432, rfl⟩
abbrev main_c_203 : Ref sig .tc := ⟨.hbm, 1433, rfl⟩
abbrev main_v611 : Ref sig .tc := ⟨.hbm, 1434, rfl⟩
abbrev main_v612 : Ref sig .tc := ⟨.hbm, 1435, rfl⟩
abbrev main_c_204 : Ref sig .tc := ⟨.hbm, 1436, rfl⟩
abbrev main_v613 : Ref sig .tc := ⟨.hbm, 1437, rfl⟩
abbrev main_v614 : Ref sig .tc := ⟨.hbm, 1438, rfl⟩
abbrev main_v615 : Ref sig .tc := ⟨.hbm, 1439, rfl⟩
abbrev main_c_205 : Ref sig .tc := ⟨.hbm, 1440, rfl⟩
abbrev main_v616 : Ref sig .tc := ⟨.hbm, 1441, rfl⟩
abbrev main_v617 : Ref sig .tc := ⟨.hbm, 1442, rfl⟩
abbrev main_c_206 : Ref sig .tc := ⟨.hbm, 1443, rfl⟩
abbrev main_v618 : Ref sig .tc := ⟨.hbm, 1444, rfl⟩
abbrev main_v619 : Ref sig .tc := ⟨.hbm, 1445, rfl⟩
abbrev main_v620 : Ref sig .tc := ⟨.hbm, 1446, rfl⟩
abbrev main_v621 : Ref sig .tc := ⟨.hbm, 1447, rfl⟩
abbrev main_v622 : Ref sig .tc := ⟨.hbm, 1448, rfl⟩
abbrev main_v623 : Ref sig .tc := ⟨.hbm, 1449, rfl⟩
abbrev main_v624 : Ref sig .tc := ⟨.hbm, 1450, rfl⟩
abbrev main_c_207 : Ref sig .tc := ⟨.hbm, 1451, rfl⟩
abbrev main_v625 : Ref sig .tc := ⟨.hbm, 1452, rfl⟩
abbrev main_v626 : Ref sig .tc := ⟨.hbm, 1453, rfl⟩
abbrev main_c_208 : Ref sig .tc := ⟨.hbm, 1454, rfl⟩
abbrev main_v627 : Ref sig .tc := ⟨.hbm, 1455, rfl⟩
abbrev main_v628 : Ref sig .tc := ⟨.hbm, 1456, rfl⟩
abbrev main_v629 : Ref sig .tc := ⟨.hbm, 1457, rfl⟩
abbrev main_c_209 : Ref sig .tc := ⟨.hbm, 1458, rfl⟩
abbrev main_v630 : Ref sig .tc := ⟨.hbm, 1459, rfl⟩
abbrev main_v631 : Ref sig .tc := ⟨.hbm, 1460, rfl⟩
abbrev main_c_210 : Ref sig .tc := ⟨.hbm, 1461, rfl⟩
abbrev main_v632 : Ref sig .tc := ⟨.hbm, 1462, rfl⟩
abbrev main_v633 : Ref sig .tc := ⟨.hbm, 1463, rfl⟩
abbrev main_v634 : Ref sig .tc := ⟨.hbm, 1464, rfl⟩
abbrev main_v635 : Ref sig .tc := ⟨.hbm, 1465, rfl⟩
abbrev main_v636 : Ref sig .tc := ⟨.hbm, 1466, rfl⟩
abbrev main_v637 : Ref sig .tc := ⟨.hbm, 1467, rfl⟩
abbrev main_v638 : Ref sig .tc := ⟨.hbm, 1468, rfl⟩
abbrev main_c_211 : Ref sig .tc := ⟨.hbm, 1469, rfl⟩
abbrev main_v639 : Ref sig .tc := ⟨.hbm, 1470, rfl⟩
abbrev main_v640 : Ref sig .tc := ⟨.hbm, 1471, rfl⟩
abbrev main_c_212 : Ref sig .tc := ⟨.hbm, 1472, rfl⟩
abbrev main_v641 : Ref sig .tc := ⟨.hbm, 1473, rfl⟩
abbrev main_v642 : Ref sig .tc := ⟨.hbm, 1474, rfl⟩
abbrev main_v643 : Ref sig .tc := ⟨.hbm, 1475, rfl⟩
abbrev main_c_213 : Ref sig .tc := ⟨.hbm, 1476, rfl⟩
abbrev main_v644 : Ref sig .tc := ⟨.hbm, 1477, rfl⟩
abbrev main_v645 : Ref sig .tc := ⟨.hbm, 1478, rfl⟩
abbrev main_c_214 : Ref sig .tc := ⟨.hbm, 1479, rfl⟩
abbrev main_v646 : Ref sig .tc := ⟨.hbm, 1480, rfl⟩
abbrev main_v647 : Ref sig .tc := ⟨.hbm, 1481, rfl⟩
abbrev main_v648 : Ref sig .tc := ⟨.hbm, 1482, rfl⟩
abbrev main_v649 : Ref sig .tc := ⟨.hbm, 1483, rfl⟩
abbrev main_v650 : Ref sig .tc := ⟨.hbm, 1484, rfl⟩
abbrev main_v651 : Ref sig .tc := ⟨.hbm, 1485, rfl⟩
abbrev main_v652 : Ref sig .tc := ⟨.hbm, 1486, rfl⟩
abbrev main_c_215 : Ref sig .tc := ⟨.hbm, 1487, rfl⟩
abbrev main_v653 : Ref sig .tc := ⟨.hbm, 1488, rfl⟩
abbrev main_v654 : Ref sig .tc := ⟨.hbm, 1489, rfl⟩
abbrev main_c_216 : Ref sig .tc := ⟨.hbm, 1490, rfl⟩
abbrev main_v655 : Ref sig .tc := ⟨.hbm, 1491, rfl⟩
abbrev main_v656 : Ref sig .tc := ⟨.hbm, 1492, rfl⟩
abbrev main_v657 : Ref sig .tc := ⟨.hbm, 1493, rfl⟩
abbrev main_c_217 : Ref sig .tc := ⟨.hbm, 1494, rfl⟩
abbrev main_v658 : Ref sig .tc := ⟨.hbm, 1495, rfl⟩
abbrev main_v659 : Ref sig .tc := ⟨.hbm, 1496, rfl⟩
abbrev main_c_218 : Ref sig .tc := ⟨.hbm, 1497, rfl⟩
abbrev main_v660 : Ref sig .tc := ⟨.hbm, 1498, rfl⟩
abbrev main_v661 : Ref sig .tc := ⟨.hbm, 1499, rfl⟩
abbrev main_v662 : Ref sig .tc := ⟨.hbm, 1500, rfl⟩
abbrev main_v663 : Ref sig .tc := ⟨.hbm, 1501, rfl⟩
abbrev main_v664 : Ref sig .tc := ⟨.hbm, 1502, rfl⟩
abbrev main_v665 : Ref sig .tc := ⟨.hbm, 1503, rfl⟩
abbrev main_v666 : Ref sig .tc := ⟨.hbm, 1504, rfl⟩
abbrev main_c_219 : Ref sig .tc := ⟨.hbm, 1505, rfl⟩
abbrev main_v667 : Ref sig .tc := ⟨.hbm, 1506, rfl⟩
abbrev main_v668 : Ref sig .tc := ⟨.hbm, 1507, rfl⟩
abbrev main_c_220 : Ref sig .tc := ⟨.hbm, 1508, rfl⟩
abbrev main_v669 : Ref sig .tc := ⟨.hbm, 1509, rfl⟩
abbrev main_v670 : Ref sig .tc := ⟨.hbm, 1510, rfl⟩
abbrev main_v671 : Ref sig .tc := ⟨.hbm, 1511, rfl⟩
abbrev main_c_221 : Ref sig .tc := ⟨.hbm, 1512, rfl⟩
abbrev main_v672 : Ref sig .tc := ⟨.hbm, 1513, rfl⟩
abbrev main_v673 : Ref sig .tc := ⟨.hbm, 1514, rfl⟩
abbrev main_v674 : Ref sig .tc := ⟨.hbm, 1515, rfl⟩
abbrev main_v675 : Ref sig .tc := ⟨.hbm, 1516, rfl⟩
abbrev main_v676 : Ref sig .tc := ⟨.hbm, 1517, rfl⟩
abbrev main_v677 : Ref sig .tc := ⟨.hbm, 1518, rfl⟩
abbrev main_cst_222 : Ref sig .tc := ⟨.hbm, 1519, rfl⟩
abbrev main_call68_v0 : Ref sig .tc := ⟨.hbm, 1520, rfl⟩
abbrev main_call68_v1 : Ref sig .tc := ⟨.hbm, 1521, rfl⟩
abbrev main_v678 : Ref sig .tc := ⟨.hbm, 1522, rfl⟩
abbrev main_c_223 : Ref sig .tc := ⟨.hbm, 1523, rfl⟩
abbrev main_v679 : Ref sig .tc := ⟨.hbm, 1524, rfl⟩
abbrev main_v680 : Ref sig .tc := ⟨.hbm, 1525, rfl⟩
abbrev main_c_224 : Ref sig .tc := ⟨.hbm, 1526, rfl⟩
abbrev main_v681 : Ref sig .tc := ⟨.hbm, 1527, rfl⟩
abbrev main_v682 : Ref sig .tc := ⟨.hbm, 1528, rfl⟩
abbrev main_v683 : Ref sig .tc := ⟨.hbm, 1529, rfl⟩
abbrev main_c_225 : Ref sig .tc := ⟨.hbm, 1530, rfl⟩
abbrev main_v684 : Ref sig .tc := ⟨.hbm, 1531, rfl⟩
abbrev main_v685 : Ref sig .tc := ⟨.hbm, 1532, rfl⟩
abbrev main_v686 : Ref sig .tc := ⟨.hbm, 1533, rfl⟩
abbrev main_v687 : Ref sig .tc := ⟨.hbm, 1534, rfl⟩
abbrev main_v688 : Ref sig .tc := ⟨.hbm, 1535, rfl⟩
abbrev main_v689 : Ref sig .tc := ⟨.hbm, 1536, rfl⟩
abbrev main_cst_226 : Ref sig .tc := ⟨.hbm, 1537, rfl⟩
abbrev main_call69_v0 : Ref sig .tc := ⟨.hbm, 1538, rfl⟩
abbrev main_call69_v1 : Ref sig .tc := ⟨.hbm, 1539, rfl⟩
abbrev main_v690 : Ref sig .tc := ⟨.hbm, 1540, rfl⟩
abbrev main_cst_227 : Ref sig .tc := ⟨.hbm, 1541, rfl⟩
abbrev main_call70_v0 : Ref sig .tc := ⟨.hbm, 1542, rfl⟩
abbrev main_call70_v1 : Ref sig .tc := ⟨.hbm, 1543, rfl⟩
abbrev main_v691 : Ref sig .tc := ⟨.hbm, 1544, rfl⟩
abbrev main_cst_228 : Ref sig .tc := ⟨.hbm, 1545, rfl⟩
abbrev main_call71_v0 : Ref sig .tc := ⟨.hbm, 1546, rfl⟩
abbrev main_call71_v1 : Ref sig .tc := ⟨.hbm, 1547, rfl⟩
abbrev main_v692 : Ref sig .tc := ⟨.hbm, 1548, rfl⟩
abbrev main_cst_229 : Ref sig .tc := ⟨.hbm, 1549, rfl⟩
abbrev main_call72_v0 : Ref sig .tc := ⟨.hbm, 1550, rfl⟩
abbrev main_call72_v1 : Ref sig .tc := ⟨.hbm, 1551, rfl⟩
abbrev main_v693 : Ref sig .tc := ⟨.hbm, 1552, rfl⟩
abbrev main_cst_230 : Ref sig .tc := ⟨.hbm, 1553, rfl⟩
abbrev main_call73_v0 : Ref sig .tc := ⟨.hbm, 1554, rfl⟩
abbrev main_call73_v1 : Ref sig .tc := ⟨.hbm, 1555, rfl⟩
abbrev main_v694 : Ref sig .tc := ⟨.hbm, 1556, rfl⟩
abbrev main_cst_231 : Ref sig .tc := ⟨.hbm, 1557, rfl⟩
abbrev main_call74_v0 : Ref sig .tc := ⟨.hbm, 1558, rfl⟩
abbrev main_call74_v1 : Ref sig .tc := ⟨.hbm, 1559, rfl⟩
abbrev main_v695 : Ref sig .tc := ⟨.hbm, 1560, rfl⟩
abbrev main_v696 : Ref sig .tc := ⟨.hbm, 1561, rfl⟩
abbrev main_v697_0 : Ref sig .tc := ⟨.hbm, 1562, rfl⟩
abbrev main_v697_1 : Ref sig .tc := ⟨.hbm, 1563, rfl⟩
abbrev main_v697_2 : Ref sig .tc := ⟨.hbm, 1564, rfl⟩
abbrev main_v697_3 : Ref sig .tc := ⟨.hbm, 1565, rfl⟩
abbrev main_v698 : Ref sig .tc := ⟨.hbm, 1566, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38

abbrev nD : Nat := 1
abbrev τ : Topo := Topo.v7x

variable {F : FTy → Type} [FloatOps F]

abbrev grid0 : Pipeline.Grid := .none

abbrev stage0_0 : Fin 1 → Memref sig .tc .vmem S16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x16384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := .none

abbrev stage1_0 : Fin 1 → Memref sig .tc .vmem S8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8192 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8192 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8192 .i32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8192 .i32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8192 .i32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S5x8192 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev grid2 : Pipeline.Grid := .none

abbrev stage2_0 : Fin 1 → Memref sig .tc .vmem S4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S4096 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S4096 .i32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S4096 .i32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S4096 .i32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S4096 .i32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S5x4096 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
-- ==== ReferenceIdeal.lean ====
abbrev S64x1000x5 : Shape := ⟨3, ![64, 1000, 5]⟩
abbrev S5x2 : Shape := ⟨2, ![5, 2]⟩
abbrev S3x2 : Shape := ⟨2, ![3, 2]⟩
abbrev S_ : Shape := ⟨0, ![]⟩
abbrev S64x1000x1 : Shape := ⟨3, ![64, 1000, 1]⟩
abbrev S64x1000x4 : Shape := ⟨3, ![64, 1000, 4]⟩
abbrev S64x1000x1x5 : Shape := ⟨4, ![64, 1000, 1, 5]⟩
abbrev S64x1000x1x3x5 : Shape := ⟨5, ![64, 1000, 1, 3, 5]⟩
abbrev S64x1000x3x5 : Shape := ⟨4, ![64, 1000, 3, 5]⟩
abbrev S3 : Shape := ⟨1, ![3]⟩
abbrev S1x1x3x1 : Shape := ⟨4, ![1, 1, 3, 1]⟩
abbrev S64x1000x3x1 : Shape := ⟨4, ![64, 1000, 3, 1]⟩
abbrev S64x1000x3x6 : Shape := ⟨4, ![64, 1000, 3, 6]⟩
abbrev S64x1000x3x2 : Shape := ⟨4, ![64, 1000, 3, 2]⟩
abbrev S1x1x3x2 : Shape := ⟨4, ![1, 1, 3, 2]⟩
abbrev S64x1000x3 : Shape := ⟨3, ![64, 1000, 3]⟩
abbrev S1x1000x3 : Shape := ⟨3, ![1, 1000, 3]⟩
abbrev S1000x3 : Shape := ⟨2, ![1000, 3]⟩
abbrev S1x1000x3x1 : Shape := ⟨4, ![1, 1000, 3, 1]⟩
abbrev S1x64x1000x3 : Shape := ⟨4, ![1, 64, 1000, 3]⟩
abbrev S5x64x1000x3 : Shape := ⟨4, ![5, 64, 1000, 3]⟩
abbrev S5x64x1000x3x1 : Shape := ⟨5, ![5, 64, 1000, 3, 1]⟩
abbrev S1x64x1000x3x6 : Shape := ⟨5, ![1, 64, 1000, 3, 6]⟩
abbrev S5x64x1000x3x6 : Shape := ⟨5, ![5, 64, 1000, 3, 6]⟩
abbrev S5x1x1x1x2 : Shape := ⟨5, ![5, 1, 1, 1, 2]⟩
abbrev S5x64x1000x3x2 : Shape := ⟨5, ![5, 64, 1000, 3, 2]⟩
abbrev S960000x6 : Shape := ⟨2, ![960000, 6]⟩
abbrev S960000x2 : Shape := ⟨2, ![960000, 2]⟩
abbrev S960000 : Shape := ⟨1, ![960000]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S16384x6 : Shape := ⟨2, ![16384, 6]⟩
abbrev S16384x2 : Shape := ⟨2, ![16384, 2]⟩
abbrev S2x16384 : Shape := ⟨2, ![2, 16384]⟩
abbrev S1x16384 : Shape := ⟨2, ![1, 16384]⟩
abbrev S16384x5 : Shape := ⟨2, ![16384, 5]⟩
abbrev S8192 : Shape := ⟨1, ![8192]⟩
abbrev S8192x1 : Shape := ⟨2, ![8192, 1]⟩
abbrev S8192x6 : Shape := ⟨2, ![8192, 6]⟩
abbrev S8192x2 : Shape := ⟨2, ![8192, 2]⟩
abbrev S2x8192 : Shape := ⟨2, ![2, 8192]⟩
abbrev S1x8192 : Shape := ⟨2, ![1, 8192]⟩
abbrev S8192x5 : Shape := ⟨2, ![8192, 5]⟩
abbrev S4096 : Shape := ⟨1, ![4096]⟩
abbrev S4096x1 : Shape := ⟨2, ![4096, 1]⟩
abbrev S4096x6 : Shape := ⟨2, ![4096, 6]⟩
abbrev S4096x2 : Shape := ⟨2, ![4096, 2]⟩
abbrev S2x4096 : Shape := ⟨2, ![2, 4096]⟩
abbrev S1x4096 : Shape := ⟨2, ![1, 4096]⟩
abbrev S4096x5 : Shape := ⟨2, ![4096, 5]⟩

abbrev nBuf : Space → Nat
  | .hbm => 709
  | .vmem => 0
  | .smem => 0
  | _ => 0

abbrev hbmTy0_0 (i : Nat) : BufTy := match i % 128 with
  | 0 => ⟨S64x1000x5, .f32⟩
  | 1 => ⟨S5x2, .f32⟩
  | 2 => ⟨S3x2, .f32⟩
  | 3 => ⟨S5x2, .f32⟩
  | 4 => ⟨S3x2, .f32⟩
  | 5 => ⟨S5x2, .f32⟩
  | 6 => ⟨S3x2, .f32⟩
  | 7 => ⟨S_, .f32⟩
  | 8 => ⟨S5x2, .f32⟩
  | 9 => ⟨S5x2, .f32⟩
  | 10 => ⟨S64x1000x1, .f32⟩
  | 11 => ⟨S64x1000x4, .f32⟩
  | 12 => ⟨S_, .f32⟩
  | 13 => ⟨S64x1000x4, .f32⟩
  | 14 => ⟨S64x1000x4, .f32⟩
  | 15 => ⟨S64x1000x5, .f32⟩
  | 16 => ⟨S64x1000x1x5, .f32⟩
  | 17 => ⟨S64x1000x1x3x5, .f32⟩
  | 18 => ⟨S64x1000x3x5, .f32⟩
  | 19 => ⟨S3, .f32⟩
  | 20 => ⟨S_, .f32⟩
  | 21 => ⟨S3, .f32⟩
  | 22 => ⟨S3, .f32⟩
  | 23 => ⟨S1x1x3x1, .f32⟩
  | 24 => ⟨S64x1000x3x1, .f32⟩
  | 25 => ⟨S64x1000x3x6, .f32⟩
  | 26 => ⟨S64x1000x3x2, .f32⟩
  | 27 => ⟨S1x1x3x2, .f32⟩
  | 28 => ⟨S64x1000x3x2, .f32⟩
  | 29 => ⟨S64x1000x3x2, .f32⟩
  | 30 => ⟨S_, .f32⟩
  | 31 => ⟨S64x1000x3x2, .f32⟩
  | 32 => ⟨S64x1000x3x2, .f32⟩
  | 33 => ⟨S64x1000x3x2, .f32⟩
  | 34 => ⟨S_, .f32⟩
  | 35 => ⟨S64x1000x3, .f32⟩
  | 36 => ⟨S1x1000x3, .f32⟩
  | 37 => ⟨S1000x3, .f32⟩
  | 38 => ⟨S_, .f32⟩
  | 39 => ⟨S1000x3, .f32⟩
  | 40 => ⟨S1000x3, .i1⟩
  | 41 => ⟨S_, .f32⟩
  | 42 => ⟨S_, .f32⟩
  | 43 => ⟨S1000x3, .f32⟩
  | 44 => ⟨S1000x3, .f32⟩
  | 45 => ⟨S_, .f32⟩
  | 46 => ⟨S1000x3, .f32⟩
  | 47 => ⟨S1000x3, .i1⟩
  | 48 => ⟨S1x1000x3x1, .i1⟩
  | 49 => ⟨S_, .f32⟩
  | 50 => ⟨S_, .f32⟩
  | 51 => ⟨S64x1000x3x6, .i1⟩
  | 52 => ⟨S64x1000x3x6, .f32⟩
  | 53 => ⟨S64x1000x3x6, .f32⟩
  | 54 => ⟨S64x1000x3x2, .f32⟩
  | 55 => ⟨S_, .f32⟩
  | 56 => ⟨S64x1000x3x2, .f32⟩
  | 57 => ⟨S64x1000x3x2, .i1⟩
  | 58 => ⟨S_, .f32⟩
  | 59 => ⟨S64x1000x3x2, .f32⟩
  | 60 => ⟨S64x1000x3x2, .f32⟩
  | 61 => ⟨S_, .f32⟩
  | 62 => ⟨S_, .f32⟩
  | 63 => ⟨S64x1000x3x2, .f32⟩
  | 64 => ⟨S64x1000x3x2, .f32⟩
  | 65 => ⟨S_, .f32⟩
  | 66 => ⟨S_, .f32⟩
  | 67 => ⟨S64x1000x3x2, .f32⟩
  | 68 => ⟨S64x1000x3x2, .f32⟩
  | 69 => ⟨S_, .f32⟩
  | 70 => ⟨S64x1000x3x2, .f32⟩
  | 71 => ⟨S64x1000x3x2, .i1⟩
  | 72 => ⟨S_, .f32⟩
  | 73 => ⟨S64x1000x3x2, .f32⟩
  | 74 => ⟨S64x1000x3x2, .i1⟩
  | 75 => ⟨S_, .f32⟩
  | 76 => ⟨S_, .i1⟩
  | 77 => ⟨S64x1000x3x2, .i1⟩
  | 78 => ⟨S64x1000x3x2, .i1⟩
  | 79 => ⟨S64x1000x3x2, .i1⟩
  | 80 => ⟨S64x1000x3x2, .f32⟩
  | 81 => ⟨S64x1000x3x2, .f32⟩
  | 82 => ⟨S64x1000x3x2, .f32⟩
  | 83 => ⟨S_, .f32⟩
  | 84 => ⟨S64x1000x3x2, .f32⟩
  | 85 => ⟨S64x1000x3x2, .i1⟩
  | 86 => ⟨S_, .f32⟩
  | 87 => ⟨S64x1000x3x2, .f32⟩
  | 88 => ⟨S64x1000x3x2, .i1⟩
  | 89 => ⟨S64x1000x3x2, .i1⟩
  | 90 => ⟨S_, .f32⟩
  | 91 => ⟨S_, .f32⟩
  | 92 => ⟨S64x1000x3x2, .f32⟩
  | 93 => ⟨S64x1000x3x2, .f32⟩
  | 94 => ⟨S_, .f32⟩
  | 95 => ⟨S64x1000x3x2, .f32⟩
  | 96 => ⟨S64x1000x3x2, .i1⟩
  | 97 => ⟨S_, .f32⟩
  | 98 => ⟨S64x1000x3x2, .f32⟩
  | 99 => ⟨S64x1000x3x2, .i1⟩
  | 100 => ⟨S_, .f32⟩
  | 101 => ⟨S_, .i1⟩
  | 102 => ⟨S64x1000x3x2, .i1⟩
  | 103 => ⟨S64x1000x3x2, .i1⟩
  | 104 => ⟨S64x1000x3x2, .i1⟩
  | 105 => ⟨S64x1000x3x2, .f32⟩
  | 106 => ⟨S64x1000x3x2, .f32⟩
  | 107 => ⟨S64x1000x3x2, .f32⟩
  | 108 => ⟨S_, .f32⟩
  | 109 => ⟨S64x1000x3x2, .f32⟩
  | 110 => ⟨S64x1000x3x2, .i1⟩
  | 111 => ⟨S_, .f32⟩
  | 112 => ⟨S64x1000x3x2, .f32⟩
  | 113 => ⟨S64x1000x3x2, .i1⟩
  | 114 => ⟨S64x1000x3x2, .i1⟩
  | 115 => ⟨S64x1000x3x1, .i1⟩
  | 116 => ⟨S64x1000x3, .i1⟩
  | 117 => ⟨S64x1000x3x1, .i1⟩
  | 118 => ⟨S64x1000x3, .i1⟩
  | 119 => ⟨S64x1000x3x1, .i1⟩
  | 120 => ⟨S64x1000x3, .i1⟩
  | 121 => ⟨S64x1000x3x1, .i1⟩
  | 122 => ⟨S64x1000x3, .i1⟩
  | 123 => ⟨S_, .i1⟩
  | 124 => ⟨S64x1000x3, .i1⟩
  | 125 => ⟨S1x64x1000x3, .i1⟩
  | 126 => ⟨S1x64x1000x3, .i1⟩
  | 127 => ⟨S1x64x1000x3, .i1⟩
  | _ => ⟨S64x1000x5, .f32⟩

abbrev hbmTy0_1 (i : Nat) : BufTy := match i % 128 with
  | 0 => ⟨S1x64x1000x3, .i1⟩
  | 1 => ⟨S1x64x1000x3, .i1⟩
  | 2 => ⟨S5x64x1000x3, .i1⟩
  | 3 => ⟨S5x64x1000x3x1, .i1⟩
  | 4 => ⟨S1x64x1000x3x6, .f32⟩
  | 5 => ⟨S_, .f32⟩
  | 6 => ⟨S_, .f32⟩
  | 7 => ⟨S5x64x1000x3x6, .i1⟩
  | 8 => ⟨S5x64x1000x3x6, .f32⟩
  | 9 => ⟨S5x64x1000x3x6, .f32⟩
  | 10 => ⟨S5x64x1000x3x6, .f32⟩
  | 11 => ⟨S5x64x1000x3x1, .i1⟩
  | 12 => ⟨S5x1x1x1x2, .f32⟩
  | 13 => ⟨S_, .f32⟩
  | 14 => ⟨S_, .f32⟩
  | 15 => ⟨S5x64x1000x3x2, .i1⟩
  | 16 => ⟨S5x64x1000x3x2, .f32⟩
  | 17 => ⟨S5x64x1000x3x2, .f32⟩
  | 18 => ⟨S5x64x1000x3x2, .f32⟩
  | 19 => ⟨S960000x6, .f32⟩
  | 20 => ⟨S960000x2, .f32⟩
  | 21 => ⟨S_, .f32⟩
  | 22 => ⟨S960000, .f32⟩
  | 23 => ⟨S16384, .f32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x6, .f32⟩
  | 44 => ⟨S16384x6, .i1⟩
  | 45 => ⟨S_, .f32⟩
  | 46 => ⟨S16384x6, .f32⟩
  | 47 => ⟨S16384x6, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S1, .i32⟩
  | 57 => ⟨S_, .i32⟩
  | 58 => ⟨S16384x1, .i32⟩
  | 59 => ⟨S16384x1, .i1⟩
  | 60 => ⟨S1x1, .i32⟩
  | 61 => ⟨S16384x1, .i32⟩
  | 62 => ⟨S16384x1, .i1⟩
  | 63 => ⟨S16384x1, .i1⟩
  | 64 => ⟨S_, .i1⟩
  | 65 => ⟨S16384, .i1⟩
  | 66 => ⟨S16384x2, .f32⟩
  | 67 => ⟨S16384x2, .i1⟩
  | 68 => ⟨S_, .f32⟩
  | 69 => ⟨S16384x2, .f32⟩
  | 70 => ⟨S16384x2, .f32⟩
  | 71 => ⟨S16384x1, .f32⟩
  | 72 => ⟨S16384x2, .f32⟩
  | 73 => ⟨S16384x2, .f32⟩
  | 74 => ⟨S_, .f32⟩
  | 75 => ⟨S16384x2, .f32⟩
  | 76 => ⟨S16384x2, .i1⟩
  | 77 => ⟨S16384x2, .f32⟩
  | 78 => ⟨S16384x2, .i32⟩
  | 79 => ⟨S_, .i32⟩
  | 80 => ⟨S_, .i32⟩
  | 81 => ⟨S16384x2, .i32⟩
  | 82 => ⟨S16384x2, .i32⟩
  | 83 => ⟨S2x16384, .i32⟩
  | 84 => ⟨S_, .i32⟩
  | 85 => ⟨S_, .i32⟩
  | 86 => ⟨S_, .i32⟩
  | 87 => ⟨S2x16384, .i32⟩
  | 88 => ⟨S2x16384, .i32⟩
  | 89 => ⟨S_, .i32⟩
  | 90 => ⟨S2x16384, .i32⟩
  | 91 => ⟨S2x16384, .i32⟩
  | 92 => ⟨S1x16384, .i32⟩
  | 93 => ⟨S16384, .i32⟩
  | 94 => ⟨S1x16384, .i32⟩
  | 95 => ⟨S16384, .i32⟩
  | 96 => ⟨S16384x1, .f32⟩
  | 97 => ⟨S16384, .f32⟩
  | 98 => ⟨S_, .f32⟩
  | 99 => ⟨S16384, .f32⟩
  | 100 => ⟨S16384, .f32⟩
  | 101 => ⟨S_, .f32⟩
  | 102 => ⟨S_, .f32⟩
  | 103 => ⟨S_, .f32⟩
  | 104 => ⟨S16384, .f32⟩
  | 105 => ⟨S16384, .f32⟩
  | 106 => ⟨S_, .f32⟩
  | 107 => ⟨S16384, .f32⟩
  | 108 => ⟨S16384, .f32⟩
  | 109 => ⟨S16384, .i32⟩
  | 110 => ⟨S16384x2, .f32⟩
  | 111 => ⟨S16384x2, .f32⟩
  | 112 => ⟨S16384x5, .f32⟩
  | 113 => ⟨S_, .f32⟩
  | 114 => ⟨S5x2, .f32⟩
  | 115 => ⟨S5x2, .f32⟩
  | 116 => ⟨S64x1000x1, .f32⟩
  | 117 => ⟨S64x1000x4, .f32⟩
  | 118 => ⟨S_, .f32⟩
  | 119 => ⟨S64x1000x4, .f32⟩
  | 120 => ⟨S64x1000x4, .f32⟩
  | 121 => ⟨S64x1000x5, .f32⟩
  | 122 => ⟨S64x1000x1x5, .f32⟩
  | 123 => ⟨S64x1000x1x3x5, .f32⟩
  | 124 => ⟨S64x1000x3x5, .f32⟩
  | 125 => ⟨S3, .f32⟩
  | 126 => ⟨S_, .f32⟩
  | 127 => ⟨S3, .f32⟩
  | _ => ⟨S64x1000x5, .f32⟩

abbrev hbmTy0_2 (i : Nat) : BufTy := match i % 128 with
  | 0 => ⟨S3, .f32⟩
  | 1 => ⟨S1x1x3x1, .f32⟩
  | 2 => ⟨S64x1000x3x1, .f32⟩
  | 3 => ⟨S64x1000x3x6, .f32⟩
  | 4 => ⟨S64x1000x3x2, .f32⟩
  | 5 => ⟨S1x1x3x2, .f32⟩
  | 6 => ⟨S64x1000x3x2, .f32⟩
  | 7 => ⟨S64x1000x3x2, .f32⟩
  | 8 => ⟨S_, .f32⟩
  | 9 => ⟨S64x1000x3x2, .f32⟩
  | 10 => ⟨S64x1000x3x2, .f32⟩
  | 11 => ⟨S64x1000x3x2, .f32⟩
  | 12 => ⟨S_, .f32⟩
  | 13 => ⟨S64x1000x3, .f32⟩
  | 14 => ⟨S1x1000x3, .f32⟩
  | 15 => ⟨S1000x3, .f32⟩
  | 16 => ⟨S_, .f32⟩
  | 17 => ⟨S1000x3, .f32⟩
  | 18 => ⟨S1000x3, .i1⟩
  | 19 => ⟨S_, .f32⟩
  | 20 => ⟨S_, .f32⟩
  | 21 => ⟨S1000x3, .f32⟩
  | 22 => ⟨S1000x3, .f32⟩
  | 23 => ⟨S_, .f32⟩
  | 24 => ⟨S1000x3, .f32⟩
  | 25 => ⟨S1000x3, .i1⟩
  | 26 => ⟨S1x1000x3x1, .i1⟩
  | 27 => ⟨S_, .f32⟩
  | 28 => ⟨S_, .f32⟩
  | 29 => ⟨S64x1000x3x6, .i1⟩
  | 30 => ⟨S64x1000x3x6, .f32⟩
  | 31 => ⟨S64x1000x3x6, .f32⟩
  | 32 => ⟨S64x1000x3x2, .f32⟩
  | 33 => ⟨S_, .f32⟩
  | 34 => ⟨S64x1000x3x2, .f32⟩
  | 35 => ⟨S64x1000x3x2, .i1⟩
  | 36 => ⟨S_, .f32⟩
  | 37 => ⟨S64x1000x3x2, .f32⟩
  | 38 => ⟨S64x1000x3x2, .f32⟩
  | 39 => ⟨S_, .f32⟩
  | 40 => ⟨S_, .f32⟩
  | 41 => ⟨S64x1000x3x2, .f32⟩
  | 42 => ⟨S64x1000x3x2, .f32⟩
  | 43 => ⟨S_, .f32⟩
  | 44 => ⟨S_, .f32⟩
  | 45 => ⟨S64x1000x3x2, .f32⟩
  | 46 => ⟨S64x1000x3x2, .f32⟩
  | 47 => ⟨S_, .f32⟩
  | 48 => ⟨S64x1000x3x2, .f32⟩
  | 49 => ⟨S64x1000x3x2, .i1⟩
  | 50 => ⟨S_, .f32⟩
  | 51 => ⟨S64x1000x3x2, .f32⟩
  | 52 => ⟨S64x1000x3x2, .i1⟩
  | 53 => ⟨S_, .f32⟩
  | 54 => ⟨S_, .i1⟩
  | 55 => ⟨S64x1000x3x2, .i1⟩
  | 56 => ⟨S64x1000x3x2, .i1⟩
  | 57 => ⟨S64x1000x3x2, .i1⟩
  | 58 => ⟨S64x1000x3x2, .f32⟩
  | 59 => ⟨S64x1000x3x2, .f32⟩
  | 60 => ⟨S64x1000x3x2, .f32⟩
  | 61 => ⟨S_, .f32⟩
  | 62 => ⟨S64x1000x3x2, .f32⟩
  | 63 => ⟨S64x1000x3x2, .i1⟩
  | 64 => ⟨S_, .f32⟩
  | 65 => ⟨S64x1000x3x2, .f32⟩
  | 66 => ⟨S64x1000x3x2, .i1⟩
  | 67 => ⟨S64x1000x3x2, .i1⟩
  | 68 => ⟨S_, .f32⟩
  | 69 => ⟨S_, .f32⟩
  | 70 => ⟨S64x1000x3x2, .f32⟩
  | 71 => ⟨S64x1000x3x2, .f32⟩
  | 72 => ⟨S_, .f32⟩
  | 73 => ⟨S64x1000x3x2, .f32⟩
  | 74 => ⟨S64x1000x3x2, .i1⟩
  | 75 => ⟨S_, .f32⟩
  | 76 => ⟨S64x1000x3x2, .f32⟩
  | 77 => ⟨S64x1000x3x2, .i1⟩
  | 78 => ⟨S_, .f32⟩
  | 79 => ⟨S_, .i1⟩
  | 80 => ⟨S64x1000x3x2, .i1⟩
  | 81 => ⟨S64x1000x3x2, .i1⟩
  | 82 => ⟨S64x1000x3x2, .i1⟩
  | 83 => ⟨S64x1000x3x2, .f32⟩
  | 84 => ⟨S64x1000x3x2, .f32⟩
  | 85 => ⟨S64x1000x3x2, .f32⟩
  | 86 => ⟨S_, .f32⟩
  | 87 => ⟨S64x1000x3x2, .f32⟩
  | 88 => ⟨S64x1000x3x2, .i1⟩
  | 89 => ⟨S_, .f32⟩
  | 90 => ⟨S64x1000x3x2, .f32⟩
  | 91 => ⟨S64x1000x3x2, .i1⟩
  | 92 => ⟨S64x1000x3x2, .i1⟩
  | 93 => ⟨S64x1000x3x1, .i1⟩
  | 94 => ⟨S64x1000x3, .i1⟩
  | 95 => ⟨S64x1000x3x1, .i1⟩
  | 96 => ⟨S64x1000x3, .i1⟩
  | 97 => ⟨S64x1000x3x1, .i1⟩
  | 98 => ⟨S64x1000x3, .i1⟩
  | 99 => ⟨S64x1000x3x1, .i1⟩
  | 100 => ⟨S64x1000x3, .i1⟩
  | 101 => ⟨S_, .i1⟩
  | 102 => ⟨S64x1000x3, .i1⟩
  | 103 => ⟨S1x64x1000x3, .i1⟩
  | 104 => ⟨S1x64x1000x3, .i1⟩
  | 105 => ⟨S1x64x1000x3, .i1⟩
  | 106 => ⟨S1x64x1000x3, .i1⟩
  | 107 => ⟨S1x64x1000x3, .i1⟩
  | 108 => ⟨S5x64x1000x3, .i1⟩
  | 109 => ⟨S5x64x1000x3x1, .i1⟩
  | 110 => ⟨S1x64x1000x3x6, .f32⟩
  | 111 => ⟨S_, .f32⟩
  | 112 => ⟨S_, .f32⟩
  | 113 => ⟨S5x64x1000x3x6, .i1⟩
  | 114 => ⟨S5x64x1000x3x6, .f32⟩
  | 115 => ⟨S5x64x1000x3x6, .f32⟩
  | 116 => ⟨S5x64x1000x3x6, .f32⟩
  | 117 => ⟨S5x64x1000x3x1, .i1⟩
  | 118 => ⟨S5x1x1x1x2, .f32⟩
  | 119 => ⟨S_, .f32⟩
  | 120 => ⟨S_, .f32⟩
  | 121 => ⟨S5x64x1000x3x2, .i1⟩
  | 122 => ⟨S5x64x1000x3x2, .f32⟩
  | 123 => ⟨S5x64x1000x3x2, .f32⟩
  | 124 => ⟨S5x64x1000x3x2, .f32⟩
  | 125 => ⟨S960000x6, .f32⟩
  | 126 => ⟨S960000x2, .f32⟩
  | 127 => ⟨S_, .f32⟩
  | _ => ⟨S64x1000x5, .f32⟩

abbrev hbmTy0_3 (i : Nat) : BufTy := match i % 128 with
  | 0 => ⟨S960000, .f32⟩
  | 1 => ⟨S8192, .f32⟩
  | 2 => ⟨S8192, .i32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S1, .i32⟩
  | 12 => ⟨S_, .i32⟩
  | 13 => ⟨S8192x1, .i32⟩
  | 14 => ⟨S8192x1, .i1⟩
  | 15 => ⟨S1x1, .i32⟩
  | 16 => ⟨S8192x1, .i32⟩
  | 17 => ⟨S8192x1, .i1⟩
  | 18 => ⟨S8192x1, .i1⟩
  | 19 => ⟨S_, .i1⟩
  | 20 => ⟨S8192, .i1⟩
  | 21 => ⟨S8192x6, .f32⟩
  | 22 => ⟨S8192x6, .i1⟩
  | 23 => ⟨S_, .f32⟩
  | 24 => ⟨S8192x6, .f32⟩
  | 25 => ⟨S8192x6, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S1, .i32⟩
  | 35 => ⟨S_, .i32⟩
  | 36 => ⟨S8192x1, .i32⟩
  | 37 => ⟨S8192x1, .i1⟩
  | 38 => ⟨S1x1, .i32⟩
  | 39 => ⟨S8192x1, .i32⟩
  | 40 => ⟨S8192x1, .i1⟩
  | 41 => ⟨S8192x1, .i1⟩
  | 42 => ⟨S_, .i1⟩
  | 43 => ⟨S8192, .i1⟩
  | 44 => ⟨S8192x2, .f32⟩
  | 45 => ⟨S8192x2, .i1⟩
  | 46 => ⟨S_, .f32⟩
  | 47 => ⟨S8192x2, .f32⟩
  | 48 => ⟨S8192x2, .f32⟩
  | 49 => ⟨S8192x1, .f32⟩
  | 50 => ⟨S8192x2, .f32⟩
  | 51 => ⟨S8192x2, .f32⟩
  | 52 => ⟨S_, .f32⟩
  | 53 => ⟨S8192x2, .f32⟩
  | 54 => ⟨S8192x2, .i1⟩
  | 55 => ⟨S8192x2, .f32⟩
  | 56 => ⟨S8192x2, .i32⟩
  | 57 => ⟨S_, .i32⟩
  | 58 => ⟨S_, .i32⟩
  | 59 => ⟨S8192x2, .i32⟩
  | 60 => ⟨S8192x2, .i32⟩
  | 61 => ⟨S2x8192, .i32⟩
  | 62 => ⟨S_, .i32⟩
  | 63 => ⟨S_, .i32⟩
  | 64 => ⟨S_, .i32⟩
  | 65 => ⟨S2x8192, .i32⟩
  | 66 => ⟨S2x8192, .i32⟩
  | 67 => ⟨S_, .i32⟩
  | 68 => ⟨S2x8192, .i32⟩
  | 69 => ⟨S2x8192, .i32⟩
  | 70 => ⟨S1x8192, .i32⟩
  | 71 => ⟨S8192, .i32⟩
  | 72 => ⟨S1x8192, .i32⟩
  | 73 => ⟨S8192, .i32⟩
  | 74 => ⟨S8192x1, .f32⟩
  | 75 => ⟨S8192, .f32⟩
  | 76 => ⟨S_, .f32⟩
  | 77 => ⟨S8192, .f32⟩
  | 78 => ⟨S8192, .f32⟩
  | 79 => ⟨S_, .f32⟩
  | 80 => ⟨S_, .f32⟩
  | 81 => ⟨S_, .f32⟩
  | 82 => ⟨S8192, .f32⟩
  | 83 => ⟨S8192, .f32⟩
  | 84 => ⟨S_, .f32⟩
  | 85 => ⟨S8192, .f32⟩
  | 86 => ⟨S8192, .f32⟩
  | 87 => ⟨S8192, .i32⟩
  | 88 => ⟨S8192x2, .f32⟩
  | 89 => ⟨S8192x2, .f32⟩
  | 90 => ⟨S8192x5, .f32⟩
  | 91 => ⟨S_, .f32⟩
  | 92 => ⟨S5x2, .f32⟩
  | 93 => ⟨S5x2, .f32⟩
  | 94 => ⟨S64x1000x1, .f32⟩
  | 95 => ⟨S64x1000x4, .f32⟩
  | 96 => ⟨S_, .f32⟩
  | 97 => ⟨S64x1000x4, .f32⟩
  | 98 => ⟨S64x1000x4, .f32⟩
  | 99 => ⟨S64x1000x5, .f32⟩
  | 100 => ⟨S64x1000x1x5, .f32⟩
  | 101 => ⟨S64x1000x1x3x5, .f32⟩
  | 102 => ⟨S64x1000x3x5, .f32⟩
  | 103 => ⟨S3, .f32⟩
  | 104 => ⟨S_, .f32⟩
  | 105 => ⟨S3, .f32⟩
  | 106 => ⟨S3, .f32⟩
  | 107 => ⟨S1x1x3x1, .f32⟩
  | 108 => ⟨S64x1000x3x1, .f32⟩
  | 109 => ⟨S64x1000x3x6, .f32⟩
  | 110 => ⟨S64x1000x3x2, .f32⟩
  | 111 => ⟨S1x1x3x2, .f32⟩
  | 112 => ⟨S64x1000x3x2, .f32⟩
  | 113 => ⟨S64x1000x3x2, .f32⟩
  | 114 => ⟨S_, .f32⟩
  | 115 => ⟨S64x1000x3x2, .f32⟩
  | 116 => ⟨S64x1000x3x2, .f32⟩
  | 117 => ⟨S64x1000x3x2, .f32⟩
  | 118 => ⟨S_, .f32⟩
  | 119 => ⟨S64x1000x3, .f32⟩
  | 120 => ⟨S1x1000x3, .f32⟩
  | 121 => ⟨S1000x3, .f32⟩
  | 122 => ⟨S_, .f32⟩
  | 123 => ⟨S1000x3, .f32⟩
  | 124 => ⟨S1000x3, .i1⟩
  | 125 => ⟨S_, .f32⟩
  | 126 => ⟨S_, .f32⟩
  | 127 => ⟨S1000x3, .f32⟩
  | _ => ⟨S64x1000x5, .f32⟩

abbrev hbmTy0_4 (i : Nat) : BufTy := match i % 128 with
  | 0 => ⟨S1000x3, .f32⟩
  | 1 => ⟨S_, .f32⟩
  | 2 => ⟨S1000x3, .f32⟩
  | 3 => ⟨S1000x3, .i1⟩
  | 4 => ⟨S1x1000x3x1, .i1⟩
  | 5 => ⟨S_, .f32⟩
  | 6 => ⟨S_, .f32⟩
  | 7 => ⟨S64x1000x3x6, .i1⟩
  | 8 => ⟨S64x1000x3x6, .f32⟩
  | 9 => ⟨S64x1000x3x6, .f32⟩
  | 10 => ⟨S64x1000x3x2, .f32⟩
  | 11 => ⟨S_, .f32⟩
  | 12 => ⟨S64x1000x3x2, .f32⟩
  | 13 => ⟨S64x1000x3x2, .i1⟩
  | 14 => ⟨S_, .f32⟩
  | 15 => ⟨S64x1000x3x2, .f32⟩
  | 16 => ⟨S64x1000x3x2, .f32⟩
  | 17 => ⟨S_, .f32⟩
  | 18 => ⟨S_, .f32⟩
  | 19 => ⟨S64x1000x3x2, .f32⟩
  | 20 => ⟨S64x1000x3x2, .f32⟩
  | 21 => ⟨S_, .f32⟩
  | 22 => ⟨S_, .f32⟩
  | 23 => ⟨S64x1000x3x2, .f32⟩
  | 24 => ⟨S64x1000x3x2, .f32⟩
  | 25 => ⟨S_, .f32⟩
  | 26 => ⟨S64x1000x3x2, .f32⟩
  | 27 => ⟨S64x1000x3x2, .i1⟩
  | 28 => ⟨S_, .f32⟩
  | 29 => ⟨S64x1000x3x2, .f32⟩
  | 30 => ⟨S64x1000x3x2, .i1⟩
  | 31 => ⟨S_, .f32⟩
  | 32 => ⟨S_, .i1⟩
  | 33 => ⟨S64x1000x3x2, .i1⟩
  | 34 => ⟨S64x1000x3x2, .i1⟩
  | 35 => ⟨S64x1000x3x2, .i1⟩
  | 36 => ⟨S64x1000x3x2, .f32⟩
  | 37 => ⟨S64x1000x3x2, .f32⟩
  | 38 => ⟨S64x1000x3x2, .f32⟩
  | 39 => ⟨S_, .f32⟩
  | 40 => ⟨S64x1000x3x2, .f32⟩
  | 41 => ⟨S64x1000x3x2, .i1⟩
  | 42 => ⟨S_, .f32⟩
  | 43 => ⟨S64x1000x3x2, .f32⟩
  | 44 => ⟨S64x1000x3x2, .i1⟩
  | 45 => ⟨S64x1000x3x2, .i1⟩
  | 46 => ⟨S_, .f32⟩
  | 47 => ⟨S_, .f32⟩
  | 48 => ⟨S64x1000x3x2, .f32⟩
  | 49 => ⟨S64x1000x3x2, .f32⟩
  | 50 => ⟨S_, .f32⟩
  | 51 => ⟨S64x1000x3x2, .f32⟩
  | 52 => ⟨S64x1000x3x2, .i1⟩
  | 53 => ⟨S_, .f32⟩
  | 54 => ⟨S64x1000x3x2, .f32⟩
  | 55 => ⟨S64x1000x3x2, .i1⟩
  | 56 => ⟨S_, .f32⟩
  | 57 => ⟨S_, .i1⟩
  | 58 => ⟨S64x1000x3x2, .i1⟩
  | 59 => ⟨S64x1000x3x2, .i1⟩
  | 60 => ⟨S64x1000x3x2, .i1⟩
  | 61 => ⟨S64x1000x3x2, .f32⟩
  | 62 => ⟨S64x1000x3x2, .f32⟩
  | 63 => ⟨S64x1000x3x2, .f32⟩
  | 64 => ⟨S_, .f32⟩
  | 65 => ⟨S64x1000x3x2, .f32⟩
  | 66 => ⟨S64x1000x3x2, .i1⟩
  | 67 => ⟨S_, .f32⟩
  | 68 => ⟨S64x1000x3x2, .f32⟩
  | 69 => ⟨S64x1000x3x2, .i1⟩
  | 70 => ⟨S64x1000x3x2, .i1⟩
  | 71 => ⟨S64x1000x3x1, .i1⟩
  | 72 => ⟨S64x1000x3, .i1⟩
  | 73 => ⟨S64x1000x3x1, .i1⟩
  | 74 => ⟨S64x1000x3, .i1⟩
  | 75 => ⟨S64x1000x3x1, .i1⟩
  | 76 => ⟨S64x1000x3, .i1⟩
  | 77 => ⟨S64x1000x3x1, .i1⟩
  | 78 => ⟨S64x1000x3, .i1⟩
  | 79 => ⟨S_, .i1⟩
  | 80 => ⟨S64x1000x3, .i1⟩
  | 81 => ⟨S1x64x1000x3, .i1⟩
  | 82 => ⟨S1x64x1000x3, .i1⟩
  | 83 => ⟨S1x64x1000x3, .i1⟩
  | 84 => ⟨S1x64x1000x3, .i1⟩
  | 85 => ⟨S1x64x1000x3, .i1⟩
  | 86 => ⟨S5x64x1000x3, .i1⟩
  | 87 => ⟨S5x64x1000x3x1, .i1⟩
  | 88 => ⟨S1x64x1000x3x6, .f32⟩
  | 89 => ⟨S_, .f32⟩
  | 90 => ⟨S_, .f32⟩
  | 91 => ⟨S5x64x1000x3x6, .i1⟩
  | 92 => ⟨S5x64x1000x3x6, .f32⟩
  | 93 => ⟨S5x64x1000x3x6, .f32⟩
  | 94 => ⟨S5x64x1000x3x6, .f32⟩
  | 95 => ⟨S5x64x1000x3x1, .i1⟩
  | 96 => ⟨S5x1x1x1x2, .f32⟩
  | 97 => ⟨S_, .f32⟩
  | 98 => ⟨S_, .f32⟩
  | 99 => ⟨S5x64x1000x3x2, .i1⟩
  | 100 => ⟨S5x64x1000x3x2, .f32⟩
  | 101 => ⟨S5x64x1000x3x2, .f32⟩
  | 102 => ⟨S5x64x1000x3x2, .f32⟩
  | 103 => ⟨S960000x6, .f32⟩
  | 104 => ⟨S960000x2, .f32⟩
  | 105 => ⟨S_, .f32⟩
  | 106 => ⟨S960000, .f32⟩
  | 107 => ⟨S4096, .f32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S1, .i32⟩
  | 118 => ⟨S_, .i32⟩
  | 119 => ⟨S4096x1, .i32⟩
  | 120 => ⟨S4096x1, .i1⟩
  | 121 => ⟨S1x1, .i32⟩
  | 122 => ⟨S4096x1, .i32⟩
  | 123 => ⟨S4096x1, .i1⟩
  | 124 => ⟨S4096x1, .i1⟩
  | 125 => ⟨S_, .i1⟩
  | 126 => ⟨S4096, .i1⟩
  | 127 => ⟨S4096x6, .f32⟩
  | _ => ⟨S64x1000x5, .f32⟩

abbrev hbmTy0_5 (i : Nat) : BufTy := match i % 128 with
  | 0 => ⟨S4096x6, .i1⟩
  | 1 => ⟨S_, .f32⟩
  | 2 => ⟨S4096x6, .f32⟩
  | 3 => ⟨S4096x6, .f32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S1, .i32⟩
  | 13 => ⟨S_, .i32⟩
  | 14 => ⟨S4096x1, .i32⟩
  | 15 => ⟨S4096x1, .i1⟩
  | 16 => ⟨S1x1, .i32⟩
  | 17 => ⟨S4096x1, .i32⟩
  | 18 => ⟨S4096x1, .i1⟩
  | 19 => ⟨S4096x1, .i1⟩
  | 20 => ⟨S_, .i1⟩
  | 21 => ⟨S4096, .i1⟩
  | 22 => ⟨S4096x2, .f32⟩
  | 23 => ⟨S4096x2, .i1⟩
  | 24 => ⟨S_, .f32⟩
  | 25 => ⟨S4096x2, .f32⟩
  | 26 => ⟨S4096x2, .f32⟩
  | 27 => ⟨S4096x1, .f32⟩
  | 28 => ⟨S4096x2, .f32⟩
  | 29 => ⟨S4096x2, .f32⟩
  | 30 => ⟨S_, .f32⟩
  | 31 => ⟨S4096x2, .f32⟩
  | 32 => ⟨S4096x2, .i1⟩
  | 33 => ⟨S4096x2, .f32⟩
  | 34 => ⟨S4096x2, .i32⟩
  | 35 => ⟨S_, .i32⟩
  | 36 => ⟨S_, .i32⟩
  | 37 => ⟨S4096x2, .i32⟩
  | 38 => ⟨S4096x2, .i32⟩
  | 39 => ⟨S2x4096, .i32⟩
  | 40 => ⟨S_, .i32⟩
  | 41 => ⟨S_, .i32⟩
  | 42 => ⟨S_, .i32⟩
  | 43 => ⟨S2x4096, .i32⟩
  | 44 => ⟨S2x4096, .i32⟩
  | 45 => ⟨S_, .i32⟩
  | 46 => ⟨S2x4096, .i32⟩
  | 47 => ⟨S2x4096, .i32⟩
  | 48 => ⟨S1x4096, .i32⟩
  | 49 => ⟨S4096, .i32⟩
  | 50 => ⟨S1x4096, .i32⟩
  | 51 => ⟨S4096, .i32⟩
  | 52 => ⟨S4096x1, .f32⟩
  | 53 => ⟨S4096, .f32⟩
  | 54 => ⟨S_, .f32⟩
  | 55 => ⟨S4096, .f32⟩
  | 56 => ⟨S4096, .f32⟩
  | 57 => ⟨S_, .f32⟩
  | 58 => ⟨S_, .f32⟩
  | 59 => ⟨S_, .f32⟩
  | 60 => ⟨S4096, .f32⟩
  | 61 => ⟨S4096, .f32⟩
  | 62 => ⟨S_, .f32⟩
  | 63 => ⟨S4096, .f32⟩
  | 64 => ⟨S4096, .f32⟩
  | 65 => ⟨S4096, .i32⟩
  | 66 => ⟨S4096x2, .f32⟩
  | 67 => ⟨S4096x2, .f32⟩
  | 68 => ⟨S4096x5, .f32⟩
  | _ => ⟨S64x1000x5, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x1000x5, .f32⟩

abbrev bufTy : (tb : Table) → Fin (tcTables nBuf tb) → BufTy
  | .hbm, ⟨i, _⟩ => hbmTy i
  | _, _ => ⟨S64x1000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_6 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_7 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_8 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_9 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_10 : Ref sig .tc := ⟨.hbm, 38, rfl⟩
abbrev main_v26 : Ref sig .tc := ⟨.hbm, 39, rfl⟩
abbrev main_v27 : Ref sig .tc := ⟨.hbm, 40, rfl⟩
abbrev main_cst_11 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_cst_12 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_13 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_cst_14 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_v37 : Ref sig .tc := ⟨.hbm, 60, rfl⟩
abbrev main_cst_16 : Ref sig .tc := ⟨.hbm, 61, rfl⟩
abbrev main_call2_v0 : Ref sig .tc := ⟨.hbm, 62, rfl⟩
abbrev main_call2_v1 : Ref sig .tc := ⟨.hbm, 63, rfl⟩
abbrev main_v38 : Ref sig .tc := ⟨.hbm, 64, rfl⟩
abbrev main_cst_17 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_cst : Ref sig .tc := ⟨.hbm, 69, rfl⟩
abbrev main_call3_v3 : Ref sig .tc := ⟨.hbm, 70, rfl⟩
abbrev main_call3_v4 : Ref sig .tc := ⟨.hbm, 71, rfl⟩
abbrev main_call3_cst_0 : Ref sig .tc := ⟨.hbm, 72, rfl⟩
abbrev main_call3_v5 : Ref sig .tc := ⟨.hbm, 73, rfl⟩
abbrev main_call3_v6 : Ref sig .tc := ⟨.hbm, 74, rfl⟩
abbrev main_call3_cst_1 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_v39 : Ref sig .tc := ⟨.hbm, 82, rfl⟩
abbrev main_cst_18 : Ref sig .tc := ⟨.hbm, 83, rfl⟩
abbrev main_v40 : Ref sig .tc := ⟨.hbm, 84, rfl⟩
abbrev main_v41 : Ref sig .tc := ⟨.hbm, 85, rfl⟩
abbrev main_cst_19 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_20 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_cst : Ref sig .tc := ⟨.hbm, 94, rfl⟩
abbrev main_call4_v3 : Ref sig .tc := ⟨.hbm, 95, rfl⟩
abbrev main_call4_v4 : Ref sig .tc := ⟨.hbm, 96, rfl⟩
abbrev main_call4_cst_0 : Ref sig .tc := ⟨.hbm, 97, rfl⟩
abbrev main_call4_v5 : Ref sig .tc := ⟨.hbm, 98, rfl⟩
abbrev main_call4_v6 : Ref sig .tc := ⟨.hbm, 99, rfl⟩
abbrev main_call4_cst_1 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_v12 : Ref sig .tc := ⟨.hbm, 106, rfl⟩
abbrev main_v45 : Ref sig .tc := ⟨.hbm, 107, rfl⟩
abbrev main_cst_21 : Ref sig .tc := ⟨.hbm, 108, rfl⟩
abbrev main_v46 : Ref sig .tc := ⟨.hbm, 109, rfl⟩
abbrev main_v47 : Ref sig .tc := ⟨.hbm, 110, rfl⟩
abbrev main_cst_22 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_c : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_23 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_cst_24 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_25 : Ref sig .tc := ⟨.hbm, 149, rfl⟩
abbrev main_v74 : Ref sig .tc := ⟨.hbm, 150, rfl⟩
abbrev main_values : Ref sig .tc := ⟨.hbm, 151, rfl⟩
abbrev main_indices : Ref sig .tc := ⟨.hbm, 152, rfl⟩
abbrev main_call7_c : Ref sig .tc := ⟨.hbm, 153, rfl⟩
abbrev main_call7_v0 : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_v5 : Ref sig .tc := ⟨.hbm, 160, rfl⟩
abbrev main_call7_c_1 : Ref sig .tc := ⟨.hbm, 161, rfl⟩
abbrev main_call7_c_2 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_v11 : Ref sig .tc := ⟨.hbm, 168, rfl⟩
abbrev main_call7_c_3 : Ref sig .tc := ⟨.hbm, 169, rfl⟩
abbrev main_call7_v12 : Ref sig .tc := ⟨.hbm, 170, rfl⟩
abbrev main_call7_v13 : Ref sig .tc := ⟨.hbm, 171, rfl⟩
abbrev main_call7_v14 : Ref sig .tc := ⟨.hbm, 172, rfl⟩
abbrev main_call7_cst : Ref sig .tc := ⟨.hbm, 173, rfl⟩
abbrev main_call7_v15 : Ref sig .tc := ⟨.hbm, 174, rfl⟩
abbrev main_v75 : Ref sig .tc := ⟨.hbm, 175, rfl⟩
abbrev main_call8_c : Ref sig .tc := ⟨.hbm, 176, rfl⟩
abbrev main_call8_v0 : Ref sig .tc := ⟨.hbm, 177, rfl⟩
abbrev main_call8_v1 : Ref sig .tc := ⟨.hbm, 178, rfl⟩
abbrev main_call8_c_0 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_v5 : Ref sig .tc := ⟨.hbm, 183, rfl⟩
abbrev main_call8_c_1 : Ref sig .tc := ⟨.hbm, 184, rfl⟩
abbrev main_call8_c_2 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_call8_v11 : Ref sig .tc := ⟨.hbm, 191, rfl⟩
abbrev main_call8_c_3 : Ref sig .tc := ⟨.hbm, 192, rfl⟩
abbrev main_call8_v12 : Ref sig .tc := ⟨.hbm, 193, rfl⟩
abbrev main_call8_v13 : Ref sig .tc := ⟨.hbm, 194, rfl⟩
abbrev main_call8_v14 : Ref sig .tc := ⟨.hbm, 195, rfl⟩
abbrev main_call8_cst : Ref sig .tc := ⟨.hbm, 196, rfl⟩
abbrev main_call8_v15 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_cst_26 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_c_27 : Ref sig .tc := ⟨.hbm, 207, rfl⟩
abbrev main_call9_v0 : Ref sig .tc := ⟨.hbm, 208, rfl⟩
abbrev main_call9_v1 : Ref sig .tc := ⟨.hbm, 209, rfl⟩
abbrev main_v84 : Ref sig .tc := ⟨.hbm, 210, rfl⟩
abbrev main_v85 : Ref sig .tc := ⟨.hbm, 211, rfl⟩
abbrev main_c_28 : Ref sig .tc := ⟨.hbm, 212, rfl⟩
abbrev main_c_29 : Ref sig .tc := ⟨.hbm, 213, rfl⟩
abbrev main_call10_v0 : Ref sig .tc := ⟨.hbm, 214, rfl⟩
abbrev main_call10_v1 : Ref sig .tc := ⟨.hbm, 215, rfl⟩
abbrev main_call10_v2 : Ref sig .tc := ⟨.hbm, 216, rfl⟩
abbrev main_call10_v3 : Ref sig .tc := ⟨.hbm, 217, rfl⟩
abbrev main_call10_v4 : Ref sig .tc := ⟨.hbm, 218, rfl⟩
abbrev main_v86 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_cst_30 : Ref sig .tc := ⟨.hbm, 226, rfl⟩
abbrev main_v93 : Ref sig .tc := ⟨.hbm, 227, rfl⟩
abbrev main_v94 : Ref sig .tc := ⟨.hbm, 228, rfl⟩
abbrev main_cst_31 : Ref sig .tc := ⟨.hbm, 229, rfl⟩
abbrev main_cst_32 : Ref sig .tc := ⟨.hbm, 230, rfl⟩
abbrev main_call11_v0 : Ref sig .tc := ⟨.hbm, 231, rfl⟩
abbrev main_call11_v1 : Ref sig .tc := ⟨.hbm, 232, rfl⟩
abbrev main_call11_v2 : Ref sig .tc := ⟨.hbm, 233, rfl⟩
abbrev main_call11_v3 : Ref sig .tc := ⟨.hbm, 234, rfl⟩
abbrev main_call11_v4 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_cst_33 : Ref sig .tc := ⟨.hbm, 241, rfl⟩
abbrev main_v100 : Ref sig .tc := ⟨.hbm, 242, rfl⟩
abbrev main_v101 : Ref sig .tc := ⟨.hbm, 243, rfl⟩
abbrev main_v102 : Ref sig .tc := ⟨.hbm, 244, rfl⟩
abbrev main_v103 : Ref sig .tc := ⟨.hbm, 245, rfl⟩
abbrev main_cst_34 : Ref sig .tc := ⟨.hbm, 246, rfl⟩
abbrev main_v104 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_v110 : Ref sig .tc := ⟨.hbm, 253, rfl⟩
abbrev main_cst_35 : Ref sig .tc := ⟨.hbm, 254, rfl⟩
abbrev main_v111 : Ref sig .tc := ⟨.hbm, 255, rfl⟩
abbrev main_v112 : Ref sig .tc := ⟨.hbm, 256, rfl⟩
abbrev main_v113 : Ref sig .tc := ⟨.hbm, 257, rfl⟩
abbrev main_v114 : Ref sig .tc := ⟨.hbm, 258, rfl⟩
abbrev main_v115 : Ref sig .tc := ⟨.hbm, 259, rfl⟩
abbrev main_v116 : Ref sig .tc := ⟨.hbm, 260, rfl⟩
abbrev main_v117 : Ref sig .tc := ⟨.hbm, 261, rfl⟩
abbrev main_v118 : Ref sig .tc := ⟨.hbm, 262, rfl⟩
abbrev main_v119 : Ref sig .tc := ⟨.hbm, 263, rfl⟩
abbrev main_cst_36 : Ref sig .tc := ⟨.hbm, 264, rfl⟩
abbrev main_v120 : Ref sig .tc := ⟨.hbm, 265, rfl⟩
abbrev main_v121 : Ref sig .tc := ⟨.hbm, 266, rfl⟩
abbrev main_v122 : Ref sig .tc := ⟨.hbm, 267, rfl⟩
abbrev main_cst_37 : Ref sig .tc := ⟨.hbm, 268, rfl⟩
abbrev main_v123 : Ref sig .tc := ⟨.hbm, 269, rfl⟩
abbrev main_v124 : Ref sig .tc := ⟨.hbm, 270, rfl⟩
abbrev main_v125 : Ref sig .tc := ⟨.hbm, 271, rfl⟩
abbrev main_cst_38 : Ref sig .tc := ⟨.hbm, 272, rfl⟩
abbrev main_v126 : Ref sig .tc := ⟨.hbm, 273, rfl⟩
abbrev main_v127 : Ref sig .tc := ⟨.hbm, 274, rfl⟩
abbrev main_cst_39 : Ref sig .tc := ⟨.hbm, 275, rfl⟩
abbrev main_call12_v0 : Ref sig .tc := ⟨.hbm, 276, rfl⟩
abbrev main_call12_v1 : Ref sig .tc := ⟨.hbm, 277, rfl⟩
abbrev main_v128 : Ref sig .tc := ⟨.hbm, 278, rfl⟩
abbrev main_cst_40 : Ref sig .tc := ⟨.hbm, 279, rfl⟩
abbrev main_v129 : Ref sig .tc := ⟨.hbm, 280, rfl⟩
abbrev main_v130 : Ref sig .tc := ⟨.hbm, 281, rfl⟩
abbrev main_v131 : Ref sig .tc := ⟨.hbm, 282, rfl⟩
abbrev main_cst_41 : Ref sig .tc := ⟨.hbm, 283, rfl⟩
abbrev main_call13_v0 : Ref sig .tc := ⟨.hbm, 284, rfl⟩
abbrev main_call13_v1 : Ref sig .tc := ⟨.hbm, 285, rfl⟩
abbrev main_call13_v2 : Ref sig .tc := ⟨.hbm, 286, rfl⟩
abbrev main_v132 : Ref sig .tc := ⟨.hbm, 287, rfl⟩
abbrev main_v133 : Ref sig .tc := ⟨.hbm, 288, rfl⟩
abbrev main_cst_42 : Ref sig .tc := ⟨.hbm, 289, rfl⟩
abbrev main_v134 : Ref sig .tc := ⟨.hbm, 290, rfl⟩
abbrev main_v135 : Ref sig .tc := ⟨.hbm, 291, rfl⟩
abbrev main_cst_43 : Ref sig .tc := ⟨.hbm, 292, rfl⟩
abbrev main_v136 : Ref sig .tc := ⟨.hbm, 293, rfl⟩
abbrev main_v137 : Ref sig .tc := ⟨.hbm, 294, rfl⟩
abbrev main_cst_44 : Ref sig .tc := ⟨.hbm, 295, rfl⟩
abbrev main_call14_v0 : Ref sig .tc := ⟨.hbm, 296, rfl⟩
abbrev main_call14_v1 : Ref sig .tc := ⟨.hbm, 297, rfl⟩
abbrev main_v138 : Ref sig .tc := ⟨.hbm, 298, rfl⟩
abbrev main_cst_45 : Ref sig .tc := ⟨.hbm, 299, rfl⟩
abbrev main_call15_v0 : Ref sig .tc := ⟨.hbm, 300, rfl⟩
abbrev main_call15_v1 : Ref sig .tc := ⟨.hbm, 301, rfl⟩
abbrev main_call15_v2 : Ref sig .tc := ⟨.hbm, 302, rfl⟩
abbrev main_call15_cst : Ref sig .tc := ⟨.hbm, 303, rfl⟩
abbrev main_call15_v3 : Ref sig .tc := ⟨.hbm, 304, rfl⟩
abbrev main_call15_v4 : Ref sig .tc := ⟨.hbm, 305, rfl⟩
abbrev main_call15_cst_0 : Ref sig .tc := ⟨.hbm, 306, rfl⟩
abbrev main_call15_v5 : Ref sig .tc := ⟨.hbm, 307, rfl⟩
abbrev main_call15_v6 : Ref sig .tc := ⟨.hbm, 308, rfl⟩
abbrev main_call15_cst_1 : Ref sig .tc := ⟨.hbm, 309, rfl⟩
abbrev main_call15_v7 : Ref sig .tc := ⟨.hbm, 310, rfl⟩
abbrev main_call15_v8 : Ref sig .tc := ⟨.hbm, 311, rfl⟩
abbrev main_call15_v9 : Ref sig .tc := ⟨.hbm, 312, rfl⟩
abbrev main_call15_v10 : Ref sig .tc := ⟨.hbm, 313, rfl⟩
abbrev main_call15_v11 : Ref sig .tc := ⟨.hbm, 314, rfl⟩
abbrev main_call15_v12 : Ref sig .tc := ⟨.hbm, 315, rfl⟩
abbrev main_v139 : Ref sig .tc := ⟨.hbm, 316, rfl⟩
abbrev main_cst_46 : Ref sig .tc := ⟨.hbm, 317, rfl⟩
abbrev main_v140 : Ref sig .tc := ⟨.hbm, 318, rfl⟩
abbrev main_v141 : Ref sig .tc := ⟨.hbm, 319, rfl⟩
abbrev main_cst_47 : Ref sig .tc := ⟨.hbm, 320, rfl⟩
abbrev main_v142 : Ref sig .tc := ⟨.hbm, 321, rfl⟩
abbrev main_v143 : Ref sig .tc := ⟨.hbm, 322, rfl⟩
abbrev main_v144 : Ref sig .tc := ⟨.hbm, 323, rfl⟩
abbrev main_cst_48 : Ref sig .tc := ⟨.hbm, 324, rfl⟩
abbrev main_call16_v0 : Ref sig .tc := ⟨.hbm, 325, rfl⟩
abbrev main_call16_v1 : Ref sig .tc := ⟨.hbm, 326, rfl⟩
abbrev main_call16_v2 : Ref sig .tc := ⟨.hbm, 327, rfl⟩
abbrev main_call16_cst : Ref sig .tc := ⟨.hbm, 328, rfl⟩
abbrev main_call16_v3 : Ref sig .tc := ⟨.hbm, 329, rfl⟩
abbrev main_call16_v4 : Ref sig .tc := ⟨.hbm, 330, rfl⟩
abbrev main_call16_cst_0 : Ref sig .tc := ⟨.hbm, 331, rfl⟩
abbrev main_call16_v5 : Ref sig .tc := ⟨.hbm, 332, rfl⟩
abbrev main_call16_v6 : Ref sig .tc := ⟨.hbm, 333, rfl⟩
abbrev main_call16_cst_1 : Ref sig .tc := ⟨.hbm, 334, rfl⟩
abbrev main_call16_v7 : Ref sig .tc := ⟨.hbm, 335, rfl⟩
abbrev main_call16_v8 : Ref sig .tc := ⟨.hbm, 336, rfl⟩
abbrev main_call16_v9 : Ref sig .tc := ⟨.hbm, 337, rfl⟩
abbrev main_call16_v10 : Ref sig .tc := ⟨.hbm, 338, rfl⟩
abbrev main_call16_v11 : Ref sig .tc := ⟨.hbm, 339, rfl⟩
abbrev main_call16_v12 : Ref sig .tc := ⟨.hbm, 340, rfl⟩
abbrev main_v145 : Ref sig .tc := ⟨.hbm, 341, rfl⟩
abbrev main_cst_49 : Ref sig .tc := ⟨.hbm, 342, rfl⟩
abbrev main_v146 : Ref sig .tc := ⟨.hbm, 343, rfl⟩
abbrev main_v147 : Ref sig .tc := ⟨.hbm, 344, rfl⟩
abbrev main_cst_50 : Ref sig .tc := ⟨.hbm, 345, rfl⟩
abbrev main_v148 : Ref sig .tc := ⟨.hbm, 346, rfl⟩
abbrev main_v149 : Ref sig .tc := ⟨.hbm, 347, rfl⟩
abbrev main_v150 : Ref sig .tc := ⟨.hbm, 348, rfl⟩
abbrev main_v151 : Ref sig .tc := ⟨.hbm, 349, rfl⟩
abbrev main_v152 : Ref sig .tc := ⟨.hbm, 350, rfl⟩
abbrev main_v153 : Ref sig .tc := ⟨.hbm, 351, rfl⟩
abbrev main_v154 : Ref sig .tc := ⟨.hbm, 352, rfl⟩
abbrev main_v155 : Ref sig .tc := ⟨.hbm, 353, rfl⟩
abbrev main_v156 : Ref sig .tc := ⟨.hbm, 354, rfl⟩
abbrev main_v157 : Ref sig .tc := ⟨.hbm, 355, rfl⟩
abbrev main_v158 : Ref sig .tc := ⟨.hbm, 356, rfl⟩
abbrev main_c_51 : Ref sig .tc := ⟨.hbm, 357, rfl⟩
abbrev main_v159 : Ref sig .tc := ⟨.hbm, 358, rfl⟩
abbrev main_v160 : Ref sig .tc := ⟨.hbm, 359, rfl⟩
abbrev main_v161 : Ref sig .tc := ⟨.hbm, 360, rfl⟩
abbrev main_v162 : Ref sig .tc := ⟨.hbm, 361, rfl⟩
abbrev main_v163 : Ref sig .tc := ⟨.hbm, 362, rfl⟩
abbrev main_v164 : Ref sig .tc := ⟨.hbm, 363, rfl⟩
abbrev main_v165 : Ref sig .tc := ⟨.hbm, 364, rfl⟩
abbrev main_v166 : Ref sig .tc := ⟨.hbm, 365, rfl⟩
abbrev main_v167 : Ref sig .tc := ⟨.hbm, 366, rfl⟩
abbrev main_cst_52 : Ref sig .tc := ⟨.hbm, 367, rfl⟩
abbrev main_call17_v0 : Ref sig .tc := ⟨.hbm, 368, rfl⟩
abbrev main_call17_v1 : Ref sig .tc := ⟨.hbm, 369, rfl⟩
abbrev main_call17_v2 : Ref sig .tc := ⟨.hbm, 370, rfl⟩
abbrev main_call17_v3 : Ref sig .tc := ⟨.hbm, 371, rfl⟩
abbrev main_v168 : Ref sig .tc := ⟨.hbm, 372, rfl⟩
abbrev main_v169 : Ref sig .tc := ⟨.hbm, 373, rfl⟩
abbrev main_v170 : Ref sig .tc := ⟨.hbm, 374, rfl⟩
abbrev main_cst_53 : Ref sig .tc := ⟨.hbm, 375, rfl⟩
abbrev main_call18_v0 : Ref sig .tc := ⟨.hbm, 376, rfl⟩
abbrev main_call18_v1 : Ref sig .tc := ⟨.hbm, 377, rfl⟩
abbrev main_call18_v2 : Ref sig .tc := ⟨.hbm, 378, rfl⟩
abbrev main_call18_v3 : Ref sig .tc := ⟨.hbm, 379, rfl⟩
abbrev main_v171 : Ref sig .tc := ⟨.hbm, 380, rfl⟩
abbrev main_v172 : Ref sig .tc := ⟨.hbm, 381, rfl⟩
abbrev main_v173 : Ref sig .tc := ⟨.hbm, 382, rfl⟩
abbrev main_cst_54 : Ref sig .tc := ⟨.hbm, 383, rfl⟩
abbrev main_v174 : Ref sig .tc := ⟨.hbm, 384, rfl⟩
abbrev main_values_55 : Ref sig .tc := ⟨.hbm, 385, rfl⟩
abbrev main_indices_56 : Ref sig .tc := ⟨.hbm, 386, rfl⟩
abbrev main_call19_c : Ref sig .tc := ⟨.hbm, 387, rfl⟩
abbrev main_call19_v0 : Ref sig .tc := ⟨.hbm, 388, rfl⟩
abbrev main_call19_v1 : Ref sig .tc := ⟨.hbm, 389, rfl⟩
abbrev main_call19_c_0 : Ref sig .tc := ⟨.hbm, 390, rfl⟩
abbrev main_call19_v2 : Ref sig .tc := ⟨.hbm, 391, rfl⟩
abbrev main_call19_v3 : Ref sig .tc := ⟨.hbm, 392, rfl⟩
abbrev main_call19_v4 : Ref sig .tc := ⟨.hbm, 393, rfl⟩
abbrev main_call19_v5 : Ref sig .tc := ⟨.hbm, 394, rfl⟩
abbrev main_call19_c_1 : Ref sig .tc := ⟨.hbm, 395, rfl⟩
abbrev main_call19_c_2 : Ref sig .tc := ⟨.hbm, 396, rfl⟩
abbrev main_call19_v6 : Ref sig .tc := ⟨.hbm, 397, rfl⟩
abbrev main_call19_v7 : Ref sig .tc := ⟨.hbm, 398, rfl⟩
abbrev main_call19_v8 : Ref sig .tc := ⟨.hbm, 399, rfl⟩
abbrev main_call19_v9 : Ref sig .tc := ⟨.hbm, 400, rfl⟩
abbrev main_call19_v10 : Ref sig .tc := ⟨.hbm, 401, rfl⟩
abbrev main_call19_v11 : Ref sig .tc := ⟨.hbm, 402, rfl⟩
abbrev main_call19_c_3 : Ref sig .tc := ⟨.hbm, 403, rfl⟩
abbrev main_call19_v12 : Ref sig .tc := ⟨.hbm, 404, rfl⟩
abbrev main_call19_v13 : Ref sig .tc := ⟨.hbm, 405, rfl⟩
abbrev main_call19_v14 : Ref sig .tc := ⟨.hbm, 406, rfl⟩
abbrev main_call19_cst : Ref sig .tc := ⟨.hbm, 407, rfl⟩
abbrev main_call19_v15 : Ref sig .tc := ⟨.hbm, 408, rfl⟩
abbrev main_v175 : Ref sig .tc := ⟨.hbm, 409, rfl⟩
abbrev main_call20_c : Ref sig .tc := ⟨.hbm, 410, rfl⟩
abbrev main_call20_v0 : Ref sig .tc := ⟨.hbm, 411, rfl⟩
abbrev main_call20_v1 : Ref sig .tc := ⟨.hbm, 412, rfl⟩
abbrev main_call20_c_0 : Ref sig .tc := ⟨.hbm, 413, rfl⟩
abbrev main_call20_v2 : Ref sig .tc := ⟨.hbm, 414, rfl⟩
abbrev main_call20_v3 : Ref sig .tc := ⟨.hbm, 415, rfl⟩
abbrev main_call20_v4 : Ref sig .tc := ⟨.hbm, 416, rfl⟩
abbrev main_call20_v5 : Ref sig .tc := ⟨.hbm, 417, rfl⟩
abbrev main_call20_c_1 : Ref sig .tc := ⟨.hbm, 418, rfl⟩
abbrev main_call20_c_2 : Ref sig .tc := ⟨.hbm, 419, rfl⟩
abbrev main_call20_v6 : Ref sig .tc := ⟨.hbm, 420, rfl⟩
abbrev main_call20_v7 : Ref sig .tc := ⟨.hbm, 421, rfl⟩
abbrev main_call20_v8 : Ref sig .tc := ⟨.hbm, 422, rfl⟩
abbrev main_call20_v9 : Ref sig .tc := ⟨.hbm, 423, rfl⟩
abbrev main_call20_v10 : Ref sig .tc := ⟨.hbm, 424, rfl⟩
abbrev main_call20_v11 : Ref sig .tc := ⟨.hbm, 425, rfl⟩
abbrev main_call20_c_3 : Ref sig .tc := ⟨.hbm, 426, rfl⟩
abbrev main_call20_v12 : Ref sig .tc := ⟨.hbm, 427, rfl⟩
abbrev main_call20_v13 : Ref sig .tc := ⟨.hbm, 428, rfl⟩
abbrev main_call20_v14 : Ref sig .tc := ⟨.hbm, 429, rfl⟩
abbrev main_call20_cst : Ref sig .tc := ⟨.hbm, 430, rfl⟩
abbrev main_call20_v15 : Ref sig .tc := ⟨.hbm, 431, rfl⟩
abbrev main_v176 : Ref sig .tc := ⟨.hbm, 432, rfl⟩
abbrev main_v177 : Ref sig .tc := ⟨.hbm, 433, rfl⟩
abbrev main_v178 : Ref sig .tc := ⟨.hbm, 434, rfl⟩
abbrev main_v179 : Ref sig .tc := ⟨.hbm, 435, rfl⟩
abbrev main_cst_57 : Ref sig .tc := ⟨.hbm, 436, rfl⟩
abbrev main_v180 : Ref sig .tc := ⟨.hbm, 437, rfl⟩
abbrev main_v181 : Ref sig .tc := ⟨.hbm, 438, rfl⟩
abbrev main_v182 : Ref sig .tc := ⟨.hbm, 439, rfl⟩
abbrev main_v183 : Ref sig .tc := ⟨.hbm, 440, rfl⟩
abbrev main_c_58 : Ref sig .tc := ⟨.hbm, 441, rfl⟩
abbrev main_call21_v0 : Ref sig .tc := ⟨.hbm, 442, rfl⟩
abbrev main_call21_v1 : Ref sig .tc := ⟨.hbm, 443, rfl⟩
abbrev main_v184 : Ref sig .tc := ⟨.hbm, 444, rfl⟩
abbrev main_v185 : Ref sig .tc := ⟨.hbm, 445, rfl⟩
abbrev main_c_59 : Ref sig .tc := ⟨.hbm, 446, rfl⟩
abbrev main_c_60 : Ref sig .tc := ⟨.hbm, 447, rfl⟩
abbrev main_call22_v0 : Ref sig .tc := ⟨.hbm, 448, rfl⟩
abbrev main_call22_v1 : Ref sig .tc := ⟨.hbm, 449, rfl⟩
abbrev main_call22_v2 : Ref sig .tc := ⟨.hbm, 450, rfl⟩
abbrev main_call22_v3 : Ref sig .tc := ⟨.hbm, 451, rfl⟩
abbrev main_call22_v4 : Ref sig .tc := ⟨.hbm, 452, rfl⟩
abbrev main_v186 : Ref sig .tc := ⟨.hbm, 453, rfl⟩
abbrev main_v187 : Ref sig .tc := ⟨.hbm, 454, rfl⟩
abbrev main_v188 : Ref sig .tc := ⟨.hbm, 455, rfl⟩
abbrev main_v189 : Ref sig .tc := ⟨.hbm, 456, rfl⟩
abbrev main_v190 : Ref sig .tc := ⟨.hbm, 457, rfl⟩
abbrev main_v191 : Ref sig .tc := ⟨.hbm, 458, rfl⟩
abbrev main_v192 : Ref sig .tc := ⟨.hbm, 459, rfl⟩
abbrev main_cst_61 : Ref sig .tc := ⟨.hbm, 460, rfl⟩
abbrev main_v193 : Ref sig .tc := ⟨.hbm, 461, rfl⟩
abbrev main_v194 : Ref sig .tc := ⟨.hbm, 462, rfl⟩
abbrev main_cst_62 : Ref sig .tc := ⟨.hbm, 463, rfl⟩
abbrev main_cst_63 : Ref sig .tc := ⟨.hbm, 464, rfl⟩
abbrev main_call23_v0 : Ref sig .tc := ⟨.hbm, 465, rfl⟩
abbrev main_call23_v1 : Ref sig .tc := ⟨.hbm, 466, rfl⟩
abbrev main_call23_v2 : Ref sig .tc := ⟨.hbm, 467, rfl⟩
abbrev main_call23_v3 : Ref sig .tc := ⟨.hbm, 468, rfl⟩
abbrev main_call23_v4 : Ref sig .tc := ⟨.hbm, 469, rfl⟩
abbrev main_v195 : Ref sig .tc := ⟨.hbm, 470, rfl⟩
abbrev main_v196 : Ref sig .tc := ⟨.hbm, 471, rfl⟩
abbrev main_v197 : Ref sig .tc := ⟨.hbm, 472, rfl⟩
abbrev main_v198 : Ref sig .tc := ⟨.hbm, 473, rfl⟩
abbrev main_v199 : Ref sig .tc := ⟨.hbm, 474, rfl⟩
abbrev main_cst_64 : Ref sig .tc := ⟨.hbm, 475, rfl⟩
abbrev main_v200 : Ref sig .tc := ⟨.hbm, 476, rfl⟩
abbrev main_v201 : Ref sig .tc := ⟨.hbm, 477, rfl⟩
abbrev main_v202 : Ref sig .tc := ⟨.hbm, 478, rfl⟩
abbrev main_v203 : Ref sig .tc := ⟨.hbm, 479, rfl⟩
abbrev main_cst_65 : Ref sig .tc := ⟨.hbm, 480, rfl⟩
abbrev main_v204 : Ref sig .tc := ⟨.hbm, 481, rfl⟩
abbrev main_v205 : Ref sig .tc := ⟨.hbm, 482, rfl⟩
abbrev main_v206 : Ref sig .tc := ⟨.hbm, 483, rfl⟩
abbrev main_v207 : Ref sig .tc := ⟨.hbm, 484, rfl⟩
abbrev main_v208 : Ref sig .tc := ⟨.hbm, 485, rfl⟩
abbrev main_v209 : Ref sig .tc := ⟨.hbm, 486, rfl⟩
abbrev main_v210 : Ref sig .tc := ⟨.hbm, 487, rfl⟩
abbrev main_cst_66 : Ref sig .tc := ⟨.hbm, 488, rfl⟩
abbrev main_v211 : Ref sig .tc := ⟨.hbm, 489, rfl⟩
abbrev main_v212 : Ref sig .tc := ⟨.hbm, 490, rfl⟩
abbrev main_v213 : Ref sig .tc := ⟨.hbm, 491, rfl⟩
abbrev main_v214 : Ref sig .tc := ⟨.hbm, 492, rfl⟩
abbrev main_v215 : Ref sig .tc := ⟨.hbm, 493, rfl⟩
abbrev main_v216 : Ref sig .tc := ⟨.hbm, 494, rfl⟩
abbrev main_v217 : Ref sig .tc := ⟨.hbm, 495, rfl⟩
abbrev main_v218 : Ref sig .tc := ⟨.hbm, 496, rfl⟩
abbrev main_v219 : Ref sig .tc := ⟨.hbm, 497, rfl⟩
abbrev main_cst_67 : Ref sig .tc := ⟨.hbm, 498, rfl⟩
abbrev main_v220 : Ref sig .tc := ⟨.hbm, 499, rfl⟩
abbrev main_v221 : Ref sig .tc := ⟨.hbm, 500, rfl⟩
abbrev main_v222 : Ref sig .tc := ⟨.hbm, 501, rfl⟩
abbrev main_cst_68 : Ref sig .tc := ⟨.hbm, 502, rfl⟩
abbrev main_v223 : Ref sig .tc := ⟨.hbm, 503, rfl⟩
abbrev main_v224 : Ref sig .tc := ⟨.hbm, 504, rfl⟩
abbrev main_v225 : Ref sig .tc := ⟨.hbm, 505, rfl⟩
abbrev main_cst_69 : Ref sig .tc := ⟨.hbm, 506, rfl⟩
abbrev main_v226 : Ref sig .tc := ⟨.hbm, 507, rfl⟩
abbrev main_v227 : Ref sig .tc := ⟨.hbm, 508, rfl⟩
abbrev main_cst_70 : Ref sig .tc := ⟨.hbm, 509, rfl⟩
abbrev main_call24_v0 : Ref sig .tc := ⟨.hbm, 510, rfl⟩
abbrev main_call24_v1 : Ref sig .tc := ⟨.hbm, 511, rfl⟩
abbrev main_v228 : Ref sig .tc := ⟨.hbm, 512, rfl⟩
abbrev main_cst_71 : Ref sig .tc := ⟨.hbm, 513, rfl⟩
abbrev main_v229 : Ref sig .tc := ⟨.hbm, 514, rfl⟩
abbrev main_v230 : Ref sig .tc := ⟨.hbm, 515, rfl⟩
abbrev main_v231 : Ref sig .tc := ⟨.hbm, 516, rfl⟩
abbrev main_cst_72 : Ref sig .tc := ⟨.hbm, 517, rfl⟩
abbrev main_call25_v0 : Ref sig .tc := ⟨.hbm, 518, rfl⟩
abbrev main_call25_v1 : Ref sig .tc := ⟨.hbm, 519, rfl⟩
abbrev main_call25_v2 : Ref sig .tc := ⟨.hbm, 520, rfl⟩
abbrev main_v232 : Ref sig .tc := ⟨.hbm, 521, rfl⟩
abbrev main_v233 : Ref sig .tc := ⟨.hbm, 522, rfl⟩
abbrev main_cst_73 : Ref sig .tc := ⟨.hbm, 523, rfl⟩
abbrev main_v234 : Ref sig .tc := ⟨.hbm, 524, rfl⟩
abbrev main_v235 : Ref sig .tc := ⟨.hbm, 525, rfl⟩
abbrev main_cst_74 : Ref sig .tc := ⟨.hbm, 526, rfl⟩
abbrev main_v236 : Ref sig .tc := ⟨.hbm, 527, rfl⟩
abbrev main_v237 : Ref sig .tc := ⟨.hbm, 528, rfl⟩
abbrev main_cst_75 : Ref sig .tc := ⟨.hbm, 529, rfl⟩
abbrev main_call26_v0 : Ref sig .tc := ⟨.hbm, 530, rfl⟩
abbrev main_call26_v1 : Ref sig .tc := ⟨.hbm, 531, rfl⟩
abbrev main_v238 : Ref sig .tc := ⟨.hbm, 532, rfl⟩
abbrev main_cst_76 : Ref sig .tc := ⟨.hbm, 533, rfl⟩
abbrev main_call27_v0 : Ref sig .tc := ⟨.hbm, 534, rfl⟩
abbrev main_call27_v1 : Ref sig .tc := ⟨.hbm, 535, rfl⟩
abbrev main_call27_v2 : Ref sig .tc := ⟨.hbm, 536, rfl⟩
abbrev main_call27_cst : Ref sig .tc := ⟨.hbm, 537, rfl⟩
abbrev main_call27_v3 : Ref sig .tc := ⟨.hbm, 538, rfl⟩
abbrev main_call27_v4 : Ref sig .tc := ⟨.hbm, 539, rfl⟩
abbrev main_call27_cst_0 : Ref sig .tc := ⟨.hbm, 540, rfl⟩
abbrev main_call27_v5 : Ref sig .tc := ⟨.hbm, 541, rfl⟩
abbrev main_call27_v6 : Ref sig .tc := ⟨.hbm, 542, rfl⟩
abbrev main_call27_cst_1 : Ref sig .tc := ⟨.hbm, 543, rfl⟩
abbrev main_call27_v7 : Ref sig .tc := ⟨.hbm, 544, rfl⟩
abbrev main_call27_v8 : Ref sig .tc := ⟨.hbm, 545, rfl⟩
abbrev main_call27_v9 : Ref sig .tc := ⟨.hbm, 546, rfl⟩
abbrev main_call27_v10 : Ref sig .tc := ⟨.hbm, 547, rfl⟩
abbrev main_call27_v11 : Ref sig .tc := ⟨.hbm, 548, rfl⟩
abbrev main_call27_v12 : Ref sig .tc := ⟨.hbm, 549, rfl⟩
abbrev main_v239 : Ref sig .tc := ⟨.hbm, 550, rfl⟩
abbrev main_cst_77 : Ref sig .tc := ⟨.hbm, 551, rfl⟩
abbrev main_v240 : Ref sig .tc := ⟨.hbm, 552, rfl⟩
abbrev main_v241 : Ref sig .tc := ⟨.hbm, 553, rfl⟩
abbrev main_cst_78 : Ref sig .tc := ⟨.hbm, 554, rfl⟩
abbrev main_v242 : Ref sig .tc := ⟨.hbm, 555, rfl⟩
abbrev main_v243 : Ref sig .tc := ⟨.hbm, 556, rfl⟩
abbrev main_v244 : Ref sig .tc := ⟨.hbm, 557, rfl⟩
abbrev main_cst_79 : Ref sig .tc := ⟨.hbm, 558, rfl⟩
abbrev main_call28_v0 : Ref sig .tc := ⟨.hbm, 559, rfl⟩
abbrev main_call28_v1 : Ref sig .tc := ⟨.hbm, 560, rfl⟩
abbrev main_call28_v2 : Ref sig .tc := ⟨.hbm, 561, rfl⟩
abbrev main_call28_cst : Ref sig .tc := ⟨.hbm, 562, rfl⟩
abbrev main_call28_v3 : Ref sig .tc := ⟨.hbm, 563, rfl⟩
abbrev main_call28_v4 : Ref sig .tc := ⟨.hbm, 564, rfl⟩
abbrev main_call28_cst_0 : Ref sig .tc := ⟨.hbm, 565, rfl⟩
abbrev main_call28_v5 : Ref sig .tc := ⟨.hbm, 566, rfl⟩
abbrev main_call28_v6 : Ref sig .tc := ⟨.hbm, 567, rfl⟩
abbrev main_call28_cst_1 : Ref sig .tc := ⟨.hbm, 568, rfl⟩
abbrev main_call28_v7 : Ref sig .tc := ⟨.hbm, 569, rfl⟩
abbrev main_call28_v8 : Ref sig .tc := ⟨.hbm, 570, rfl⟩
abbrev main_call28_v9 : Ref sig .tc := ⟨.hbm, 571, rfl⟩
abbrev main_call28_v10 : Ref sig .tc := ⟨.hbm, 572, rfl⟩
abbrev main_call28_v11 : Ref sig .tc := ⟨.hbm, 573, rfl⟩
abbrev main_call28_v12 : Ref sig .tc := ⟨.hbm, 574, rfl⟩
abbrev main_v245 : Ref sig .tc := ⟨.hbm, 575, rfl⟩
abbrev main_cst_80 : Ref sig .tc := ⟨.hbm, 576, rfl⟩
abbrev main_v246 : Ref sig .tc := ⟨.hbm, 577, rfl⟩
abbrev main_v247 : Ref sig .tc := ⟨.hbm, 578, rfl⟩
abbrev main_cst_81 : Ref sig .tc := ⟨.hbm, 579, rfl⟩
abbrev main_v248 : Ref sig .tc := ⟨.hbm, 580, rfl⟩
abbrev main_v249 : Ref sig .tc := ⟨.hbm, 581, rfl⟩
abbrev main_v250 : Ref sig .tc := ⟨.hbm, 582, rfl⟩
abbrev main_v251 : Ref sig .tc := ⟨.hbm, 583, rfl⟩
abbrev main_v252 : Ref sig .tc := ⟨.hbm, 584, rfl⟩
abbrev main_v253 : Ref sig .tc := ⟨.hbm, 585, rfl⟩
abbrev main_v254 : Ref sig .tc := ⟨.hbm, 586, rfl⟩
abbrev main_v255 : Ref sig .tc := ⟨.hbm, 587, rfl⟩
abbrev main_v256 : Ref sig .tc := ⟨.hbm, 588, rfl⟩
abbrev main_v257 : Ref sig .tc := ⟨.hbm, 589, rfl⟩
abbrev main_v258 : Ref sig .tc := ⟨.hbm, 590, rfl⟩
abbrev main_c_82 : Ref sig .tc := ⟨.hbm, 591, rfl⟩
abbrev main_v259 : Ref sig .tc := ⟨.hbm, 592, rfl⟩
abbrev main_v260 : Ref sig .tc := ⟨.hbm, 593, rfl⟩
abbrev main_v261 : Ref sig .tc := ⟨.hbm, 594, rfl⟩
abbrev main_v262 : Ref sig .tc := ⟨.hbm, 595, rfl⟩
abbrev main_v263 : Ref sig .tc := ⟨.hbm, 596, rfl⟩
abbrev main_v264 : Ref sig .tc := ⟨.hbm, 597, rfl⟩
abbrev main_v265 : Ref sig .tc := ⟨.hbm, 598, rfl⟩
abbrev main_v266 : Ref sig .tc := ⟨.hbm, 599, rfl⟩
abbrev main_v267 : Ref sig .tc := ⟨.hbm, 600, rfl⟩
abbrev main_cst_83 : Ref sig .tc := ⟨.hbm, 601, rfl⟩
abbrev main_call29_v0 : Ref sig .tc := ⟨.hbm, 602, rfl⟩
abbrev main_call29_v1 : Ref sig .tc := ⟨.hbm, 603, rfl⟩
abbrev main_call29_v2 : Ref sig .tc := ⟨.hbm, 604, rfl⟩
abbrev main_call29_v3 : Ref sig .tc := ⟨.hbm, 605, rfl⟩
abbrev main_v268 : Ref sig .tc := ⟨.hbm, 606, rfl⟩
abbrev main_v269 : Ref sig .tc := ⟨.hbm, 607, rfl⟩
abbrev main_v270 : Ref sig .tc := ⟨.hbm, 608, rfl⟩
abbrev main_cst_84 : Ref sig .tc := ⟨.hbm, 609, rfl⟩
abbrev main_call30_v0 : Ref sig .tc := ⟨.hbm, 610, rfl⟩
abbrev main_call30_v1 : Ref sig .tc := ⟨.hbm, 611, rfl⟩
abbrev main_call30_v2 : Ref sig .tc := ⟨.hbm, 612, rfl⟩
abbrev main_call30_v3 : Ref sig .tc := ⟨.hbm, 613, rfl⟩
abbrev main_v271 : Ref sig .tc := ⟨.hbm, 614, rfl⟩
abbrev main_v272 : Ref sig .tc := ⟨.hbm, 615, rfl⟩
abbrev main_v273 : Ref sig .tc := ⟨.hbm, 616, rfl⟩
abbrev main_cst_85 : Ref sig .tc := ⟨.hbm, 617, rfl⟩
abbrev main_v274 : Ref sig .tc := ⟨.hbm, 618, rfl⟩
abbrev main_values_86 : Ref sig .tc := ⟨.hbm, 619, rfl⟩
abbrev main_indices_87 : Ref sig .tc := ⟨.hbm, 620, rfl⟩
abbrev main_call31_c : Ref sig .tc := ⟨.hbm, 621, rfl⟩
abbrev main_call31_v0 : Ref sig .tc := ⟨.hbm, 622, rfl⟩
abbrev main_call31_v1 : Ref sig .tc := ⟨.hbm, 623, rfl⟩
abbrev main_call31_c_0 : Ref sig .tc := ⟨.hbm, 624, rfl⟩
abbrev main_call31_v2 : Ref sig .tc := ⟨.hbm, 625, rfl⟩
abbrev main_call31_v3 : Ref sig .tc := ⟨.hbm, 626, rfl⟩
abbrev main_call31_v4 : Ref sig .tc := ⟨.hbm, 627, rfl⟩
abbrev main_call31_v5 : Ref sig .tc := ⟨.hbm, 628, rfl⟩
abbrev main_call31_c_1 : Ref sig .tc := ⟨.hbm, 629, rfl⟩
abbrev main_call31_c_2 : Ref sig .tc := ⟨.hbm, 630, rfl⟩
abbrev main_call31_v6 : Ref sig .tc := ⟨.hbm, 631, rfl⟩
abbrev main_call31_v7 : Ref sig .tc := ⟨.hbm, 632, rfl⟩
abbrev main_call31_v8 : Ref sig .tc := ⟨.hbm, 633, rfl⟩
abbrev main_call31_v9 : Ref sig .tc := ⟨.hbm, 634, rfl⟩
abbrev main_call31_v10 : Ref sig .tc := ⟨.hbm, 635, rfl⟩
abbrev main_call31_v11 : Ref sig .tc := ⟨.hbm, 636, rfl⟩
abbrev main_call31_c_3 : Ref sig .tc := ⟨.hbm, 637, rfl⟩
abbrev main_call31_v12 : Ref sig .tc := ⟨.hbm, 638, rfl⟩
abbrev main_call31_v13 : Ref sig .tc := ⟨.hbm, 639, rfl⟩
abbrev main_call31_v14 : Ref sig .tc := ⟨.hbm, 640, rfl⟩
abbrev main_call31_cst : Ref sig .tc := ⟨.hbm, 641, rfl⟩
abbrev main_call31_v15 : Ref sig .tc := ⟨.hbm, 642, rfl⟩
abbrev main_v275 : Ref sig .tc := ⟨.hbm, 643, rfl⟩
abbrev main_call32_c : Ref sig .tc := ⟨.hbm, 644, rfl⟩
abbrev main_call32_v0 : Ref sig .tc := ⟨.hbm, 645, rfl⟩
abbrev main_call32_v1 : Ref sig .tc := ⟨.hbm, 646, rfl⟩
abbrev main_call32_c_0 : Ref sig .tc := ⟨.hbm, 647, rfl⟩
abbrev main_call32_v2 : Ref sig .tc := ⟨.hbm, 648, rfl⟩
abbrev main_call32_v3 : Ref sig .tc := ⟨.hbm, 649, rfl⟩
abbrev main_call32_v4 : Ref sig .tc := ⟨.hbm, 650, rfl⟩
abbrev main_call32_v5 : Ref sig .tc := ⟨.hbm, 651, rfl⟩
abbrev main_call32_c_1 : Ref sig .tc := ⟨.hbm, 652, rfl⟩
abbrev main_call32_c_2 : Ref sig .tc := ⟨.hbm, 653, rfl⟩
abbrev main_call32_v6 : Ref sig .tc := ⟨.hbm, 654, rfl⟩
abbrev main_call32_v7 : Ref sig .tc := ⟨.hbm, 655, rfl⟩
abbrev main_call32_v8 : Ref sig .tc := ⟨.hbm, 656, rfl⟩
abbrev main_call32_v9 : Ref sig .tc := ⟨.hbm, 657, rfl⟩
abbrev main_call32_v10 : Ref sig .tc := ⟨.hbm, 658, rfl⟩
abbrev main_call32_v11 : Ref sig .tc := ⟨.hbm, 659, rfl⟩
abbrev main_call32_c_3 : Ref sig .tc := ⟨.hbm, 660, rfl⟩
abbrev main_call32_v12 : Ref sig .tc := ⟨.hbm, 661, rfl⟩
abbrev main_call32_v13 : Ref sig .tc := ⟨.hbm, 662, rfl⟩
abbrev main_call32_v14 : Ref sig .tc := ⟨.hbm, 663, rfl⟩
abbrev main_call32_cst : Ref sig .tc := ⟨.hbm, 664, rfl⟩
abbrev main_call32_v15 : Ref sig .tc := ⟨.hbm, 665, rfl⟩
abbrev main_v276 : Ref sig .tc := ⟨.hbm, 666, rfl⟩
abbrev main_v277 : Ref sig .tc := ⟨.hbm, 667, rfl⟩
abbrev main_v278 : Ref sig .tc := ⟨.hbm, 668, rfl⟩
abbrev main_v279 : Ref sig .tc := ⟨.hbm, 669, rfl⟩
abbrev main_cst_88 : Ref sig .tc := ⟨.hbm, 670, rfl⟩
abbrev main_v280 : Ref sig .tc := ⟨.hbm, 671, rfl⟩
abbrev main_v281 : Ref sig .tc := ⟨.hbm, 672, rfl⟩
abbrev main_v282 : Ref sig .tc := ⟨.hbm, 673, rfl⟩
abbrev main_v283 : Ref sig .tc := ⟨.hbm, 674, rfl⟩
abbrev main_c_89 : Ref sig .tc := ⟨.hbm, 675, rfl⟩
abbrev main_call33_v0 : Ref sig .tc := ⟨.hbm, 676, rfl⟩
abbrev main_call33_v1 : Ref sig .tc := ⟨.hbm, 677, rfl⟩
abbrev main_v284 : Ref sig .tc := ⟨.hbm, 678, rfl⟩
abbrev main_v285 : Ref sig .tc := ⟨.hbm, 679, rfl⟩
abbrev main_c_90 : Ref sig .tc := ⟨.hbm, 680, rfl⟩
abbrev main_c_91 : Ref sig .tc := ⟨.hbm, 681, rfl⟩
abbrev main_call34_v0 : Ref sig .tc := ⟨.hbm, 682, rfl⟩
abbrev main_call34_v1 : Ref sig .tc := ⟨.hbm, 683, rfl⟩
abbrev main_call34_v2 : Ref sig .tc := ⟨.hbm, 684, rfl⟩
abbrev main_call34_v3 : Ref sig .tc := ⟨.hbm, 685, rfl⟩
abbrev main_call34_v4 : Ref sig .tc := ⟨.hbm, 686, rfl⟩
abbrev main_v286 : Ref sig .tc := ⟨.hbm, 687, rfl⟩
abbrev main_v287 : Ref sig .tc := ⟨.hbm, 688, rfl⟩
abbrev main_v288 : Ref sig .tc := ⟨.hbm, 689, rfl⟩
abbrev main_v289 : Ref sig .tc := ⟨.hbm, 690, rfl⟩
abbrev main_v290 : Ref sig .tc := ⟨.hbm, 691, rfl⟩
abbrev main_v291 : Ref sig .tc := ⟨.hbm, 692, rfl⟩
abbrev main_v292 : Ref sig .tc := ⟨.hbm, 693, rfl⟩
abbrev main_cst_92 : Ref sig .tc := ⟨.hbm, 694, rfl⟩
abbrev main_v293 : Ref sig .tc := ⟨.hbm, 695, rfl⟩
abbrev main_v294 : Ref sig .tc := ⟨.hbm, 696, rfl⟩
abbrev main_cst_93 : Ref sig .tc := ⟨.hbm, 697, rfl⟩
abbrev main_cst_94 : Ref sig .tc := ⟨.hbm, 698, rfl⟩
abbrev main_call35_v0 : Ref sig .tc := ⟨.hbm, 699, rfl⟩
abbrev main_call35_v1 : Ref sig .tc := ⟨.hbm, 700, rfl⟩
abbrev main_call35_v2 : Ref sig .tc := ⟨.hbm, 701, rfl⟩
abbrev main_call35_v3 : Ref sig .tc := ⟨.hbm, 702, rfl⟩
abbrev main_call35_v4 : Ref sig .tc := ⟨.hbm, 703, rfl⟩
abbrev main_v295 : Ref sig .tc := ⟨.hbm, 704, rfl⟩
abbrev main_v296 : Ref sig .tc := ⟨.hbm, 705, rfl⟩
abbrev main_v297 : Ref sig .tc := ⟨.hbm, 706, rfl⟩
abbrev main_v298 : Ref sig .tc := ⟨.hbm, 707, rfl⟩
abbrev main_v299 : Ref sig .tc := ⟨.hbm, 708, rfl⟩

abbrev nD : Nat := 1
abbrev τ : Topo := Topo.v7x

variable {F : FTy → Type} [FloatOps F]
-- ==== Proof.Sort.lean ====
/- The order of the cells: the kernel's stable argsort of the negated scores and the reference's `top_k` pick the same cell at
   every rank. -/
module

public import Idealize.ShloMosaic.PureOps
public import Idealize.ShloMosaic.Lib.SortFacts
public import Idealize.ShloMosaic.Lib.ValueIdx
public import Idealize.ShloMosaic.Lib.IdealHost
public import Idealize.ShloMosaic.Lib.Routing.Shapes

@[expose] public section

noncomputable section

namespace Cert.Targets

open Idealize.ShloMosaic Idealize.ShloMosaic.ValueIdx Idealize.ShloMosaic.Routing

/-- The cell at a rank: the stable descending order of the scores `s`, equal scores by position. -/
def rankFrom {N : Nat} (s : FVec Ideal (shape1 N) .f32) : Fin N → Fin N :=
  sortedFrom fun k k' => Ideal.cmp .ogt (s (ix1 k)) (s (ix1 k')) == 1#1

theorem along_ix1 {N : Nat} (i k : Fin N) : (ix1 i : (shape1 N).Idx).along 0 k = ix1 k := by
  funext d
  match d with
  | ⟨0, _⟩ => exact Function.update_self _ _ _

/-- Of two negated extended reals the lesser is the negation of the greater. -/
theorem cmp_neg (a b : EReal) : Ideal.cmp .olt (-a) (-b) = Ideal.cmp .ogt a b := by
  simp [Ideal.cmp, EReal.neg_lt_neg_iff]

/-- The second result of a sort of a vector with the positions beside it, read at a rank: the position sorted there. -/
theorem sort2_iota_at {N : Nat} {α : Type} (x : (shape1 N).Idx → α) (cmpr : α × BitVec 32 → α × BitVec 32 → BitVec 1)
    (r : α → α → BitVec 1) (hc : ∀ a b (i j : Fin N), cmpr (x (ix1 a), BitVec.ofNat 32 i.val) (x (ix1 b), BitVec.ofNat 32 j.val) = r (x (ix1 a)) (x (ix1 b)))
    (k : Fin N) :
    (Host.sort2 (shape1 N) 0 cmpr x (iotaInDim (shape1 N) 32 0)).2 (ix1 k)
      = BitVec.ofNat 32 (sortedFrom (fun a b : Fin N => r (x (ix1 a)) (x (ix1 b)) == 1#1) k).val := by
  have ha : ∀ t : Fin N, (ix1 k : (shape1 N).Idx).along 0 t = ix1 t := along_ix1 k
  have e : (fun a b : Fin N => cmpr (x ((ix1 k : (shape1 N).Idx).along 0 a), iotaInDim (shape1 N) 32 0 ((ix1 k : (shape1 N).Idx).along 0 a))
        (x ((ix1 k : (shape1 N).Idx).along 0 b), iotaInDim (shape1 N) 32 0 ((ix1 k : (shape1 N).Idx).along 0 b)) == 1#1)
      = fun a b => r (x (ix1 a)) (x (ix1 b)) == 1#1 := by
    funext a b
    rw [ha, ha]
    exact congrArg (· == 1#1) (hc a b a b)
  show iotaInDim (shape1 N) 32 0 ((ix1 k : (shape1 N).Idx).along 0 (sortedFrom (fun a b : Fin N => cmpr (x ((ix1 k : (shape1 N).Idx).along 0 a), iotaInDim (shape1 N) 32 0 ((ix1 k : (shape1 N).Idx).along 0 a))
        (x ((ix1 k : (shape1 N).Idx).along 0 b), iotaInDim (shape1 N) 32 0 ((ix1 k : (shape1 N).Idx).along 0 b)) == 1#1) k)) = _
  rw [e]
  exact congrArg (iotaInDim (shape1 N) 32 0) (ha _)

/-- The stable argsort of the negated scores, read at a rank. -/
theorem argsort_at {N : Nat} (s : FVec Ideal (shape1 N) .f32)
    (cmpr : EReal × BitVec 32 → EReal × BitVec 32 → BitVec 1) (hc : ∀ l r, cmpr l r = Ideal.cmp .olt l.1 r.1) (k : Fin N) :
    (Host.sort2 (shape1 N) 0 cmpr (Host.negf s) (iotaInDim (shape1 N) 32 0)).2 (ix1 k) = BitVec.ofNat 32 (rankFrom s k).val := by
  rw [sort2_iota_at (Host.negf s) cmpr (fun a b => Ideal.cmp .olt a b) (fun a b i j => hc _ _) k]
  have e : (fun a b : Fin N => Ideal.cmp .olt (Host.negf s (ix1 a)) (Host.negf s (ix1 b)) == 1#1)
      = fun a b => Ideal.cmp .ogt (s (ix1 a)) (s (ix1 b)) == 1#1 := by
    funext a b
    exact congrArg (· == 1#1) (cmp_neg _ _)
  exact congrArg (fun R => BitVec.ofNat 32 (sortedFrom R k).val) e

/-- The indices of `top_k` of the scores, read at a rank. -/
theorem topk_at {N K : Nat} (s : FVec Ideal (shape1 N) .f32) (h : (shape1 N).Slices (fun _ => 0) (shape1 K)) (hK : K ≤ N) (k : Fin K) :
    (Host.topK (shape1 K) 0 (FloatOps.cmpfTotal (F := Ideal) (φ := .f32) .gt) s h).2 (ix1 k) = BitVec.ofNat 32 (rankFrom s (k.castLE hK)).val := by
  have hj : (fun a : Fin (shape1 N).rank => (⟨0 + ((ix1 k : (shape1 K).Idx) (a.cast h.1.symm)).val,
      Nat.lt_of_lt_of_le (Nat.add_lt_add_left (Fin.isLt _) _) (h.2 a)⟩ : Fin ((shape1 N).size a))) = ix1 (k.castLE hK) := by
    funext a
    match a with
    | ⟨0, _⟩ => exact Fin.ext (Nat.zero_add _)
  show (Host.sort2 (shape1 N) 0 (fun l r : EReal × BitVec 32 => Ideal.cmp .ogt l.1 r.1) s (iotaInDim (shape1 N) 32 0)).2
    (fun a : Fin (shape1 N).rank => (⟨0 + ((ix1 k : (shape1 K).Idx) (a.cast h.1.symm)).val,
      Nat.lt_of_lt_of_le (Nat.add_lt_add_left (Fin.isLt _) _) (h.2 a)⟩ : Fin ((shape1 N).size a))) = _
  rw [hj]
  exact sort2_iota_at s _ (fun a b => Ideal.cmp .ogt a b) (fun _ _ _ _ => rfl) (k.castLE hK)

end Cert.Targets

end
-- ==== Proof.Words.lean ====
/- Index words, at any number of ranks: `//`, `%` and the wrap of a negative index on words, and the read of a table's entry at a
   pair of index words. -/
module

public import Idealize.ShloMosaic.PureOps
public import Idealize.ShloMosaic.Lib.ValueIdx
public import Idealize.ShloMosaic.Lib.Routing.Shapes
public import Idealize.ShloMosaic.Lib.Routing.Ops
public import Idealize.ShloMosaic.Lib.Routing.OpsSet
public import Idealize.ShloMosaic.Lib.Routing.OpsPair
public import Idealize.ShloMosaic.Lib.Routing.OpsSearch

@[expose] public section

noncomputable section

namespace Cert.Targets

open Idealize.ShloMosaic Idealize.ShloMosaic.ValueIdx Idealize.ShloMosaic.Routing Idealize.ShloMosaic.WordCmp

/-- `table[i, j]`: where the two index words at `p` are the words of a row `r` and a column `c` of the table, entry `p` of the result
    is the table's entry `(r, c)`. -/
theorem gather_pair {α : Type} {R C n : Nat} (d : GatherDims (shape2 R C) (shape2 n 2) (shape1 n)) (hoff : d.offsetDims = [])
    (hcoll : d.collapsedSliceDims = [0, 1]) (hob : d.operandBatchingDims = []) (hsim : d.startIndexMap = [0, 1]) (hivd : d.indexVectorDim = 1)
    (x : (shape2 R C).Idx → α) (idx : IVec (shape2 n 2) 32) (p : Fin n) (r : Fin R) (c : Fin C)
    (hr : idx (ix2 p (0 : Fin 2)) = BitVec.ofNat 32 r.val) (hc : idx (ix2 p (1 : Fin 2)) = BitVec.ofNat 32 c.val)
    (hR : R < 2 ^ 31) (hC : C < 2 ^ 31) : Host.gather d x idx (ix1 p) = x (ix2 r c) := by
  unfold Host.gather
  refine congrArg x (funext fun a => Fin.ext ?_)
  have hbN : ∀ a', a' ∉ d.operandBatchingDims := fun a' => by rw [hob]; exact List.not_mem_nil
  have hkN : ∀ a' : Fin 2, a' ∉ d.sKept := fun a' h => ((d.mem_sKept a').1 h).1 (by rw [hcoll]; match a' with | ⟨0, _⟩ => simp | ⟨1, _⟩ => simp)
  have hm : ∀ a' : Fin 2, a' ∈ d.startIndexMap := fun a' => by rw [hsim]; match a' with | ⟨0, _⟩ => simp | ⟨1, _⟩ => simp
  have hsl : ∀ a' : Fin 2, d.sliceSizes a' = 1 := fun a' => d.slice_collapsed a' (by rw [hcoll]; match a' with | ⟨0, _⟩ => simp | ⟨1, _⟩ => simp)
  have e0 : ∀ X : Fin 1, ((ix1 p : (shape1 n).Idx) X).val = p.val := fun X => by match X with | ⟨0, _⟩ => rfl
  have hpos : ∀ a' : Fin 2, d.startIndexMap.idxOf a' = a'.val := fun a' => by rw [hsim]; match a' with | ⟨0, _⟩ => simp | ⟨1, _⟩ => simp
  have hsi : ∀ a' : Fin 2, d.siIdx (ix1 p) ⟨d.startIndexMap.idxOf a', List.idxOf_lt_length_iff.2 (hm a')⟩ = ix2 p a' := fun a' => by
    funext b'
    apply Fin.ext
    match b' with
    | ⟨0, _⟩ =>
      unfold GatherDims.siIdx
      rw [dif_neg (by rw [hivd]; exact Nat.zero_ne_one)]
      unfold GatherDims.siCoord
      simp only [Fin.val_cast]
      exact e0 _
    | ⟨1, _⟩ =>
      unfold GatherDims.siIdx
      rw [dif_pos (by rw [hivd])]
      exact hpos a'
  have hrl := r.isLt
  have hcl := c.isLt
  have main : ∀ (a' : Fin 2) (v : Nat), idx (ix2 p a') = BitVec.ofNat 32 v → v < (shape2 R C).size a' → (shape2 R C).size a' < 2 ^ 31 →
      d.start (ix1 p) idx a' + d.batchCoord (ix1 p) a' + d.offCoord (ix1 p) a' = v := fun a' v hv hlt hb => by
    rw [d.batchCoord_eq_zero _ _ (hbN a'), d.offCoord_eq_zero _ _ (hkN a')]
    simp only [Nat.add_zero]
    unfold GatherDims.start
    rw [dif_pos (hm a'), hsi a', hv, hsl a', StableHlo.Predicate.toInt_ofNat_small _ (by omega)]
    show min ((v : Int)).toNat ((shape2 R C).size a' - 1) = v
    omega
  match a with
  | ⟨0, _⟩ => exact main 0 r.val hr hrl hR
  | ⟨1, _⟩ => exact main 1 c.val hc hcl hC

/-- A scalar spread over a vector. -/
def spread {α : Type} {K : Nat} (h : shape0.BroadcastsInDim (shape1 K) (![] : Fin 0 → Fin (shape1 K).rank)) (v : shape0.Idx → α) : (shape1 K).Idx → α :=
  broadcastInDim (shape1 K) ![] h v

/-- Every entry of a spread scalar is the scalar. -/
theorem spread_at {α : Type} {K : Nat} (h : shape0.BroadcastsInDim (shape1 K) (![] : Fin 0 → Fin (shape1 K).rank)) (v : shape0.Idx → α)
    (i : (shape1 K).Idx) : spread h v i = v ix0 := bc0 h v i

/-- `x // d` on words, floor division, the divisor one scalar. -/
def floorDivV {K : Nat} (h : shape0.BroadcastsInDim (shape1 K) (![] : Fin 0 → Fin (shape1 K).rank)) (x : IVec (shape1 K) 32) (d : IVec shape0 32) :
    IVec (shape1 K) 32 :=
  select (andi (cmpi .ne (signi x) (spread h (signi d))) (cmpi .ne (Host.remsi x (spread h d)) (spread h (constantI shape0 32 0#32))))
    (subi (Host.divsi x (spread h d)) (spread h (constantI shape0 32 1#32))) (Host.divsi x (spread h d))

/-- The divisor of `%`: one in place of zero. -/
def modDiv (d : IVec shape0 32) : IVec shape0 32 := select (cmpi .eq d (constantI shape0 32 0#32)) (constantI shape0 32 1#32) d

/-- `x % d` on words, the sign of the divisor, the divisor one scalar. -/
def modV {K : Nat} (h : shape0.BroadcastsInDim (shape1 K) (![] : Fin 0 → Fin (shape1 K).rank)) (x : IVec (shape1 K) 32) (d : IVec shape0 32) :
    IVec (shape1 K) 32 :=
  select
    (andi (cmpi .ne (cmpi .slt (Host.remsi x (spread h (modDiv d))) (spread h (constantI shape0 32 0#32)))
        (spread h (cmpi .slt (modDiv d) (constantI shape0 32 0#32))))
      (cmpi .ne (Host.remsi x (spread h (modDiv d))) (spread h (constantI shape0 32 0#32))))
    (addi (Host.remsi x (spread h (modDiv d))) (spread h (modDiv d))) (Host.remsi x (spread h (modDiv d)))

/-- An index word counted from the end where it is negative. -/
def wrapV {K : Nat} (h : shape0.BroadcastsInDim (shape1 K) (![] : Fin 0 → Fin (shape1 K).rank)) (n : BitVec 32) (x : IVec (shape1 K) 32) :
    IVec (shape1 K) 32 :=
  select (cmpi .slt x (spread h (constantI shape0 32 0#32))) (addi x (spread h (constantI shape0 32 n))) x

/-- Floor division of the word of `a` by the word of `b` is the word of `a / b`. -/
theorem floorDivV_at {K : Nat} (h : shape0.BroadcastsInDim (shape1 K) (![] : Fin 0 → Fin (shape1 K).rank)) (x : IVec (shape1 K) 32) (k : Fin K) {a b : Nat}
    (hx : x (ix1 k) = BitVec.ofNat 32 a) (ha : a < 2 ^ 31) (h0 : 0 < b) (hb : b < 2 ^ 31) :
    floorDivV h x (constantI shape0 32 (BitVec.ofNat 32 b)) (ix1 k) = BitVec.ofNat 32 (a / b) := by
  have e := pyDiv0_ap (fun _ => x (ix1 k)) (constantI shape0 32 (BitVec.ofNat 32 b)) hx rfl ha h0 hb
  refine Eq.trans ?_ e
  simp only [floorDivV, pyDiv0, select_at, andi_at, cmpi_at, subi_ap, spread_at, Host.remsi_apply, Host.divsi_apply, signi_apply]

/-- The remainder of the word of `a` by the word of `b` is the word of `a % b`. -/
theorem modV_at {K : Nat} (h : shape0.BroadcastsInDim (shape1 K) (![] : Fin 0 → Fin (shape1 K).rank)) (x : IVec (shape1 K) 32) (k : Fin K) {a b : Nat}
    (hx : x (ix1 k) = BitVec.ofNat 32 a) (ha : a < 2 ^ 31) (h0 : 0 < b) (hb : b < 2 ^ 31) :
    modV h x (constantI shape0 32 (BitVec.ofNat 32 b)) (ix1 k) = BitVec.ofNat 32 (a % b) := by
  have hd : ∀ i, modDiv (constantI shape0 32 (BitVec.ofNat 32 b)) i = BitVec.ofNat 32 b := fun i => by
    simp only [modDiv, select_at, cmpi_at, constantI_at]
    rw [cmpi_eq_eq, select_decide]
    exact if_neg (ofNat32_ne_zero h0 (show b < 2 ^ 32 by omega))
  have hm : a % b < 2 ^ 31 := Nat.lt_of_le_of_lt (Nat.mod_le _ _) ha
  have e : ∀ c, c < 2 ^ 31 → IntOp.cmpi .slt (BitVec.ofNat 32 c) 0#32 = 0#1 := fun c hc => by
    rw [cmpi_slt_zero, decide_eq_false (Nat.not_le.2 (by rw [toNat_ofNat_of_lt (by omega)]; exact hc))]
    rfl
  simp only [modV, select_at, cmpi_at, andi_at, Host.remsi_apply, spread_at, constantI_at, hd, hx, remsi_word .host ha h0 hb, e _ hm, e _ hb]
  have e' : IntOp.cmpi .ne 0#1 0#1 = 0#1 := by decide
  rw [e']
  show Scalar.select (0#1 &&& _) _ _ = _
  rw [BitVec.zero_and]
  rfl

/-- A word that is not negative is left as it is. -/
theorem wrapV_at {K : Nat} (h : shape0.BroadcastsInDim (shape1 K) (![] : Fin 0 → Fin (shape1 K).rank)) (n : BitVec 32) (x : IVec (shape1 K) 32) (k : Fin K) {a : Nat}
    (hx : x (ix1 k) = BitVec.ofNat 32 a) (ha : a < 2 ^ 31) : wrapV h n x (ix1 k) = BitVec.ofNat 32 a := by
  simp only [wrapV, select_at, cmpi_at, spread_at, constantI_at]
  refine (wrap_of_lt (x (ix1 k)) _ ?_).trans hx
  rw [hx, BitVec.toNat_ofNat]
  exact Nat.lt_of_le_of_lt (Nat.mod_le _ _) ha

end Cert.Targets

end
-- ==== Proof.Select.lean ====
/- The kernel's selection, at any number of ranks `K`: the order of the scores, the position each rank decodes to, the label and offset
   entries read there. -/
module

public import proofs.«01_k».proof.Proof.Sort
public import proofs.«01_k».proof.Proof.Words
public import Idealize.ShloMosaic.PureOps.Ideal
public import Idealize.ShloMosaic.Lib.IdealHost

@[expose] public section

noncomputable section

namespace Cert.Targets

open Idealize.ShloMosaic Idealize.ShloMosaic.ValueIdx Idealize.ShloMosaic.Routing Idealize.ShloMosaic.WordCmp

/-- The shape facts of the selection of `K` ranks. -/
structure SelFacts (K : Nat) : Prop where
  sc : shape0.BroadcastsInDim (shape1 K) (![] : Fin 0 → Fin (shape1 K).rank)
  col : (shape1 K).BroadcastsInDim (shape2 K 1) (![0] : Fin 1 → Fin (shape2 K 1).rank)
  cat : Shape.Concatenates [shape2 K 1, shape2 K 1] (shape2 K 2) (1 : Fin 2)
  sl : (shape1 960000).Slices ![0] (shape1 K)
  one : GatherDims.WF (shape1 960000) (shape2 K 1) (shape1 K) [] [0] [] [0] [] 1 ![1]
  lab : GatherDims.WF (shape2 64 1000) (shape2 K 2) (shape1 K) [] [0, 1] [] [0, 1] [] 1 ![1, 1]
  off : GatherDims.WF (shape2 5 2) (shape2 K 2) (shape1 K) [] [0, 1] [] [0, 1] [] 1 ![1, 1]
  le : K ≤ 960000

variable {K : Nat}

/-- The read of the flat score vector at a column of positions. -/
def flatRead (F : SelFacts K) : GatherDims (shape1 960000) (shape2 K 1) (shape1 K) where
  offsetDims := []
  collapsedSliceDims := [0]
  operandBatchingDims := []
  startIndicesBatchingDims := []
  startIndexMap := [0]
  indexVectorDim := 1
  sliceSizes := ![1]
  wf := F.one

/-- The read of a label table at pairs of (batch, label) words. -/
def labRead (F : SelFacts K) : GatherDims (shape2 64 1000) (shape2 K 2) (shape1 K) where
  offsetDims := []
  collapsedSliceDims := [0, 1]
  operandBatchingDims := []
  startIndicesBatchingDims := []
  startIndexMap := [0, 1]
  indexVectorDim := 1
  sliceSizes := ![1, 1]
  wf := F.lab

/-- The read of the offset table at pairs of (variant, coordinate) words. -/
def offRead (F : SelFacts K) : GatherDims (shape2 5 2) (shape2 K 2) (shape1 K) where
  offsetDims := []
  collapsedSliceDims := [0, 1]
  operandBatchingDims := []
  startIndicesBatchingDims := []
  startIndexMap := [0, 1]
  indexVectorDim := 1
  sliceSizes := ![1, 1]
  wf := F.off

/-- The order of the scores: the positions of the `K` largest, the smaller position first where equal. -/
def orderV (F : SelFacts K) (cmpr : (EReal × BitVec 32) → (EReal × BitVec 32) → BitVec 1) (s : FVec Ideal (shape1 960000) .f32) : IVec (shape1 K) 32 :=
  extractStridedSlice (shape1 K) ![0] (Host.sort2 (shape1 960000) 0 cmpr (Host.negf s) (iotaInDim (shape1 960000) 32 0)).2 F.sl

/-- Whether the score at each rank's position is positive. -/
def pickedV (F : SelFacts K) (s : FVec Ideal (shape1 960000) .f32) (p : IVec (shape1 K) 32) : IVec (shape1 K) 1 :=
  cmpf .ogt (Host.gather (flatRead F) s (broadcastInDim (shape2 K 1) ![0] F.col (wrapV F.sc 960000#32 p)))
    (spread F.sc (constant (F := Ideal) shape0 .f32 0x00000000#32))

/-- Two index vectors side by side. -/
def pairV (F : SelFacts K) (i j : IVec (shape1 K) 32) : IVec (shape2 K 2) 32 :=
  concatenate (shape2 K 2) (1 : Fin 2) [⟨shape2 K 1, broadcastInDim (shape2 K 1) ![0] F.col i⟩, ⟨shape2 K 1, broadcastInDim (shape2 K 1) ![0] F.col j⟩] F.cat

/-- A label table's entries at (batch, label) words. -/
def takeLab (F : SelFacts K) (x : FVec Ideal (shape2 64 1000) .f32) (b n : IVec (shape1 K) 32) : FVec Ideal (shape1 K) .f32 :=
  Host.gather (labRead F) x (pairV F (wrapV F.sc 64#32 b) (wrapV F.sc 1000#32 n))

/-- The offset table's entries at variant words and one coordinate. -/
def takeOff (F : SelFacts K) (x : FVec Ideal (shape2 5 2) .f32) (v : IVec (shape1 K) 32) (c : BitVec 32) : FVec Ideal (shape1 K) .f32 :=
  Host.gather (offRead F) x (pairV F (wrapV F.sc 5#32 v) (id (spread F.sc (constantI shape0 32 c))))

/-- Zero where a rank is not picked. -/
def keepV (F : SelFacts K) (nz : IVec (shape1 K) 1) (t : FVec Ideal (shape1 K) .f32) : FVec Ideal (shape1 K) .f32 :=
  select nz t (spread F.sc (id (constant (F := Ideal) shape0 .f32 0x00000000#32)))

/-- A position word's variant. -/
def varV (F : SelFacts K) (p : IVec (shape1 K) 32) : IVec (shape1 K) 32 := floorDivV F.sc p (id (constantI shape0 32 192000#32))
/-- A position word's place inside its variant. -/
def remV (F : SelFacts K) (p : IVec (shape1 K) 32) : IVec (shape1 K) 32 := modV F.sc p (id (constantI shape0 32 192000#32))
/-- The batch of a place inside a variant. -/
def batV (F : SelFacts K) (r : IVec (shape1 K) 32) : IVec (shape1 K) 32 := floorDivV F.sc r (id (constantI shape0 32 3000#32))
/-- The label of a place inside a variant. -/
def labV (F : SelFacts K) (r : IVec (shape1 K) 32) : IVec (shape1 K) 32 :=
  modV F.sc (floorDivV F.sc r (id (constantI shape0 32 3#32))) (id (constantI shape0 32 1000#32))
/-- The anchor of a place inside a variant. -/
def ancV (F : SelFacts K) (r : IVec (shape1 K) 32) : IVec (shape1 K) 32 := modV F.sc r (id (constantI shape0 32 3#32))

/-- The label entries the launch reads: at each rank's position, zero where the rank is not picked. -/
def labelIn (F : SelFacts K) (s : FVec Ideal (shape1 960000) .f32) (p : IVec (shape1 K) 32) (x : FVec Ideal (shape2 64 1000) .f32) :
    FVec Ideal (shape1 K) .f32 :=
  keepV F (pickedV F s p) (takeLab F x (batV F (remV F p)) (labV F (remV F p)))

/-- The offset entries the launch reads, of one coordinate, zero where the rank is not picked. -/
def offsetIn (F : SelFacts K) (s : FVec Ideal (shape1 960000) .f32) (p : IVec (shape1 K) 32) (x : FVec Ideal (shape2 5 2) .f32) (c : BitVec 32) :
    FVec Ideal (shape1 K) .f32 :=
  keepV F (pickedV F s p) (takeOff F x (varV F p) c)

theorem orderV_at (F : SelFacts K) (cmpr : (EReal × BitVec 32) → (EReal × BitVec 32) → BitVec 1) (hc : ∀ l r, cmpr l r = Ideal.cmp .olt l.1 r.1)
    (s : FVec Ideal (shape1 960000) .f32) (k : Fin K) : orderV F cmpr s (ix1 k) = BitVec.ofNat 32 (rankFrom s (k.castLE F.le)).val := by
  have hk := k.isLt
  have hle := F.le
  unfold orderV
  rw [slice1 0 _ F.sl k (by omega)]
  have e : (⟨0 + k.val, by omega⟩ : Fin 960000) = k.castLE F.le := Fin.ext (Nat.zero_add _)
  rw [e]
  exact argsort_at s cmpr hc _

/-- A rank is picked where the score at its position is positive. -/
theorem pickedV_at (F : SelFacts K) (s : FVec Ideal (shape1 960000) .f32) (p : IVec (shape1 K) 32) (k : Fin K) (q : Fin 960000)
    (hp : p (ix1 k) = BitVec.ofNat 32 q.val) : pickedV F s p (ix1 k) = Ideal.cmp .ogt (s (ix1 q)) 0 := by
  have hq := q.isLt
  unfold pickedV
  have e : Host.gather (flatRead F) s (broadcastInDim (shape2 K 1) ![0] F.col (wrapV F.sc 960000#32 p)) (ix1 k) = s (ix1 q) :=
    gather_take1 _ rfl rfl rfl rfl s _ k q ((bcCol F.col _ k).trans (wrapV_at F.sc _ p k hp (by omega))) (by omega)
  show Ideal.cmp .ogt _ _ = _
  rw [e, spread_at]
  exact congrArg _ Ideal.ofBits_zero_f32

theorem pairV_at0 (F : SelFacts K) (i j : IVec (shape1 K) 32) (k : Fin K) : pairV F i j (ix2 k (0 : Fin 2)) = i (ix1 k) := by
  refine (concatenate_pair_apply_left (t := shape2 K 2) (s₁ := shape2 K 1) (s₂ := shape2 K 1) (1 : Fin 2) _ _ F.cat (ix2 k (0 : Fin 2)) rfl (ix2 k (0 : Fin 1)) fun b => ?_).trans (bcCol F.col i k)
  match b with
  | ⟨0, _⟩ => rfl
  | ⟨1, _⟩ => rfl

theorem pairV_at1 (F : SelFacts K) (i j : IVec (shape1 K) 32) (k : Fin K) : pairV F i j (ix2 k (1 : Fin 2)) = j (ix1 k) := by
  refine (concatenate_pair_apply_right (t := shape2 K 2) (s₁ := shape2 K 1) (s₂ := shape2 K 1) (1 : Fin 2) _ _ F.cat (ix2 k (1 : Fin 2)) rfl rfl (ix2 k (0 : Fin 1)) (fun b hb => ?_) rfl).trans (bcCol F.col j k)
  match b with
  | ⟨0, _⟩ => rfl
  | ⟨1, _⟩ => exact absurd rfl hb

theorem takeLab_at (F : SelFacts K) (x : FVec Ideal (shape2 64 1000) .f32) (b n : IVec (shape1 K) 32) (k : Fin K) (B : Fin 64) (N : Fin 1000)
    (hb : b (ix1 k) = BitVec.ofNat 32 B.val) (hn : n (ix1 k) = BitVec.ofNat 32 N.val) : takeLab F x b n (ix1 k) = x (ix2 B N) := by
  have hB := B.isLt
  have hN := N.isLt
  exact gather_pair (labRead F) rfl rfl rfl rfl rfl x _ k B N ((pairV_at0 F _ _ k).trans (wrapV_at F.sc _ b k hb (by omega)))
    ((pairV_at1 F _ _ k).trans (wrapV_at F.sc _ n k hn (by omega))) (by omega) (by omega)

theorem takeOff_at (F : SelFacts K) (x : FVec Ideal (shape2 5 2) .f32) (v : IVec (shape1 K) 32) (k : Fin K) (V : Fin 5) (C : Fin 2)
    (hv : v (ix1 k) = BitVec.ofNat 32 V.val) : takeOff F x v (BitVec.ofNat 32 C.val) (ix1 k) = x (ix2 V C) := by
  have hV := V.isLt
  exact gather_pair (offRead F) rfl rfl rfl rfl rfl x _ k V C ((pairV_at0 F _ _ k).trans (wrapV_at F.sc _ v k hv (by omega)))
    ((pairV_at1 F _ _ k).trans (spread_at F.sc _ _)) (by omega) (by omega)

theorem keepV_at (F : SelFacts K) (nz : IVec (shape1 K) 1) (t : FVec Ideal (shape1 K) .f32) (k : Fin K) :
    keepV F nz t (ix1 k) = Scalar.select (nz (ix1 k)) (t (ix1 k)) (0 : EReal) := by
  show Scalar.select _ _ (spread F.sc _ (ix1 k)) = _
  rw [spread_at]
  exact congrArg _ Ideal.ofBits_zero_f32

section Decode

variable (F : SelFacts K) (p : IVec (shape1 K) 32) (k : Fin K) {q : Nat}

theorem varV_at (hp : p (ix1 k) = BitVec.ofNat 32 q) (hq : q < 960000) : varV F p (ix1 k) = BitVec.ofNat 32 (q / 192000) :=
  floorDivV_at F.sc p k hp (by omega) (by omega) (by omega)

theorem remV_at (hp : p (ix1 k) = BitVec.ofNat 32 q) (hq : q < 960000) : remV F p (ix1 k) = BitVec.ofNat 32 (q % 192000) :=
  modV_at F.sc p k hp (by omega) (by omega) (by omega)

theorem batV_at (hp : p (ix1 k) = BitVec.ofNat 32 q) (hq : q < 960000) : batV F (remV F p) (ix1 k) = BitVec.ofNat 32 (q % 192000 / 3000) :=
  floorDivV_at F.sc _ k (remV_at F p k hp hq) (by omega) (by omega) (by omega)

theorem labV_at (hp : p (ix1 k) = BitVec.ofNat 32 q) (hq : q < 960000) : labV F (remV F p) (ix1 k) = BitVec.ofNat 32 (q % 192000 / 3 % 1000) :=
  modV_at F.sc _ k (floorDivV_at F.sc _ k (remV_at F p k hp hq) (by omega) (by omega) (by omega)) (by omega) (by omega) (by omega)

theorem ancV_at (hp : p (ix1 k) = BitVec.ofNat 32 q) (hq : q < 960000) : ancV F (remV F p) (ix1 k) = BitVec.ofNat 32 (q % 192000 % 3) :=
  modV_at F.sc _ k (remV_at F p k hp hq) (by omega) (by omega) (by omega)

end Decode

end Cert.Targets

end
-- ==== Proof.Score.lean ====
/- The kernel's host lines before the selection, at one scale: the label columns, the anchor mask, the validity of the five variants, the
   scores. The scale's side is a parameter word, its anchor tables are parameter vectors. -/
module

public import proofs.«01_k».proof.Proof.Gen.KernelIdeal
public import Idealize.ShloMosaic.PureOps.Ideal

@[expose] public section

noncomputable section

namespace Cert.Targets

open Idealize.ShloMosaic Cert.KernelIdeal Cert.KernelIdeal.Facts₀ Cert.KernelIdeal.Facts

/-- One scalar over a `[64, 1000, 3]` table. -/
def all3 (w : BitVec 32) : FVec Ideal S64x1000x3 .f32 := broadcastInDim S64x1000x3 ![] bcast_S_S64x1000x3 (constant (F := Ideal) S_ .f32 w)

/-- The class column. -/
def colC (a : FVec Ideal S64x1000x5 .f32) : FVec Ideal S64x1000 .f32 :=
  shapeCast S64x1000 (extractStridedSlice S64x1000x1 ![0, 0, 0] a slices_S64x1000x5_S64x1000x1_0_0_0) shapeCasts_S64x1000x1_S64x1000

/-- A table times one scalar. -/
def scaled (fs : BitVec 32) (t : FVec Ideal S64x1000 .f32) : FVec Ideal S64x1000 .f32 :=
  mulf t (broadcastInDim S64x1000 ![] bcast_S_S64x1000 (constant (F := Ideal) S_ .f32 fs))

/-- The x column at the scale. -/
def colX (fs : BitVec 32) (a : FVec Ideal S64x1000x5 .f32) : FVec Ideal S64x1000 .f32 :=
  scaled fs (shapeCast S64x1000 (extractStridedSlice S64x1000x1 ![0, 0, 1] a slices_S64x1000x5_S64x1000x1_0_0_1) shapeCasts_S64x1000x1_S64x1000)
/-- The y column at the scale. -/
def colY (fs : BitVec 32) (a : FVec Ideal S64x1000x5 .f32) : FVec Ideal S64x1000 .f32 :=
  scaled fs (shapeCast S64x1000 (extractStridedSlice S64x1000x1 ![0, 0, 2] a slices_S64x1000x5_S64x1000x1_0_0_2) shapeCasts_S64x1000x1_S64x1000)
/-- The width column at the scale. -/
def colW (fs : BitVec 32) (a : FVec Ideal S64x1000x5 .f32) : FVec Ideal S64x1000 .f32 :=
  scaled fs (shapeCast S64x1000 (extractStridedSlice S64x1000x1 ![0, 0, 3] a slices_S64x1000x5_S64x1000x1_0_0_3) shapeCasts_S64x1000x1_S64x1000)
/-- The height column at the scale. -/
def colH (fs : BitVec 32) (a : FVec Ideal S64x1000x5 .f32) : FVec Ideal S64x1000 .f32 :=
  scaled fs (shapeCast S64x1000 (extractStridedSlice S64x1000x1 ![0, 0, 4] a slices_S64x1000x5_S64x1000x1_0_0_4) shapeCasts_S64x1000x1_S64x1000)

/-- Batch 0 of a column over the anchors' sizes. -/
def ratios (t : FVec Ideal S64x1000 .f32) (an : FVec Ideal S1x3 .f32) : FVec Ideal S1000x3 .f32 :=
  Host.divf
    (broadcastInDim S1000x3 ![0, 1] bcast_S1000x1_S1000x3_0_1 (broadcastInDim S1000x1 ![0] bcast_S1000_S1000x1_0
      (shapeCast S1000 (extractStridedSlice S1x1000 ![0, 0] t slices_S64x1000_S1x1000_0_0) shapeCasts_S1x1000_S1000)))
    (broadcastInDim S1000x3 ![0, 1] bcast_S1x3_S1000x3_0_1 an)

/-- A ratio or its inverse, the larger. -/
def worse (r : FVec Ideal S1000x3 .f32) : FVec Ideal S1000x3 .f32 :=
  maximumf r (Host.divf (broadcastInDim S1000x3 ![] bcast_S_S1000x3 (constant (F := Ideal) S_ .f32 0x3F800000#32)) r)

/-- Whether a label fits an anchor. -/
def fitsV (r : FVec Ideal S1000x3 .f32) : IVec S1000x3 1 :=
  cmpf .olt
    (select (cmpf .une r (broadcastInDim S1000x3 ![] bcast_S_S1000x3 (constant (F := Ideal) S_ .f32 0x00000000#32))) r
      (broadcastInDim S1000x3 ![] bcast_S_S1000x3 (id (constant (F := Ideal) S_ .f32 0x477FE000#32))))
    (broadcastInDim S1000x3 ![] bcast_S_S1000x3 (constant (F := Ideal) S_ .f32 0x40800000#32))

/-- The mask of the anchors, from the width and height columns. -/
def maskV (w h : FVec Ideal S64x1000 .f32) (aw ah : FVec Ideal S1x3 .f32) : IVec S1000x3 1 :=
  fitsV (maximumf (worse (ratios w aw)) (worse (ratios h ah)))

/-- The mask at every batch. -/
def mask3 (m : IVec S1000x3 1) : IVec S64x1000x3 1 :=
  broadcastInDim S64x1000x3 ![0, 1, 2] bcast_S1x1000x3_S64x1000x3_0_1_2 (broadcastInDim S1x1000x3 ![1, 2] bcast_S1000x3_S1x1000x3_1_2 m)

/-- A label column as a column of a `[64, 1000, 1]` table. -/
def up (t : FVec Ideal S64x1000 .f32) : FVec Ideal S64x1000x1 .f32 := broadcastInDim S64x1000x1 ![0, 1] bcast_S64x1000_S64x1000x1_0_1 t

/-- A label column at every anchor. -/
def wide (t : FVec Ideal S64x1000x1 .f32) : FVec Ideal S64x1000x3 .f32 := broadcastInDim S64x1000x3 ![0, 1, 2] bcast_S64x1000x1_S64x1000x3_0_1_2 t

/-- The sum of the label columns and the anchor's number, zero where the mask is off. -/
def sumV (m : IVec S1000x3 1) (c x y w h : FVec Ideal S64x1000 .f32) : FVec Ideal S64x1000x3 .f32 :=
  select (mask3 m)
    (addf (wide (addf (addf (up c) (up x)) (addf (up y) (up w))))
      (addf (wide (up h))
        (broadcastInDim S64x1000x3 ![0, 1, 2] bcast_S1x1x3_S64x1000x3_0_1_2 (broadcastInDim S1x1x3 ![2] bcast_S3_S1x1x3_2
          (addf (broadcastInDim S3 ![] bcast_S_S3 (constant (F := Ideal) S_ .f32 0x3F800000#32)) (sitofp .f32 (iotaInDim S3 32 0)))))))
    (broadcastInDim S64x1000x3 ![] bcast_S_S64x1000x3 (id (constant (F := Ideal) S_ .f32 0x00000000#32)))

/-- A label column at every anchor, zero where the mask is off. -/
def keptV (m : IVec S1000x3 1) (t : FVec Ideal S64x1000 .f32) : FVec Ideal S64x1000x3 .f32 :=
  select (mask3 m) (wide (up t)) (broadcastInDim S64x1000x3 ![] bcast_S_S64x1000x3 (id (constant (F := Ideal) S_ .f32 0x00000000#32)))

/-- The distance to the far side, zero where the value is zero. -/
def flipV (fs : BitVec 32) (t : FVec Ideal S64x1000x3 .f32) : FVec Ideal S64x1000x3 .f32 :=
  select (cmpf .une t (all3 0x00000000#32)) (subf (all3 fs) t)
    (broadcastInDim S64x1000x3 ![] bcast_S_S64x1000x3 (id (constant (F := Ideal) S_ .f32 0x00000000#32)))

/-- The remainder by one, of the sign of one. -/
def fracV (t : FVec Ideal S64x1000x3 .f32) : FVec Ideal S64x1000x3 .f32 :=
  let d : FVec Ideal S_ .f32 := id (constant (F := Ideal) S_ .f32 0x3F800000#32)
  let r : FVec Ideal S64x1000x3 .f32 := Host.remf t (broadcastInDim S64x1000x3 ![] bcast_S_S64x1000x3 d)
  select
    (andi (cmpi .ne (cmpf .olt r (all3 0x00000000#32))
        (broadcastInDim S64x1000x3 ![] bcast_S_S64x1000x3 (cmpf .olt d (constant (F := Ideal) S_ .f32 0x00000000#32))))
      (cmpf .une r (all3 0x00000000#32)))
    (addf r (broadcastInDim S64x1000x3 ![] bcast_S_S64x1000x3 d)) r

/-- Whether the fraction is below a half and the value above one. -/
def nearV (t : FVec Ideal S64x1000x3 .f32) : IVec S64x1000x3 1 :=
  andi (cmpf .olt (fracV t) (all3 0x3F000000#32)) (cmpf .ogt t (all3 0x3F800000#32))

/-- A table of one variant as a part of the stack of variants. -/
def layer {α : Type} (t : S64x1000x3.Idx → α) : S1x64x1000x3.Idx → α := broadcastInDim S1x64x1000x3 ![1, 2, 3] bcast_S64x1000x3_S1x64x1000x3_1_2_3 t

/-- The validity of the five variants. -/
def validV (n₁ n₂ n₃ n₄ : IVec S64x1000x3 1) : IVec S5x64x1000x3 1 :=
  concatenate S5x64x1000x3 0 [⟨S1x64x1000x3, layer (broadcastInDim S64x1000x3 ![] bcast_S_S64x1000x3 (constantI S_ 1 1#1))⟩, ⟨S1x64x1000x3, layer n₁⟩,
    ⟨S1x64x1000x3, layer n₂⟩, ⟨S1x64x1000x3, layer n₃⟩, ⟨S1x64x1000x3, layer n₄⟩]
    concatenates_S1x64x1000x3_S1x64x1000x3_S1x64x1000x3_S1x64x1000x3_S1x64x1000x3_S5x64x1000x3_d0

/-- The score of every variant, zero where it is not valid, flat. -/
def scoreV (v : IVec S5x64x1000x3 1) (s : FVec Ideal S64x1000x3 .f32) : FVec Ideal S5x64x1000x3 .f32 :=
  select v (broadcastInDim S5x64x1000x3 ![0, 1, 2, 3] bcast_S1x64x1000x3_S5x64x1000x3_0_1_2_3 (layer s))
    (broadcastInDim S5x64x1000x3 ![] bcast_S_S5x64x1000x3 (id (constant (F := Ideal) S_ .f32 0x00000000#32)))

/-- The scores in one flat vector. -/
def flatV (s : FVec Ideal S5x64x1000x3 .f32) : FVec Ideal S960000 .f32 := shapeCast S960000 s shapeCasts_S5x64x1000x3_S960000

/-- The score vector of a scale, from the labels. -/
def scores (fs : BitVec 32) (aw ah : FVec Ideal S1x3 .f32) (a : FVec Ideal S64x1000x5 .f32) : FVec Ideal S960000 .f32 :=
  let m : IVec S1000x3 1 := maskV (colW fs a) (colH fs a) aw ah
  let x : FVec Ideal S64x1000x3 .f32 := keptV m (colX fs a)
  let y : FVec Ideal S64x1000x3 .f32 := keptV m (colY fs a)
  flatV (scoreV (validV (nearV x) (nearV y) (nearV (flipV fs x)) (nearV (flipV fs y)))
    (sumV m (colC a) (colX fs a) (colY fs a) (colW fs a) (colH fs a)))

end Cert.Targets

end
-- ==== Proof.Stage0.lean ====
/- The kernel's host lines of one scale, 16384 ranks: what they leave in the buffers the launch reads, from the contents before them. -/
module

public import proofs.«01_k».proof.Proof.Gen.KernelIdeal.Launch
public import proofs.«01_k».proof.Proof.Select
public import proofs.«01_k».proof.Proof.Score
public import Idealize.ShloMosaic.Lib.StableHlo.RunRead

@[expose] public section

set_option maxRecDepth 16384
set_option maxHeartbeats 1000000

noncomputable section

namespace Cert.KernelIdeal.Gen

open Idealize.ShloMosaic Idealize.ShloMosaic.StableHlo Cert.Targets

theorem sel0 : SelFacts 16384 where
  sc := bcast_S_S16384
  col := bcast_S16384_S16384x1_0
  cat := concatenates_S16384x1_S16384x1_S16384x2_d1
  sl := slices_S960000_S16384_0
  one := gather_S960000_S16384x1_S16384_n_0_n_n_0_1_1_wf
  lab := gather_S64x1000_S16384x2_S16384_n_01_n_n_01_1_11_wf
  off := gather_S5x2_S16384x2_S16384_n_01_n_n_01_1_11_wf
  le := by decide

/-- The lines up to the masked columns. -/
def lineA0 (V : Valuation τ sig (Elt Ideal)) : Valuation τ sig (Elt Ideal) := after hostOps0_11 (after hostOps0_10 (after hostOps0_9 (after hostOps0_8 (after hostOps0_7 (after hostOps0_6 (after hostOps0_5 (after hostOps0_4 (after hostOps0_3 (after hostOps0_2 (after hostOps0_1 (after hostOps0 V)))))))))))
/-- The lines of the nearness of the four shifted variants. -/
def lineN0 (V : Valuation τ sig (Elt Ideal)) : Valuation τ sig (Elt Ideal) := after hostOps0_19 (after hostOps0_18 (after hostOps0_17 (after hostOps0_16 (after hostOps0_15 (after hostOps0_14 (after hostOps0_13 (after hostOps0_12 V)))))))
/-- The lines of the validity and the scores. -/
def lineM0 (V : Valuation τ sig (Elt Ideal)) : Valuation τ sig (Elt Ideal) := after hostOps0_21 (after hostOps0_20 V)
/-- Both. -/
def lineB0 (V : Valuation τ sig (Elt Ideal)) : Valuation τ sig (Elt Ideal) := lineM0 (lineN0 V)
/-- The lines of the order. -/
def lineC0 (V : Valuation τ sig (Elt Ideal)) : Valuation τ sig (Elt Ideal) := after hostOps0_24 (after hostOps0_23 (after hostOps0_22 V))
/-- The lines of the variant and the place inside it. -/
def lineD0 (V : Valuation τ sig (Elt Ideal)) : Valuation τ sig (Elt Ideal) := after hostOps0_27 (after hostOps0_26 (after hostOps0_25 V))
/-- The lines of the batch, the label and the anchor. -/
def lineE0 (V : Valuation τ sig (Elt Ideal)) : Valuation τ sig (Elt Ideal) := after hostOps0_35 (after hostOps0_34 (after hostOps0_33 (after hostOps0_32 (after hostOps0_31 (after hostOps0_30 (after hostOps0_29 (after hostOps0_28 V)))))))
/-- The lines of the reads at the ranks. -/
def lineF0 (V : Valuation τ sig (Elt Ideal)) : Valuation τ sig (Elt Ideal) := after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 V))))))))))))))

variable (V : Valuation τ sig (Elt Ideal))

/-- A `[3]` table of words as a `[1, 3]` table of values. -/
def sizes (l : Fin S3.numel → BitVec 32) : FVec Ideal S1x3 .f32 := broadcastInDim S1x3 ![1] bcast_S3_S1x3_1 (fun i => FloatOps.ofBits (F := Ideal) .f32 (l (S3.rowMajor i)))

/-- A `[5, 2]` table of words as values. -/
def offs (l : Fin S5x2.numel → BitVec 32) : FVec Ideal S5x2 .f32 := fun i => FloatOps.ofBits (F := Ideal) .f32 (l (S5x2.rowMajor i))

/-- The anchors' sizes and the offsets of the three scales, as the first line leaves them. -/
theorem tables0 : lineA0 V (Proc.devRef .tc main_v2) = sizes lit3
    ∧ lineA0 V (Proc.devRef .tc main_v3) = sizes lit4
    ∧ lineA0 V (Proc.devRef .tc main_v4) = sizes lit6
    ∧ lineA0 V (Proc.devRef .tc main_v5) = sizes lit7
    ∧ lineA0 V (Proc.devRef .tc main_cst_1) = offs lit2
    ∧ lineA0 V (Proc.devRef .tc main_cst_4) = offs lit5
    ∧ lineA0 V (Proc.devRef .tc main_cst_7) = offs lit8 := by
  unfold lineA0
  refine ⟨?_, ?_, ?_, ?_, ?_, ?_, ?_⟩ <;> · after_reads_simp; rfl

/-- The label columns, the sum and the masked columns. -/
theorem colsA0 : lineA0 V (Proc.devRef .tc main_v7) = colC (V (Proc.devRef .tc main_arg0))
    ∧ lineA0 V (Proc.devRef .tc main_v11) = colX 0x42A00000#32 (V (Proc.devRef .tc main_arg0))
    ∧ lineA0 V (Proc.devRef .tc main_v15) = colY 0x42A00000#32 (V (Proc.devRef .tc main_arg0))
    ∧ lineA0 V (Proc.devRef .tc main_v19) = colW 0x42A00000#32 (V (Proc.devRef .tc main_arg0))
    ∧ lineA0 V (Proc.devRef .tc main_v23) = colH 0x42A00000#32 (V (Proc.devRef .tc main_arg0))
    ∧ lineA0 V (Proc.devRef .tc main_v66) = sumV (maskV (colW 0x42A00000#32 (V (Proc.devRef .tc main_arg0))) (colH 0x42A00000#32 (V (Proc.devRef .tc main_arg0))) (sizes lit0) (sizes lit1)) (colC (V (Proc.devRef .tc main_arg0))) (colX 0x42A00000#32 (V (Proc.devRef .tc main_arg0))) (colY 0x42A00000#32 (V (Proc.devRef .tc main_arg0))) (colW 0x42A00000#32 (V (Proc.devRef .tc main_arg0))) (colH 0x42A00000#32 (V (Proc.devRef .tc main_arg0)))
    ∧ lineA0 V (Proc.devRef .tc main_v69) = keptV (maskV (colW 0x42A00000#32 (V (Proc.devRef .tc main_arg0))) (colH 0x42A00000#32 (V (Proc.devRef .tc main_arg0))) (sizes lit0) (sizes lit1)) (colX 0x42A00000#32 (V (Proc.devRef .tc main_arg0)))
    ∧ lineA0 V (Proc.devRef .tc main_v72) = keptV (maskV (colW 0x42A00000#32 (V (Proc.devRef .tc main_arg0))) (colH 0x42A00000#32 (V (Proc.devRef .tc main_arg0))) (sizes lit0) (sizes lit1)) (colY 0x42A00000#32 (V (Proc.devRef .tc main_arg0)))
    ∧ lineA0 V (Proc.devRef .tc main_v77) = flipV 0x42A00000#32 (keptV (maskV (colW 0x42A00000#32 (V (Proc.devRef .tc main_arg0))) (colH 0x42A00000#32 (V (Proc.devRef .tc main_arg0))) (sizes lit0) (sizes lit1)) (colX 0x42A00000#32 (V (Proc.devRef .tc main_arg0))))
    ∧ lineA0 V (Proc.devRef .tc main_v82) = flipV 0x42A00000#32 (keptV (maskV (colW 0x42A00000#32 (V (Proc.devRef .tc main_arg0))) (colH 0x42A00000#32 (V (Proc.devRef .tc main_arg0))) (sizes lit0) (sizes lit1)) (colY 0x42A00000#32 (V (Proc.devRef .tc main_arg0)))) := by
  unfold lineA0
  refine ⟨?_, ?_, ?_, ?_, ?_, ?_, ?_, ?_, ?_, ?_⟩ <;> (after_reads_simp; (try simp only [TRef.ofBuf_toBuf]); try rfl)

/-- The nearness of the first three shifted variants, the fraction of the fourth. -/
theorem nearN0 : lineN0 V (Proc.devRef .tc main_v88) = nearV (V (Proc.devRef .tc main_v69))
    ∧ lineN0 V (Proc.devRef .tc main_v94) = nearV (V (Proc.devRef .tc main_v72))
    ∧ lineN0 V (Proc.devRef .tc main_v100) = nearV (V (Proc.devRef .tc main_v77))
    ∧ lineN0 V (Proc.devRef .tc main_v101) = fracV (V (Proc.devRef .tc main_v82)) := by
  unfold lineN0
  refine ⟨?_, ?_, ?_, ?_⟩ <;> (after_reads_simp; (try simp only [TRef.ofBuf_toBuf]); try rfl)

/-- These lines leave the sum and the fourth variant's value as they are. -/
theorem keepN0 : lineN0 V (Proc.devRef .tc main_v82) = V (Proc.devRef .tc main_v82) ∧ lineN0 V (Proc.devRef .tc main_v66) = V (Proc.devRef .tc main_v66) := by
  unfold lineN0
  refine ⟨?_, ?_⟩ <;> after_reads_simp

/-- The scores, from the nearness. -/
theorem scoreM0 : lineM0 V (Proc.devRef .tc main_v115) = scoreV (validV (V (Proc.devRef .tc main_v88)) (V (Proc.devRef .tc main_v94)) (V (Proc.devRef .tc main_v100)) (andi (cmpf .olt (V (Proc.devRef .tc main_v101)) (all3 0x3F000000#32)) (cmpf .ogt (V (Proc.devRef .tc main_v82)) (all3 0x3F800000#32)))) (V (Proc.devRef .tc main_v66)) := by
  unfold lineM0
  (after_reads_simp; (try simp only [TRef.ofBuf_toBuf]); try rfl)

/-- The scores. -/
theorem scoreB0 : lineB0 V (Proc.devRef .tc main_v115) = scoreV (validV (nearV (V (Proc.devRef .tc main_v69))) (nearV (V (Proc.devRef .tc main_v72))) (nearV (V (Proc.devRef .tc main_v77))) (nearV (V (Proc.devRef .tc main_v82)))) (V (Proc.devRef .tc main_v66)) := by
  obtain ⟨n1, n2, n3, n4⟩ := nearN0 V
  obtain ⟨k1, k2⟩ := keepN0 V
  have h := scoreM0 (lineN0 V)
  rw [n1, n2, n3, n4, k1, k2] at h
  exact h

/-- The flat scores and their order. -/
theorem orderC0 : lineC0 V (Proc.devRef .tc main_v116) = flatV (V (Proc.devRef .tc main_v115))
    ∧ lineC0 V (Proc.devRef .tc main_v119) = orderV sel0 (comparator_f32_i32_d0 (F := Ideal)) (flatV (V (Proc.devRef .tc main_v115))) := by
  unfold lineC0
  refine ⟨?_, ?_⟩ <;> (after_reads_simp; (try simp only [TRef.ofBuf_toBuf]); try rfl)

/-- The variant and the place inside it. -/
theorem placeD0 : lineD0 (lineC0 V) (Proc.devRef .tc main_v120) = varV sel0 (lineC0 V (Proc.devRef .tc main_v119))
    ∧ lineD0 (lineC0 V) (Proc.devRef .tc main_v121) = remV sel0 (lineC0 V (Proc.devRef .tc main_v119)) := by
  unfold lineD0 lineC0
  refine ⟨?_, ?_⟩ <;> (after_reads_simp; (try simp only [TRef.ofBuf_toBuf]); rfl)

/-- Whether a rank is picked; the batch, the label and the anchor of its place. -/
theorem partsE0 : lineE0 V (Proc.devRef .tc main_v130) = pickedV sel0 (V (Proc.devRef .tc main_v116)) (V (Proc.devRef .tc main_v119))
    ∧ lineE0 V (Proc.devRef .tc main_v131) = batV sel0 (V (Proc.devRef .tc main_v121))
    ∧ lineE0 V (Proc.devRef .tc main_v133) = labV sel0 (V (Proc.devRef .tc main_v121))
    ∧ lineE0 V (Proc.devRef .tc main_v134) = ancV sel0 (V (Proc.devRef .tc main_v121)) := by
  unfold lineE0
  refine ⟨?_, ?_, ?_, ?_⟩ <;> (after_reads_simp; (try simp only [TRef.ofBuf_toBuf]); try rfl)

/-- The entries the launch reads. -/
theorem readsF0 : lineF0 V (Proc.devRef .tc main_v229) = keepV sel0 (V (Proc.devRef .tc main_v130)) (takeLab sel0 (V (Proc.devRef .tc main_v7)) (V (Proc.devRef .tc main_v131)) (V (Proc.devRef .tc main_v133)))
    ∧ lineF0 V (Proc.devRef .tc main_v230) = keepV sel0 (V (Proc.devRef .tc main_v130)) (takeLab sel0 (V (Proc.devRef .tc main_v11)) (V (Proc.devRef .tc main_v131)) (V (Proc.devRef .tc main_v133)))
    ∧ lineF0 V (Proc.devRef .tc main_v231) = keepV sel0 (V (Proc.devRef .tc main_v130)) (takeLab sel0 (V (Proc.devRef .tc main_v15)) (V (Proc.devRef .tc main_v131)) (V (Proc.devRef .tc main_v133)))
    ∧ lineF0 V (Proc.devRef .tc main_v232) = keepV sel0 (V (Proc.devRef .tc main_v130)) (takeLab sel0 (V (Proc.devRef .tc main_v19)) (V (Proc.devRef .tc main_v131)) (V (Proc.devRef .tc main_v133)))
    ∧ lineF0 V (Proc.devRef .tc main_v233) = keepV sel0 (V (Proc.devRef .tc main_v130)) (takeLab sel0 (V (Proc.devRef .tc main_v23)) (V (Proc.devRef .tc main_v131)) (V (Proc.devRef .tc main_v133)))
    ∧ lineF0 V (Proc.devRef .tc main_v216) = keepV sel0 (V (Proc.devRef .tc main_v130)) (takeOff sel0 (V (Proc.devRef .tc main_cst_1)) (V (Proc.devRef .tc main_v120)) 0#32)
    ∧ lineF0 V (Proc.devRef .tc main_v228) = keepV sel0 (V (Proc.devRef .tc main_v130)) (takeOff sel0 (V (Proc.devRef .tc main_cst_1)) (V (Proc.devRef .tc main_v120)) 1#32)
    ∧ lineF0 V (Proc.devRef .tc main_v234) = extui 32 (V (Proc.devRef .tc main_v130)) natLt_1_32 := by
  unfold lineF0
  refine ⟨?_, ?_, ?_, ?_, ?_, ?_, ?_, ?_⟩ <;> (after_reads_simp; (try simp only [TRef.ofBuf_toBuf]); try rfl)

/-- The first lines leave these buffers as they are. -/
theorem keepA0 : lineA0 V (Proc.devRef .tc main_arg0) = V (Proc.devRef .tc main_arg0) := by
  unfold lineA0
  after_reads_simp

/-- The lines between leave these buffers as they are. -/
theorem keepBE0 : lineE0 (lineD0 (lineC0 (lineB0 V))) (Proc.devRef .tc main_v7) = V (Proc.devRef .tc main_v7)
    ∧ lineE0 (lineD0 (lineC0 (lineB0 V))) (Proc.devRef .tc main_v11) = V (Proc.devRef .tc main_v11)
    ∧ lineE0 (lineD0 (lineC0 (lineB0 V))) (Proc.devRef .tc main_v15) = V (Proc.devRef .tc main_v15)
    ∧ lineE0 (lineD0 (lineC0 (lineB0 V))) (Proc.devRef .tc main_v19) = V (Proc.devRef .tc main_v19)
    ∧ lineE0 (lineD0 (lineC0 (lineB0 V))) (Proc.devRef .tc main_v23) = V (Proc.devRef .tc main_v23)
    ∧ lineE0 (lineD0 (lineC0 (lineB0 V))) (Proc.devRef .tc main_cst_1) = V (Proc.devRef .tc main_cst_1) := by
  unfold lineB0 lineC0 lineD0 lineE0 lineM0 lineN0
  refine ⟨?_, ?_, ?_, ?_, ?_, ?_⟩ <;> after_reads_simp

/-- The place's lines leave the scores and the order as they are. -/
theorem keepD0 : lineD0 V (Proc.devRef .tc main_v116) = V (Proc.devRef .tc main_v116)
    ∧ lineD0 V (Proc.devRef .tc main_v119) = V (Proc.devRef .tc main_v119) := by
  unfold lineD0
  refine ⟨?_, ?_⟩ <;> after_reads_simp

/-- The batch's lines leave the variant as it is. -/
theorem keepE0 : lineE0 V (Proc.devRef .tc main_v120) = V (Proc.devRef .tc main_v120) := by
  unfold lineE0
  after_reads_simp

/-- The reads' lines leave the anchor as it is. -/
theorem keepF0 : lineF0 V (Proc.devRef .tc main_v134) = V (Proc.devRef .tc main_v134) := by
  unfold lineF0
  after_reads_simp

/-- The lines after the first leave these buffers as they are. -/
theorem keepBF0 : lineF0 (lineE0 (lineD0 (lineC0 (lineB0 V)))) (Proc.devRef .tc main_arg0) = V (Proc.devRef .tc main_arg0)
    ∧ lineF0 (lineE0 (lineD0 (lineC0 (lineB0 V)))) (Proc.devRef .tc main_v2) = V (Proc.devRef .tc main_v2)
    ∧ lineF0 (lineE0 (lineD0 (lineC0 (lineB0 V)))) (Proc.devRef .tc main_v3) = V (Proc.devRef .tc main_v3)
    ∧ lineF0 (lineE0 (lineD0 (lineC0 (lineB0 V)))) (Proc.devRef .tc main_v4) = V (Proc.devRef .tc main_v4)
    ∧ lineF0 (lineE0 (lineD0 (lineC0 (lineB0 V)))) (Proc.devRef .tc main_v5) = V (Proc.devRef .tc main_v5)
    ∧ lineF0 (lineE0 (lineD0 (lineC0 (lineB0 V)))) (Proc.devRef .tc main_cst_4) = V (Proc.devRef .tc main_cst_4)
    ∧ lineF0 (lineE0 (lineD0 (lineC0 (lineB0 V)))) (Proc.devRef .tc main_cst_7) = V (Proc.devRef .tc main_cst_7) := by
  unfold lineB0 lineC0 lineD0 lineE0 lineF0 lineM0 lineN0
  refine ⟨?_, ?_, ?_, ?_, ?_, ?_, ?_⟩ <;> after_reads_simp

/-- What the scale's lines leave in the buffers the launch reads, from the labels. -/
theorem inputs0 (a : FVec Ideal S64x1000x5 .f32) (ha : V (Proc.devRef .tc main_arg0) = a) (o : FVec Ideal S5x2 .f32) (ho : offs lit2 = o)
    (s : FVec Ideal S960000 .f32) (hs : scores 0x42A00000#32 (sizes lit0) (sizes lit1) a = s) (p : IVec S16384 32) (hp : orderV sel0 (comparator_f32_i32_d0 (F := Ideal)) s = p) :
    lineF0 (lineE0 (lineD0 (lineC0 (lineB0 (lineA0 V))))) (Proc.devRef .tc main_v229) = labelIn sel0 s p (colC a)
    ∧ lineF0 (lineE0 (lineD0 (lineC0 (lineB0 (lineA0 V))))) (Proc.devRef .tc main_v230) = labelIn sel0 s p (colX 0x42A00000#32 a)
    ∧ lineF0 (lineE0 (lineD0 (lineC0 (lineB0 (lineA0 V))))) (Proc.devRef .tc main_v231) = labelIn sel0 s p (colY 0x42A00000#32 a)
    ∧ lineF0 (lineE0 (lineD0 (lineC0 (lineB0 (lineA0 V))))) (Proc.devRef .tc main_v232) = labelIn sel0 s p (colW 0x42A00000#32 a)
    ∧ lineF0 (lineE0 (lineD0 (lineC0 (lineB0 (lineA0 V))))) (Proc.devRef .tc main_v233) = labelIn sel0 s p (colH 0x42A00000#32 a)
    ∧ lineF0 (lineE0 (lineD0 (lineC0 (lineB0 (lineA0 V))))) (Proc.devRef .tc main_v216) = offsetIn sel0 s p o 0#32
    ∧ lineF0 (lineE0 (lineD0 (lineC0 (lineB0 (lineA0 V))))) (Proc.devRef .tc main_v228) = offsetIn sel0 s p o 1#32
    ∧ lineF0 (lineE0 (lineD0 (lineC0 (lineB0 (lineA0 V))))) (Proc.devRef .tc main_v234) = extui 32 (pickedV sel0 s p) natLt_1_32
    ∧ lineF0 (lineE0 (lineD0 (lineC0 (lineB0 (lineA0 V))))) (Proc.devRef .tc main_v134) = ancV sel0 (remV sel0 p) := by
  have hA := colsA0 V
  simp only [ha] at hA
  obtain ⟨a7, a11, a15, a19, a23, a66, a69, a72, a77, a82⟩ := hA
  obtain ⟨k7, k11, k15, k19, k23, ko⟩ := keepBE0 (lineA0 V)
  have hb : lineB0 (lineA0 V) (Proc.devRef .tc main_v115) = _ := scoreB0 (lineA0 V)
  rw [a66, a69, a72, a77, a82] at hb
  obtain ⟨c16, c19⟩ := orderC0 (lineB0 (lineA0 V))
  rw [hb] at c16 c19
  replace c16 := c16.trans hs
  replace c19 := c19.trans ((congrArg (orderV sel0 (comparator_f32_i32_d0 (F := Ideal))) hs).trans hp)
  obtain ⟨d20, d21⟩ := placeD0 (lineB0 (lineA0 V))
  obtain ⟨d16, d19⟩ := keepD0 (lineC0 (lineB0 (lineA0 V)))
  rw [c19] at d20 d21 d19
  rw [c16] at d16
  obtain ⟨e30, e31, e33, e34⟩ := partsE0 (lineD0 (lineC0 (lineB0 (lineA0 V))))
  rw [d16, d19] at e30
  rw [d21] at e31 e33 e34
  have e20 := (keepE0 (lineD0 (lineC0 (lineB0 (lineA0 V))))).trans d20
  obtain ⟨f0, f1, f2, f3, f4, f5, f6, f7⟩ := readsF0 (lineE0 (lineD0 (lineC0 (lineB0 (lineA0 V)))))
  have hto := (tables0 V).2.2.2.2.1.trans ho
  rw [e30, e31, e33, k7, a7] at f0
  rw [e30, e31, e33, k11, a11] at f1
  rw [e30, e31, e33, k15, a15] at f2
  rw [e30, e31, e33, k19, a19] at f3
  rw [e30, e31, e33, k23, a23] at f4
  rw [e30, e20, ko, hto] at f5 f6
  rw [e30] at f7
  exact ⟨f0, f1, f2, f3, f4, f5, f6, f7, (keepF0 _).trans e34⟩

end Cert.KernelIdeal.Gen

end
-- ==== Proof.Stage1.lean ====
/- The kernel's host lines of one scale, 8192 ranks: what they leave in the buffers the launch reads, from the contents before them. -/
module

public import proofs.«01_k».proof.Proof.Gen.KernelIdeal.Launch
public import proofs.«01_k».proof.Proof.Select
public import proofs.«01_k».proof.Proof.Score
public import Idealize.ShloMosaic.Lib.StableHlo.RunRead

@[expose] public section

set_option maxRecDepth 16384
set_option maxHeartbeats 1000000

noncomputable section

namespace Cert.KernelIdeal.Gen

open Idealize.ShloMosaic Idealize.ShloMosaic.StableHlo Cert.Targets

theorem sel1 : SelFacts 8192 where
  sc := bcast_S_S8192
  col := bcast_S8192_S8192x1_0
  cat := concatenates_S8192x1_S8192x1_S8192x2_d1
  sl := slices_S960000_S8192_0
  one := gather_S960000_S8192x1_S8192_n_0_n_n_0_1_1_wf
  lab := gather_S64x1000_S8192x2_S8192_n_01_n_n_01_1_11_wf
  off := gather_S5x2_S8192x2_S8192_n_01_n_n_01_1_11_wf
  le := by decide

/-- The lines up to the masked columns. -/
def lineA1 (V : Valuation τ sig (Elt Ideal)) : Valuation τ sig (Elt Ideal) := after hostOps1_11 (after hostOps1_10 (after hostOps1_9 (after hostOps1_8 (after hostOps1_7 (after hostOps1_6 (after hostOps1_5 (after hostOps1_4 (after hostOps1_3 (after hostOps1_2 (after hostOps1_1 (after hostOps1 V)))))))))))
/-- The lines of the nearness of the four shifted variants. -/
def lineN1 (V : Valuation τ sig (Elt Ideal)) : Valuation τ sig (Elt Ideal) := after hostOps1_19 (after hostOps1_18 (after hostOps1_17 (after hostOps1_16 (after hostOps1_15 (after hostOps1_14 (after hostOps1_13 (after hostOps1_12 V)))))))
/-- The lines of the validity and the scores. -/
def lineM1 (V : Valuation τ sig (Elt Ideal)) : Valuation τ sig (Elt Ideal) := after hostOps1_21 (after hostOps1_20 V)
/-- Both. -/
def lineB1 (V : Valuation τ sig (Elt Ideal)) : Valuation τ sig (Elt Ideal) := lineM1 (lineN1 V)
/-- The lines of the order. -/
def lineC1 (V : Valuation τ sig (Elt Ideal)) : Valuation τ sig (Elt Ideal) := after hostOps1_24 (after hostOps1_23 (after hostOps1_22 V))
/-- The lines of the variant and the place inside it. -/
def lineD1 (V : Valuation τ sig (Elt Ideal)) : Valuation τ sig (Elt Ideal) := after hostOps1_27 (after hostOps1_26 (after hostOps1_25 V))
/-- The lines of the batch, the label and the anchor. -/
def lineE1 (V : Valuation τ sig (Elt Ideal)) : Valuation τ sig (Elt Ideal) := after hostOps1_35 (after hostOps1_34 (after hostOps1_33 (after hostOps1_32 (after hostOps1_31 (after hostOps1_30 (after hostOps1_29 (after hostOps1_28 V)))))))
/-- The lines of the reads at the ranks. -/
def lineF1 (V : Valuation τ sig (Elt Ideal)) : Valuation τ sig (Elt Ideal) := after hostOps1_50 (after hostOps1_49 (after hostOps1_48 (after hostOps1_47 (after hostOps1_46 (after hostOps1_45 (after hostOps1_44 (after hostOps1_43 (after hostOps1_42 (after hostOps1_41 (after hostOps1_40 (after hostOps1_39 (after hostOps1_38 (after hostOps1_37 (after hostOps1_36 V))))))))))))))

variable (V : Valuation τ sig (Elt Ideal))

/-- The label columns, the sum and the masked columns. -/
theorem colsA1 : lineA1 V (Proc.devRef .tc main_v238) = colC (V (Proc.devRef .tc main_arg0))
    ∧ lineA1 V (Proc.devRef .tc main_v242) = colX 0x42200000#32 (V (Proc.devRef .tc main_arg0))
    ∧ lineA1 V (Proc.devRef .tc main_v246) = colY 0x42200000#32 (V (Proc.devRef .tc main_arg0))
    ∧ lineA1 V (Proc.devRef .tc main_v250) = colW 0x42200000#32 (V (Proc.devRef .tc main_arg0))
    ∧ lineA1 V (Proc.devRef .tc main_v254) = colH 0x42200000#32 (V (Proc.devRef .tc main_arg0))
    ∧ lineA1 V (Proc.devRef .tc main_v297) = sumV (maskV (colW 0x42200000#32 (V (Proc.devRef .tc main_arg0))) (colH 0x42200000#32 (V (Proc.devRef .tc main_arg0))) (V (Proc.devRef .tc main_v2)) (V (Proc.devRef .tc main_v3))) (colC (V (Proc.devRef .tc main_arg0))) (colX 0x42200000#32 (V (Proc.devRef .tc main_arg0))) (colY 0x42200000#32 (V (Proc.devRef .tc main_arg0))) (colW 0x42200000#32 (V (Proc.devRef .tc main_arg0))) (colH 0x42200000#32 (V (Proc.devRef .tc main_arg0)))
    ∧ lineA1 V (Proc.devRef .tc main_v300) = keptV (maskV (colW 0x42200000#32 (V (Proc.devRef .tc main_arg0))) (colH 0x42200000#32 (V (Proc.devRef .tc main_arg0))) (V (Proc.devRef .tc main_v2)) (V (Proc.devRef .tc main_v3))) (colX 0x42200000#32 (V (Proc.devRef .tc main_arg0)))
    ∧ lineA1 V (Proc.devRef .tc main_v303) = keptV (maskV (colW 0x42200000#32 (V (Proc.devRef .tc main_arg0))) (colH 0x42200000#32 (V (Proc.devRef .tc main_arg0))) (V (Proc.devRef .tc main_v2)) (V (Proc.devRef .tc main_v3))) (colY 0x42200000#32 (V (Proc.devRef .tc main_arg0)))
    ∧ lineA1 V (Proc.devRef .tc main_v308) = flipV 0x42200000#32 (keptV (maskV (colW 0x42200000#32 (V (Proc.devRef .tc main_arg0))) (colH 0x42200000#32 (V (Proc.devRef .tc main_arg0))) (V (Proc.devRef .tc main_v2)) (V (Proc.devRef .tc main_v3))) (colX 0x42200000#32 (V (Proc.devRef .tc main_arg0))))
    ∧ lineA1 V (Proc.devRef .tc main_v313) = flipV 0x42200000#32 (keptV (maskV (colW 0x42200000#32 (V (Proc.devRef .tc main_arg0))) (colH 0x42200000#32 (V (Proc.devRef .tc main_arg0))) (V (Proc.devRef .tc main_v2)) (V (Proc.devRef .tc main_v3))) (colY 0x42200000#32 (V (Proc.devRef .tc main_arg0)))) := by
  unfold lineA1
  refine ⟨?_, ?_, ?_, ?_, ?_, ?_, ?_, ?_, ?_, ?_⟩ <;> (after_reads_simp; (try simp only [TRef.ofBuf_toBuf]); try rfl)

/-- The nearness of the first three shifted variants, the fraction of the fourth. -/
theorem nearN1 : lineN1 V (Proc.devRef .tc main_v319) = nearV (V (Proc.devRef .tc main_v300))
    ∧ lineN1 V (Proc.devRef .tc main_v325) = nearV (V (Proc.devRef .tc main_v303))
    ∧ lineN1 V (Proc.devRef .tc main_v331) = nearV (V (Proc.devRef .tc main_v308))
    ∧ lineN1 V (Proc.devRef .tc main_v332) = fracV (V (Proc.devRef .tc main_v313)) := by
  unfold lineN1
  refine ⟨?_, ?_, ?_, ?_⟩ <;> (after_reads_simp; (try simp only [TRef.ofBuf_toBuf]); try rfl)

/-- These lines leave the sum and the fourth variant's value as they are. -/
theorem keepN1 : lineN1 V (Proc.devRef .tc main_v313) = V (Proc.devRef .tc main_v313) ∧ lineN1 V (Proc.devRef .tc main_v297) = V (Proc.devRef .tc main_v297) := by
  unfold lineN1
  refine ⟨?_, ?_⟩ <;> after_reads_simp

/-- The scores, from the nearness. -/
theorem scoreM1 : lineM1 V (Proc.devRef .tc main_v346) = scoreV (validV (V (Proc.devRef .tc main_v319)) (V (Proc.devRef .tc main_v325)) (V (Proc.devRef .tc main_v331)) (andi (cmpf .olt (V (Proc.devRef .tc main_v332)) (all3 0x3F000000#32)) (cmpf .ogt (V (Proc.devRef .tc main_v313)) (all3 0x3F800000#32)))) (V (Proc.devRef .tc main_v297)) := by
  unfold lineM1
  (after_reads_simp; (try simp only [TRef.ofBuf_toBuf]); try rfl)

/-- The scores. -/
theorem scoreB1 : lineB1 V (Proc.devRef .tc main_v346) = scoreV (validV (nearV (V (Proc.devRef .tc main_v300))) (nearV (V (Proc.devRef .tc main_v303))) (nearV (V (Proc.devRef .tc main_v308))) (nearV (V (Proc.devRef .tc main_v313)))) (V (Proc.devRef .tc main_v297)) := by
  obtain ⟨n1, n2, n3, n4⟩ := nearN1 V
  obtain ⟨k1, k2⟩ := keepN1 V
  have h := scoreM1 (lineN1 V)
  rw [n1, n2, n3, n4, k1, k2] at h
  exact h

/-- The flat scores and their order. -/
theorem orderC1 : lineC1 V (Proc.devRef .tc main_v347) = flatV (V (Proc.devRef .tc main_v346))
    ∧ lineC1 V (Proc.devRef .tc main_v350) = orderV sel1 (comparator_f32_i32_d0 (F := Ideal)) (flatV (V (Proc.devRef .tc main_v346))) := by
  unfold lineC1
  refine ⟨?_, ?_⟩ <;> (after_reads_simp; (try simp only [TRef.ofBuf_toBuf]); try rfl)

/-- The variant and the place inside it. -/
theorem placeD1 : lineD1 (lineC1 V) (Proc.devRef .tc main_v351) = varV sel1 (lineC1 V (Proc.devRef .tc main_v350))
    ∧ lineD1 (lineC1 V) (Proc.devRef .tc main_v352) = remV sel1 (lineC1 V (Proc.devRef .tc main_v350)) := by
  unfold lineD1 lineC1
  refine ⟨?_, ?_⟩ <;> (after_reads_simp; (try simp only [TRef.ofBuf_toBuf]); rfl)

/-- Whether a rank is picked; the batch, the label and the anchor of its place. -/
theorem partsE1 : lineE1 V (Proc.devRef .tc main_v361) = pickedV sel1 (V (Proc.devRef .tc main_v347)) (V (Proc.devRef .tc main_v350))
    ∧ lineE1 V (Proc.devRef .tc main_v362) = batV sel1 (V (Proc.devRef .tc main_v352))
    ∧ lineE1 V (Proc.devRef .tc main_v364) = labV sel1 (V (Proc.devRef .tc main_v352))
    ∧ lineE1 V (Proc.devRef .tc main_v365) = ancV sel1 (V (Proc.devRef .tc main_v352)) := by
  unfold lineE1
  refine ⟨?_, ?_, ?_, ?_⟩ <;> (after_reads_simp; (try simp only [TRef.ofBuf_toBuf]); try rfl)

/-- The entries the launch reads. -/
theorem readsF1 : lineF1 V (Proc.devRef .tc main_v460) = keepV sel1 (V (Proc.devRef .tc main_v361)) (takeLab sel1 (V (Proc.devRef .tc main_v238)) (V (Proc.devRef .tc main_v362)) (V (Proc.devRef .tc main_v364)))
    ∧ lineF1 V (Proc.devRef .tc main_v461) = keepV sel1 (V (Proc.devRef .tc main_v361)) (takeLab sel1 (V (Proc.devRef .tc main_v242)) (V (Proc.devRef .tc main_v362)) (V (Proc.devRef .tc main_v364)))
    ∧ lineF1 V (Proc.devRef .tc main_v462) = keepV sel1 (V (Proc.devRef .tc main_v361)) (takeLab sel1 (V (Proc.devRef .tc main_v246)) (V (Proc.devRef .tc main_v362)) (V (Proc.devRef .tc main_v364)))
    ∧ lineF1 V (Proc.devRef .tc main_v463) = keepV sel1 (V (Proc.devRef .tc main_v361)) (takeLab sel1 (V (Proc.devRef .tc main_v250)) (V (Proc.devRef .tc main_v362)) (V (Proc.devRef .tc main_v364)))
    ∧ lineF1 V (Proc.devRef .tc main_v464) = keepV sel1 (V (Proc.devRef .tc main_v361)) (takeLab sel1 (V (Proc.devRef .tc main_v254)) (V (Proc.devRef .tc main_v362)) (V (Proc.devRef .tc main_v364)))
    ∧ lineF1 V (Proc.devRef .tc main_v447) = keepV sel1 (V (Proc.devRef .tc main_v361)) (takeOff sel1 (V (Proc.devRef .tc main_cst_4)) (V (Proc.devRef .tc main_v351)) 0#32)
    ∧ lineF1 V (Proc.devRef .tc main_v459) = keepV sel1 (V (Proc.devRef .tc main_v361)) (takeOff sel1 (V (Proc.devRef .tc main_cst_4)) (V (Proc.devRef .tc main_v351)) 1#32)
    ∧ lineF1 V (Proc.devRef .tc main_v465) = extui 32 (V (Proc.devRef .tc main_v361)) natLt_1_32 := by
  unfold lineF1
  refine ⟨?_, ?_, ?_, ?_, ?_, ?_, ?_, ?_⟩ <;> (after_reads_simp; (try simp only [TRef.ofBuf_toBuf]); try rfl)

/-- The first lines leave these buffers as they are. -/
theorem keepA1 : lineA1 V (Proc.devRef .tc main_arg0) = V (Proc.devRef .tc main_arg0)
    ∧ lineA1 V (Proc.devRef .tc main_v4) = V (Proc.devRef .tc main_v4)
    ∧ lineA1 V (Proc.devRef .tc main_v5) = V (Proc.devRef .tc main_v5)
    ∧ lineA1 V (Proc.devRef .tc main_cst_4) = V (Proc.devRef .tc main_cst_4)
    ∧ lineA1 V (Proc.devRef .tc main_cst_7) = V (Proc.devRef .tc main_cst_7)
    ∧ lineA1 V (Proc.devRef .tc main_v235_0) = V (Proc.devRef .tc main_v235_0)
    ∧ lineA1 V (Proc.devRef .tc main_v235_1) = V (Proc.devRef .tc main_v235_1)
    ∧ lineA1 V (Proc.devRef .tc main_v235_2) = V (Proc.devRef .tc main_v235_2) := by
  unfold lineA1
  refine ⟨?_, ?_, ?_, ?_, ?_, ?_, ?_, ?_⟩ <;> after_reads_simp

/-- The lines between leave these buffers as they are. -/
theorem keepBE1 : lineE1 (lineD1 (lineC1 (lineB1 V))) (Proc.devRef .tc main_v238) = V (Proc.devRef .tc main_v238)
    ∧ lineE1 (lineD1 (lineC1 (lineB1 V))) (Proc.devRef .tc main_v242) = V (Proc.devRef .tc main_v242)
    ∧ lineE1 (lineD1 (lineC1 (lineB1 V))) (Proc.devRef .tc main_v246) = V (Proc.devRef .tc main_v246)
    ∧ lineE1 (lineD1 (lineC1 (lineB1 V))) (Proc.devRef .tc main_v250) = V (Proc.devRef .tc main_v250)
    ∧ lineE1 (lineD1 (lineC1 (lineB1 V))) (Proc.devRef .tc main_v254) = V (Proc.devRef .tc main_v254)
    ∧ lineE1 (lineD1 (lineC1 (lineB1 V))) (Proc.devRef .tc main_cst_4) = V (Proc.devRef .tc main_cst_4) := by
  unfold lineB1 lineC1 lineD1 lineE1 lineM1 lineN1
  refine ⟨?_, ?_, ?_, ?_, ?_, ?_⟩ <;> after_reads_simp

/-- The place's lines leave the scores and the order as they are. -/
theorem keepD1 : lineD1 V (Proc.devRef .tc main_v347) = V (Proc.devRef .tc main_v347)
    ∧ lineD1 V (Proc.devRef .tc main_v350) = V (Proc.devRef .tc main_v350) := by
  unfold lineD1
  refine ⟨?_, ?_⟩ <;> after_reads_simp

/-- The batch's lines leave the variant as it is. -/
theorem keepE1 : lineE1 V (Proc.devRef .tc main_v351) = V (Proc.devRef .tc main_v351) := by
  unfold lineE1
  after_reads_simp

/-- The reads' lines leave the anchor as it is. -/
theorem keepF1 : lineF1 V (Proc.devRef .tc main_v365) = V (Proc.devRef .tc main_v365) := by
  unfold lineF1
  after_reads_simp

/-- The lines after the first leave these buffers as they are. -/
theorem keepBF1 : lineF1 (lineE1 (lineD1 (lineC1 (lineB1 V)))) (Proc.devRef .tc main_arg0) = V (Proc.devRef .tc main_arg0)
    ∧ lineF1 (lineE1 (lineD1 (lineC1 (lineB1 V)))) (Proc.devRef .tc main_v4) = V (Proc.devRef .tc main_v4)
    ∧ lineF1 (lineE1 (lineD1 (lineC1 (lineB1 V)))) (Proc.devRef .tc main_v5) = V (Proc.devRef .tc main_v5)
    ∧ lineF1 (lineE1 (lineD1 (lineC1 (lineB1 V)))) (Proc.devRef .tc main_cst_7) = V (Proc.devRef .tc main_cst_7)
    ∧ lineF1 (lineE1 (lineD1 (lineC1 (lineB1 V)))) (Proc.devRef .tc main_v235_0) = V (Proc.devRef .tc main_v235_0)
    ∧ lineF1 (lineE1 (lineD1 (lineC1 (lineB1 V)))) (Proc.devRef .tc main_v235_1) = V (Proc.devRef .tc main_v235_1)
    ∧ lineF1 (lineE1 (lineD1 (lineC1 (lineB1 V)))) (Proc.devRef .tc main_v235_2) = V (Proc.devRef .tc main_v235_2)
    ∧ lineF1 (lineE1 (lineD1 (lineC1 (lineB1 V)))) (Proc.devRef .tc main_v236) = V (Proc.devRef .tc main_v236) := by
  unfold lineB1 lineC1 lineD1 lineE1 lineF1 lineM1 lineN1
  refine ⟨?_, ?_, ?_, ?_, ?_, ?_, ?_, ?_⟩ <;> after_reads_simp

/-- What the scale's lines leave in the buffers the launch reads, from the labels. -/
theorem inputs1 (a : FVec Ideal S64x1000x5 .f32) (ha : V (Proc.devRef .tc main_arg0) = a) (o : FVec Ideal S5x2 .f32) (ho : V (Proc.devRef .tc main_cst_4) = o)
    (s : FVec Ideal S960000 .f32) (hs : scores 0x42200000#32 (V (Proc.devRef .tc main_v2)) (V (Proc.devRef .tc main_v3)) a = s) (p : IVec S8192 32) (hp : orderV sel1 (comparator_f32_i32_d0 (F := Ideal)) s = p) :
    lineF1 (lineE1 (lineD1 (lineC1 (lineB1 (lineA1 V))))) (Proc.devRef .tc main_v460) = labelIn sel1 s p (colC a)
    ∧ lineF1 (lineE1 (lineD1 (lineC1 (lineB1 (lineA1 V))))) (Proc.devRef .tc main_v461) = labelIn sel1 s p (colX 0x42200000#32 a)
    ∧ lineF1 (lineE1 (lineD1 (lineC1 (lineB1 (lineA1 V))))) (Proc.devRef .tc main_v462) = labelIn sel1 s p (colY 0x42200000#32 a)
    ∧ lineF1 (lineE1 (lineD1 (lineC1 (lineB1 (lineA1 V))))) (Proc.devRef .tc main_v463) = labelIn sel1 s p (colW 0x42200000#32 a)
    ∧ lineF1 (lineE1 (lineD1 (lineC1 (lineB1 (lineA1 V))))) (Proc.devRef .tc main_v464) = labelIn sel1 s p (colH 0x42200000#32 a)
    ∧ lineF1 (lineE1 (lineD1 (lineC1 (lineB1 (lineA1 V))))) (Proc.devRef .tc main_v447) = offsetIn sel1 s p o 0#32
    ∧ lineF1 (lineE1 (lineD1 (lineC1 (lineB1 (lineA1 V))))) (Proc.devRef .tc main_v459) = offsetIn sel1 s p o 1#32
    ∧ lineF1 (lineE1 (lineD1 (lineC1 (lineB1 (lineA1 V))))) (Proc.devRef .tc main_v465) = extui 32 (pickedV sel1 s p) natLt_1_32
    ∧ lineF1 (lineE1 (lineD1 (lineC1 (lineB1 (lineA1 V))))) (Proc.devRef .tc main_v365) = ancV sel1 (remV sel1 p) := by
  have hA := colsA1 V
  simp only [ha] at hA
  obtain ⟨a7, a11, a15, a19, a23, a66, a69, a72, a77, a82⟩ := hA
  obtain ⟨k7, k11, k15, k19, k23, ko⟩ := keepBE1 (lineA1 V)
  have hb : lineB1 (lineA1 V) (Proc.devRef .tc main_v346) = _ := scoreB1 (lineA1 V)
  rw [a66, a69, a72, a77, a82] at hb
  obtain ⟨c16, c19⟩ := orderC1 (lineB1 (lineA1 V))
  rw [hb] at c16 c19
  replace c16 := c16.trans hs
  replace c19 := c19.trans ((congrArg (orderV sel1 (comparator_f32_i32_d0 (F := Ideal))) hs).trans hp)
  obtain ⟨d20, d21⟩ := placeD1 (lineB1 (lineA1 V))
  obtain ⟨d16, d19⟩ := keepD1 (lineC1 (lineB1 (lineA1 V)))
  rw [c19] at d20 d21 d19
  rw [c16] at d16
  obtain ⟨e30, e31, e33, e34⟩ := partsE1 (lineD1 (lineC1 (lineB1 (lineA1 V))))
  rw [d16, d19] at e30
  rw [d21] at e31 e33 e34
  have e20 := (keepE1 (lineD1 (lineC1 (lineB1 (lineA1 V))))).trans d20
  obtain ⟨f0, f1, f2, f3, f4, f5, f6, f7⟩ := readsF1 (lineE1 (lineD1 (lineC1 (lineB1 (lineA1 V)))))
  have hto := (keepA1 V).2.2.2.1.trans ho
  rw [e30, e31, e33, k7, a7] at f0
  rw [e30, e31, e33, k11, a11] at f1
  rw [e30, e31, e33, k15, a15] at f2
  rw [e30, e31, e33, k19, a19] at f3
  rw [e30, e31, e33, k23, a23] at f4
  rw [e30, e20, ko, hto] at f5 f6
  rw [e30] at f7
  exact ⟨f0, f1, f2, f3, f4, f5, f6, f7, (keepF1 _).trans e34⟩

end Cert.KernelIdeal.Gen

end
-- ==== Proof.Stage2.lean ====
/- The kernel's host lines of one scale, 4096 ranks: what they leave in the buffers the launch reads, from the contents before them. -/
module

public import proofs.«01_k».proof.Proof.Gen.KernelIdeal.Launch
public import proofs.«01_k».proof.Proof.Select
public import proofs.«01_k».proof.Proof.Score
public import Idealize.ShloMosaic.Lib.StableHlo.RunRead

@[expose] public section

set_option maxRecDepth 16384
set_option maxHeartbeats 1000000

noncomputable section

namespace Cert.KernelIdeal.Gen

open Idealize.ShloMosaic Idealize.ShloMosaic.StableHlo Cert.Targets

theorem sel2 : SelFacts 4096 where
  sc := bcast_S_S4096
  col := bcast_S4096_S4096x1_0
  cat := concatenates_S4096x1_S4096x1_S4096x2_d1
  sl := slices_S960000_S4096_0
  one := gather_S960000_S4096x1_S4096_n_0_n_n_0_1_1_wf
  lab := gather_S64x1000_S4096x2_S4096_n_01_n_n_01_1_11_wf
  off := gather_S5x2_S4096x2_S4096_n_01_n_n_01_1_11_wf
  le := by decide

/-- The lines up to the masked columns. -/
def lineA2 (V : Valuation τ sig (Elt Ideal)) : Valuation τ sig (Elt Ideal) := after hostOps2_11 (after hostOps2_10 (after hostOps2_9 (after hostOps2_8 (after hostOps2_7 (after hostOps2_6 (after hostOps2_5 (after hostOps2_4 (after hostOps2_3 (after hostOps2_2 (after hostOps2_1 (after hostOps2 V)))))))))))
/-- The lines of the nearness of the four shifted variants. -/
def lineN2 (V : Valuation τ sig (Elt Ideal)) : Valuation τ sig (Elt Ideal) := after hostOps2_19 (after hostOps2_18 (after hostOps2_17 (after hostOps2_16 (after hostOps2_15 (after hostOps2_14 (after hostOps2_13 (after hostOps2_12 V)))))))
/-- The lines of the validity and the scores. -/
def lineM2 (V : Valuation τ sig (Elt Ideal)) : Valuation τ sig (Elt Ideal) := after hostOps2_21 (after hostOps2_20 V)
/-- Both. -/
def lineB2 (V : Valuation τ sig (Elt Ideal)) : Valuation τ sig (Elt Ideal) := lineM2 (lineN2 V)
/-- The lines of the order. -/
def lineC2 (V : Valuation τ sig (Elt Ideal)) : Valuation τ sig (Elt Ideal) := after hostOps2_24 (after hostOps2_23 (after hostOps2_22 V))
/-- The lines of the variant and the place inside it. -/
def lineD2 (V : Valuation τ sig (Elt Ideal)) : Valuation τ sig (Elt Ideal) := after hostOps2_27 (after hostOps2_26 (after hostOps2_25 V))
/-- The lines of the batch, the label and the anchor. -/
def lineE2 (V : Valuation τ sig (Elt Ideal)) : Valuation τ sig (Elt Ideal) := after hostOps2_35 (after hostOps2_34 (after hostOps2_33 (after hostOps2_32 (after hostOps2_31 (after hostOps2_30 (after hostOps2_29 (after hostOps2_28 V)))))))
/-- The lines of the reads at the ranks. -/
def lineF2 (V : Valuation τ sig (Elt Ideal)) : Valuation τ sig (Elt Ideal) := after hostOps2_50 (after hostOps2_49 (after hostOps2_48 (after hostOps2_47 (after hostOps2_46 (after hostOps2_45 (after hostOps2_44 (after hostOps2_43 (after hostOps2_42 (after hostOps2_41 (after hostOps2_40 (after hostOps2_39 (after hostOps2_38 (after hostOps2_37 (after hostOps2_36 V))))))))))))))

variable (V : Valuation τ sig (Elt Ideal))

/-- The label columns, the sum and the masked columns. -/
theorem colsA2 : lineA2 V (Proc.devRef .tc main_v469) = colC (V (Proc.devRef .tc main_arg0))
    ∧ lineA2 V (Proc.devRef .tc main_v473) = colX 0x41A00000#32 (V (Proc.devRef .tc main_arg0))
    ∧ lineA2 V (Proc.devRef .tc main_v477) = colY 0x41A00000#32 (V (Proc.devRef .tc main_arg0))
    ∧ lineA2 V (Proc.devRef .tc main_v481) = colW 0x41A00000#32 (V (Proc.devRef .tc main_arg0))
    ∧ lineA2 V (Proc.devRef .tc main_v485) = colH 0x41A00000#32 (V (Proc.devRef .tc main_arg0))
    ∧ lineA2 V (Proc.devRef .tc main_v528) = sumV (maskV (colW 0x41A00000#32 (V (Proc.devRef .tc main_arg0))) (colH 0x41A00000#32 (V (Proc.devRef .tc main_arg0))) (V (Proc.devRef .tc main_v4)) (V (Proc.devRef .tc main_v5))) (colC (V (Proc.devRef .tc main_arg0))) (colX 0x41A00000#32 (V (Proc.devRef .tc main_arg0))) (colY 0x41A00000#32 (V (Proc.devRef .tc main_arg0))) (colW 0x41A00000#32 (V (Proc.devRef .tc main_arg0))) (colH 0x41A00000#32 (V (Proc.devRef .tc main_arg0)))
    ∧ lineA2 V (Proc.devRef .tc main_v531) = keptV (maskV (colW 0x41A00000#32 (V (Proc.devRef .tc main_arg0))) (colH 0x41A00000#32 (V (Proc.devRef .tc main_arg0))) (V (Proc.devRef .tc main_v4)) (V (Proc.devRef .tc main_v5))) (colX 0x41A00000#32 (V (Proc.devRef .tc main_arg0)))
    ∧ lineA2 V (Proc.devRef .tc main_v534) = keptV (maskV (colW 0x41A00000#32 (V (Proc.devRef .tc main_arg0))) (colH 0x41A00000#32 (V (Proc.devRef .tc main_arg0))) (V (Proc.devRef .tc main_v4)) (V (Proc.devRef .tc main_v5))) (colY 0x41A00000#32 (V (Proc.devRef .tc main_arg0)))
    ∧ lineA2 V (Proc.devRef .tc main_v539) = flipV 0x41A00000#32 (keptV (maskV (colW 0x41A00000#32 (V (Proc.devRef .tc main_arg0))) (colH 0x41A00000#32 (V (Proc.devRef .tc main_arg0))) (V (Proc.devRef .tc main_v4)) (V (Proc.devRef .tc main_v5))) (colX 0x41A00000#32 (V (Proc.devRef .tc main_arg0))))
    ∧ lineA2 V (Proc.devRef .tc main_v544) = flipV 0x41A00000#32 (keptV (maskV (colW 0x41A00000#32 (V (Proc.devRef .tc main_arg0))) (colH 0x41A00000#32 (V (Proc.devRef .tc main_arg0))) (V (Proc.devRef .tc main_v4)) (V (Proc.devRef .tc main_v5))) (colY 0x41A00000#32 (V (Proc.devRef .tc main_arg0)))) := by
  unfold lineA2
  refine ⟨?_, ?_, ?_, ?_, ?_, ?_, ?_, ?_, ?_, ?_⟩ <;> (after_reads_simp; (try simp only [TRef.ofBuf_toBuf]); try rfl)

/-- The nearness of the first three shifted variants, the fraction of the fourth. -/
theorem nearN2 : lineN2 V (Proc.devRef .tc main_v550) = nearV (V (Proc.devRef .tc main_v531))
    ∧ lineN2 V (Proc.devRef .tc main_v556) = nearV (V (Proc.devRef .tc main_v534))
    ∧ lineN2 V (Proc.devRef .tc main_v562) = nearV (V (Proc.devRef .tc main_v539))
    ∧ lineN2 V (Proc.devRef .tc main_v563) = fracV (V (Proc.devRef .tc main_v544)) := by
  unfold lineN2
  refine ⟨?_, ?_, ?_, ?_⟩ <;> (after_reads_simp; (try simp only [TRef.ofBuf_toBuf]); try rfl)

/-- These lines leave the sum and the fourth variant's value as they are. -/
theorem keepN2 : lineN2 V (Proc.devRef .tc main_v544) = V (Proc.devRef .tc main_v544) ∧ lineN2 V (Proc.devRef .tc main_v528) = V (Proc.devRef .tc main_v528) := by
  unfold lineN2
  refine ⟨?_, ?_⟩ <;> after_reads_simp

/-- The scores, from the nearness. -/
theorem scoreM2 : lineM2 V (Proc.devRef .tc main_v577) = scoreV (validV (V (Proc.devRef .tc main_v550)) (V (Proc.devRef .tc main_v556)) (V (Proc.devRef .tc main_v562)) (andi (cmpf .olt (V (Proc.devRef .tc main_v563)) (all3 0x3F000000#32)) (cmpf .ogt (V (Proc.devRef .tc main_v544)) (all3 0x3F800000#32)))) (V (Proc.devRef .tc main_v528)) := by
  unfold lineM2
  (after_reads_simp; (try simp only [TRef.ofBuf_toBuf]); try rfl)

/-- The scores. -/
theorem scoreB2 : lineB2 V (Proc.devRef .tc main_v577) = scoreV (validV (nearV (V (Proc.devRef .tc main_v531))) (nearV (V (Proc.devRef .tc main_v534))) (nearV (V (Proc.devRef .tc main_v539))) (nearV (V (Proc.devRef .tc main_v544)))) (V (Proc.devRef .tc main_v528)) := by
  obtain ⟨n1, n2, n3, n4⟩ := nearN2 V
  obtain ⟨k1, k2⟩ := keepN2 V
  have h := scoreM2 (lineN2 V)
  rw [n1, n2, n3, n4, k1, k2] at h
  exact h

/-- The flat scores and their order. -/
theorem orderC2 : lineC2 V (Proc.devRef .tc main_v578) = flatV (V (Proc.devRef .tc main_v577))
    ∧ lineC2 V (Proc.devRef .tc main_v581) = orderV sel2 (comparator_f32_i32_d0 (F := Ideal)) (flatV (V (Proc.devRef .tc main_v577))) := by
  unfold lineC2
  refine ⟨?_, ?_⟩ <;> (after_reads_simp; (try simp only [TRef.ofBuf_toBuf]); try rfl)

/-- The variant and the place inside it. -/
theorem placeD2 : lineD2 (lineC2 V) (Proc.devRef .tc main_v582) = varV sel2 (lineC2 V (Proc.devRef .tc main_v581))
    ∧ lineD2 (lineC2 V) (Proc.devRef .tc main_v583) = remV sel2 (lineC2 V (Proc.devRef .tc main_v581)) := by
  unfold lineD2 lineC2
  refine ⟨?_, ?_⟩ <;> (after_reads_simp; (try simp only [TRef.ofBuf_toBuf]); rfl)

/-- Whether a rank is picked; the batch, the label and the anchor of its place. -/
theorem partsE2 : lineE2 V (Proc.devRef .tc main_v592) = pickedV sel2 (V (Proc.devRef .tc main_v578)) (V (Proc.devRef .tc main_v581))
    ∧ lineE2 V (Proc.devRef .tc main_v593) = batV sel2 (V (Proc.devRef .tc main_v583))
    ∧ lineE2 V (Proc.devRef .tc main_v595) = labV sel2 (V (Proc.devRef .tc main_v583))
    ∧ lineE2 V (Proc.devRef .tc main_v596) = ancV sel2 (V (Proc.devRef .tc main_v583)) := by
  unfold lineE2
  refine ⟨?_, ?_, ?_, ?_⟩ <;> (after_reads_simp; (try simp only [TRef.ofBuf_toBuf]); try rfl)

/-- The entries the launch reads. -/
theorem readsF2 : lineF2 V (Proc.devRef .tc main_v691) = keepV sel2 (V (Proc.devRef .tc main_v592)) (takeLab sel2 (V (Proc.devRef .tc main_v469)) (V (Proc.devRef .tc main_v593)) (V (Proc.devRef .tc main_v595)))
    ∧ lineF2 V (Proc.devRef .tc main_v692) = keepV sel2 (V (Proc.devRef .tc main_v592)) (takeLab sel2 (V (Proc.devRef .tc main_v473)) (V (Proc.devRef .tc main_v593)) (V (Proc.devRef .tc main_v595)))
    ∧ lineF2 V (Proc.devRef .tc main_v693) = keepV sel2 (V (Proc.devRef .tc main_v592)) (takeLab sel2 (V (Proc.devRef .tc main_v477)) (V (Proc.devRef .tc main_v593)) (V (Proc.devRef .tc main_v595)))
    ∧ lineF2 V (Proc.devRef .tc main_v694) = keepV sel2 (V (Proc.devRef .tc main_v592)) (takeLab sel2 (V (Proc.devRef .tc main_v481)) (V (Proc.devRef .tc main_v593)) (V (Proc.devRef .tc main_v595)))
    ∧ lineF2 V (Proc.devRef .tc main_v695) = keepV sel2 (V (Proc.devRef .tc main_v592)) (takeLab sel2 (V (Proc.devRef .tc main_v485)) (V (Proc.devRef .tc main_v593)) (V (Proc.devRef .tc main_v595)))
    ∧ lineF2 V (Proc.devRef .tc main_v678) = keepV sel2 (V (Proc.devRef .tc main_v592)) (takeOff sel2 (V (Proc.devRef .tc main_cst_7)) (V (Proc.devRef .tc main_v582)) 0#32)
    ∧ lineF2 V (Proc.devRef .tc main_v690) = keepV sel2 (V (Proc.devRef .tc main_v592)) (takeOff sel2 (V (Proc.devRef .tc main_cst_7)) (V (Proc.devRef .tc main_v582)) 1#32)
    ∧ lineF2 V (Proc.devRef .tc main_v696) = extui 32 (V (Proc.devRef .tc main_v592)) natLt_1_32 := by
  unfold lineF2
  refine ⟨?_, ?_, ?_, ?_, ?_, ?_, ?_, ?_⟩ <;> (after_reads_simp; (try simp only [TRef.ofBuf_toBuf]); try rfl)

/-- The first lines leave these buffers as they are. -/
theorem keepA2 : lineA2 V (Proc.devRef .tc main_arg0) = V (Proc.devRef .tc main_arg0)
    ∧ lineA2 V (Proc.devRef .tc main_cst_7) = V (Proc.devRef .tc main_cst_7)
    ∧ lineA2 V (Proc.devRef .tc main_v235_0) = V (Proc.devRef .tc main_v235_0)
    ∧ lineA2 V (Proc.devRef .tc main_v235_1) = V (Proc.devRef .tc main_v235_1)
    ∧ lineA2 V (Proc.devRef .tc main_v235_2) = V (Proc.devRef .tc main_v235_2)
    ∧ lineA2 V (Proc.devRef .tc main_v236) = V (Proc.devRef .tc main_v236)
    ∧ lineA2 V (Proc.devRef .tc main_v466_0) = V (Proc.devRef .tc main_v466_0)
    ∧ lineA2 V (Proc.devRef .tc main_v466_1) = V (Proc.devRef .tc main_v466_1)
    ∧ lineA2 V (Proc.devRef .tc main_v466_2) = V (Proc.devRef .tc main_v466_2) := by
  unfold lineA2
  refine ⟨?_, ?_, ?_, ?_, ?_, ?_, ?_, ?_, ?_⟩ <;> after_reads_simp

/-- The lines between leave these buffers as they are. -/
theorem keepBE2 : lineE2 (lineD2 (lineC2 (lineB2 V))) (Proc.devRef .tc main_v469) = V (Proc.devRef .tc main_v469)
    ∧ lineE2 (lineD2 (lineC2 (lineB2 V))) (Proc.devRef .tc main_v473) = V (Proc.devRef .tc main_v473)
    ∧ lineE2 (lineD2 (lineC2 (lineB2 V))) (Proc.devRef .tc main_v477) = V (Proc.devRef .tc main_v477)
    ∧ lineE2 (lineD2 (lineC2 (lineB2 V))) (Proc.devRef .tc main_v481) = V (Proc.devRef .tc main_v481)
    ∧ lineE2 (lineD2 (lineC2 (lineB2 V))) (Proc.devRef .tc main_v485) = V (Proc.devRef .tc main_v485)
    ∧ lineE2 (lineD2 (lineC2 (lineB2 V))) (Proc.devRef .tc main_cst_7) = V (Proc.devRef .tc main_cst_7) := by
  unfold lineB2 lineC2 lineD2 lineE2 lineM2 lineN2
  refine ⟨?_, ?_, ?_, ?_, ?_, ?_⟩ <;> after_reads_simp

/-- The place's lines leave the scores and the order as they are. -/
theorem keepD2 : lineD2 V (Proc.devRef .tc main_v578) = V (Proc.devRef .tc main_v578)
    ∧ lineD2 V (Proc.devRef .tc main_v581) = V (Proc.devRef .tc main_v581) := by
  unfold lineD2
  refine ⟨?_, ?_⟩ <;> after_reads_simp

/-- The batch's lines leave the variant as it is. -/
theorem keepE2 : lineE2 V (Proc.devRef .tc main_v582) = V (Proc.devRef .tc main_v582) := by
  unfold lineE2
  after_reads_simp

/-- The reads' lines leave the anchor as it is. -/
theorem keepF2 : lineF2 V (Proc.devRef .tc main_v596) = V (Proc.devRef .tc main_v596) := by
  unfold lineF2
  after_reads_simp

/-- The lines after the first leave these buffers as they are. -/
theorem keepBF2 : lineF2 (lineE2 (lineD2 (lineC2 (lineB2 V)))) (Proc.devRef .tc main_arg0) = V (Proc.devRef .tc main_arg0)
    ∧ lineF2 (lineE2 (lineD2 (lineC2 (lineB2 V)))) (Proc.devRef .tc main_v235_0) = V (Proc.devRef .tc main_v235_0)
    ∧ lineF2 (lineE2 (lineD2 (lineC2 (lineB2 V)))) (Proc.devRef .tc main_v235_1) = V (Proc.devRef .tc main_v235_1)
    ∧ lineF2 (lineE2 (lineD2 (lineC2 (lineB2 V)))) (Proc.devRef .tc main_v235_2) = V (Proc.devRef .tc main_v235_2)
    ∧ lineF2 (lineE2 (lineD2 (lineC2 (lineB2 V)))) (Proc.devRef .tc main_v236) = V (Proc.devRef .tc main_v236)
    ∧ lineF2 (lineE2 (lineD2 (lineC2 (lineB2 V)))) (Proc.devRef .tc main_v466_0) = V (Proc.devRef .tc main_v466_0)
    ∧ lineF2 (lineE2 (lineD2 (lineC2 (lineB2 V)))) (Proc.devRef .tc main_v466_1) = V (Proc.devRef .tc main_v466_1)
    ∧ lineF2 (lineE2 (lineD2 (lineC2 (lineB2 V)))) (Proc.devRef .tc main_v466_2) = V (Proc.devRef .tc main_v466_2)
    ∧ lineF2 (lineE2 (lineD2 (lineC2 (lineB2 V)))) (Proc.devRef .tc main_v467) = V (Proc.devRef .tc main_v467) := by
  unfold lineB2 lineC2 lineD2 lineE2 lineF2 lineM2 lineN2
  refine ⟨?_, ?_, ?_, ?_, ?_, ?_, ?_, ?_, ?_⟩ <;> after_reads_simp

/-- What the scale's lines leave in the buffers the launch reads, from the labels. -/
theorem inputs2 (a : FVec Ideal S64x1000x5 .f32) (ha : V (Proc.devRef .tc main_arg0) = a) (o : FVec Ideal S5x2 .f32) (ho : V (Proc.devRef .tc main_cst_7) = o)
    (s : FVec Ideal S960000 .f32) (hs : scores 0x41A00000#32 (V (Proc.devRef .tc main_v4)) (V (Proc.devRef .tc main_v5)) a = s) (p : IVec S4096 32) (hp : orderV sel2 (comparator_f32_i32_d0 (F := Ideal)) s = p) :
    lineF2 (lineE2 (lineD2 (lineC2 (lineB2 (lineA2 V))))) (Proc.devRef .tc main_v691) = labelIn sel2 s p (colC a)
    ∧ lineF2 (lineE2 (lineD2 (lineC2 (lineB2 (lineA2 V))))) (Proc.devRef .tc main_v692) = labelIn sel2 s p (colX 0x41A00000#32 a)
    ∧ lineF2 (lineE2 (lineD2 (lineC2 (lineB2 (lineA2 V))))) (Proc.devRef .tc main_v693) = labelIn sel2 s p (colY 0x41A00000#32 a)
    ∧ lineF2 (lineE2 (lineD2 (lineC2 (lineB2 (lineA2 V))))) (Proc.devRef .tc main_v694) = labelIn sel2 s p (colW 0x41A00000#32 a)
    ∧ lineF2 (lineE2 (lineD2 (lineC2 (lineB2 (lineA2 V))))) (Proc.devRef .tc main_v695) = labelIn sel2 s p (colH 0x41A00000#32 a)
    ∧ lineF2 (lineE2 (lineD2 (lineC2 (lineB2 (lineA2 V))))) (Proc.devRef .tc main_v678) = offsetIn sel2 s p o 0#32
    ∧ lineF2 (lineE2 (lineD2 (lineC2 (lineB2 (lineA2 V))))) (Proc.devRef .tc main_v690) = offsetIn sel2 s p o 1#32
    ∧ lineF2 (lineE2 (lineD2 (lineC2 (lineB2 (lineA2 V))))) (Proc.devRef .tc main_v696) = extui 32 (pickedV sel2 s p) natLt_1_32
    ∧ lineF2 (lineE2 (lineD2 (lineC2 (lineB2 (lineA2 V))))) (Proc.devRef .tc main_v596) = ancV sel2 (remV sel2 p) := by
  have hA := colsA2 V
  simp only [ha] at hA
  obtain ⟨a7, a11, a15, a19, a23, a66, a69, a72, a77, a82⟩ := hA
  obtain ⟨k7, k11, k15, k19, k23, ko⟩ := keepBE2 (lineA2 V)
  have hb : lineB2 (lineA2 V) (Proc.devRef .tc main_v577) = _ := scoreB2 (lineA2 V)
  rw [a66, a69, a72, a77, a82] at hb
  obtain ⟨c16, c19⟩ := orderC2 (lineB2 (lineA2 V))
  rw [hb] at c16 c19
  replace c16 := c16.trans hs
  replace c19 := c19.trans ((congrArg (orderV sel2 (comparator_f32_i32_d0 (F := Ideal))) hs).trans hp)
  obtain ⟨d20, d21⟩ := placeD2 (lineB2 (lineA2 V))
  obtain ⟨d16, d19⟩ := keepD2 (lineC2 (lineB2 (lineA2 V)))
  rw [c19] at d20 d21 d19
  rw [c16] at d16
  obtain ⟨e30, e31, e33, e34⟩ := partsE2 (lineD2 (lineC2 (lineB2 (lineA2 V))))
  rw [d16, d19] at e30
  rw [d21] at e31 e33 e34
  have e20 := (keepE2 (lineD2 (lineC2 (lineB2 (lineA2 V))))).trans d20
  obtain ⟨f0, f1, f2, f3, f4, f5, f6, f7⟩ := readsF2 (lineE2 (lineD2 (lineC2 (lineB2 (lineA2 V)))))
  have hto := (keepA2 V).2.1.trans ho
  rw [e30, e31, e33, k7, a7] at f0
  rw [e30, e31, e33, k11, a11] at f1
  rw [e30, e31, e33, k15, a15] at f2
  rw [e30, e31, e33, k19, a19] at f3
  rw [e30, e31, e33, k23, a23] at f4
  rw [e30, e20, ko, hto] at f5 f6
  rw [e30] at f7
  exact ⟨f0, f1, f2, f3, f4, f5, f6, f7, (keepF2 _).trans e34⟩

end Cert.KernelIdeal.Gen

end
-- ==== Proof.Turn.lean ====
/- The lines that turn each scale's boxes from one row per entry to one row per rank. -/
module

public import proofs.«01_k».proof.Proof.Stage1
public import proofs.«01_k».proof.Proof.Stage2

@[expose] public section

set_option maxRecDepth 16384
set_option maxHeartbeats 1000000

noncomputable section

namespace Cert.KernelIdeal.Gen

open Idealize.ShloMosaic Idealize.ShloMosaic.StableHlo Cert.Targets

variable (V : Valuation τ sig (Elt Ideal))

/-- The first scale's boxes are turned by the second scale's lines. -/
theorem turn0 : lineA1 V (Proc.devRef .tc main_v236)
    = transpose S16384x5 [1, 0] (V (Proc.devRef .tc main_v235_3)) transposes_S5x16384_S16384x5_1_0 := by
  unfold lineA1
  after_reads_simp; (try rfl)

/-- The second scale's boxes are turned by the third scale's lines. -/
theorem turn1 : lineA2 V (Proc.devRef .tc main_v467)
    = transpose S8192x5 [1, 0] (V (Proc.devRef .tc main_v466_3)) transposes_S5x8192_S8192x5_1_0 := by
  unfold lineA2
  after_reads_simp; (try rfl)

/-- The third scale's boxes are turned by the last line. -/
theorem turn2 : after hostOps3 V (Proc.devRef .tc main_v698)
    = transpose S4096x5 [1, 0] (V (Proc.devRef .tc main_v697_3)) transposes_S5x4096_S4096x5_1_0 := by
  after_reads_simp; (try rfl)

end Cert.KernelIdeal.Gen

end
-- ==== Proof.Finish.lean ====
/- What the kernel's last step does to one rank's entries, at whole vectors: the cell, its clipping, the anchor, the box. -/
module

public import proofs.«01_k».proof.Proof.Select

@[expose] public section

noncomputable section

namespace Cert.Targets

open Idealize.ShloMosaic Idealize.ShloMosaic.ValueIdx

/-- The cell of a coordinate `x` moved by `o`: zero where `x` is zero. -/
def cellV {s : Shape} (x o : FVec Ideal s .f32) : IVec s 32 :=
  select (cmpf .one x (broadcast s (Scalar.ofBits .f32 0x00000000#32))) (fptosi 32 (subf x o)) (broadcast s 0#32)

/-- A cell clipped to `0 … hi`. -/
def clipV {s : Shape} (hi : BitVec 32) (i : IVec s 32) : IVec s 32 := minsi (broadcast s hi) (maxsi (broadcast s 0#32) i)

/-- The anchor where the rank is picked, else zero. -/
def anchorV {s : Shape} (nz a : IVec s 32) : IVec s 32 := select (cmpi .ne nz (broadcast s 0#32)) a (broadcast s 0#32)

/-- Row `r` of the box: the class, the place inside the cell, the size. -/
def boxRow {K : ℕ} (c x y w h ox oy : FVec Ideal ⟨1, ![K]⟩ .f32) (r : Fin 5) : FVec Ideal ⟨1, ![K]⟩ .f32 :=
  match r with
  | ⟨0, _⟩ => c
  | ⟨1, _⟩ => subf x (sitofp .f32 (cellV x ox))
  | ⟨2, _⟩ => subf y (sitofp .f32 (cellV y oy))
  | ⟨3, _⟩ => w
  | ⟨4, _⟩ => h

/-- The box of every rank, one row for each of its five entries. -/
def boxV {K : ℕ} (c x y w h ox oy : FVec Ideal ⟨1, ![K]⟩ .f32) : FVec Ideal ⟨2, ![5, K]⟩ .f32 :=
  fun j => boxRow c x y w h ox oy (j 0) (ix1 (j 1))

/-- A vector cast to a matrix of one row, at an index of the row. -/
theorem row_cast {α : Type} {K : ℕ} (h : (⟨1, ![K]⟩ : Shape).ShapeCasts ⟨2, ![1, K]⟩) (v : (⟨1, ![K]⟩ : Shape).Idx → α)
    (x : (⟨2, ![1, K]⟩ : Shape).Idx) : shapeCast ⟨2, ![1, K]⟩ v h x = v (ix1 (x 1)) := by
  refine shapeCast_apply v h _ _ ?_
  have h0 : (x 0).val < 1 := (x 0).isLt
  have e := Shape.rowMajor_val_two x
  rw [Shape.rowMajor_val_one]
  refine Eq.trans ?_ e.symm
  show (x 1).val = (x 0).val * K + (x 1).val
  rw [show (x 0).val = 0 by omega]
  exact ((congrArg (· + (x 1).val) (Nat.zero_mul K)).trans (Nat.zero_add _)).symm

/-- The box at the place where a row's rectangle puts an index. -/
theorem box_piece {K : ℕ} (c x y w h ox oy : FVec Ideal ⟨1, ![K]⟩ .f32) (r : Fin 5)
    (inb : ∀ a, (![r.val, 0] : Fin 2 → ℕ) a + (![1, K] : Fin 2 → ℕ) a ≤ (⟨2, ![5, K]⟩ : Shape).size a) (j : (⟨2, ![1, K]⟩ : Shape).Idx) :
    boxV c x y w h ox oy ((Rect.unit (s := ⟨2, ![5, K]⟩) ![r.val, 0] ![1, K] inb).emb j) = boxRow c x y w h ox oy r (ix1 (j 1)) := by
  have h0 : (j 0).val < 1 := (j 0).isLt
  have e0 : ((Rect.unit (s := ⟨2, ![5, K]⟩) ![r.val, 0] ![1, K] inb).emb j) 0 = r := Fin.ext (by
    show r.val + 1 * (j 0).val = r.val
    omega)
  have e1 : ((Rect.unit (s := ⟨2, ![5, K]⟩) ![r.val, 0] ![1, K] inb).emb j) 1 = (j 1 : Fin K) := Fin.ext (by
    show 0 + 1 * (j 1).val = (j 1).val
    omega)
  unfold boxV
  rw [e0]
  exact congrArg (fun i => boxRow c x y w h ox oy r (ix1 i)) e1

end Cert.Targets

end
-- ==== Proof.Outputs.lean ====
/- The results of a scale, as the kernel computes them from its scores and their order. -/
module

public import proofs.«01_k».proof.Proof.Gen.KernelIdeal
public import proofs.«01_k».proof.Proof.Score
public import proofs.«01_k».proof.Proof.Finish

@[expose] public section

noncomputable section

namespace Cert.Targets

open Idealize.ShloMosaic Idealize.ShloMosaic.Routing Cert.KernelIdeal Cert.KernelIdeal.Facts₀ Cert.KernelIdeal.Facts

variable {K : ℕ}

/-- The anchors of the ranks at positions `p` of the scores `s`. -/
def anchorOut (F : SelFacts K) (s : FVec Ideal (shape1 960000) .f32) (p : IVec (shape1 K) 32) : IVec (shape1 K) 32 :=
  anchorV (extui 32 (pickedV F s p) natLt_1_32) (ancV F (remV F p))

/-- The cells of a coordinate: column `t` moved by entry `i` of the offsets `o`. -/
def cellOut (F : SelFacts K) (hi : BitVec 32) (s : FVec Ideal (shape1 960000) .f32) (p : IVec (shape1 K) 32) (t : FVec Ideal (shape2 64 1000) .f32)
    (o : FVec Ideal (shape2 5 2) .f32) (i : BitVec 32) : IVec (shape1 K) 32 :=
  clipV hi (cellV (labelIn F s p t) (offsetIn F s p o i))

/-- The boxes, one row per entry. -/
def boxOut (F : SelFacts K) (fs : BitVec 32) (s : FVec Ideal (shape1 960000) .f32) (p : IVec (shape1 K) 32) (a : FVec Ideal S64x1000x5 .f32)
    (o : FVec Ideal (shape2 5 2) .f32) : FVec Ideal (shape2 5 K) .f32 :=
  boxV (labelIn F s p (colC a)) (labelIn F s p (colX fs a)) (labelIn F s p (colY fs a)) (labelIn F s p (colW fs a)) (labelIn F s p (colH fs a))
    (offsetIn F s p o 0#32) (offsetIn F s p o 1#32)

end Cert.Targets

end
-- ==== Proof.Region0.lean ====
/- What one scale's launch leaves in its four result arrays, 16384 ranks, from the arrays it finds. -/
module

public import proofs.«01_k».proof.Proof.Gen.KernelIdeal.Frame.Region0
public import proofs.«01_k».proof.Proof.Finish
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Targets
open Idealize.ShloMosaic.ValueIdx (ix1 ix2)

variable (V : (c : Dev nD) → (b : Ref sig .tc) → Buf (Elt Ideal) ((c : Thread nD τ).loc b)) (c : Dev nD)

theorem zero0 : (![0] : Fin 1 → Nat) = fun _ => 0 := funext fun a => by fin_cases a; rfl

/-- Every input's one block starts at its first entry. -/
theorem index0 : win0_0.index t0_0 0 = 0 ∧ win0_1.index t0_0 0 = 0 ∧ win0_2.index t0_0 0 = 0 ∧ win0_3.index t0_0 0 = 0 ∧ win0_4.index t0_0 0 = 0 ∧ win0_5.index t0_0 0 = 0 ∧ win0_6.index t0_0 0 = 0 ∧ win0_7.index t0_0 0 = 0 ∧ win0_8.index t0_0 0 = 0 :=
  ⟨rfl, rfl, rfl, rfl, rfl, rfl, rfl, rfl, rfl⟩

/-- The launch's one block of each array is the array. -/
theorem blocks0 : iblk0 V c 0 t0_0 = V c main_v229
    ∧ iblk0 V c 1 t0_0 = V c main_v230
    ∧ iblk0 V c 2 t0_0 = V c main_v231
    ∧ iblk0 V c 3 t0_0 = V c main_v232
    ∧ iblk0 V c 4 t0_0 = V c main_v233
    ∧ iblk0 V c 5 t0_0 = V c main_v216
    ∧ iblk0 V c 6 t0_0 = V c main_v228
    ∧ iblk0 V c 7 t0_0 = V c main_v234
    ∧ iblk0 V c 8 t0_0 = V c main_v134 := by
  refine ⟨?_, ?_, ?_, ?_, ?_, ?_, ?_, ?_, ?_⟩ <;> (blk_ext! [iblk0, index0])

/-- The anchors. -/
theorem anchors0 : (dat0 V c).arrAt 9 cfg0.N = anchorV (V c main_v234) (V c main_v134) := by
  obtain ⟨b0, b1, b2, b3, b4, b5, b6, b7, b8⟩ := blocks0 V c
  refine (dat0 V c).arrAt_eq_of_after_last 9 t0_0 (by decide +kernel) _ fun i => ?_
  blk_simp
  rw [after0_9, b7, b8]
  unfold out0_9 k0_pay12
  rw [View.canon_unit_zero zero0, View.ld_unit_zero zero0, View.ld_unit_zero zero0]
  simp only [shapeCast_self]
  rfl

/-- The rows' cells. -/
theorem rows0 : (dat0 V c).arrAt 10 cfg0.N = clipV 79#32 (cellV (V c main_v231) (V c main_v228)) := by
  obtain ⟨b0, b1, b2, b3, b4, b5, b6, b7, b8⟩ := blocks0 V c
  refine (dat0 V c).arrAt_eq_of_after_last 10 t0_0 (by decide +kernel) _ fun i => ?_
  blk_simp
  rw [after0_10, b2, b6]
  unfold out0_10 k0_pay11 k0_pay9 k0_pay7
  rw [View.canon_unit_zero zero0, View.ld_unit_zero zero0, View.ld_unit_zero zero0]
  simp only [shapeCast_self]
  rfl

/-- The columns' cells. -/
theorem cols0 : (dat0 V c).arrAt 11 cfg0.N = clipV 79#32 (cellV (V c main_v230) (V c main_v216)) := by
  obtain ⟨b0, b1, b2, b3, b4, b5, b6, b7, b8⟩ := blocks0 V c
  refine (dat0 V c).arrAt_eq_of_after_last 11 t0_0 (by decide +kernel) _ fun i => ?_
  blk_simp
  rw [after0_11, b1, b5]
  unfold out0_11 k0_pay10 k0_pay8 k0_pay6
  rw [View.canon_unit_zero zero0, View.ld_unit_zero zero0, View.ld_unit_zero zero0]
  simp only [shapeCast_self]
  rfl

/-- The boxes, one row for each entry. -/
theorem boxes0 : (dat0 V c).arrAt 12 cfg0.N
    = boxV (V c main_v229) (V c main_v230) (V c main_v231) (V c main_v232) (V c main_v233) (V c main_v216) (V c main_v228) := by
  obtain ⟨b0, b1, b2, b3, b4, b5, b6, b7, b8⟩ := blocks0 V c
  refine (dat0 V c).arrAt_eq_of_after_last 12 t0_0 (by decide +kernel) _ fun i => ?_
  blk_simp
  rw [after0_12, b0, b1, b2, b3, b4, b5, b6]
  unfold out0_12 k0_pay1 k0_pay2 k0_pay3 k0_pay4 k0_pay5 k0_pay7 k0_pay6 k0_pay8 k0_pay9 k0_pay7 k0_pay6
  repeat rw [View.ld_unit_zero zero0]
  simp only [shapeCast_self]
  refine View.canon_apply_of_pieces (Val := Elt Ideal) (boxV (V c main_v229) (V c main_v230) (V c main_v231) (V c main_v232) (V c main_v233) (V c main_v216) (V c main_v228)) _ (fun p hp x => ?_) _ (cover0_12 _ _ _ _ _ _)
  simp only [List.mem_cons, List.not_mem_nil, or_false] at hp
  rcases hp with rfl | rfl | rfl | rfl | rfl
  · exact (row_cast shapeCasts_S16384_S1x16384 _ x).trans (box_piece _ _ _ _ _ _ _ 4 inb_S5x16384_S1x16384_4_0 x).symm
  · exact (row_cast shapeCasts_S16384_S1x16384 _ x).trans (box_piece _ _ _ _ _ _ _ 3 inb_S5x16384_S1x16384_3_0 x).symm
  · exact (row_cast shapeCasts_S16384_S1x16384 _ x).trans (box_piece _ _ _ _ _ _ _ 2 inb_S5x16384_S1x16384_2_0 x).symm
  · exact (row_cast shapeCasts_S16384_S1x16384 _ x).trans (box_piece _ _ _ _ _ _ _ 1 inb_S5x16384_S1x16384_1_0 x).symm
  · exact (row_cast shapeCasts_S16384_S1x16384 _ x).trans (box_piece _ _ _ _ _ _ _ 0 inb_S5x16384_S1x16384_0_0 x).symm

end Cert.KernelIdeal.Gen

end
-- ==== Proof.Region1.lean ====
/- What one scale's launch leaves in its four result arrays, 8192 ranks, from the arrays it finds. -/
module

public import proofs.«01_k».proof.Proof.Gen.KernelIdeal.Frame.Region1
public import proofs.«01_k».proof.Proof.Finish
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Targets
open Idealize.ShloMosaic.ValueIdx (ix1 ix2)

variable (V : (c : Dev nD) → (b : Ref sig .tc) → Buf (Elt Ideal) ((c : Thread nD τ).loc b)) (c : Dev nD)

theorem zero1 : (![0] : Fin 1 → Nat) = fun _ => 0 := funext fun a => by fin_cases a; rfl

/-- Every input's one block starts at its first entry. -/
theorem index1 : win1_0.index t1_0 0 = 0 ∧ win1_1.index t1_0 0 = 0 ∧ win1_2.index t1_0 0 = 0 ∧ win1_3.index t1_0 0 = 0 ∧ win1_4.index t1_0 0 = 0 ∧ win1_5.index t1_0 0 = 0 ∧ win1_6.index t1_0 0 = 0 ∧ win1_7.index t1_0 0 = 0 ∧ win1_8.index t1_0 0 = 0 :=
  ⟨rfl, rfl, rfl, rfl, rfl, rfl, rfl, rfl, rfl⟩

/-- The launch's one block of each array is the array. -/
theorem blocks1 : iblk1 V c 0 t1_0 = V c main_v460
    ∧ iblk1 V c 1 t1_0 = V c main_v461
    ∧ iblk1 V c 2 t1_0 = V c main_v462
    ∧ iblk1 V c 3 t1_0 = V c main_v463
    ∧ iblk1 V c 4 t1_0 = V c main_v464
    ∧ iblk1 V c 5 t1_0 = V c main_v447
    ∧ iblk1 V c 6 t1_0 = V c main_v459
    ∧ iblk1 V c 7 t1_0 = V c main_v465
    ∧ iblk1 V c 8 t1_0 = V c main_v365 := by
  refine ⟨?_, ?_, ?_, ?_, ?_, ?_, ?_, ?_, ?_⟩ <;> (blk_ext! [iblk1, index1])

/-- The anchors. -/
theorem anchors1 : (dat1 V c).arrAt 9 cfg1.N = anchorV (V c main_v465) (V c main_v365) := by
  obtain ⟨b0, b1, b2, b3, b4, b5, b6, b7, b8⟩ := blocks1 V c
  refine (dat1 V c).arrAt_eq_of_after_last 9 t1_0 (by decide +kernel) _ fun i => ?_
  blk_simp
  rw [after1_9, b7, b8]
  unfold out1_9 k1_pay12
  rw [View.canon_unit_zero zero1, View.ld_unit_zero zero1, View.ld_unit_zero zero1]
  simp only [shapeCast_self]
  rfl

/-- The rows' cells. -/
theorem rows1 : (dat1 V c).arrAt 10 cfg1.N = clipV 39#32 (cellV (V c main_v462) (V c main_v459)) := by
  obtain ⟨b0, b1, b2, b3, b4, b5, b6, b7, b8⟩ := blocks1 V c
  refine (dat1 V c).arrAt_eq_of_after_last 10 t1_0 (by decide +kernel) _ fun i => ?_
  blk_simp
  rw [after1_10, b2, b6]
  unfold out1_10 k1_pay11 k1_pay9 k1_pay7
  rw [View.canon_unit_zero zero1, View.ld_unit_zero zero1, View.ld_unit_zero zero1]
  simp only [shapeCast_self]
  rfl

/-- The columns' cells. -/
theorem cols1 : (dat1 V c).arrAt 11 cfg1.N = clipV 39#32 (cellV (V c main_v461) (V c main_v447)) := by
  obtain ⟨b0, b1, b2, b3, b4, b5, b6, b7, b8⟩ := blocks1 V c
  refine (dat1 V c).arrAt_eq_of_after_last 11 t1_0 (by decide +kernel) _ fun i => ?_
  blk_simp
  rw [after1_11, b1, b5]
  unfold out1_11 k1_pay10 k1_pay8 k1_pay6
  rw [View.canon_unit_zero zero1, View.ld_unit_zero zero1, View.ld_unit_zero zero1]
  simp only [shapeCast_self]
  rfl

/-- The boxes, one row for each entry. -/
theorem boxes1 : (dat1 V c).arrAt 12 cfg1.N
    = boxV (V c main_v460) (V c main_v461) (V c main_v462) (V c main_v463) (V c main_v464) (V c main_v447) (V c main_v459) := by
  obtain ⟨b0, b1, b2, b3, b4, b5, b6, b7, b8⟩ := blocks1 V c
  refine (dat1 V c).arrAt_eq_of_after_last 12 t1_0 (by decide +kernel) _ fun i => ?_
  blk_simp
  rw [after1_12, b0, b1, b2, b3, b4, b5, b6]
  unfold out1_12 k1_pay1 k1_pay2 k1_pay3 k1_pay4 k1_pay5 k1_pay7 k1_pay6 k1_pay8 k1_pay9 k1_pay7 k1_pay6
  repeat rw [View.ld_unit_zero zero1]
  simp only [shapeCast_self]
  refine View.canon_apply_of_pieces (Val := Elt Ideal) (boxV (V c main_v460) (V c main_v461) (V c main_v462) (V c main_v463) (V c main_v464) (V c main_v447) (V c main_v459)) _ (fun p hp x => ?_) _ (cover1_12 _ _ _ _ _ _)
  simp only [List.mem_cons, List.not_mem_nil, or_false] at hp
  rcases hp with rfl | rfl | rfl | rfl | rfl
  · exact (row_cast shapeCasts_S8192_S1x8192 _ x).trans (box_piece _ _ _ _ _ _ _ 4 inb_S5x8192_S1x8192_4_0 x).symm
  · exact (row_cast shapeCasts_S8192_S1x8192 _ x).trans (box_piece _ _ _ _ _ _ _ 3 inb_S5x8192_S1x8192_3_0 x).symm
  · exact (row_cast shapeCasts_S8192_S1x8192 _ x).trans (box_piece _ _ _ _ _ _ _ 2 inb_S5x8192_S1x8192_2_0 x).symm
  · exact (row_cast shapeCasts_S8192_S1x8192 _ x).trans (box_piece _ _ _ _ _ _ _ 1 inb_S5x8192_S1x8192_1_0 x).symm
  · exact (row_cast shapeCasts_S8192_S1x8192 _ x).trans (box_piece _ _ _ _ _ _ _ 0 inb_S5x8192_S1x8192_0_0 x).symm

end Cert.KernelIdeal.Gen

end
-- ==== Proof.Region2.lean ====
/- What one scale's launch leaves in its four result arrays, 4096 ranks, from the arrays it finds. -/
module

public import proofs.«01_k».proof.Proof.Gen.KernelIdeal.Frame.Region2
public import proofs.«01_k».proof.Proof.Finish
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Targets
open Idealize.ShloMosaic.ValueIdx (ix1 ix2)

variable (V : (c : Dev nD) → (b : Ref sig .tc) → Buf (Elt Ideal) ((c : Thread nD τ).loc b)) (c : Dev nD)

theorem zero2 : (![0] : Fin 1 → Nat) = fun _ => 0 := funext fun a => by fin_cases a; rfl

/-- Every input's one block starts at its first entry. -/
theorem index2 : win2_0.index t2_0 0 = 0 ∧ win2_1.index t2_0 0 = 0 ∧ win2_2.index t2_0 0 = 0 ∧ win2_3.index t2_0 0 = 0 ∧ win2_4.index t2_0 0 = 0 ∧ win2_5.index t2_0 0 = 0 ∧ win2_6.index t2_0 0 = 0 ∧ win2_7.index t2_0 0 = 0 ∧ win2_8.index t2_0 0 = 0 :=
  ⟨rfl, rfl, rfl, rfl, rfl, rfl, rfl, rfl, rfl⟩

/-- The launch's one block of each array is the array. -/
theorem blocks2 : iblk2 V c 0 t2_0 = V c main_v691
    ∧ iblk2 V c 1 t2_0 = V c main_v692
    ∧ iblk2 V c 2 t2_0 = V c main_v693
    ∧ iblk2 V c 3 t2_0 = V c main_v694
    ∧ iblk2 V c 4 t2_0 = V c main_v695
    ∧ iblk2 V c 5 t2_0 = V c main_v678
    ∧ iblk2 V c 6 t2_0 = V c main_v690
    ∧ iblk2 V c 7 t2_0 = V c main_v696
    ∧ iblk2 V c 8 t2_0 = V c main_v596 := by
  refine ⟨?_, ?_, ?_, ?_, ?_, ?_, ?_, ?_, ?_⟩ <;> (blk_ext! [iblk2, index2])

/-- The anchors. -/
theorem anchors2 : (dat2 V c).arrAt 9 cfg2.N = anchorV (V c main_v696) (V c main_v596) := by
  obtain ⟨b0, b1, b2, b3, b4, b5, b6, b7, b8⟩ := blocks2 V c
  refine (dat2 V c).arrAt_eq_of_after_last 9 t2_0 (by decide +kernel) _ fun i => ?_
  blk_simp
  rw [after2_9, b7, b8]
  unfold out2_9 k2_pay12
  rw [View.canon_unit_zero zero2, View.ld_unit_zero zero2, View.ld_unit_zero zero2]
  simp only [shapeCast_self]
  rfl

/-- The rows' cells. -/
theorem rows2 : (dat2 V c).arrAt 10 cfg2.N = clipV 19#32 (cellV (V c main_v693) (V c main_v690)) := by
  obtain ⟨b0, b1, b2, b3, b4, b5, b6, b7, b8⟩ := blocks2 V c
  refine (dat2 V c).arrAt_eq_of_after_last 10 t2_0 (by decide +kernel) _ fun i => ?_
  blk_simp
  rw [after2_10, b2, b6]
  unfold out2_10 k2_pay11 k2_pay9 k2_pay7
  rw [View.canon_unit_zero zero2, View.ld_unit_zero zero2, View.ld_unit_zero zero2]
  simp only [shapeCast_self]
  rfl

/-- The columns' cells. -/
theorem cols2 : (dat2 V c).arrAt 11 cfg2.N = clipV 19#32 (cellV (V c main_v692) (V c main_v678)) := by
  obtain ⟨b0, b1, b2, b3, b4, b5, b6, b7, b8⟩ := blocks2 V c
  refine (dat2 V c).arrAt_eq_of_after_last 11 t2_0 (by decide +kernel) _ fun i => ?_
  blk_simp
  rw [after2_11, b1, b5]
  unfold out2_11 k2_pay10 k2_pay8 k2_pay6
  rw [View.canon_unit_zero zero2, View.ld_unit_zero zero2, View.ld_unit_zero zero2]
  simp only [shapeCast_self]
  rfl

/-- The boxes, one row for each entry. -/
theorem boxes2 : (dat2 V c).arrAt 12 cfg2.N
    = boxV (V c main_v691) (V c main_v692) (V c main_v693) (V c main_v694) (V c main_v695) (V c main_v678) (V c main_v690) := by
  obtain ⟨b0, b1, b2, b3, b4, b5, b6, b7, b8⟩ := blocks2 V c
  refine (dat2 V c).arrAt_eq_of_after_last 12 t2_0 (by decide +kernel) _ fun i => ?_
  blk_simp
  rw [after2_12, b0, b1, b2, b3, b4, b5, b6]
  unfold out2_12 k2_pay1 k2_pay2 k2_pay3 k2_pay4 k2_pay5 k2_pay7 k2_pay6 k2_pay8 k2_pay9 k2_pay7 k2_pay6
  repeat rw [View.ld_unit_zero zero2]
  simp only [shapeCast_self]
  refine View.canon_apply_of_pieces (Val := Elt Ideal) (boxV (V c main_v691) (V c main_v692) (V c main_v693) (V c main_v694) (V c main_v695) (V c main_v678) (V c main_v690)) _ (fun p hp x => ?_) _ (cover2_12 _ _ _ _ _ _)
  simp only [List.mem_cons, List.not_mem_nil, or_false] at hp
  rcases hp with rfl | rfl | rfl | rfl | rfl
  · exact (row_cast shapeCasts_S4096_S1x4096 _ x).trans (box_piece _ _ _ _ _ _ _ 4 inb_S5x4096_S1x4096_4_0 x).symm
  · exact (row_cast shapeCasts_S4096_S1x4096 _ x).trans (box_piece _ _ _ _ _ _ _ 3 inb_S5x4096_S1x4096_3_0 x).symm
  · exact (row_cast shapeCasts_S4096_S1x4096 _ x).trans (box_piece _ _ _ _ _ _ _ 2 inb_S5x4096_S1x4096_2_0 x).symm
  · exact (row_cast shapeCasts_S4096_S1x4096 _ x).trans (box_piece _ _ _ _ _ _ _ 1 inb_S5x4096_S1x4096_1_0 x).symm
  · exact (row_cast shapeCasts_S4096_S1x4096 _ x).trans (box_piece _ _ _ _ _ _ _ 0 inb_S5x4096_S1x4096_0_0 x).symm

end Cert.KernelIdeal.Gen

end
-- ==== Proof.Results.lean ====
/- What the kernel's run leaves in its twelve results, from the labels. -/
module

public import proofs.«01_k».proof.Proof.Gen.KernelIdeal.Frame
public import proofs.«01_k».proof.Proof.Stage0
public import proofs.«01_k».proof.Proof.Turn
public import proofs.«01_k».proof.Proof.Outputs
public import proofs.«01_k».proof.Proof.Region0
public import proofs.«01_k».proof.Proof.Region1
public import proofs.«01_k».proof.Proof.Region2

@[expose] public section

set_option maxRecDepth 16384
set_option maxHeartbeats 1000000

noncomputable section

namespace Cert.KernelIdeal.Gen

open Idealize.ShloMosaic Idealize.ShloMosaic.Routing Idealize.ShloMosaic.StableHlo Idealize.ShloMosaic.TcCoe Idealize.SL.Sem Cert.Targets

/-- The scores of scale 0. -/
def score0 (a : FVec Ideal S64x1000x5 .f32) : FVec Ideal S960000 .f32 := scores 0x42A00000#32 (sizes lit0) (sizes lit1) a
/-- The positions of scale 0's ranks. -/
def order0 (a : FVec Ideal S64x1000x5 .f32) : IVec S16384 32 := orderV sel0 (comparator_f32_i32_d0 (F := Ideal)) (score0 a)
/-- Scale 0's anchors. -/
def anchor0 (a : FVec Ideal S64x1000x5 .f32) : IVec S16384 32 := anchorOut sel0 (score0 a) (order0 a)
/-- Scale 0's rows. -/
def row0 (a : FVec Ideal S64x1000x5 .f32) : IVec S16384 32 := cellOut sel0 79#32 (score0 a) (order0 a) (colY 0x42A00000#32 a) (offs lit2) 1#32
/-- Scale 0's columns. -/
def col0 (a : FVec Ideal S64x1000x5 .f32) : IVec S16384 32 := cellOut sel0 79#32 (score0 a) (order0 a) (colX 0x42A00000#32 a) (offs lit2) 0#32
/-- Scale 0's boxes, one row per entry. -/
def box0 (a : FVec Ideal S64x1000x5 .f32) : FVec Ideal S5x16384 .f32 := boxOut sel0 0x42A00000#32 (score0 a) (order0 a) a (offs lit2)
/-- Scale 0's boxes, one row per rank. -/
def boxT0 (a : FVec Ideal S64x1000x5 .f32) : FVec Ideal S16384x5 .f32 := transpose S16384x5 [1, 0] (box0 a) transposes_S5x16384_S16384x5_1_0

/-- The scores of scale 1. -/
def score1 (a : FVec Ideal S64x1000x5 .f32) : FVec Ideal S960000 .f32 := scores 0x42200000#32 (sizes lit3) (sizes lit4) a
/-- The positions of scale 1's ranks. -/
def order1 (a : FVec Ideal S64x1000x5 .f32) : IVec S8192 32 := orderV sel1 (comparator_f32_i32_d0 (F := Ideal)) (score1 a)
/-- Scale 1's anchors. -/
def anchor1 (a : FVec Ideal S64x1000x5 .f32) : IVec S8192 32 := anchorOut sel1 (score1 a) (order1 a)
/-- Scale 1's rows. -/
def row1 (a : FVec Ideal S64x1000x5 .f32) : IVec S8192 32 := cellOut sel1 39#32 (score1 a) (order1 a) (colY 0x42200000#32 a) (offs lit5) 1#32
/-- Scale 1's columns. -/
def col1 (a : FVec Ideal S64x1000x5 .f32) : IVec S8192 32 := cellOut sel1 39#32 (score1 a) (order1 a) (colX 0x42200000#32 a) (offs lit5) 0#32
/-- Scale 1's boxes, one row per entry. -/
def box1 (a : FVec Ideal S64x1000x5 .f32) : FVec Ideal S5x8192 .f32 := boxOut sel1 0x42200000#32 (score1 a) (order1 a) a (offs lit5)
/-- Scale 1's boxes, one row per rank. -/
def boxT1 (a : FVec Ideal S64x1000x5 .f32) : FVec Ideal S8192x5 .f32 := transpose S8192x5 [1, 0] (box1 a) transposes_S5x8192_S8192x5_1_0

/-- The scores of scale 2. -/
def score2 (a : FVec Ideal S64x1000x5 .f32) : FVec Ideal S960000 .f32 := scores 0x41A00000#32 (sizes lit6) (sizes lit7) a
/-- The positions of scale 2's ranks. -/
def order2 (a : FVec Ideal S64x1000x5 .f32) : IVec S4096 32 := orderV sel2 (comparator_f32_i32_d0 (F := Ideal)) (score2 a)
/-- Scale 2's anchors. -/
def anchor2 (a : FVec Ideal S64x1000x5 .f32) : IVec S4096 32 := anchorOut sel2 (score2 a) (order2 a)
/-- Scale 2's rows. -/
def row2 (a : FVec Ideal S64x1000x5 .f32) : IVec S4096 32 := cellOut sel2 19#32 (score2 a) (order2 a) (colY 0x41A00000#32 a) (offs lit8) 1#32
/-- Scale 2's columns. -/
def col2 (a : FVec Ideal S64x1000x5 .f32) : IVec S4096 32 := cellOut sel2 19#32 (score2 a) (order2 a) (colX 0x41A00000#32 a) (offs lit8) 0#32
/-- Scale 2's boxes, one row per entry. -/
def box2 (a : FVec Ideal S64x1000x5 .f32) : FVec Ideal S5x4096 .f32 := boxOut sel2 0x41A00000#32 (score2 a) (order2 a) a (offs lit8)
/-- Scale 2's boxes, one row per rank. -/
def boxT2 (a : FVec Ideal S64x1000x5 .f32) : FVec Ideal S4096x5 .f32 := transpose S4096x5 [1, 0] (box2 a) transposes_S5x4096_S4096x5_1_0

variable (m : (ℓ : Loc nD τ sig) → Buf (Elt Ideal) ℓ) (ρ : Dev nD → PrngReg) (c : Dev nD)

/-- The labels a core is launched with. -/
def labels : FVec Ideal S64x1000x5 .f32 := m ((c.tc : Thread nD τ).loc main_arg0)

/-- Scale 0's launch leaves its results. -/
theorem exit0 : W52 m ρ c (Proc.devRef .tc main_v235_0) = anchor0 (labels m c)
    ∧ W52 m ρ c (Proc.devRef .tc main_v235_1) = row0 (labels m c)
    ∧ W52 m ρ c (Proc.devRef .tc main_v235_2) = col0 (labels m c)
    ∧ W52 m ρ c (Proc.devRef .tc main_v235_3) = box0 (labels m c) := by
  obtain ⟨h0, h1, h2, h3, h4, h5, h6, h7, h8⟩ := inputs0 (W0 m ρ c) (labels m c) rfl _ rfl _ rfl _ rfl
  have hrow := congrArg (clipV (s := S16384) 79#32) (congrArg₂ (cellV (s := S16384)) h2 h6)
  have hcol := congrArg (clipV (s := S16384) 79#32) (congrArg₂ (cellV (s := S16384)) h1 h5)
  refine ⟨(W52_arr m ρ c 9).trans ((anchors0 (V51 m ρ) c).trans (congrArg₂ anchorV h7 h8)),
    (W52_arr m ρ c 10).trans ((rows0 (V51 m ρ) c).trans hrow),
    (W52_arr m ρ c 11).trans ((cols0 (V51 m ρ) c).trans hcol),
    (W52_arr m ρ c 12).trans ((boxes0 (V51 m ρ) c).trans ?_)⟩
  refine (congr (congr (congr (congr (congr (congr (congrArg boxV h0) h1) h2) h3) h4) h5) h6)

/-- The tables of the other scales after the first launch. -/
theorem tables52 : W52 m ρ c (Proc.devRef .tc main_v2) = sizes lit3
    ∧ W52 m ρ c (Proc.devRef .tc main_v3) = sizes lit4
    ∧ W52 m ρ c (Proc.devRef .tc main_v4) = sizes lit6
    ∧ W52 m ρ c (Proc.devRef .tc main_v5) = sizes lit7
    ∧ W52 m ρ c (Proc.devRef .tc main_cst_4) = offs lit5
    ∧ W52 m ρ c (Proc.devRef .tc main_cst_7) = offs lit8 := by
  obtain ⟨-, k2, k3, k4, k5, k6, k7⟩ := keepBF0 (lineA0 (W0 m ρ c))
  obtain ⟨t2, t3, t4, t5, -, t6, t7⟩ := tables0 (W0 m ρ c)
  exact ⟨(W52_of m ρ c main_v2 (by decide +kernel)).trans (k2.trans t2), (W52_of m ρ c main_v3 (by decide +kernel)).trans (k3.trans t3),
    (W52_of m ρ c main_v4 (by decide +kernel)).trans (k4.trans t4), (W52_of m ρ c main_v5 (by decide +kernel)).trans (k5.trans t5),
    (W52_of m ρ c main_cst_4 (by decide +kernel)).trans (k6.trans t6), (W52_of m ρ c main_cst_7 (by decide +kernel)).trans (k7.trans t7)⟩

/-- Scale 1's launch leaves its results. -/
theorem exit1 : W104 m ρ c (Proc.devRef .tc main_v466_0) = anchor1 (labels m c)
    ∧ W104 m ρ c (Proc.devRef .tc main_v466_1) = row1 (labels m c)
    ∧ W104 m ρ c (Proc.devRef .tc main_v466_2) = col1 (labels m c)
    ∧ W104 m ρ c (Proc.devRef .tc main_v466_3) = box1 (labels m c) := by
  obtain ⟨t2, t3, -, -, t6, -⟩ := tables52 m ρ c
  have hs : scores 0x42200000#32 (W52 m ρ c (Proc.devRef .tc main_v2)) (W52 m ρ c (Proc.devRef .tc main_v3)) (labels m c) = score1 (labels m c) := by
    rw [t2, t3]; rfl
  obtain ⟨h0, h1, h2, h3, h4, h5, h6, h7, h8⟩ := inputs1 (W52 m ρ c) (labels m c) (W52_args m ρ c main_arg0 (by decide)) _ t6 _ hs _ rfl
  have hrow := congrArg (clipV (s := S8192) 39#32) (congrArg₂ (cellV (s := S8192)) h2 h6)
  have hcol := congrArg (clipV (s := S8192) 39#32) (congrArg₂ (cellV (s := S8192)) h1 h5)
  refine ⟨(W104_arr m ρ c 9).trans ((anchors1 (V103 m ρ) c).trans (congrArg₂ anchorV h7 h8)),
    (W104_arr m ρ c 10).trans ((rows1 (V103 m ρ) c).trans hrow),
    (W104_arr m ρ c 11).trans ((cols1 (V103 m ρ) c).trans hcol),
    (W104_arr m ρ c 12).trans ((boxes1 (V103 m ρ) c).trans ?_)⟩
  refine (congr (congr (congr (congr (congr (congr (congrArg boxV h0) h1) h2) h3) h4) h5) h6)

/-- The third scale's tables and the first scale's results after the second launch. -/
theorem kept104 : W104 m ρ c (Proc.devRef .tc main_v4) = sizes lit6
    ∧ W104 m ρ c (Proc.devRef .tc main_v5) = sizes lit7
    ∧ W104 m ρ c (Proc.devRef .tc main_cst_7) = offs lit8
    ∧ W104 m ρ c (Proc.devRef .tc main_v235_0) = anchor0 (labels m c)
    ∧ W104 m ρ c (Proc.devRef .tc main_v235_1) = row0 (labels m c)
    ∧ W104 m ρ c (Proc.devRef .tc main_v235_2) = col0 (labels m c)
    ∧ W104 m ρ c (Proc.devRef .tc main_v236) = boxT0 (labels m c) := by
  obtain ⟨-, k4, k5, k7, b0, b1, b2, b3⟩ := keepBF1 (lineA1 (W52 m ρ c))
  obtain ⟨-, l4, l5, -, l7, a0, a1, a2⟩ := keepA1 (W52 m ρ c)
  obtain ⟨-, -, t4, t5, -, t7⟩ := tables52 m ρ c
  obtain ⟨e0, e1, e2, e3⟩ := exit0 m ρ c
  exact ⟨(W104_of m ρ c main_v4 (by decide +kernel)).trans (k4.trans (l4.trans t4)), (W104_of m ρ c main_v5 (by decide +kernel)).trans (k5.trans (l5.trans t5)),
    (W104_of m ρ c main_cst_7 (by decide +kernel)).trans (k7.trans (l7.trans t7)), (W104_of m ρ c main_v235_0 (by decide +kernel)).trans (b0.trans (a0.trans e0)),
    (W104_of m ρ c main_v235_1 (by decide +kernel)).trans (b1.trans (a1.trans e1)), (W104_of m ρ c main_v235_2 (by decide +kernel)).trans (b2.trans (a2.trans e2)),
    (W104_of m ρ c main_v236 (by decide +kernel)).trans (b3.trans ((turn0 (W52 m ρ c)).trans
      (congrArg (fun t => transpose S16384x5 [1, 0] t transposes_S5x16384_S16384x5_1_0) e3)))⟩

/-- Scale 2's launch leaves its results. -/
theorem exit2 : W156 m ρ c (Proc.devRef .tc main_v697_0) = anchor2 (labels m c)
    ∧ W156 m ρ c (Proc.devRef .tc main_v697_1) = row2 (labels m c)
    ∧ W156 m ρ c (Proc.devRef .tc main_v697_2) = col2 (labels m c)
    ∧ W156 m ρ c (Proc.devRef .tc main_v697_3) = box2 (labels m c) := by
  obtain ⟨t4, t5, t7, -, -, -, -⟩ := kept104 m ρ c
  have hs : scores 0x41A00000#32 (W104 m ρ c (Proc.devRef .tc main_v4)) (W104 m ρ c (Proc.devRef .tc main_v5)) (labels m c) = score2 (labels m c) := by
    rw [t4, t5]; rfl
  obtain ⟨h0, h1, h2, h3, h4, h5, h6, h7, h8⟩ := inputs2 (W104 m ρ c) (labels m c) (W104_args m ρ c main_arg0 (by decide)) _ t7 _ hs _ rfl
  have hrow := congrArg (clipV (s := S4096) 19#32) (congrArg₂ (cellV (s := S4096)) h2 h6)
  have hcol := congrArg (clipV (s := S4096) 19#32) (congrArg₂ (cellV (s := S4096)) h1 h5)
  refine ⟨(W156_arr m ρ c 9).trans ((anchors2 (V155 m ρ) c).trans (congrArg₂ anchorV h7 h8)),
    (W156_arr m ρ c 10).trans ((rows2 (V155 m ρ) c).trans hrow),
    (W156_arr m ρ c 11).trans ((cols2 (V155 m ρ) c).trans hcol),
    (W156_arr m ρ c 12).trans ((boxes2 (V155 m ρ) c).trans ?_)⟩
  refine (congr (congr (congr (congr (congr (congr (congrArg boxV h0) h1) h2) h3) h4) h5) h6)

/-- The twelve results at the end. -/
theorem results : W157 m ρ c (Proc.devRef .tc main_v235_0) = anchor0 (labels m c)
    ∧ W157 m ρ c (Proc.devRef .tc main_v235_1) = row0 (labels m c)
    ∧ W157 m ρ c (Proc.devRef .tc main_v235_2) = col0 (labels m c)
    ∧ W157 m ρ c (Proc.devRef .tc main_v236) = boxT0 (labels m c)
    ∧ W157 m ρ c (Proc.devRef .tc main_v466_0) = anchor1 (labels m c)
    ∧ W157 m ρ c (Proc.devRef .tc main_v466_1) = row1 (labels m c)
    ∧ W157 m ρ c (Proc.devRef .tc main_v466_2) = col1 (labels m c)
    ∧ W157 m ρ c (Proc.devRef .tc main_v467) = boxT1 (labels m c)
    ∧ W157 m ρ c (Proc.devRef .tc main_v697_0) = anchor2 (labels m c)
    ∧ W157 m ρ c (Proc.devRef .tc main_v697_1) = row2 (labels m c)
    ∧ W157 m ρ c (Proc.devRef .tc main_v697_2) = col2 (labels m c)
    ∧ W157 m ρ c (Proc.devRef .tc main_v698) = boxT2 (labels m c) := by
  obtain ⟨-, b0, b1, b2, b3, b4, b5, b6, b7⟩ := keepBF2 (lineA2 (W104 m ρ c))
  obtain ⟨-, -, a0, a1, a2, a3, a4, a5, a6⟩ := keepA2 (W104 m ρ c)
  obtain ⟨-, -, -, f0, f1, f2, f3⟩ := kept104 m ρ c
  obtain ⟨g0, g1, g2, g3⟩ := exit1 m ρ c
  obtain ⟨h0, h1, h2, h3⟩ := exit2 m ρ c
  have through : ∀ r : Ref sig .tc, r ∉ hostOps3_W → (∀ w : Fin cfg2.W, Pipeline.arrRef spec2 w = r → (cfg2.win w).isOut = false) →
      W157 m ρ c (Proc.devRef .tc r) = W155 m ρ c (Proc.devRef .tc r) := fun r u v => (W157_of m ρ c r u).trans (W156_of m ρ c r v)
  exact ⟨(through main_v235_0 (by decide +kernel) (by decide +kernel)).trans (b0.trans (a0.trans f0)),
    (through main_v235_1 (by decide +kernel) (by decide +kernel)).trans (b1.trans (a1.trans f1)),
    (through main_v235_2 (by decide +kernel) (by decide +kernel)).trans (b2.trans (a2.trans f2)),
    (through main_v236 (by decide +kernel) (by decide +kernel)).trans (b3.trans (a3.trans f3)),
    (through main_v466_0 (by decide +kernel) (by decide +kernel)).trans (b4.trans (a4.trans g0)),
    (through main_v466_1 (by decide +kernel) (by decide +kernel)).trans (b5.trans (a5.trans g1)),
    (through main_v466_2 (by decide +kernel) (by decide +kernel)).trans (b6.trans (a6.trans g2)),
    (through main_v467 (by decide +kernel) (by decide +kernel)).trans (b7.trans ((turn1 (W104 m ρ c)).trans
      (congrArg (fun t => transpose S8192x5 [1, 0] t transposes_S5x8192_S8192x5_1_0) g3))),
    (W157_of m ρ c main_v697_0 (by decide +kernel)).trans h0, (W157_of m ρ c main_v697_1 (by decide +kernel)).trans h1,
    (W157_of m ρ c main_v697_2 (by decide +kernel)).trans h2,
    (turn2 (W156 m ρ c)).trans (congrArg (fun t => transpose S4096x5 [1, 0] t transposes_S5x4096_S4096x5_1_0) h3)⟩

end Cert.KernelIdeal.Gen

end
-- ==== Proof.KernelRun.lean ====
/- The kernel's run, with the twelve results it leaves. -/
module

public import proofs.«01_k».proof.Proof.Results

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with the twelve results its labels call for, and the labels as launched. -/
theorem run : θ_run defs (onTc (τ := τ) (main (F := Ideal))) ⟨m, fun _ => 0, ρ⟩ (fun r => ∀ c : Dev nD,
      r.2.mem ((c.tc : Thread nD τ).loc main_v235_0) = anchor0 (labels m c)
      ∧ r.2.mem ((c.tc : Thread nD τ).loc main_v235_1) = row0 (labels m c)
      ∧ r.2.mem ((c.tc : Thread nD τ).loc main_v235_2) = col0 (labels m c)
      ∧ r.2.mem ((c.tc : Thread nD τ).loc main_v236) = boxT0 (labels m c)
      ∧ r.2.mem ((c.tc : Thread nD τ).loc main_v466_0) = anchor1 (labels m c)
      ∧ r.2.mem ((c.tc : Thread nD τ).loc main_v466_1) = row1 (labels m c)
      ∧ r.2.mem ((c.tc : Thread nD τ).loc main_v466_2) = col1 (labels m c)
      ∧ r.2.mem ((c.tc : Thread nD τ).loc main_v467) = boxT1 (labels m c)
      ∧ r.2.mem ((c.tc : Thread nD τ).loc main_v697_0) = anchor2 (labels m c)
      ∧ r.2.mem ((c.tc : Thread nD τ).loc main_v697_1) = row2 (labels m c)
      ∧ r.2.mem ((c.tc : Thread nD τ).loc main_v697_2) = col2 (labels m c)
      ∧ r.2.mem ((c.tc : Thread nD τ).loc main_v698) = boxT2 (labels m c)
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W157 m ρ c b)
    (hfin := fun c s' => by
      iintro ⟨⟨Hh, -⟩, HSI⟩
      unfold StableHlo.held
      imodintro
      iapply (pointsTo_read_all (Pipeline.ucRefs τ sig) (fun b => (((c : Thread nD τ)).1, b)) (W157 m ρ c) s')
      isplitl [Hh] <;> iassumption)
    (hQ := fun s h hz => fun c => by
      obtain ⟨h0, h1, h2, h3, h4, h5, h6, h7, h8, h9, h10, h11⟩ := results m ρ c
      exact ⟨(h c _ (mem_uc main_v235_0 (by decide))).trans h0,
        (h c _ (mem_uc main_v235_1 (by decide))).trans h1,
        (h c _ (mem_uc main_v235_2 (by decide))).trans h2,
        (h c _ (mem_uc main_v236 (by decide))).trans h3,
        (h c _ (mem_uc main_v466_0 (by decide))).trans h4,
        (h c _ (mem_uc main_v466_1 (by decide))).trans h5,
        (h c _ (mem_uc main_v466_2 (by decide))).trans h6,
        (h c _ (mem_uc main_v467 (by decide))).trans h7,
        (h c _ (mem_uc main_v697_0 (by decide))).trans h8,
        (h c _ (mem_uc main_v697_1 (by decide))).trans h9,
        (h c _ (mem_uc main_v697_2 (by decide))).trans h10,
        (h c _ (mem_uc main_v698 (by decide))).trans h11,
        (h c _ (mem_uc main_arg0 (by decide))).trans (W157_main_arg0 m ρ c)⟩)

end Cert.KernelIdeal.Gen

end
-- ==== Proof.Cells.lean ====
/- One cell of a scale's tables — a variant, a batch, a label, an anchor — as scalars, and the kernel's host vectors read there. -/
module

public import proofs.«01_k».proof.Proof.Score
public import proofs.«01_k».proof.Proof.Select

@[expose] public section

noncomputable section

namespace Cert.Targets

open Idealize.ShloMosaic Idealize.ShloMosaic.ValueIdx

/-- A word's value. -/
abbrev val (w : BitVec 32) : EReal := Ideal.ofBits .f32 w

/-- A value where a bit is set, else zero. -/
def pick (m : BitVec 1) (t : EReal) : EReal := Scalar.select m t (val 0x00000000#32)

/-- The distance to the far side, zero where the value is zero. -/
def far (fs : BitVec 32) (t : EReal) : EReal := Scalar.select (Ideal.cmp .une t (val 0x00000000#32)) (val fs - t) (val 0x00000000#32)

/-- The remainder by one, of the sign of one. -/
def frac (t : EReal) : EReal :=
  Scalar.select
    (IntOp.andi (Scalar.cmpi .ne (Ideal.cmp .olt (Ideal.remf t (val 0x3F800000#32)) (val 0x00000000#32)) (Ideal.cmp .olt (val 0x3F800000#32) (val 0x00000000#32)))
      (Ideal.cmp .une (Ideal.remf t (val 0x3F800000#32)) (val 0x00000000#32)))
    (Ideal.remf t (val 0x3F800000#32) + val 0x3F800000#32) (Ideal.remf t (val 0x3F800000#32))

/-- Whether the fraction is below a half and the value above one. -/
def near (t : EReal) : BitVec 1 := IntOp.andi (Ideal.cmp .olt (frac t) (val 0x3F000000#32)) (Ideal.cmp .ogt t (val 0x3F800000#32))

/-- A ratio or its inverse, the larger. -/
def larger (r : EReal) : EReal := max r (Ideal.div (val 0x3F800000#32) r)

/-- Whether the worse ratio is below four. -/
def fits (r : EReal) : BitVec 1 :=
  Ideal.cmp .olt (Scalar.select (Ideal.cmp .une r (val 0x00000000#32)) r (val 0x477FE000#32)) (val 0x40800000#32)

/-- Whether variant `v` is valid at the coordinates `x`, `y`. -/
def valid (fs : BitVec 32) (v : Fin 5) (x y : EReal) : BitVec 1 :=
  match v with
  | ⟨0, _⟩ => 1#1
  | ⟨1, _⟩ => near x
  | ⟨2, _⟩ => near y
  | ⟨3, _⟩ => near (far fs x)
  | ⟨4, _⟩ => near (far fs y)

/-- The number of an anchor, from one. -/
def number (n : Fin 3) : EReal := val 0x3F800000#32 + (((BitVec.ofNat 32 n.val).toInt : ℝ) : EReal)

/-- Entry `j` of a label at the scale: the class as it is, the others times the side. -/
def entry (fs : BitVec 32) (a : FVec Ideal (⟨3, ![64, 1000, 5]⟩ : Shape) .f32) (b : Fin 64) (n : Fin 1000) (j : Fin 5) : EReal :=
  match j with
  | ⟨0, _⟩ => a (ix3 b n 0)
  | ⟨i + 1, h⟩ => a (ix3 b n ⟨i + 1, h⟩) * val fs

/-- Whether a label of the first batch fits an anchor of sizes `w`, `h`. -/
def matched (fs : BitVec 32) (a : FVec Ideal (⟨3, ![64, 1000, 5]⟩ : Shape) .f32) (n : Fin 1000) (w h : EReal) : BitVec 1 :=
  fits (max (larger (Ideal.div (entry fs a 0 n 3) w)) (larger (Ideal.div (entry fs a 0 n 4) h)))

/-- The flat position of a cell. -/
def place (v : Fin 5) (b : Fin 64) (n : Fin 1000) (c : Fin 3) : Fin 960000 :=
  ⟨((v.val * 64 + b.val) * 1000 + n.val) * 3 + c.val, by
    have := v.isLt; have := b.isLt; have := n.isLt; have := c.isLt; omega⟩

/-- Every flat position is a cell's. -/
theorem place_eq (q : Fin 960000) : place ⟨q.val / 192000, by have := q.isLt; omega⟩ ⟨q.val % 192000 / 3000, by omega⟩
    ⟨q.val % 192000 / 3 % 1000, by omega⟩ ⟨q.val % 192000 % 3, by omega⟩ = q := Fin.ext (by
  have := q.isLt
  show ((q.val / 192000 * 64 + q.val % 192000 / 3000) * 1000 + q.val % 192000 / 3 % 1000) * 3 + q.val % 192000 % 3 = q.val
  omega)

section Kernel

open Cert.KernelIdeal Cert.KernelIdeal.Facts₀ Cert.KernelIdeal.Facts

variable (fs : BitVec 32) (a : FVec Ideal S64x1000x5 .f32)

/-- One column of the labels. -/
theorem column_at (o : Fin 5) (h : S64x1000x5.Slices ![0, 0, o.val] S64x1000x1) (b : Fin 64) (n : Fin 1000) :
    shapeCast S64x1000 (extractStridedSlice S64x1000x1 ![0, 0, o.val] a h) shapeCasts_S64x1000x1_S64x1000 (ix2 b n) = a (ix3 b n o) := by
  refine (shapeCast_apply (t := S64x1000) _ shapeCasts_S64x1000x1_S64x1000 _ (ix3 b n (0 : Fin 1)) ?_).trans ?_
  · refine (Shape.rowMajor_val_three _).trans (Eq.trans ?_ (Shape.rowMajor_val_two _).symm)
    show (b.val * 1000 + n.val) * 1 + 0 = b.val * 1000 + n.val
    omega
  · refine extractStridedSlice_apply _ a h _ _ fun d => ?_
    match d with
    | ⟨0, _⟩ => exact (Nat.zero_add _).symm
    | ⟨1, _⟩ => exact (Nat.zero_add _).symm
    | ⟨2, _⟩ => rfl

theorem colC_at (b : Fin 64) (n : Fin 1000) : colC a (ix2 b n) = entry fs a b n 0 := column_at a 0 _ b n
theorem colX_at (b : Fin 64) (n : Fin 1000) : colX fs a (ix2 b n) = entry fs a b n 1 := congrArg (· * val fs) (column_at a 1 _ b n)
theorem colY_at (b : Fin 64) (n : Fin 1000) : colY fs a (ix2 b n) = entry fs a b n 2 := congrArg (· * val fs) (column_at a 2 _ b n)
theorem colW_at (b : Fin 64) (n : Fin 1000) : colW fs a (ix2 b n) = entry fs a b n 3 := congrArg (· * val fs) (column_at a 3 _ b n)
theorem colH_at (b : Fin 64) (n : Fin 1000) : colH fs a (ix2 b n) = entry fs a b n 4 := congrArg (· * val fs) (column_at a 4 _ b n)

theorem ratios_at (t : FVec Ideal S64x1000 .f32) (s : FVec Ideal S1x3 .f32) (n : Fin 1000) (c : Fin 3) :
    ratios t s (ix2 n c) = Ideal.div (t (ix2 0 n)) (s (ix2 0 c)) := by
  refine congrArg₂ Ideal.div ?_ ?_
  · refine (broadcastInDim_apply _ _ _ _ (ix2 n (0 : Fin 1)) fun d => ?_).trans ?_
    · match d with
      | ⟨0, _⟩ => rfl
      | ⟨1, _⟩ => rfl
    refine (broadcastInDim_apply _ _ _ _ (ix1 n) fun d => ?_).trans ?_
    · match d with
      | ⟨0, _⟩ => rfl
    refine (shapeCast_apply _ _ _ (ix2 (0 : Fin 1) n) ?_).trans ?_
    · refine (Shape.rowMajor_val_two _).trans (Eq.trans ?_ (Shape.rowMajor_val_one _).symm)
      show 0 * 1000 + n.val = n.val
      omega
    refine extractStridedSlice_apply _ _ _ _ _ fun d => ?_
    match d with
    | ⟨0, _⟩ => rfl
    | ⟨1, _⟩ => exact (Nat.zero_add _).symm
  · refine broadcastInDim_apply _ _ _ _ (ix2 (0 : Fin 1) c) fun d => ?_
    match d with
    | ⟨0, _⟩ => rfl
    | ⟨1, _⟩ => rfl

/-- The mask at a label and an anchor. -/
theorem maskV_at (aw ah : FVec Ideal S1x3 .f32) (n : Fin 1000) (c : Fin 3) :
    maskV (colW fs a) (colH fs a) aw ah (ix2 n c) = matched fs a n (aw (ix2 0 c)) (ah (ix2 0 c)) := by
  show fits (max (larger (ratios (colW fs a) aw (ix2 n c))) (larger (ratios (colH fs a) ah (ix2 n c)))) = _
  rw [ratios_at, ratios_at, colW_at, colH_at]
  rfl

theorem mask3_at (m : IVec S1000x3 1) (b : Fin 64) (n : Fin 1000) (c : Fin 3) : mask3 m (ix3 b n c) = m (ix2 n c) := by
  refine (broadcastInDim_apply _ _ _ _ (ix3 (0 : Fin 1) n c) fun d => ?_).trans (broadcastInDim_apply _ _ _ _ (ix2 n c) fun d => ?_)
  · match d with
    | ⟨0, _⟩ => rfl
    | ⟨1, _⟩ => rfl
    | ⟨2, _⟩ => rfl
  · match d with
    | ⟨0, _⟩ => rfl
    | ⟨1, _⟩ => rfl

theorem up_at (t : FVec Ideal S64x1000 .f32) (b : Fin 64) (n : Fin 1000) : up t (ix3 b n 0) = t (ix2 b n) := by
  refine broadcastInDim_apply _ _ _ _ _ fun d => ?_
  match d with
  | ⟨0, _⟩ => rfl
  | ⟨1, _⟩ => rfl

theorem wide_at (t : FVec Ideal S64x1000x1 .f32) (b : Fin 64) (n : Fin 1000) (c : Fin 3) : wide t (ix3 b n c) = t (ix3 b n 0) := by
  refine broadcastInDim_apply _ _ _ _ _ fun d => ?_
  match d with
  | ⟨0, _⟩ => rfl
  | ⟨1, _⟩ => rfl
  | ⟨2, _⟩ => rfl

theorem numbers_at (b : Fin 64) (n : Fin 1000) (c : Fin 3) :
    broadcastInDim S64x1000x3 ![0, 1, 2] bcast_S1x1x3_S64x1000x3_0_1_2 (broadcastInDim S1x1x3 ![2] bcast_S3_S1x1x3_2
      (addf (broadcastInDim S3 ![] bcast_S_S3 (constant (F := Ideal) S_ .f32 0x3F800000#32)) (sitofp .f32 (iotaInDim S3 32 0)))) (ix3 b n c) = number c := by
  refine (broadcastInDim_apply _ _ _ _ (ix3 (0 : Fin 1) (0 : Fin 1) c) fun d => ?_).trans (broadcastInDim_apply _ _ _ _ (ix1 c) fun d => ?_)
  · match d with
    | ⟨0, _⟩ => rfl
    | ⟨1, _⟩ => rfl
    | ⟨2, _⟩ => rfl
  · match d with
    | ⟨0, _⟩ => rfl

theorem sumV_at (m : IVec S1000x3 1) (k x y w h : FVec Ideal S64x1000 .f32) (b : Fin 64) (n : Fin 1000) (c : Fin 3) :
    sumV m k x y w h (ix3 b n c) = pick (m (ix2 n c))
      (((k (ix2 b n) + x (ix2 b n)) + (y (ix2 b n) + w (ix2 b n))) + (h (ix2 b n) + number c)) := by
  refine congrArg₂ pick (mask3_at m b n c) (congrArg₂ (· + ·) ((wide_at _ b n c).trans ?_) (congrArg₂ (· + ·) ((wide_at _ b n c).trans (up_at h b n)) (numbers_at b n c)))
  exact congrArg₂ (· + ·) (congrArg₂ (· + ·) (up_at k b n) (up_at x b n)) (congrArg₂ (· + ·) (up_at y b n) (up_at w b n))

theorem keptV_at (m : IVec S1000x3 1) (t : FVec Ideal S64x1000 .f32) (b : Fin 64) (n : Fin 1000) (c : Fin 3) :
    keptV m t (ix3 b n c) = pick (m (ix2 n c)) (t (ix2 b n)) := congrArg₂ pick (mask3_at m b n c) ((wide_at _ b n c).trans (up_at t b n))

theorem nearV_at (t : FVec Ideal S64x1000x3 .f32) (i : S64x1000x3.Idx) : nearV t i = near (t i) := rfl

theorem flipV_at (t : FVec Ideal S64x1000x3 .f32) (i : S64x1000x3.Idx) : flipV fs t i = far fs (t i) := rfl

theorem layer_at {α : Type} (t : S64x1000x3.Idx → α) (b : Fin 64) (n : Fin 1000) (c : Fin 3) : layer t (ix4 0 b n c) = t (ix3 b n c) := by
  refine broadcastInDim_apply _ _ _ _ _ fun d => ?_
  match d with
  | ⟨0, _⟩ => rfl
  | ⟨1, _⟩ => rfl
  | ⟨2, _⟩ => rfl

/-- The stack of the variants' validity, at a cell. -/
theorem validV_at (n₁ n₂ n₃ n₄ : IVec S64x1000x3 1) (v : Fin 5) (b : Fin 64) (n : Fin 1000) (c : Fin 3) :
    validV n₁ n₂ n₃ n₄ (ix4 v b n c) = (![1#1, n₁ (ix3 b n c), n₂ (ix3 b n c), n₃ (ix3 b n c), n₄ (ix3 b n c)] : Fin 5 → BitVec 1) v := by
  have e := concatenate_ofFn_unit_apply (t := S5x64x1000x3) (s₁ := S1x64x1000x3) (N := 5) 0
    ![layer (broadcastInDim S64x1000x3 ![] bcast_S_S64x1000x3 (constantI S_ 1 1#1)), layer n₁, layer n₂, layer n₃, layer n₄]
    concatenates_S1x64x1000x3_S1x64x1000x3_S1x64x1000x3_S1x64x1000x3_S1x64x1000x3_S5x64x1000x3_d0 rfl rfl (ix4 v b n c) v rfl (ix4 0 b n c)
    (fun d hd => by
      match d with
      | ⟨0, _⟩ => exact absurd rfl hd
      | ⟨1, _⟩ => rfl
      | ⟨2, _⟩ => rfl
      | ⟨3, _⟩ => rfl)
  refine Eq.trans e ?_
  match v with
  | ⟨0, _⟩ => rfl
  | ⟨1, _⟩ => exact layer_at n₁ b n c
  | ⟨2, _⟩ => exact layer_at n₂ b n c
  | ⟨3, _⟩ => exact layer_at n₃ b n c
  | ⟨4, _⟩ => exact layer_at n₄ b n c

theorem scoreV_at (v : IVec S5x64x1000x3 1) (s : FVec Ideal S64x1000x3 .f32) (u : Fin 5) (b : Fin 64) (n : Fin 1000) (c : Fin 3) :
    scoreV v s (ix4 u b n c) = pick (v (ix4 u b n c)) (s (ix3 b n c)) := by
  refine congrArg (pick _) (Eq.trans (broadcastInDim_apply _ _ _ _ (ix4 (0 : Fin 1) b n c) fun d => ?_) (layer_at s b n c))
  match d with
  | ⟨0, _⟩ => rfl
  | ⟨1, _⟩ => rfl
  | ⟨2, _⟩ => rfl
  | ⟨3, _⟩ => rfl

theorem flatV_at (s : FVec Ideal S5x64x1000x3 .f32) (v : Fin 5) (b : Fin 64) (n : Fin 1000) (c : Fin 3) :
    flatV s (ix1 (place v b n c)) = s (ix4 v b n c) := by
  refine shapeCast_apply _ _ _ _ ?_
  refine (Shape.rowMajor_val_four _).trans (Eq.trans ?_ (Shape.rowMajor_val_one _).symm)
  rfl

/-- A scale's score at a cell: the label's entries and the anchor's number added up, where the variant is valid and the label fits. -/
theorem scores_at (aw ah : FVec Ideal S1x3 .f32) (v : Fin 5) (b : Fin 64) (n : Fin 1000) (c : Fin 3) :
    scores fs aw ah a (ix1 (place v b n c))
      = pick (valid fs v (pick (matched fs a n (aw (ix2 0 c)) (ah (ix2 0 c))) (entry fs a b n 1)) (pick (matched fs a n (aw (ix2 0 c)) (ah (ix2 0 c))) (entry fs a b n 2)))
          (pick (matched fs a n (aw (ix2 0 c)) (ah (ix2 0 c)))
            (((entry fs a b n 0 + entry fs a b n 1) + (entry fs a b n 2 + entry fs a b n 3)) + (entry fs a b n 4 + number c))) := by
  unfold scores
  rw [flatV_at, scoreV_at, validV_at, sumV_at, colC_at fs, colX_at, colY_at, colW_at, colH_at, maskV_at]
  refine congrArg (fun u => pick u _) ?_
  simp only [nearV_at, flipV_at, keptV_at, colX_at, colY_at, maskV_at]
  match v with
  | ⟨0, _⟩ => rfl
  | ⟨1, _⟩ => rfl
  | ⟨2, _⟩ => rfl
  | ⟨3, _⟩ => rfl
  | ⟨4, _⟩ => rfl

end Kernel

end Cert.Targets

end
-- ==== Proof.Labels.lean ====
/- The reference's tables of one scale: every label at every anchor, the variants that are valid, the sums — and what they hold at a cell. -/
module

public import proofs.«01_k».proof.Proof.Gen.ReferenceIdeal
public import proofs.«01_k».proof.Proof.Cells

@[expose] public section

set_option maxRecDepth 8192

noncomputable section

namespace Cert.Targets

open Idealize.ShloMosaic Idealize.ShloMosaic.ValueIdx Cert.ReferenceIdeal Cert.ReferenceIdeal.Facts₀ Cert.ReferenceIdeal.Facts

/-- The labels at the scale: the class as it is, the other entries times the side. -/
def labelsR (fs : BitVec 32) (a : FVec Ideal S64x1000x5 .f32) : FVec Ideal S64x1000x5 .f32 :=
  concatenate S64x1000x5 2 [⟨S64x1000x1, (extractStridedSlice S64x1000x1 ![0, 0, 0] a slices_S64x1000x5_S64x1000x1_0_0_0)⟩, ⟨S64x1000x4, (mulf (extractStridedSlice S64x1000x4 ![0, 0, 1] a slices_S64x1000x5_S64x1000x4_0_0_1) (broadcastInDim S64x1000x4 ![] bcast_S_S64x1000x4 (constant (F := Ideal) S_ .f32 fs)))⟩] concatenates_S64x1000x1_S64x1000x4_S64x1000x5_d2

/-- Every label at every anchor, with the anchor's number behind it. -/
def tableR (l : FVec Ideal S64x1000x5 .f32) : FVec Ideal S64x1000x3x6 .f32 :=
  concatenate S64x1000x3x6 3 [⟨S64x1000x3x5, (shapeCast S64x1000x3x5 (broadcastInDim S64x1000x1x3x5 ![0, 1, 2, 4] bcast_S64x1000x1x5_S64x1000x1x3x5_0_1_2_4 (broadcastInDim S64x1000x1x5 ![0, 1, 3] bcast_S64x1000x5_S64x1000x1x5_0_1_3 l)) shapeCasts_S64x1000x1x3x5_S64x1000x3x5)⟩, ⟨S64x1000x3x1, (broadcastInDim S64x1000x3x1 ![0, 1, 2, 3] bcast_S1x1x3x1_S64x1000x3x1_0_1_2_3 (shapeCast S1x1x3x1 (addf (broadcastInDim S3 ![] bcast_S_S3 (constant (F := Ideal) S_ .f32 0x3F800000#32)) (sitofp .f32 (iotaInDim S3 32 0))) shapeCasts_S3_S1x1x3x1))⟩] concatenates_S64x1000x3x5_S64x1000x3x1_S64x1000x3x6_d3

/-- The sizes over the anchors' sizes. -/
def ratiosR (t : FVec Ideal S64x1000x3x6 .f32) (s : FVec Ideal S3x2 .f32) : FVec Ideal S64x1000x3x2 .f32 :=
  Host.divf (extractStridedSlice S64x1000x3x2 ![0, 0, 0, 3] t slices_S64x1000x3x6_S64x1000x3x2_0_0_0_3) (broadcastInDim S64x1000x3x2 ![0, 1, 2, 3] bcast_S1x1x3x2_S64x1000x3x2_0_1_2_3 (broadcastInDim S1x1x3x2 ![2, 3] bcast_S3x2_S1x1x3x2_2_3 s))

/-- The worst ratio of the first batch's labels. -/
def worstR (r : FVec Ideal S64x1000x3x2 .f32) : FVec Ideal S1000x3 .f32 :=
  shapeCast S1000x3 (extractStridedSlice S1x1000x3 ![0, 0, 0] (Host.reduce FloatOps.maximumf (maximumf r (Host.divf (broadcastInDim S64x1000x3x2 ![] bcast_S_S64x1000x3x2 (constant (F := Ideal) S_ .f32 0x3F800000#32)) r)) (constant (F := Ideal) S_ .f32 0xFF800000#32) reducesTo_S64x1000x3x2_S64x1000x3_d3 h_S_) slices_S64x1000x3_S1x1000x3_0_0_0) shapeCasts_S1x1000x3_S1000x3

/-- The table where a label fits an anchor, else zero. -/
def maskedR (m : IVec S1000x3 1) (t : FVec Ideal S64x1000x3x6 .f32) : FVec Ideal S64x1000x3x6 .f32 :=
  select (broadcastInDim S64x1000x3x6 ![0, 1, 2, 3] bcast_S1x1000x3x1_S64x1000x3x6_0_1_2_3 (broadcastInDim S1x1000x3x1 ![1, 2] bcast_S1000x3_S1x1000x3x1_1_2 m)) t (broadcastInDim S64x1000x3x6 ![] bcast_S_S64x1000x3x6 (id (constant (F := Ideal) S_ .f32 0x00000000#32)))

/-- The two coordinates. -/
def coordsR (t : FVec Ideal S64x1000x3x6 .f32) : FVec Ideal S64x1000x3x2 .f32 :=
  extractStridedSlice S64x1000x3x2 ![0, 0, 0, 1] t slices_S64x1000x3x6_S64x1000x3x2_0_0_0_1

/-- The distances to the far sides. -/
def farR (fs : BitVec 32) (t : FVec Ideal S64x1000x3x2 .f32) : FVec Ideal S64x1000x3x2 .f32 :=
  select (cmpf .une t (broadcastInDim S64x1000x3x2 ![] bcast_S_S64x1000x3x2 (constant (F := Ideal) S_ .f32 0x00000000#32))) (subf (broadcastInDim S64x1000x3x2 ![] bcast_S_S64x1000x3x2 (constant (F := Ideal) S_ .f32 fs)) t) (broadcastInDim S64x1000x3x2 ![] bcast_S_S64x1000x3x2 (id (constant (F := Ideal) S_ .f32 0x00000000#32)))

/-- Which coordinates are near their cell's side. -/
def nearR (t : FVec Ideal S64x1000x3x2 .f32) : IVec S64x1000x3x2 1 :=
  let d : FVec Ideal S_ .f32 := id (constant (F := Ideal) S_ .f32 0x3F800000#32)
  let r : FVec Ideal S64x1000x3x2 .f32 := Host.remf t (broadcastInDim S64x1000x3x2 ![] bcast_S_S64x1000x3x2 d)
  andi (cmpf .olt (select (andi (cmpi .ne (cmpf .olt r (broadcastInDim S64x1000x3x2 ![] bcast_S_S64x1000x3x2 (constant (F := Ideal) S_ .f32 0x00000000#32))) (broadcastInDim S64x1000x3x2 ![] bcast_S_S64x1000x3x2 (cmpf .olt d (constant (F := Ideal) S_ .f32 0x00000000#32)))) (cmpf .une r (broadcastInDim S64x1000x3x2 ![] bcast_S_S64x1000x3x2 (constant (F := Ideal) S_ .f32 0x00000000#32)))) (addf r (broadcastInDim S64x1000x3x2 ![] bcast_S_S64x1000x3x2 d)) r) (broadcastInDim S64x1000x3x2 ![] bcast_S_S64x1000x3x2 (constant (F := Ideal) S_ .f32 0x3F000000#32))) (cmpf .ogt t (broadcastInDim S64x1000x3x2 ![] bcast_S_S64x1000x3x2 (constant (F := Ideal) S_ .f32 0x3F800000#32)))

/-- One coordinate's bits. -/
def bitX (n : IVec S64x1000x3x2 1) : IVec S64x1000x3 1 := shapeCast S64x1000x3 (extractStridedSlice S64x1000x3x1 ![0, 0, 0, 0] n slices_S64x1000x3x2_S64x1000x3x1_0_0_0_0) shapeCasts_S64x1000x3x1_S64x1000x3
/-- The other coordinate's bits. -/
def bitY (n : IVec S64x1000x3x2 1) : IVec S64x1000x3 1 := shapeCast S64x1000x3 (extractStridedSlice S64x1000x3x1 ![0, 0, 0, 1] n slices_S64x1000x3x2_S64x1000x3x1_0_0_0_1) shapeCasts_S64x1000x3x1_S64x1000x3

/-- The table's rows of every variant, zero where it is not valid, one row per cell. -/
def targetsR (v : IVec S5x64x1000x3 1) (t : FVec Ideal S64x1000x3x6 .f32) : FVec Ideal S960000x6 .f32 :=
  shapeCast S960000x6 (select (broadcastInDim S5x64x1000x3x6 ![0, 1, 2, 3, 4] bcast_S5x64x1000x3x1_S5x64x1000x3x6_0_1_2_3_4 (broadcastInDim S5x64x1000x3x1 ![0, 1, 2, 3] bcast_S5x64x1000x3_S5x64x1000x3x1_0_1_2_3 v)) (broadcastInDim S5x64x1000x3x6 ![0, 1, 2, 3, 4] bcast_S1x64x1000x3x6_S5x64x1000x3x6_0_1_2_3_4 (broadcastInDim S1x64x1000x3x6 ![1, 2, 3, 4] bcast_S64x1000x3x6_S1x64x1000x3x6_1_2_3_4 t)) (broadcastInDim S5x64x1000x3x6 ![] bcast_S_S5x64x1000x3x6 (id (constant (F := Ideal) S_ .f32 0x00000000#32)))) shapeCasts_S5x64x1000x3x6_S960000x6

/-- The rows' sums. -/
def sumsR (t : FVec Ideal S960000x6 .f32) : FVec Ideal S960000 .f32 :=
  Host.reduceAdd t (constant (F := Ideal) S_ .f32 0x00000000#32) reducesTo_S960000x6_S960000_d1 h_S_

/-- The offsets of every variant, zero where it is not valid, one row per cell. -/
def offsetsR (v : IVec S5x64x1000x3 1) (o : FVec Ideal S5x2 .f32) : FVec Ideal S960000x2 .f32 :=
  shapeCast S960000x2 (select (broadcastInDim S5x64x1000x3x2 ![0, 1, 2, 3, 4] bcast_S5x64x1000x3x1_S5x64x1000x3x2_0_1_2_3_4 (broadcastInDim S5x64x1000x3x1 ![0, 1, 2, 3] bcast_S5x64x1000x3_S5x64x1000x3x1_0_1_2_3 v)) (broadcastInDim S5x64x1000x3x2 ![0, 1, 2, 3, 4] bcast_S5x1x1x1x2_S5x64x1000x3x2_0_1_2_3_4 (shapeCast S5x1x1x1x2 (mulf o (broadcastInDim S5x2 ![] bcast_S_S5x2 (constant (F := Ideal) S_ .f32 0x3F000000#32))) shapeCasts_S5x2_S5x1x1x1x2)) (broadcastInDim S5x64x1000x3x2 ![] bcast_S_S5x64x1000x3x2 (id (constant (F := Ideal) S_ .f32 0x00000000#32)))) shapeCasts_S5x64x1000x3x2_S960000x2

/-- The masked table of a scale. -/
def bestR (fs : BitVec 32) (s : FVec Ideal S3x2 .f32) (a : FVec Ideal S64x1000x5 .f32) : FVec Ideal S64x1000x3x6 .f32 :=
  maskedR (fitsV (worstR (ratiosR (tableR (labelsR fs a)) s))) (tableR (labelsR fs a))

/-- The validity of a scale's variants. -/
def keptR (fs : BitVec 32) (x : FVec Ideal S64x1000x3x2 .f32) : IVec S5x64x1000x3 1 :=
  validV (bitX (nearR x)) (bitY (nearR x)) (bitX (nearR (farR fs x))) (bitY (nearR (farR fs x)))

/-- A scale's rows. -/
def rowsR (fs : BitVec 32) (s : FVec Ideal S3x2 .f32) (a : FVec Ideal S64x1000x5 .f32) : FVec Ideal S960000x6 .f32 :=
  targetsR (keptR fs (coordsR (bestR fs s a))) (bestR fs s a)

/-- A scale's offsets. -/
def shiftsR (fs : BitVec 32) (s : FVec Ideal S3x2 .f32) (o : FVec Ideal S5x2 .f32) (a : FVec Ideal S64x1000x5 .f32) : FVec Ideal S960000x2 .f32 :=
  offsetsR (keptR fs (coordsR (bestR fs s a))) o

section At

variable (fs : BitVec 32) (s : FVec Ideal S3x2 .f32) (o : FVec Ideal S5x2 .f32) (a : FVec Ideal S64x1000x5 .f32)

theorem labelsR_at (b : Fin 64) (n : Fin 1000) (j : Fin 5) : labelsR fs a (ix3 b n j) = entry fs a b n j := by
  match j with
  | ⟨0, _⟩ =>
    refine (concatenate_pair_apply_left (t := S64x1000x5) (s₁ := S64x1000x1) (s₂ := S64x1000x4) 2 _ _ _ _ rfl (ix3 b n (0 : Fin 1)) fun d => ?_).trans
      (extractStridedSlice_apply _ a _ _ _ fun d => ?_)
    · match d with
      | ⟨0, _⟩ => rfl
      | ⟨1, _⟩ => rfl
      | ⟨2, _⟩ => rfl
    · match d with
      | ⟨0, _⟩ => exact (Nat.zero_add _).symm
      | ⟨1, _⟩ => exact (Nat.zero_add _).symm
      | ⟨2, _⟩ => rfl
  | ⟨i + 1, h⟩ =>
    refine (concatenate_pair_apply_right (t := S64x1000x5) (s₁ := S64x1000x1) (s₂ := S64x1000x4) 2 _ _ _ _ rfl rfl (ix3 b n (⟨i, by omega⟩ : Fin 4))
      (fun d hd => ?_) rfl).trans (congrArg (· * val fs) (extractStridedSlice_apply _ a _ _ (ix3 b n ⟨i + 1, h⟩) fun d => ?_))
    · match d with
      | ⟨0, _⟩ => rfl
      | ⟨1, _⟩ => rfl
      | ⟨2, _⟩ => exact absurd rfl hd
    · match d with
      | ⟨0, _⟩ => exact (Nat.zero_add _).symm
      | ⟨1, _⟩ => exact (Nat.zero_add _).symm
      | ⟨2, _⟩ => exact Nat.add_comm _ _

/-- The table's first five entries are the label's. -/
theorem tableR_at (l : FVec Ideal S64x1000x5 .f32) (b : Fin 64) (n : Fin 1000) (c : Fin 3) (j : Fin 5) :
    tableR l (ix4 b n c (j.castSucc : Fin 6)) = l (ix3 b n j) := by
  refine (concatenate_pair_apply_left (t := S64x1000x3x6) (s₁ := S64x1000x3x5) (s₂ := S64x1000x3x1) 3 _ _ _ _ rfl (ix4 b n c j) fun d => ?_).trans ?_
  · match d with
    | ⟨0, _⟩ => rfl
    | ⟨1, _⟩ => rfl
    | ⟨2, _⟩ => rfl
    | ⟨3, _⟩ => rfl
  refine (shapeCast_apply _ _ _ (ix5 b n (0 : Fin 1) c j) ?_).trans ?_
  · refine (Shape.rowMajor_val_five _).trans (Eq.trans ?_ (Shape.rowMajor_val_four _).symm)
    show (((b.val * 1000 + n.val) * 1 + 0) * 3 + c.val) * 5 + j.val = ((b.val * 1000 + n.val) * 3 + c.val) * 5 + j.val
    omega
  refine (broadcastInDim_apply _ _ _ _ (ix4 b n (0 : Fin 1) j) fun d => ?_).trans (broadcastInDim_apply _ _ _ _ _ fun d => ?_)
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl

/-- The table's last entry is the anchor's number. -/
theorem tableR_last (l : FVec Ideal S64x1000x5 .f32) (b : Fin 64) (n : Fin 1000) (c : Fin 3) : tableR l (ix4 b n c (5 : Fin 6)) = number c := by
  refine (concatenate_pair_apply_right (t := S64x1000x3x6) (s₁ := S64x1000x3x5) (s₂ := S64x1000x3x1) 3 _ _ _ _ rfl rfl (ix4 b n c (0 : Fin 1))
    (fun d hd => ?_) rfl).trans ?_
  · match d with
    | ⟨0, _⟩ => rfl
    | ⟨1, _⟩ => rfl
    | ⟨2, _⟩ => rfl
    | ⟨3, _⟩ => exact absurd rfl hd
  refine (broadcastInDim_apply _ _ _ _ (ix4 (0 : Fin 1) (0 : Fin 1) c (0 : Fin 1)) fun d => ?_).trans ((shapeCast_apply _ _ _ (ix1 c) ?_).trans rfl)
  · match d with
    | ⟨0, _⟩ => rfl
    | ⟨1, _⟩ => rfl
    | ⟨2, _⟩ => rfl
    | ⟨3, _⟩ => rfl
  · refine (Shape.rowMajor_val_one _).trans (Eq.trans ?_ (Shape.rowMajor_val_four _).symm)
    show c.val = ((0 * 1 + 0) * 3 + c.val) * 1 + 0
    omega

theorem ratiosR_at (t : FVec Ideal S64x1000x3x6 .f32) (b : Fin 64) (n : Fin 1000) (c : Fin 3) (i : Fin 2) :
    ratiosR t s (ix4 b n c i) = Ideal.div (t (ix4 b n c (⟨3 + i.val, by omega⟩ : Fin 6))) (s (ix2 c i)) := by
  refine congrArg₂ Ideal.div (extractStridedSlice_apply _ t _ _ _ fun d => ?_)
    ((broadcastInDim_apply _ _ _ _ (ix4 (0 : Fin 1) (0 : Fin 1) c i) fun d => ?_).trans (broadcastInDim_apply _ _ _ _ _ fun d => ?_))
  · match d with
    | ⟨0, _⟩ => exact (Nat.zero_add _).symm
    | ⟨1, _⟩ => exact (Nat.zero_add _).symm
    | ⟨2, _⟩ => exact (Nat.zero_add _).symm
    | ⟨3, _⟩ => rfl
  · match d with
    | ⟨0, _⟩ => rfl
    | ⟨1, _⟩ => rfl
    | ⟨2, _⟩ => rfl
    | ⟨3, _⟩ => rfl
  · match d with
    | ⟨0, _⟩ => rfl
    | ⟨1, _⟩ => rfl

/-- A fold by the larger over two entries, from the least value. -/
theorem fold_two (f : Fin 2 → EReal) : (Finset.univ : Finset (Fin 2)).fold max ⊥ f = max (f 0) (f 1) := by
  rw [show (Finset.univ : Finset (Fin 2)) = {0, 1} from rfl, Finset.fold_insert (by decide), Finset.fold_singleton]
  exact congrArg _ (max_eq_left bot_le)

theorem least : Ideal.ofBits .f32 0xFF800000#32 = ⊥ := by simp [Ideal.ofBits, Ideal.ieee]

theorem worstR_at (r : FVec Ideal S64x1000x3x2 .f32) (n : Fin 1000) (c : Fin 3) :
    worstR r (ix2 n c) = max (larger (r (ix4 0 n c (0 : Fin 2)))) (larger (r (ix4 0 n c (1 : Fin 2)))) := by
  refine (shapeCast_apply _ _ _ (ix3 (0 : Fin 1) n c) ?_).trans ((extractStridedSlice_apply _ _ _ _ (ix3 (0 : Fin 64) n c) fun d => ?_).trans ?_)
  · refine (Shape.rowMajor_val_three _).trans (Eq.trans ?_ (Shape.rowMajor_val_two _).symm)
    show (0 * 1000 + n.val) * 3 + c.val = n.val * 3 + c.val
    omega
  · match d with
    | ⟨0, _⟩ => rfl
    | ⟨1, _⟩ => exact (Nat.zero_add _).symm
    | ⟨2, _⟩ => exact (Nat.zero_add _).symm
  have hr : S64x1000x3x2.Reduces [3] S64x1000x3 := by decide
  refine (Host.reduce_eq_fold_single (FloatOps.maximumf (F := Ideal) (φ := .f32)) _ _ _ hr _ _).trans ?_
  have hl : ∀ k : Fin 2, hr.lift (ix3 (0 : Fin 64) n c) k = ix4 (0 : Fin 64) n c k := fun k => funext fun d => Fin.ext (by
    match d with
    | ⟨0, _⟩ => rfl
    | ⟨1, _⟩ => rfl
    | ⟨2, _⟩ => rfl
    | ⟨3, _⟩ => rfl)
  refine Eq.trans (?_ : _ = (Finset.univ : Finset (Fin 2)).fold max ⊥ fun k => larger (r (ix4 0 n c k))) (fold_two _)
  rw [← least]
  exact congrArg (Finset.fold _ _ · (Finset.univ : Finset (Fin 2))) (funext fun k => congrArg (fun i => larger (r i)) (hl k))

theorem maskedR_at (m : IVec S1000x3 1) (t : FVec Ideal S64x1000x3x6 .f32) (b : Fin 64) (n : Fin 1000) (c : Fin 3) (j : Fin 6) :
    maskedR m t (ix4 b n c j) = pick (m (ix2 n c)) (t (ix4 b n c j)) := by
  refine congrArg (fun u => pick u _) ((broadcastInDim_apply _ _ _ _ (ix4 (0 : Fin 1) n c (0 : Fin 1)) fun d => ?_).trans (broadcastInDim_apply _ _ _ _ _ fun d => ?_))
  · match d with
    | ⟨0, _⟩ => rfl
    | ⟨1, _⟩ => rfl
    | ⟨2, _⟩ => rfl
    | ⟨3, _⟩ => rfl
  · match d with
    | ⟨0, _⟩ => rfl
    | ⟨1, _⟩ => rfl

theorem coordsR_at (t : FVec Ideal S64x1000x3x6 .f32) (b : Fin 64) (n : Fin 1000) (c : Fin 3) (i : Fin 2) :
    coordsR t (ix4 b n c i) = t (ix4 b n c (⟨1 + i.val, by omega⟩ : Fin 6)) := by
  refine extractStridedSlice_apply _ t _ _ _ fun d => ?_
  match d with
  | ⟨0, _⟩ => exact (Nat.zero_add _).symm
  | ⟨1, _⟩ => exact (Nat.zero_add _).symm
  | ⟨2, _⟩ => exact (Nat.zero_add _).symm
  | ⟨3, _⟩ => rfl

theorem nearR_at (t : FVec Ideal S64x1000x3x2 .f32) (i : S64x1000x3x2.Idx) : nearR t i = near (t i) := rfl

theorem farR_at (t : FVec Ideal S64x1000x3x2 .f32) (i : S64x1000x3x2.Idx) : farR fs t i = far fs (t i) := rfl

theorem bit_at (i : Fin 2) (n : IVec S64x1000x3x2 1) (h : S64x1000x3x2.Slices ![0, 0, 0, i.val] S64x1000x3x1) (b : Fin 64) (l : Fin 1000) (c : Fin 3) :
    shapeCast S64x1000x3 (extractStridedSlice S64x1000x3x1 ![0, 0, 0, i.val] n h) shapeCasts_S64x1000x3x1_S64x1000x3 (ix3 b l c) = n (ix4 b l c i) := by
  refine (shapeCast_apply _ _ _ (ix4 b l c (0 : Fin 1)) ?_).trans (extractStridedSlice_apply _ n h _ _ fun d => ?_)
  · refine (Shape.rowMajor_val_four _).trans (Eq.trans ?_ (Shape.rowMajor_val_three _).symm)
    show ((b.val * 1000 + l.val) * 3 + c.val) * 1 + 0 = (b.val * 1000 + l.val) * 3 + c.val
    omega
  · match d with
    | ⟨0, _⟩ => exact (Nat.zero_add _).symm
    | ⟨1, _⟩ => exact (Nat.zero_add _).symm
    | ⟨2, _⟩ => exact (Nat.zero_add _).symm
    | ⟨3, _⟩ => rfl

theorem bitX_at (n : IVec S64x1000x3x2 1) (b : Fin 64) (l : Fin 1000) (c : Fin 3) : bitX n (ix3 b l c) = n (ix4 b l c (0 : Fin 2)) := bit_at 0 n _ b l c
theorem bitY_at (n : IVec S64x1000x3x2 1) (b : Fin 64) (l : Fin 1000) (c : Fin 3) : bitY n (ix3 b l c) = n (ix4 b l c (1 : Fin 2)) := bit_at 1 n _ b l c

theorem keptR_at (x : FVec Ideal S64x1000x3x2 .f32) (v : Fin 5) (b : Fin 64) (n : Fin 1000) (c : Fin 3) :
    keptR fs x (ix4 v b n c) = valid fs v (x (ix4 b n c (0 : Fin 2))) (x (ix4 b n c (1 : Fin 2))) := by
  unfold keptR
  refine (validV_at _ _ _ _ v b n c).trans ?_
  rw [bitX_at, bitX_at, bitY_at, bitY_at]
  match v with
  | ⟨0, _⟩ => rfl
  | ⟨1, _⟩ => rfl
  | ⟨2, _⟩ => rfl
  | ⟨3, _⟩ => rfl
  | ⟨4, _⟩ => rfl

theorem targetsR_at (v : IVec S5x64x1000x3 1) (t : FVec Ideal S64x1000x3x6 .f32) (u : Fin 5) (b : Fin 64) (n : Fin 1000) (c : Fin 3) (j : Fin 6) :
    targetsR v t (ix2 (place u b n c) j) = pick (v (ix4 u b n c)) (t (ix4 b n c j)) := by
  refine (shapeCast_apply _ _ _ (ix5 u b n c j) ?_).trans (congrArg₂ pick
    ((broadcastInDim_apply _ _ _ _ (ix5 u b n c (0 : Fin 1)) fun d => ?_).trans (broadcastInDim_apply _ _ _ _ _ fun d => ?_))
    ((broadcastInDim_apply _ _ _ _ (ix5 (0 : Fin 1) b n c j) fun d => ?_).trans (broadcastInDim_apply _ _ _ _ _ fun d => ?_)))
  · refine (Shape.rowMajor_val_five _).trans (Eq.trans ?_ (Shape.rowMajor_val_two _).symm)
    rfl
  · match d with
    | ⟨0, _⟩ => rfl
    | ⟨1, _⟩ => rfl
    | ⟨2, _⟩ => rfl
    | ⟨3, _⟩ => rfl
    | ⟨4, _⟩ => rfl
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl
    | ⟨3, _⟩ => rfl
    | ⟨4, _⟩ => rfl
  · match d with
    | ⟨0, _⟩ => rfl
    | ⟨1, _⟩ => rfl
    | ⟨2, _⟩ => rfl
    | ⟨3, _⟩ => rfl

theorem offsetsR_at (v : IVec S5x64x1000x3 1) (u : Fin 5) (b : Fin 64) (n : Fin 1000) (c : Fin 3) (i : Fin 2) :
    offsetsR v o (ix2 (place u b n c) i) = pick (v (ix4 u b n c)) (o (ix2 u i) * val 0x3F000000#32) := by
  refine (shapeCast_apply _ _ _ (ix5 u b n c i) ?_).trans (congrArg₂ pick
    ((broadcastInDim_apply _ _ _ _ (ix5 u b n c (0 : Fin 1)) fun d => ?_).trans (broadcastInDim_apply _ _ _ _ _ fun d => ?_))
    ((broadcastInDim_apply _ _ _ _ (ix5 u (0 : Fin 1) (0 : Fin 1) (0 : Fin 1) i) fun d => ?_).trans ((shapeCast_apply _ _ _ (ix2 u i) ?_).trans rfl)))
  · refine (Shape.rowMajor_val_five _).trans (Eq.trans ?_ (Shape.rowMajor_val_two _).symm)
    rfl
  · match d with
    | ⟨0, _⟩ => rfl
    | ⟨1, _⟩ => rfl
    | ⟨2, _⟩ => rfl
    | ⟨3, _⟩ => rfl
    | ⟨4, _⟩ => rfl
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl
    | ⟨3, _⟩ => rfl
    | ⟨4, _⟩ => rfl
  · refine (Shape.rowMajor_val_two _).trans (Eq.trans ?_ (Shape.rowMajor_val_five _).symm)
    show u.val * 2 + i.val = (((u.val * 1 + 0) * 1 + 0) * 1 + 0) * 2 + i.val
    omega

/-- A row's sum is its six entries added up. -/
theorem sumsR_at (t : FVec Ideal S960000x6 .f32) (q : Fin 960000) : sumsR t (ix1 q) = ∑ j : Fin 6, t (ix2 q j) := by
  have hr : S960000x6.Reduces [1] S960000 := by decide
  have hl : ∀ k : Fin 6, hr.lift (ix1 q) k = ix2 q k := fun k => funext fun d => Fin.ext (by
    match d with
    | ⟨0, _⟩ => rfl
    | ⟨1, _⟩ => rfl)
  show Ideal.ofBits .f32 0x00000000#32 + ∑ i ∈ Finset.univ.filter (fun i => reducesTo_S960000x6_S960000_d1.drop i = ix1 q), t i = _
  rw [Ideal.ofBits_zero_f32, zero_add, Shape.ReducesTo.drop_eq_drop reducesTo_S960000x6_S960000_d1 hr, hr.sum_filter_drop_single]
  exact Finset.sum_congr rfl fun k _ => congrArg t (hl k)

theorem fitsV_at (v : FVec Ideal S1000x3 .f32) (i : S1000x3.Idx) : fitsV v i = fits (v i) := rfl

/-- The mask at a label and an anchor: the same as the kernel's. -/
theorem fitsR_at (n : Fin 1000) (c : Fin 3) :
    fitsV (worstR (ratiosR (tableR (labelsR fs a)) s)) (ix2 n c) = matched fs a n (s (ix2 c 0)) (s (ix2 c 1)) := by
  rw [fitsV_at, worstR_at, ratiosR_at, ratiosR_at]
  have e3 := (tableR_at (labelsR fs a) 0 n c 3).trans (labelsR_at fs a 0 n 3)
  have e4 := (tableR_at (labelsR fs a) 0 n c 4).trans (labelsR_at fs a 0 n 4)
  unfold matched
  rw [← e3, ← e4]
  rfl

/-- An entry of the masked table. -/
theorem bestR_at (b : Fin 64) (n : Fin 1000) (c : Fin 3) (j : Fin 6) :
    bestR fs s a (ix4 b n c j) = pick (matched fs a n (s (ix2 c 0)) (s (ix2 c 1))) (tableR (labelsR fs a) (ix4 b n c j)) := by
  unfold bestR
  rw [maskedR_at, fitsR_at]

/-- Whether a cell's variant is valid. -/
def live (fs : BitVec 32) (a : FVec Ideal S64x1000x5 .f32) (v : Fin 5) (b : Fin 64) (n : Fin 1000) (w h : EReal) : BitVec 1 :=
  valid fs v (pick (matched fs a n w h) (entry fs a b n 1)) (pick (matched fs a n w h) (entry fs a b n 2))

theorem live_at (v : Fin 5) (b : Fin 64) (n : Fin 1000) (c : Fin 3) :
    keptR fs (coordsR (bestR fs s a)) (ix4 v b n c) = live fs a v b n (s (ix2 c 0)) (s (ix2 c 1)) := by
  rw [keptR_at, coordsR_at, coordsR_at, bestR_at, bestR_at]
  have e1 := (tableR_at (labelsR fs a) b n c 1).trans (labelsR_at fs a b n 1)
  have e2 := (tableR_at (labelsR fs a) b n c 2).trans (labelsR_at fs a b n 2)
  unfold live
  rw [← e1, ← e2]
  rfl

/-- A row's first five entries: the label's, where the variant is valid and the label fits. -/
theorem rowsR_at (v : Fin 5) (b : Fin 64) (n : Fin 1000) (c : Fin 3) (j : Fin 5) :
    rowsR fs s a (ix2 (place v b n c) (j.castSucc : Fin 6))
      = pick (live fs a v b n (s (ix2 c 0)) (s (ix2 c 1))) (pick (matched fs a n (s (ix2 c 0)) (s (ix2 c 1))) (entry fs a b n j)) := by
  unfold rowsR
  rw [targetsR_at, live_at, bestR_at, tableR_at, labelsR_at]

/-- A row's last entry: the anchor's number, where the variant is valid and the label fits. -/
theorem rowsR_last (v : Fin 5) (b : Fin 64) (n : Fin 1000) (c : Fin 3) :
    rowsR fs s a (ix2 (place v b n c) (5 : Fin 6))
      = pick (live fs a v b n (s (ix2 c 0)) (s (ix2 c 1))) (pick (matched fs a n (s (ix2 c 0)) (s (ix2 c 1))) (number c)) := by
  unfold rowsR
  rw [targetsR_at, live_at, bestR_at, tableR_last]

/-- The offsets at a cell. -/
theorem shiftsR_at (v : Fin 5) (b : Fin 64) (n : Fin 1000) (c : Fin 3) (i : Fin 2) :
    shiftsR fs s o a (ix2 (place v b n c) i) = pick (live fs a v b n (s (ix2 c 0)) (s (ix2 c 1))) (o (ix2 v i) * val 0x3F000000#32) := by
  unfold shiftsR
  rw [offsetsR_at, live_at]

theorem pick_one (t : EReal) : pick 1#1 t = t := rfl
theorem pick_zero (t : EReal) : pick 0#1 t = val 0x00000000#32 := rfl

/-- A bit is zero or one. -/
theorem bit_cases (m : BitVec 1) : m = 0#1 ∨ m = 1#1 := by
  revert m; decide

/-- The two programs order the same scores. -/
theorem sums_eq (aw ah : FVec Ideal Cert.KernelIdeal.S1x3 .f32) (hw : ∀ c : Fin 3, aw (ix2 0 c) = s (ix2 c 0)) (hh : ∀ c : Fin 3, ah (ix2 0 c) = s (ix2 c 1)) :
    sumsR (rowsR fs s a) = scores fs aw ah a := by
  funext i
  obtain ⟨q, rfl⟩ : ∃ q : Fin 960000, i = ix1 q := ⟨i 0, eq_ix1 i⟩
  rw [sumsR_at, ← place_eq q, scores_at, hw, hh, Fin.sum_univ_castSucc]
  simp only [rowsR_at]
  rw [show (Fin.last 5 : Fin 6) = 5 from rfl, rowsR_last, Fin.sum_univ_five]
  unfold live
  generalize valid _ _ _ _ = u
  generalize matched _ _ _ _ _ = m
  have z : val 0x00000000#32 = 0 := Ideal.ofBits_zero_f32
  rcases bit_cases u with rfl | rfl <;> rcases bit_cases m with rfl | rfl <;> simp only [pick_one, pick_zero, z, add_zero]
  ac_rfl

end At

end Cert.Targets

end
-- ==== Proof.Take.lean ====
/- The reference's selection, at any number of ranks `K`: the order of the sums, the rows taken there, and the four results of a scale. -/
module

public import proofs.«01_k».proof.Proof.Sort
public import proofs.«01_k».proof.Proof.Words
public import Idealize.ShloMosaic.PureOps.Ideal
public import Idealize.ShloMosaic.Lib.IdealHost
public import Idealize.ShloMosaic.Lib.ReduceAll
public import Idealize.ShloMosaic.Lib.Pointwise.SelectCore

@[expose] public section

noncomputable section

namespace Cert.Targets

open Idealize.ShloMosaic hiding ix1 ix2
open Idealize.ShloMosaic.ValueIdx Idealize.ShloMosaic.Routing Idealize.ShloMosaic.WordCmp

/-- The shape facts of taking `K` rows of `w` entries. -/
structure RowFacts (K w : Nat) : Prop where
  wf : GatherDims.WF (shape2 960000 w) (shape2 K 1) (shape2 K w) [1] [0] [] [0] [] 1 ![1, w]
  row : (shape1 K).BroadcastsInDim (shape2 K w) (![0] : Fin 1 → Fin (shape2 K w).rank)
  sc : shape0.BroadcastsInDim (shape2 K w) (![] : Fin 0 → Fin (shape2 K w).rank)

/-- The shape facts of the selection of `K` ranks and of its results. -/
structure TakeFacts (K : Nat) : Prop where
  fit : (shape1 960000).Slices (fun _ => 0) (shape1 K)
  sc : shape0.BroadcastsInDim (shape1 K) (![] : Fin 0 → Fin (shape1 K).rank)
  col : (shape1 K).BroadcastsInDim (shape2 K 1) (![0] : Fin 1 → Fin (shape2 K 1).rank)
  scCol : shape0.BroadcastsInDim (shape2 K 1) (![] : Fin 0 → Fin (shape2 K 1).rank)
  one : (shape1 1).BroadcastsInDim (shape2 1 1) (![1] : Fin 1 → Fin (shape2 1 1).rank)
  oneCol : (shape2 1 1).BroadcastsInDim (shape2 K 1) (![0, 1] : Fin 2 → Fin (shape2 K 1).rank)
  red : (shape2 K 1).ReducesTo [1] (shape1 K)
  pos : 0 < shape0.numel
  six : RowFacts K 6
  two : RowFacts K 2
  s00 : (shape2 K 6).Slices ![0, 0] (shape2 K 1)
  s01 : (shape2 K 6).Slices ![0, 1] (shape2 K 2)
  s03 : (shape2 K 6).Slices ![0, 3] (shape2 K 2)
  s05 : (shape2 K 6).Slices ![0, 5] (shape2 K 1)
  flat : (shape2 K 1).ShapeCasts (shape1 K)
  swap : (shape2 K 2).Transposes [1, 0] (shape2 2 K)
  scSwap : shape0.BroadcastsInDim (shape2 2 K) (![] : Fin 0 → Fin (shape2 2 K).rank)
  r0 : (shape2 2 K).Slices ![0, 0] (shape2 1 K)
  r1 : (shape2 2 K).Slices ![1, 0] (shape2 1 K)
  flatRow : (shape2 1 K).ShapeCasts (shape1 K)
  cat : Shape.Concatenates [shape2 K 1, shape2 K 2, shape2 K 2] (shape2 K 5) (1 : Fin 2)
  le : K ≤ 960000

variable {K : Nat}

/-- The read of rows of `w` entries. -/
def rowRead {w : Nat} (R : RowFacts K w) : GatherDims (shape2 960000 w) (shape2 K 1) (shape2 K w) where
  offsetDims := [1]
  collapsedSliceDims := [0]
  operandBatchingDims := []
  startIndicesBatchingDims := []
  startIndexMap := [0]
  indexVectorDim := 1
  sliceSizes := ![1, w]
  wf := R.wf

/-- The positions of the `K` largest sums. -/
def bestOf (T : TakeFacts K) (s : FVec Ideal (shape1 960000) .f32) : IVec (shape1 K) 32 :=
  (Host.topK (shape1 K) 0 (FloatOps.cmpfTotal (F := Ideal) (φ := .f32) .gt) s T.fit).2

/-- The positions as a column. -/
def columnOf (T : TakeFacts K) (p : IVec (shape1 K) 32) : IVec (shape2 K 1) 32 := broadcastInDim (shape2 K 1) ![0] T.col (wrapV T.sc 960000#32 p)

/-- Which positions lie inside the table. -/
def inside (T : TakeFacts K) (i : IVec (shape2 K 1) 32) : IVec (shape1 K) 1 :=
  Host.reduce IntOp.andi (andi (cmpi .sge i (broadcastInDim (shape2 K 1) ![] T.scCol (constantI shape0 32 0#32)))
    (cmpi .sle i (broadcastInDim (shape2 K 1) ![0, 1] T.oneCol (broadcastInDim (shape2 1 1) ![1] T.one (constantI (shape1 1) 32 959999#32)))))
    (constantI shape0 1 1#1) T.red T.pos

/-- The table's rows at the positions. -/
def takeRows (T : TakeFacts K) {w : Nat} (R : RowFacts K w) (x : FVec Ideal (shape2 960000 w) .f32) (p : IVec (shape1 K) 32) : FVec Ideal (shape2 K w) .f32 :=
  select (broadcastInDim (shape2 K w) ![0] R.row (inside T (columnOf T p))) (Host.gather (rowRead R) x (columnOf T p))
    (broadcastInDim (shape2 K w) ![] R.sc (constant (F := Ideal) shape0 .f32 0x7FC00000#32))

/-- The coordinates of the taken rows. -/
def coordsOf (T : TakeFacts K) (t : FVec Ideal (shape2 K 6) .f32) : FVec Ideal (shape2 K 2) .f32 := extractStridedSlice (shape2 K 2) ![0, 1] t T.s01

/-- The cells of the taken rows. -/
def cellsOf (T : TakeFacts K) (x f : FVec Ideal (shape2 K 2) .f32) : IVec (shape2 K 2) 32 :=
  select (cmpf .une x (broadcastInDim (shape2 K 2) ![] T.two.sc (constant (F := Ideal) shape0 .f32 0x00000000#32))) (fptosi 32 (subf x f))
    (broadcastInDim (shape2 K 2) ![] T.two.sc (id (constantI shape0 32 0#32)))

/-- The cells clipped to `0 … hi`, one row per coordinate. -/
def clampOf (T : TakeFacts K) (hi : BitVec 32) (i : IVec (shape2 K 2) 32) : IVec (shape2 2 K) 32 :=
  minsi (broadcastInDim (shape2 2 K) ![] T.scSwap (id (constantI shape0 32 hi)))
    (maxsi (broadcastInDim (shape2 2 K) ![] T.scSwap (id (constantI shape0 32 0#32))) (transpose (shape2 2 K) [1, 0] i T.swap))

/-- The anchors. -/
def anchorOf (T : TakeFacts K) (t : FVec Ideal (shape2 K 6) .f32) : IVec (shape1 K) 32 :=
  fptosi 32 (minimumf (broadcastInDim (shape1 K) ![] T.sc (id (constant (F := Ideal) shape0 .f32 0x40800000#32)))
    (maximumf (broadcastInDim (shape1 K) ![] T.sc (id (constant (F := Ideal) shape0 .f32 0x00000000#32)))
      (subf (shapeCast (shape1 K) (extractStridedSlice (shape2 K 1) ![0, 5] t T.s05) T.flat)
        (broadcastInDim (shape1 K) ![] T.sc (constant (F := Ideal) shape0 .f32 0x3F800000#32)))))

/-- The rows of the cells. -/
def rowOf (T : TakeFacts K) (i : IVec (shape2 2 K) 32) : IVec (shape1 K) 32 := shapeCast (shape1 K) (extractStridedSlice (shape2 1 K) ![1, 0] i T.r1) T.flatRow
/-- The columns of the cells. -/
def colOf (T : TakeFacts K) (i : IVec (shape2 2 K) 32) : IVec (shape1 K) 32 := shapeCast (shape1 K) (extractStridedSlice (shape2 1 K) ![0, 0] i T.r0) T.flatRow

/-- The boxes. -/
def boxesOf (T : TakeFacts K) (t : FVec Ideal (shape2 K 6) .f32) (x : FVec Ideal (shape2 K 2) .f32) (i : IVec (shape2 K 2) 32) : FVec Ideal (shape2 K 5) .f32 :=
  concatenate (shape2 K 5) (1 : Fin 2) [⟨shape2 K 1, extractStridedSlice (shape2 K 1) ![0, 0] t T.s00⟩, ⟨shape2 K 2, subf x (sitofp .f32 i)⟩,
    ⟨shape2 K 2, extractStridedSlice (shape2 K 2) ![0, 3] t T.s03⟩] T.cat

section At

variable (T : TakeFacts K)

theorem bestOf_at (s : FVec Ideal (shape1 960000) .f32) (k : Fin K) : bestOf T s (ix1 k) = BitVec.ofNat 32 (rankFrom s (k.castLE T.le)).val :=
  topk_at s T.fit T.le k

theorem columnOf_at (p : IVec (shape1 K) 32) (k : Fin K) (q : Fin 960000) (hp : p (ix1 k) = BitVec.ofNat 32 q.val) :
    columnOf T p (ix2 k (0 : Fin 1)) = BitVec.ofNat 32 q.val := by
  have hq := q.isLt
  exact (bcCol T.col _ k).trans (wrapV_at T.sc _ p k hp (by omega))

/-- Positions of the table lie inside it. -/
theorem inside_at (p : IVec (shape1 K) 32) (hp : ∀ k : Fin K, ∃ q : Fin 960000, p (ix1 k) = BitVec.ofNat 32 q.val) (j : (shape1 K).Idx) :
    inside T (columnOf T p) j = 1#1 := by
  refine Host.reduce_andi_one _ _ _ _ _ rfl fun i => ?_
  obtain ⟨k, z, rfl⟩ : ∃ (k : Fin K) (z : Fin 1), i = ix2 k z := ⟨i 0, i 1, ValueIdx.eq_ix2 i⟩
  obtain rfl : z = 0 := Subsingleton.elim _ _
  obtain ⟨q, hq⟩ := hp k
  have ql := q.isLt
  show IntOp.andi (IntOp.cmpi .sge (columnOf T p (ix2 k (0 : Fin 1))) 0#32) (IntOp.cmpi .sle (columnOf T p (ix2 k (0 : Fin 1))) 959999#32) = 1#1
  rw [columnOf_at T p k q hq, cmpi_sge_ofNat (w := 32) (a := q.val) (b := 0) (by omega) (by omega), cmpi_sle_ofNat (w := 32) (a := q.val) (b := 959999) (by omega) (by omega),
    decide_eq_true (by omega), decide_eq_true (by omega)]
  rfl

/-- A taken row is the table's row. -/
theorem takeRows_at {w : Nat} (R : RowFacts K w) (x : FVec Ideal (shape2 960000 w) .f32) (p : IVec (shape1 K) 32)
    (hp : ∀ k : Fin K, ∃ q : Fin 960000, p (ix1 k) = BitVec.ofNat 32 q.val) (k : Fin K) (q : Fin 960000) (hk : p (ix1 k) = BitVec.ofNat 32 q.val) (y : Fin w) :
    takeRows T R x p (ix2 k y) = x (ix2 q y) := by
  have e : broadcastInDim (shape2 K w) ![0] R.row (inside T (columnOf T p)) (ix2 k y) = 1#1 :=
    inside_at T p hp _
  show Scalar.select _ _ _ = _
  rw [e]
  exact gather_row (rowRead R) rfl rfl rfl rfl rfl x _ k y q (columnOf_at T p k q hk) (by omega)

theorem coordsOf_at (t : FVec Ideal (shape2 K 6) .f32) (k : Fin K) (i : Fin 2) : coordsOf T t (ix2 k i) = t (ix2 k (⟨1 + i.val, by omega⟩ : Fin 6)) := by
  refine extractStridedSlice_apply _ t _ _ _ fun d => ?_
  match d with
  | ⟨0, _⟩ => exact (Nat.zero_add _).symm
  | ⟨1, _⟩ => rfl

/-- The cell of one coordinate: zero where the coordinate is zero. -/
def cellOfOne (x o : EReal) : BitVec 32 := Scalar.select (Ideal.cmp .one x (Ideal.ofBits .f32 0x00000000#32)) (Ideal.fptosi 32 (x - o)) 0#32

theorem cellsOf_at (x f : FVec Ideal (shape2 K 2) .f32) (j : (shape2 K 2).Idx) : cellsOf T x f j = cellOfOne (x j) (f j) := rfl

/-- A cell clipped to `0 … hi`. -/
def clipOne (hi i : BitVec 32) : BitVec 32 := IntOp.minsi hi (IntOp.maxsi 0#32 i)

theorem clampOf_at (hi : BitVec 32) (i : IVec (shape2 K 2) 32) (e : Fin 2) (k : Fin K) : clampOf T hi i (ix2 e k) = clipOne hi (i (ix2 k e)) := by
  refine congrArg (clipOne hi) (transpose_apply [1, 0] i T.swap (ix2 e k) (ix2 k e) fun d => ?_)
  match d with
  | ⟨0, _⟩ => rfl
  | ⟨1, _⟩ => rfl

theorem anchorOf_at (t : FVec Ideal (shape2 K 6) .f32) (k : Fin K) :
    anchorOf T t (ix1 k) = Ideal.fptosi 32 (min (Ideal.ofBits .f32 0x40800000#32) (max (Ideal.ofBits .f32 0x00000000#32) (t (ix2 k (5 : Fin 6)) - Ideal.ofBits .f32 0x3F800000#32))) := by
  refine congrArg (fun u => Ideal.fptosi 32 (min _ (max _ (u - _)))) ((cast21 _ T.flat k (0 : Fin 1) k (by show k.val = k.val * 1 + 0; omega)).trans
    (extractStridedSlice_apply _ t _ _ _ fun d => ?_))
  match d with
  | ⟨0, _⟩ => exact (Nat.zero_add _).symm
  | ⟨1, _⟩ => rfl

theorem rowOf_at (i : IVec (shape2 2 K) 32) (k : Fin K) : rowOf T i (ix1 k) = i (ix2 (1 : Fin 2) k) := by
  refine (cast21 _ T.flatRow (0 : Fin 1) k k (by show k.val = 0 * K + k.val; rw [Nat.zero_mul, Nat.zero_add])).trans (extractStridedSlice_apply _ i _ _ _ fun d => ?_)
  match d with
  | ⟨0, _⟩ => rfl
  | ⟨1, _⟩ => exact (Nat.zero_add _).symm

theorem colOf_at (i : IVec (shape2 2 K) 32) (k : Fin K) : colOf T i (ix1 k) = i (ix2 (0 : Fin 2) k) := by
  refine (cast21 _ T.flatRow (0 : Fin 1) k k (by show k.val = 0 * K + k.val; rw [Nat.zero_mul, Nat.zero_add])).trans (extractStridedSlice_apply _ i _ _ _ fun d => ?_)
  match d with
  | ⟨0, _⟩ => rfl
  | ⟨1, _⟩ => exact (Nat.zero_add _).symm

/-- A column and two pairs of columns side by side, at an index. -/
theorem five_at (x : (shape2 K 1).Idx → EReal) (y z : (shape2 K 2).Idx → EReal) (h : Shape.Concatenates [shape2 K 1, shape2 K 2, shape2 K 2] (shape2 K 5) (1 : Fin 2))
    (k : Fin K) (j : Fin 5) :
    concatenate (shape2 K 5) (1 : Fin 2) [⟨shape2 K 1, x⟩, ⟨shape2 K 2, y⟩, ⟨shape2 K 2, z⟩] h (ix2 k j) = match j with
      | ⟨0, _⟩ => x (ix2 k (0 : Fin 1))
      | ⟨1, _⟩ => y (ix2 k (0 : Fin 2))
      | ⟨2, _⟩ => y (ix2 k (1 : Fin 2))
      | ⟨3, _⟩ => z (ix2 k (0 : Fin 2))
      | ⟨4, _⟩ => z (ix2 k (1 : Fin 2)) := by
  rw [concatenate_cons_apply]
  match j with
  | ⟨0, _⟩ =>
    rw [concatenateAt_cons, dif_pos (by exact (by decide : (0 : ℕ) < 1))]
    exact congrArg x (funext fun d => match d with
      | ⟨0, _⟩ => rfl
      | ⟨1, _⟩ => rfl)
  | ⟨1, _⟩ =>
    rw [concatenateAt_cons, dif_neg (by exact (by decide : ¬ (1 : ℕ) < 1)), concatenateAt_cons, dif_pos (by exact (by decide : (1 - 1 : ℕ) < 2))]
    exact congrArg y (funext fun d => match d with
      | ⟨0, _⟩ => rfl
      | ⟨1, _⟩ => rfl)
  | ⟨2, _⟩ =>
    rw [concatenateAt_cons, dif_neg (by exact (by decide : ¬ (2 : ℕ) < 1)), concatenateAt_cons, dif_pos (by exact (by decide : (2 - 1 : ℕ) < 2))]
    exact congrArg y (funext fun d => match d with
      | ⟨0, _⟩ => rfl
      | ⟨1, _⟩ => rfl)
  | ⟨3, _⟩ =>
    rw [concatenateAt_cons, dif_neg (by exact (by decide : ¬ (3 : ℕ) < 1)), concatenateAt_cons, dif_neg (by exact (by decide : ¬ (3 - 1 : ℕ) < 2)), concatenateAt_singleton]
    exact congrArg z (funext fun d => match d with
      | ⟨0, _⟩ => rfl
      | ⟨1, _⟩ => rfl)
  | ⟨4, _⟩ =>
    rw [concatenateAt_cons, dif_neg (by exact (by decide : ¬ (4 : ℕ) < 1)), concatenateAt_cons, dif_neg (by exact (by decide : ¬ (4 - 1 : ℕ) < 2)), concatenateAt_singleton]
    exact congrArg z (funext fun d => match d with
      | ⟨0, _⟩ => rfl
      | ⟨1, _⟩ => rfl)

/-- A slice of columns, at an index. -/
theorem cols_at {w : Nat} (o : Nat) (t : FVec Ideal (shape2 K 6) .f32) (h : (shape2 K 6).Slices ![0, o] (shape2 K w)) (k : Fin K) (y : Fin w) (e : Fin 6)
    (he : e.val = o + y.val) : extractStridedSlice (shape2 K w) ![0, o] t h (ix2 k y) = t (ix2 k e) := by
  refine extractStridedSlice_apply _ t _ _ _ fun d => ?_
  match d with
  | ⟨0, _⟩ => exact (Nat.zero_add _).symm
  | ⟨1, _⟩ => exact he

/-- A box's entries. -/
theorem boxesOf_at (t : FVec Ideal (shape2 K 6) .f32) (x : FVec Ideal (shape2 K 2) .f32) (i : IVec (shape2 K 2) 32) (k : Fin K) (j : Fin 5) :
    boxesOf T t x i (ix2 k j) = match j with
      | ⟨0, _⟩ => t (ix2 k (0 : Fin 6))
      | ⟨1, _⟩ => x (ix2 k (0 : Fin 2)) - (((i (ix2 k (0 : Fin 2))).toInt : ℝ) : EReal)
      | ⟨2, _⟩ => x (ix2 k (1 : Fin 2)) - (((i (ix2 k (1 : Fin 2))).toInt : ℝ) : EReal)
      | ⟨3, _⟩ => t (ix2 k (3 : Fin 6))
      | ⟨4, _⟩ => t (ix2 k (4 : Fin 6)) := by
  unfold boxesOf
  rw [five_at]
  match j with
  | ⟨0, _⟩ => exact cols_at 0 t T.s00 k 0 0 rfl
  | ⟨1, _⟩ => rfl
  | ⟨2, _⟩ => rfl
  | ⟨3, _⟩ => exact cols_at 3 t T.s03 k 0 3 rfl
  | ⟨4, _⟩ => exact cols_at 3 t T.s03 k 1 4 rfl

end At

end Cert.Targets

end
-- ==== Proof.Named.lean ====
/- The reference's results of a scale as functions of the labels, and the run that leaves them. -/
module

public import proofs.«01_k».proof.Proof.Gen.ReferenceIdeal.Run
public import proofs.«01_k».proof.Proof.Labels
public import proofs.«01_k».proof.Proof.Take

@[expose] public section

set_option maxRecDepth 16384
set_option maxHeartbeats 1000000

noncomputable section

namespace Cert.Targets

open Idealize.ShloMosaic hiding ix1 ix2
open Idealize.ShloMosaic.Routing Cert.ReferenceIdeal Cert.ReferenceIdeal.Facts₀ Cert.ReferenceIdeal.Facts

section Scale

variable {K : ℕ} (T : TakeFacts K) (fs hi : BitVec 32) (s : FVec Ideal S3x2 .f32) (o : FVec Ideal S5x2 .f32) (a : FVec Ideal S64x1000x5 .f32)

/-- The positions of a scale's ranks. -/
def placesR : IVec (shape1 K) 32 := bestOf T (sumsR (rowsR fs s a))
/-- The rows of a scale's ranks. -/
def takenR : FVec Ideal (shape2 K 6) .f32 := takeRows T T.six (rowsR fs s a) (placesR T fs s a)
/-- The cells of a scale's ranks. -/
def cellsR : IVec (shape2 K 2) 32 := cellsOf T (coordsOf T (takenR T fs s a)) (takeRows T T.two (shiftsR fs s o a) (placesR T fs s a))
/-- A scale's anchors. -/
def anchorR : IVec (shape1 K) 32 := anchorOf T (takenR T fs s a)
/-- A scale's rows. -/
def rowR : IVec (shape1 K) 32 := rowOf T (clampOf T hi (cellsR T fs s o a))
/-- A scale's columns. -/
def colR : IVec (shape1 K) 32 := colOf T (clampOf T hi (cellsR T fs s o a))
/-- A scale's boxes. -/
def boxR : FVec Ideal (shape2 K 5) .f32 := boxesOf T (takenR T fs s a) (coordsOf T (takenR T fs s a)) (cellsR T fs s o a)

end Scale

/-- A table of anchors' sizes as values. -/
def sizesR (l : Fin S3x2.numel → BitVec 32) : FVec Ideal S3x2 .f32 := fun i => FloatOps.ofBits (F := Ideal) .f32 (l (S3x2.rowMajor i))
/-- A table of offsets as values. -/
def offsR (l : Fin S5x2.numel → BitVec 32) : FVec Ideal S5x2 .f32 := fun i => FloatOps.ofBits (F := Ideal) .f32 (l (S5x2.rowMajor i))

/-- The shape facts of scale 0. -/
theorem taken0 : TakeFacts 16384 where
  fit := sliceFits_S960000_S16384
  sc := bcast_S_S16384
  col := bcast_S16384_S16384x1_0
  scCol := bcast_S_S16384x1
  one := bcast_S1_S1x1_1
  oneCol := bcast_S1x1_S16384x1_0_1
  red := reducesTo_S16384x1_S16384_d1
  pos := h_S_
  six := ⟨gather_S960000x6_S16384x1_S16384x6_1_0_n_n_0_1_16_wf, bcast_S16384_S16384x6_0, bcast_S_S16384x6⟩
  two := ⟨gather_S960000x2_S16384x1_S16384x2_1_0_n_n_0_1_12_wf, bcast_S16384_S16384x2_0, bcast_S_S16384x2⟩
  s00 := slices_S16384x6_S16384x1_0_0
  s01 := slices_S16384x6_S16384x2_0_1
  s03 := slices_S16384x6_S16384x2_0_3
  s05 := slices_S16384x6_S16384x1_0_5
  flat := shapeCasts_S16384x1_S16384
  swap := transposes_S16384x2_S2x16384_1_0
  scSwap := bcast_S_S2x16384
  r0 := slices_S2x16384_S1x16384_0_0
  r1 := slices_S2x16384_S1x16384_1_0
  flatRow := shapeCasts_S1x16384_S16384
  cat := concatenates_S16384x1_S16384x2_S16384x2_S16384x5_d1
  le := by decide

/-- The shape facts of scale 1. -/
theorem taken1 : TakeFacts 8192 where
  fit := sliceFits_S960000_S8192
  sc := bcast_S_S8192
  col := bcast_S8192_S8192x1_0
  scCol := bcast_S_S8192x1
  one := bcast_S1_S1x1_1
  oneCol := bcast_S1x1_S8192x1_0_1
  red := reducesTo_S8192x1_S8192_d1
  pos := h_S_
  six := ⟨gather_S960000x6_S8192x1_S8192x6_1_0_n_n_0_1_16_wf, bcast_S8192_S8192x6_0, bcast_S_S8192x6⟩
  two := ⟨gather_S960000x2_S8192x1_S8192x2_1_0_n_n_0_1_12_wf, bcast_S8192_S8192x2_0, bcast_S_S8192x2⟩
  s00 := slices_S8192x6_S8192x1_0_0
  s01 := slices_S8192x6_S8192x2_0_1
  s03 := slices_S8192x6_S8192x2_0_3
  s05 := slices_S8192x6_S8192x1_0_5
  flat := shapeCasts_S8192x1_S8192
  swap := transposes_S8192x2_S2x8192_1_0
  scSwap := bcast_S_S2x8192
  r0 := slices_S2x8192_S1x8192_0_0
  r1 := slices_S2x8192_S1x8192_1_0
  flatRow := shapeCasts_S1x8192_S8192
  cat := concatenates_S8192x1_S8192x2_S8192x2_S8192x5_d1
  le := by decide

/-- The shape facts of scale 2. -/
theorem taken2 : TakeFacts 4096 where
  fit := sliceFits_S960000_S4096
  sc := bcast_S_S4096
  col := bcast_S4096_S4096x1_0
  scCol := bcast_S_S4096x1
  one := bcast_S1_S1x1_1
  oneCol := bcast_S1x1_S4096x1_0_1
  red := reducesTo_S4096x1_S4096_d1
  pos := h_S_
  six := ⟨gather_S960000x6_S4096x1_S4096x6_1_0_n_n_0_1_16_wf, bcast_S4096_S4096x6_0, bcast_S_S4096x6⟩
  two := ⟨gather_S960000x2_S4096x1_S4096x2_1_0_n_n_0_1_12_wf, bcast_S4096_S4096x2_0, bcast_S_S4096x2⟩
  s00 := slices_S4096x6_S4096x1_0_0
  s01 := slices_S4096x6_S4096x2_0_1
  s03 := slices_S4096x6_S4096x2_0_3
  s05 := slices_S4096x6_S4096x1_0_5
  flat := shapeCasts_S4096x1_S4096
  swap := transposes_S4096x2_S2x4096_1_0
  scSwap := bcast_S_S2x4096
  r0 := slices_S2x4096_S1x4096_0_0
  r1 := slices_S2x4096_S1x4096_1_0
  flatRow := shapeCasts_S1x4096_S4096
  cat := concatenates_S4096x1_S4096x2_S4096x2_S4096x5_d1
  le := by decide

end Cert.Targets

namespace Cert.ReferenceIdeal.Value

open Idealize.ShloMosaic Idealize.ShloMosaic.StableHlo Idealize.ShloMosaic.TcCoe Idealize.SL.Sem Cert.Targets

variable (V : Valuation τ sig (Elt Ideal))

/-- Scale 0's rows. -/
theorem rows0 : res_main_v72 V = rowsR 0x42A00000#32 (sizesR lit1) (V main_arg0) := rfl
theorem kept0 : res_main_v65 V = keptR 0x42A00000#32 (coordsR (bestR 0x42A00000#32 (sizesR lit1) (V main_arg0))) := rfl
/-- Scale 0's positions. -/
theorem places0 : res_main_indices V = placesR taken0 0x42A00000#32 (sizesR lit1) (V main_arg0) := by
  unfold res_main_indices res_main_v74
  rw [rows0]
  rfl
/-- Scale 0's taken rows. -/
theorem takes0 : res_main_v75 V = takenR taken0 0x42A00000#32 (sizesR lit1) (V main_arg0) := by
  unfold res_main_v75 res_main_call7_v5
  rw [places0, rows0]
  rfl
/-- Scale 0's cells. -/
theorem cells0 : res_main_v84 V = cellsR taken0 0x42A00000#32 (sizesR lit1) (offsR lit0) (V main_arg0) := by
  unfold res_main_v84 res_main_v78 res_main_call8_v5
  rw [takes0, places0, kept0]
  rfl

/-- Scale 1's rows. -/
theorem rows1 : res_main_v172 V = rowsR 0x42200000#32 (sizesR lit3) (V main_arg0) := rfl
theorem kept1 : res_main_v165 V = keptR 0x42200000#32 (coordsR (bestR 0x42200000#32 (sizesR lit3) (V main_arg0))) := rfl
/-- Scale 1's positions. -/
theorem places1 : res_main_indices_56 V = placesR taken1 0x42200000#32 (sizesR lit3) (V main_arg0) := by
  unfold res_main_indices_56 res_main_v174
  rw [rows1]
  rfl
/-- Scale 1's taken rows. -/
theorem takes1 : res_main_v175 V = takenR taken1 0x42200000#32 (sizesR lit3) (V main_arg0) := by
  unfold res_main_v175 res_main_call19_v5
  rw [places1, rows1]
  rfl
/-- Scale 1's cells. -/
theorem cells1 : res_main_v184 V = cellsR taken1 0x42200000#32 (sizesR lit3) (offsR lit2) (V main_arg0) := by
  unfold res_main_v184 res_main_v178 res_main_call20_v5
  rw [takes1, places1, kept1]
  rfl

/-- Scale 2's rows. -/
theorem rows2 : res_main_v272 V = rowsR 0x41A00000#32 (sizesR lit5) (V main_arg0) := rfl
theorem kept2 : res_main_v265 V = keptR 0x41A00000#32 (coordsR (bestR 0x41A00000#32 (sizesR lit5) (V main_arg0))) := rfl
/-- Scale 2's positions. -/
theorem places2 : res_main_indices_87 V = placesR taken2 0x41A00000#32 (sizesR lit5) (V main_arg0) := by
  unfold res_main_indices_87 res_main_v274
  rw [rows2]
  rfl
/-- Scale 2's taken rows. -/
theorem takes2 : res_main_v275 V = takenR taken2 0x41A00000#32 (sizesR lit5) (V main_arg0) := by
  unfold res_main_v275 res_main_call31_v5
  rw [places2, rows2]
  rfl
/-- Scale 2's cells. -/
theorem cells2 : res_main_v284 V = cellsR taken2 0x41A00000#32 (sizesR lit5) (offsR lit4) (V main_arg0) := by
  unfold res_main_v284 res_main_v278 res_main_call32_v5
  rw [takes2, places2, kept2]
  rfl

/-- The reference's run leaves the scales' results and its argument. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = anchorR taken0 0x42A00000#32 (sizesR lit1) (m ((c.tc : Thread nD τ).loc main_arg0))
      ∧ r.2.mem ((c.tc : Thread nD τ).loc main_v90) = rowR taken0 0x42A00000#32 79#32 (sizesR lit1) (offsR lit0) (m ((c.tc : Thread nD τ).loc main_arg0))
      ∧ r.2.mem ((c.tc : Thread nD τ).loc main_v88) = colR taken0 0x42A00000#32 79#32 (sizesR lit1) (offsR lit0) (m ((c.tc : Thread nD τ).loc main_arg0))
      ∧ r.2.mem ((c.tc : Thread nD τ).loc main_v99) = boxR taken0 0x42A00000#32 (sizesR lit1) (offsR lit0) (m ((c.tc : Thread nD τ).loc main_arg0))
      ∧ r.2.mem ((c.tc : Thread nD τ).loc main_v196) = anchorR taken1 0x42200000#32 (sizesR lit3) (m ((c.tc : Thread nD τ).loc main_arg0))
      ∧ r.2.mem ((c.tc : Thread nD τ).loc main_v190) = rowR taken1 0x42200000#32 39#32 (sizesR lit3) (offsR lit2) (m ((c.tc : Thread nD τ).loc main_arg0))
      ∧ r.2.mem ((c.tc : Thread nD τ).loc main_v188) = colR taken1 0x42200000#32 39#32 (sizesR lit3) (offsR lit2) (m ((c.tc : Thread nD τ).loc main_arg0))
      ∧ r.2.mem ((c.tc : Thread nD τ).loc main_v199) = boxR taken1 0x42200000#32 (sizesR lit3) (offsR lit2) (m ((c.tc : Thread nD τ).loc main_arg0))
      ∧ r.2.mem ((c.tc : Thread nD τ).loc main_v296) = anchorR taken2 0x41A00000#32 (sizesR lit5) (m ((c.tc : Thread nD τ).loc main_arg0))
      ∧ r.2.mem ((c.tc : Thread nD τ).loc main_v290) = rowR taken2 0x41A00000#32 19#32 (sizesR lit5) (offsR lit4) (m ((c.tc : Thread nD τ).loc main_arg0))
      ∧ r.2.mem ((c.tc : Thread nD τ).loc main_v288) = colR taken2 0x41A00000#32 19#32 (sizesR lit5) (offsR lit4) (m ((c.tc : Thread nD τ).loc main_arg0))
      ∧ r.2.mem ((c.tc : Thread nD τ).loc main_v299) = boxR taken2 0x41A00000#32 (sizesR lit5) (offsR lit4) (m ((c.tc : Thread nD τ).loc main_arg0))
      ∧ r.2.mem ((c.tc : Thread nD τ).loc main_arg0) = m ((c.tc : Thread nD τ).loc main_arg0) := by
  refine (θ_run defs _ _).mono (fun r h c => ?_) (run m ρ)
  have h := h c
  unfold res_main_v86 res_main_v78 at h
  rw [takes0, cells0] at h
  unfold res_main_v186 res_main_v178 at h
  rw [takes1, cells1] at h
  unfold res_main_v286 res_main_v278 at h
  rw [takes2, cells2] at h
  exact h

end Cert.ReferenceIdeal.Value

end
-- ==== Proof.Match.lean ====
/- What the two programs read at a rank where no label is negative. -/
module

public import proofs.«01_k».proof.Proof.Labels
public import proofs.«01_k».proof.Proof.Named
public import proofs.«01_k».proof.Proof.Outputs

@[expose] public section

set_option maxRecDepth 8192

noncomputable section

namespace Cert.Targets

open Idealize.ShloMosaic hiding ix1 ix2
open Idealize.ShloMosaic.ValueIdx Idealize.ShloMosaic.Routing

section Scalars

theorem val_zero : val 0x00000000#32 = 0 := Ideal.ofBits_zero_f32
theorem val_one : val 0x3F800000#32 = 1 := Ideal.ofBits_one_f32
theorem val_four : val 0x40800000#32 = ((4 : ℝ) : EReal) := by
  simp [val, Ideal.ofBits, Ideal.ieee, -EReal.coe_mul, -EReal.coe_neg]; norm_num
theorem val_half : val 0x3F000000#32 = (((1 : ℝ) / 2 : ℝ) : EReal) := by
  simp [val, Ideal.ofBits, Ideal.ieee, -EReal.coe_mul, -EReal.coe_neg]; norm_num
theorem val_neg_half : val 0xBF000000#32 = ((-((1 : ℝ) / 2) : ℝ) : EReal) := by
  simp [val, Ideal.ofBits, Ideal.ieee, -EReal.coe_mul, -EReal.coe_neg]; norm_num
theorem val_neg_one : val 0xBF800000#32 = ((-1 : ℝ) : EReal) := by
  simp [val, Ideal.ofBits, Ideal.ieee, -EReal.coe_mul, -EReal.coe_neg]; norm_num

/-- An anchor's number, from one. -/
theorem number_eq (c : Fin 3) : number c = (((1 : ℝ) + (c.val : ℝ) : ℝ) : EReal) := by
  unfold number
  rw [val_one, show (BitVec.ofNat 32 c.val).toInt = (c.val : ℤ) by revert c; decide, EReal.coe_add]
  norm_num

theorem number_pos (c : Fin 3) : 0 < number c := by
  rw [number_eq]
  exact EReal.coe_pos.2 (by positivity)

/-- The word of a small natural number's value. -/
theorem word_of (c : Fin 3) : Ideal.fptosi 32 ((c.val : ℝ) : EReal) = BitVec.ofNat 32 c.val := by
  show BitVec.ofInt 32 (max _ (min _ (if 0 ≤ (c.val : ℝ) then ⌊(c.val : ℝ)⌋ else _))) = _
  rw [if_pos (Nat.cast_nonneg _), Int.floor_natCast]
  revert c
  decide

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-- The reference's anchor of a rank that is picked. -/
theorem anchor_on (c : Fin 3) : Ideal.fptosi 32 (min (val 0x40800000#32) (max (val 0x00000000#32) (number c - val 0x3F800000#32))) = BitVec.ofNat 32 c.val := by
  rw [val_four, val_zero, val_one, number_eq, ← EReal.coe_one, ← EReal.coe_sub, ← EReal.coe_zero, ← coe_max, ← coe_min, add_sub_cancel_left]
  have h : (c.val : ℝ) ≤ 4 := by
    have := c.isLt
    exact_mod_cast (by omega : c.val ≤ 4)
  rw [max_eq_right (Nat.cast_nonneg _), min_eq_right h]
  exact word_of c

/-- The reference's anchor of a rank that is not picked. -/
theorem anchor_off : Ideal.fptosi 32 (min (val 0x40800000#32) (max (val 0x00000000#32) (val 0x00000000#32 - val 0x3F800000#32))) = 0#32 := by
  rw [val_four, val_zero, val_one, ← EReal.coe_one, ← EReal.coe_zero, ← EReal.coe_sub, ← coe_max, ← coe_min]
  rw [show min (4 : ℝ) (max 0 (0 - 1)) = ((0 : Fin 3).val : ℝ) by norm_num]
  exact word_of 0

/-- A masked positive value is positive exactly where both masks hold. -/
theorem positive (u m : BitVec 1) (t : EReal) (ht : 0 < t) : Ideal.cmp .ogt (pick u (pick m t)) 0 = u &&& m := by
  rcases bit_cases u with rfl | rfl <;> rcases bit_cases m with rfl | rfl <;> simp only [pick_one, pick_zero, val_zero] <;>
    simp [Ideal.cmp, ht]

theorem pick_and (u m : BitVec 1) (t : EReal) : pick (u &&& m) t = pick u (pick m t) := by
  rcases bit_cases u with rfl | rfl <;> rcases bit_cases m with rfl | rfl <;> rfl

/-- A cell does not depend on the offset where the coordinate is masked away. -/
theorem cell_mask (u m : BitVec 1) (t o : EReal) : cellOfOne (pick u (pick m t)) (pick (u &&& m) o) = cellOfOne (pick u (pick m t)) (pick u o) := by
  have z : ∀ o : EReal, cellOfOne (val 0x00000000#32) o = 0#32 := fun o => by
    unfold cellOfOne
    rw [show Ideal.cmp .one (val 0x00000000#32) (Ideal.ofBits .f32 0x00000000#32) = 0#1 by simp [Ideal.cmp, val]]
    rfl
  rcases bit_cases u with rfl | rfl
  · rw [pick_zero, z, z]
  · rcases bit_cases m with rfl | rfl
    · rw [pick_one, pick_zero, z, z]
    · rfl

end Scalars

section Nonneg

variable (fs : BitVec 32) (a : FVec Ideal Cert.ReferenceIdeal.S64x1000x5 .f32) (hf : 0 ≤ val fs) (ha : ∀ i, 0 ≤ a i)

include hf ha in
theorem entry_nonneg (b : Fin 64) (n : Fin 1000) (j : Fin 5) : 0 ≤ entry fs a b n j := by
  match j with
  | ⟨0, _⟩ => exact ha _
  | ⟨i + 1, h⟩ => exact mul_nonneg (ha _) hf

include hf ha in
/-- A label's score is positive. -/
theorem sum_pos (b : Fin 64) (n : Fin 1000) (c : Fin 3) :
    0 < ((entry fs a b n 0 + entry fs a b n 1) + (entry fs a b n 2 + entry fs a b n 3)) + (entry fs a b n 4 + number c) := by
  have h := entry_nonneg fs a hf ha b n
  refine lt_of_lt_of_le (number_pos c) (le_trans (le_add_of_nonneg_left (h 4)) (le_add_of_nonneg_left ?_))
  exact add_nonneg (add_nonneg (h 0) (h 1)) (add_nonneg (h 2) (h 3))

end Nonneg

/-- The variant of a position. -/
def varOf (q : Fin 960000) : Fin 5 := ⟨q.val / 192000, by have := q.isLt; omega⟩
/-- The batch of a position. -/
def batOf (q : Fin 960000) : Fin 64 := ⟨q.val % 192000 / 3000, by omega⟩
/-- The label of a position. -/
def labOf (q : Fin 960000) : Fin 1000 := ⟨q.val % 192000 / 3 % 1000, by omega⟩
/-- The anchor of a position. -/
def ancOf (q : Fin 960000) : Fin 3 := ⟨q.val % 192000 % 3, by omega⟩

theorem place_of (q : Fin 960000) : place (varOf q) (batOf q) (labOf q) (ancOf q) = q := place_eq q

/-- What ties the two programs' constants of a scale: the anchors' sizes, the offsets, a side that is not negative; and no label is negative. -/
structure Tied (cmpr : (EReal × BitVec 32) → (EReal × BitVec 32) → BitVec 1) (fs : BitVec 32) (aw ah : FVec Ideal Cert.KernelIdeal.S1x3 .f32)
    (s : FVec Ideal Cert.ReferenceIdeal.S3x2 .f32) (ok or : FVec Ideal (shape2 5 2) .f32) (a : FVec Ideal Cert.ReferenceIdeal.S64x1000x5 .f32) : Prop where
  hc : ∀ l r, cmpr l r = Ideal.cmp .olt l.1 r.1
  hw : ∀ c : Fin 3, aw (ix2 0 c) = s (ix2 c 0)
  hh : ∀ c : Fin 3, ah (ix2 0 c) = s (ix2 c 1)
  ho : ∀ (v : Fin 5) (i : Fin 2), ok (ix2 v i) = or (ix2 v i) * val 0x3F000000#32
  hf : 0 ≤ val fs
  ha : ∀ i, 0 ≤ a i

section Scale

variable {K : ℕ} (F : SelFacts K) (T : TakeFacts K) {cmpr : (EReal × BitVec 32) → (EReal × BitVec 32) → BitVec 1} {fs : BitVec 32}
  {aw ah : FVec Ideal Cert.KernelIdeal.S1x3 .f32} {s : FVec Ideal Cert.ReferenceIdeal.S3x2 .f32} {ok or : FVec Ideal (shape2 5 2) .f32}
  {a : FVec Ideal Cert.ReferenceIdeal.S64x1000x5 .f32} (E : Tied cmpr fs aw ah s ok or a) (k : Fin K)

/-- The position of rank `k`. -/
def posOf (K : ℕ) (hK : K ≤ 960000) (fs : BitVec 32) (aw ah : FVec Ideal Cert.KernelIdeal.S1x3 .f32) (a : FVec Ideal Cert.ReferenceIdeal.S64x1000x5 .f32) (k : Fin K) :
    Fin 960000 := rankFrom (scores fs aw ah a) (k.castLE hK)

/-- Whether a position's variant is valid. -/
def liveAt (fs : BitVec 32) (s : FVec Ideal Cert.ReferenceIdeal.S3x2 .f32) (a : FVec Ideal Cert.ReferenceIdeal.S64x1000x5 .f32) (q : Fin 960000) : BitVec 1 :=
  live fs a (varOf q) (batOf q) (labOf q) (s (ix2 (ancOf q) 0)) (s (ix2 (ancOf q) 1))
/-- Whether a position's label fits its anchor. -/
def fitAt (fs : BitVec 32) (s : FVec Ideal Cert.ReferenceIdeal.S3x2 .f32) (a : FVec Ideal Cert.ReferenceIdeal.S64x1000x5 .f32) (q : Fin 960000) : BitVec 1 :=
  matched fs a (labOf q) (s (ix2 (ancOf q) 0)) (s (ix2 (ancOf q) 1))

include E

theorem order_at : orderV F cmpr (scores fs aw ah a) (ix1 k) = BitVec.ofNat 32 (posOf K F.le fs aw ah a k).val := orderV_at F cmpr E.hc _ k

theorem places_at : placesR T fs s a (ix1 k) = BitVec.ofNat 32 (posOf K F.le fs aw ah a k).val := by
  unfold placesR
  rw [sums_eq fs s a aw ah E.hw E.hh]
  exact bestOf_at T _ k

theorem picked_at : pickedV F (scores fs aw ah a) (orderV F cmpr (scores fs aw ah a)) (ix1 k)
    = liveAt fs s a (posOf K F.le fs aw ah a k) &&& fitAt fs s a (posOf K F.le fs aw ah a k) := by
  rw [pickedV_at F _ _ k _ (order_at F E k)]
  generalize posOf K F.le fs aw ah a k = q
  have e := scores_at fs a aw ah (varOf q) (batOf q) (labOf q) (ancOf q)
  rw [place_of, E.hw, E.hh] at e
  rw [e]
  exact positive _ _ _ (sum_pos fs a E.hf E.ha _ _ _)

/-- An entry the kernel's launch reads. -/
theorem labelIn_at (x : FVec Ideal (shape2 64 1000) .f32) (j : Fin 5) (hx : ∀ b n, x (ix2 b n) = entry fs a b n j) :
    labelIn F (scores fs aw ah a) (orderV F cmpr (scores fs aw ah a)) x (ix1 k)
      = pick (liveAt fs s a (posOf K F.le fs aw ah a k)) (pick (fitAt fs s a (posOf K F.le fs aw ah a k))
          (entry fs a (batOf (posOf K F.le fs aw ah a k)) (labOf (posOf K F.le fs aw ah a k)) j)) := by
  have hp := order_at F E k
  have hq := (posOf K F.le fs aw ah a k).isLt
  unfold labelIn
  rw [keepV_at, picked_at F E k, takeLab_at F x _ _ k (batOf _) (labOf _) (batV_at F _ k hp hq) (labV_at F _ k hp hq), hx, ← val_zero]
  exact pick_and _ _ _

/-- An offset the kernel's launch reads. -/
theorem offsetIn_at (i : Fin 2) : offsetIn F (scores fs aw ah a) (orderV F cmpr (scores fs aw ah a)) ok (BitVec.ofNat 32 i.val) (ix1 k)
      = pick (liveAt fs s a (posOf K F.le fs aw ah a k) &&& fitAt fs s a (posOf K F.le fs aw ah a k)) (or (ix2 (varOf (posOf K F.le fs aw ah a k)) i) * val 0x3F000000#32) := by
  have hp := order_at F E k
  have hq := (posOf K F.le fs aw ah a k).isLt
  unfold offsetIn
  rw [keepV_at, picked_at F E k, takeOff_at F ok _ k (varOf _) i (varV_at F _ k hp hq), E.ho, ← val_zero]
  rfl

/-- A row the reference takes. -/
theorem taken_at (j : Fin 6) : takenR T fs s a (ix2 k j) = rowsR fs s a (ix2 (posOf K F.le fs aw ah a k) j) :=
  takeRows_at T T.six _ _ (fun k => ⟨_, places_at F T E k⟩) k _ (places_at F T E k) j

theorem taken_entry (j : Fin 5) : takenR T fs s a (ix2 k (j.castSucc : Fin 6))
      = pick (liveAt fs s a (posOf K F.le fs aw ah a k)) (pick (fitAt fs s a (posOf K F.le fs aw ah a k))
          (entry fs a (batOf (posOf K F.le fs aw ah a k)) (labOf (posOf K F.le fs aw ah a k)) j)) := by
  rw [taken_at F T E k]
  generalize posOf K F.le fs aw ah a k = q
  have e := rowsR_at fs s a (varOf q) (batOf q) (labOf q) (ancOf q) j
  rw [place_of] at e
  exact e

theorem taken_last : takenR T fs s a (ix2 k (5 : Fin 6))
      = pick (liveAt fs s a (posOf K F.le fs aw ah a k)) (pick (fitAt fs s a (posOf K F.le fs aw ah a k)) (number (ancOf (posOf K F.le fs aw ah a k)))) := by
  rw [taken_at F T E k]
  generalize posOf K F.le fs aw ah a k = q
  have e := rowsR_last fs s a (varOf q) (batOf q) (labOf q) (ancOf q)
  rw [place_of] at e
  exact e

/-- An offset the reference takes. -/
theorem shift_at (i : Fin 2) : takeRows T T.two (shiftsR fs s or a) (placesR T fs s a) (ix2 k i)
      = pick (liveAt fs s a (posOf K F.le fs aw ah a k)) (or (ix2 (varOf (posOf K F.le fs aw ah a k)) i) * val 0x3F000000#32) := by
  rw [takeRows_at T T.two _ _ (fun k => ⟨_, places_at F T E k⟩) k _ (places_at F T E k) i]
  generalize posOf K F.le fs aw ah a k = q
  have e := shiftsR_at fs s or a (varOf q) (batOf q) (labOf q) (ancOf q) i
  rw [place_of] at e
  exact e

end Scale

end Cert.Targets

end
-- ==== Proof.Same.lean ====
/- The two programs' results of a scale are equal where no label is negative. -/
module

public import proofs.«01_k».proof.Proof.Match

@[expose] public section

noncomputable section

namespace Cert.Targets

open Idealize.ShloMosaic hiding ix1 ix2
open Idealize.ShloMosaic.ValueIdx Idealize.ShloMosaic.Routing

section Parts

variable {K : ℕ}

theorem cellV_at (x o : FVec Ideal (shape1 K) .f32) (k : Fin K) : cellV x o (ix1 k) = cellOfOne (x (ix1 k)) (o (ix1 k)) := rfl

theorem clipV_at (hi : BitVec 32) (i : IVec (shape1 K) 32) (k : Fin K) : clipV hi i (ix1 k) = clipOne hi (i (ix1 k)) := rfl

/-- The inside of a cell at a rank. -/
theorem within_at (x : FVec Ideal (shape1 K) .f32) (i : IVec (shape1 K) 32) (k : Fin K) :
    subf x (sitofp .f32 i) (ix1 k) = x (ix1 k) - (((i (ix1 k)).toInt : ℝ) : EReal) := rfl

/-- Boxes whose entries agree. -/
theorem boxes_agree (T : TakeFacts K) (c x y w h ox oy : FVec Ideal (shape1 K) .f32) (t : FVec Ideal (shape2 K 6) .f32) (e : IVec (shape2 K 2) 32) (k : Fin K)
    (h0 : c (ix1 k) = t (ix2 k (0 : Fin 6))) (h1 : x (ix1 k) = t (ix2 k (1 : Fin 6))) (h2 : y (ix1 k) = t (ix2 k (2 : Fin 6))) (h3 : w (ix1 k) = t (ix2 k (3 : Fin 6)))
    (h4 : h (ix1 k) = t (ix2 k (4 : Fin 6))) (hx : cellV x ox (ix1 k) = e (ix2 k (0 : Fin 2))) (hy : cellV y oy (ix1 k) = e (ix2 k (1 : Fin 2))) (j : Fin 5) :
    boxV c x y w h ox oy (ix2 j k) = boxesOf T t (coordsOf T t) e (ix2 k j) := by
  rw [boxesOf_at]
  match j with
  | ⟨0, _⟩ => exact h0
  | ⟨1, _⟩ =>
    refine (within_at x (cellV x ox) k).trans ?_
    rw [hx, h1]
    exact congrArg (fun z => z - (((e (ix2 k (0 : Fin 2))).toInt : ℝ) : EReal)) (coordsOf_at T t k 0).symm
  | ⟨2, _⟩ =>
    refine (within_at y (cellV y oy) k).trans ?_
    rw [hy, h2]
    exact congrArg (fun z => z - (((e (ix2 k (1 : Fin 2))).toInt : ℝ) : EReal)) (coordsOf_at T t k 1).symm
  | ⟨3, _⟩ => exact h3
  | ⟨4, _⟩ => exact h4

end Parts

section Scale

variable {K : ℕ} (F : SelFacts K) (T : TakeFacts K) {cmpr : (EReal × BitVec 32) → (EReal × BitVec 32) → BitVec 1} {fs : BitVec 32}
  {aw ah : FVec Ideal Cert.KernelIdeal.S1x3 .f32} {s : FVec Ideal Cert.ReferenceIdeal.S3x2 .f32} {ok or : FVec Ideal (shape2 5 2) .f32}
  {a : FVec Ideal Cert.ReferenceIdeal.S64x1000x5 .f32} (E : Tied cmpr fs aw ah s ok or a) (k : Fin K)

include E

/-- An entry the kernel's launch reads is the one the reference takes. -/
theorem entry_eq (x : FVec Ideal (shape2 64 1000) .f32) (j : Fin 5) (hx : ∀ b n, x (ix2 b n) = entry fs a b n j) :
    labelIn F (scores fs aw ah a) (orderV F cmpr (scores fs aw ah a)) x (ix1 k) = takenR T fs s a (ix2 k (j.castSucc : Fin 6)) :=
  (labelIn_at F E k x j hx).trans (taken_entry F T E k j).symm

/-- The two programs' cells of a coordinate. -/
theorem cell_eq (i : Fin 2) (d : Fin 5) (hd : (d.castSucc : Fin 6) = (⟨1 + i.val, by omega⟩ : Fin 6)) (x : FVec Ideal (shape2 64 1000) .f32)
    (hx : ∀ b n, x (ix2 b n) = entry fs a b n d) :
    cellV (labelIn F (scores fs aw ah a) (orderV F cmpr (scores fs aw ah a)) x)
      (offsetIn F (scores fs aw ah a) (orderV F cmpr (scores fs aw ah a)) ok (BitVec.ofNat 32 i.val)) (ix1 k) = cellsR T fs s or a (ix2 k i) := by
  unfold cellsR
  rw [cellsOf_at, shift_at F T E k i, coordsOf_at, ← hd, taken_entry F T E k d, cellV_at, labelIn_at F E k x d hx, offsetIn_at F E k i]
  exact cell_mask _ _ _ _

/-- The two programs' anchors. -/
theorem anchor_eq : anchorOut F (scores fs aw ah a) (orderV F cmpr (scores fs aw ah a)) = anchorR T fs s a := by
  funext j
  obtain ⟨k, rfl⟩ : ∃ k : Fin K, j = ix1 k := ⟨j 0, ValueIdx.eq_ix1 j⟩
  unfold anchorR
  rw [anchorOf_at, taken_last F T E k]
  have e := picked_at F E k
  have c := ancV_at F _ k (order_at F E k) (posOf K F.le fs aw ah a k).isLt
  show Scalar.select (IntOp.cmpi .ne ((pickedV F _ _ (ix1 k)).setWidth 32) 0#32) (ancV F _ (ix1 k)) 0#32 = _
  rw [e, c]
  generalize liveAt fs s a (posOf K F.le fs aw ah a k) = u
  generalize fitAt fs s a (posOf K F.le fs aw ah a k) = m
  generalize posOf K F.le fs aw ah a k = q
  rcases bit_cases u with rfl | rfl <;> rcases bit_cases m with rfl | rfl <;> simp only [pick_one, pick_zero]
  · exact anchor_off.symm
  · exact anchor_off.symm
  · exact anchor_off.symm
  · exact (anchor_on (ancOf q)).symm

/-- The two programs' rows of cells. -/
theorem row_eq (hi : BitVec 32) : cellOut F hi (scores fs aw ah a) (orderV F cmpr (scores fs aw ah a)) (colY fs a) ok 1#32 = rowR T fs hi s or a := by
  funext j
  obtain ⟨k, rfl⟩ : ∃ k : Fin K, j = ix1 k := ⟨j 0, ValueIdx.eq_ix1 j⟩
  unfold rowR
  rw [rowOf_at, clampOf_at, ← cell_eq F T E k 1 2 rfl (colY fs a) (colY_at fs a)]
  rfl

/-- The two programs' columns of cells. -/
theorem col_eq (hi : BitVec 32) : cellOut F hi (scores fs aw ah a) (orderV F cmpr (scores fs aw ah a)) (colX fs a) ok 0#32 = colR T fs hi s or a := by
  funext j
  obtain ⟨k, rfl⟩ : ∃ k : Fin K, j = ix1 k := ⟨j 0, ValueIdx.eq_ix1 j⟩
  unfold colR
  rw [colOf_at, clampOf_at, ← cell_eq F T E k 0 1 rfl (colX fs a) (colX_at fs a)]
  rfl

/-- The two programs' boxes. -/
theorem box_eq (h : (shape2 5 K).Transposes [1, 0] (shape2 K 5)) :
    transpose (shape2 K 5) [1, 0] (boxOut F fs (scores fs aw ah a) (orderV F cmpr (scores fs aw ah a)) a ok) h = boxR T fs s or a := by
  funext i
  obtain ⟨k, j, rfl⟩ : ∃ (k : Fin K) (j : Fin 5), i = ix2 k j := ⟨i 0, i 1, ValueIdx.eq_ix2 i⟩
  refine (transpose_apply [1, 0] _ h (ix2 k j) (ix2 j k) fun d => by
    match d with
    | ⟨0, _⟩ => rfl
    | ⟨1, _⟩ => rfl).trans ?_
  unfold boxR boxOut
  exact boxes_agree T _ _ _ _ _ _ _ _ _ k (entry_eq F T E k (colC a) 0 (colC_at fs a)) (entry_eq F T E k (colX fs a) 1 (colX_at fs a))
    (entry_eq F T E k (colY fs a) 2 (colY_at fs a)) (entry_eq F T E k (colW fs a) 3 (colW_at fs a)) (entry_eq F T E k (colH fs a) 4 (colH_at fs a))
    (cell_eq F T E k 0 1 rfl (colX fs a) (colX_at fs a)) (cell_eq F T E k 1 2 rfl (colY fs a) (colY_at fs a)) j

end Scale

end Cert.Targets

end
-- ==== Proof.Tables.lean ====
/- What ties the two programs' constants of each scale, and what the precondition says of the labels. -/
module

public import proofs.«01_k».proof.Proof.Same
public import proofs.«01_k».proof.Proof.Results
public import proofs.«01_k».proof.Pre_nonneg
public import Idealize.ShloMosaic.Lib.ReduceAll

@[expose] public section

noncomputable section

namespace Cert.Targets

open Idealize.ShloMosaic hiding ix1 ix2
open Idealize.ShloMosaic.ValueIdx Idealize.ShloMosaic.Routing Cert.KernelIdeal.Gen

/-- The value the kernel's sort compares for `x`. -/
theorem sort_key (x y : EReal) :
    Scalar.select (Ideal.cmp .une x x) y (Scalar.select (Ideal.cmp .oeq x (Ideal.ofBits .f32 0x00000000#32)) (Ideal.ofBits .f32 0x00000000#32) x) = x := by
  rw [show Ideal.cmp .une x x = 0#1 by simp [Ideal.cmp]]
  show Scalar.select _ _ _ = x
  rw [Ideal.ofBits_zero_f32]
  by_cases h : x = 0
  · subst h; simp [Ideal.cmp, Scalar.select]
  · simp [Ideal.cmp, Scalar.select, h]

/-- The kernel's sort orders by the scores alone. -/
theorem sort_order (l r : EReal × BitVec 32) : Cert.KernelIdeal.comparator_f32_i32_d0 (F := Ideal) l r = Ideal.cmp .olt l.1 r.1 :=
  congrArg₂ (Ideal.cmp .olt) (sort_key l.1 _) (sort_key r.1 _)

/-- A table of sizes at an anchor. -/
theorem sizes_at (l : Fin 3 → BitVec 32) (c : Fin 3) : sizes l (ix2 0 c) = val (l c) := by
  match c with
  | ⟨0, _⟩ => rfl
  | ⟨1, _⟩ => rfl
  | ⟨2, _⟩ => rfl

/-- A sizes' table of the reference at an anchor and a side. -/
theorem sizesR_at (l : Fin 6 → BitVec 32) (c : Fin 3) (i : Fin 2) : sizesR l (ix2 c i) = val (l ⟨c.val * 2 + i.val, by omega⟩) :=
  congrArg (fun q => val (l q)) (Fin.ext (Shape.rowMajor_val_two _))

/-- The kernel's offsets are the reference's, halved. -/
theorem offs_at (l r : Fin 10 → BitVec 32) (h : ∀ q, val (l q) = val (r q) * val 0x3F000000#32) (v : Fin 5) (i : Fin 2) :
    offs l (ix2 v i) = offsR r (ix2 v i) * val 0x3F000000#32 := h _

theorem half_zero : val 0x00000000#32 = val 0x00000000#32 * val 0x3F000000#32 := by rw [val_zero, zero_mul]
theorem half_one : val 0x3F000000#32 = val 0x3F800000#32 * val 0x3F000000#32 := by rw [val_one, one_mul]
theorem half_neg : val 0xBF000000#32 = val 0xBF800000#32 * val 0x3F000000#32 := by
  rw [val_neg_half, val_neg_one, val_half, ← EReal.coe_mul]
  norm_num

/-- The words of the offsets: the reference's moves, and their halves. -/
theorem moves (q : Fin 10) : val (Cert.KernelIdeal.lit2 q) = val (Cert.ReferenceIdeal.lit0 q) * val 0x3F000000#32 := by
  fin_cases q
  · exact half_zero
  · exact half_zero
  · exact half_one
  · exact half_zero
  · exact half_zero
  · exact half_one
  · exact half_neg
  · exact half_zero
  · exact half_zero
  · exact half_neg

theorem side0 : 0 ≤ val 0x42A00000#32 := by
  rw [show val 0x42A00000#32 = ((80 : ℝ) : EReal) by simp [val, Ideal.ofBits, Ideal.ieee, -EReal.coe_mul, -EReal.coe_neg]; norm_num]
  exact EReal.coe_nonneg.2 (by norm_num)
theorem side1 : 0 ≤ val 0x42200000#32 := by
  rw [show val 0x42200000#32 = ((40 : ℝ) : EReal) by simp [val, Ideal.ofBits, Ideal.ieee, -EReal.coe_mul, -EReal.coe_neg]; norm_num]
  exact EReal.coe_nonneg.2 (by norm_num)
theorem side2 : 0 ≤ val 0x41A00000#32 := by
  rw [show val 0x41A00000#32 = ((20 : ℝ) : EReal) by simp [val, Ideal.ofBits, Ideal.ieee, -EReal.coe_mul, -EReal.coe_neg]; norm_num]
  exact EReal.coe_nonneg.2 (by norm_num)

section Ties

variable (a : FVec Ideal Cert.ReferenceIdeal.S64x1000x5 .f32) (ha : ∀ i, 0 ≤ a i)

/-- Constants of a scale are tied where their words are. -/
theorem tied (fs : BitVec 32) (hf : 0 ≤ val fs) (lw lh : Fin 3 → BitVec 32) (ls : Fin 6 → BitVec 32) (lk lr : Fin 10 → BitVec 32)
    (hw : ∀ c : Fin 3, lw c = ls ⟨c.val * 2 + (0 : Fin 2).val, by simp; omega⟩) (hh : ∀ c : Fin 3, lh c = ls ⟨c.val * 2 + (1 : Fin 2).val, by simp; omega⟩)
    (ho : ∀ q, val (lk q) = val (lr q) * val 0x3F000000#32) (ha : ∀ i, 0 ≤ a i) :
    Tied (Cert.KernelIdeal.comparator_f32_i32_d0 (F := Ideal)) fs (sizes lw) (sizes lh) (sizesR ls) (offs lk) (offsR lr) a where
  hc := sort_order
  hw c := (sizes_at lw c).trans ((congrArg val (hw c)).trans (sizesR_at ls c 0).symm)
  hh c := (sizes_at lh c).trans ((congrArg val (hh c)).trans (sizesR_at ls c 1).symm)
  ho := offs_at lk lr ho
  hf := hf
  ha := ha

include ha

theorem tied0 : Tied (Cert.KernelIdeal.comparator_f32_i32_d0 (F := Ideal)) 0x42A00000#32 (sizes Cert.KernelIdeal.lit0) (sizes Cert.KernelIdeal.lit1)
    (sizesR Cert.ReferenceIdeal.lit1) (offs Cert.KernelIdeal.lit2) (offsR Cert.ReferenceIdeal.lit0) a :=
  tied a _ side0 _ _ _ _ _ (by decide) (by decide) moves ha

theorem tied1 : Tied (Cert.KernelIdeal.comparator_f32_i32_d0 (F := Ideal)) 0x42200000#32 (sizes Cert.KernelIdeal.lit3) (sizes Cert.KernelIdeal.lit4)
    (sizesR Cert.ReferenceIdeal.lit3) (offs Cert.KernelIdeal.lit5) (offsR Cert.ReferenceIdeal.lit2) a :=
  tied a _ side1 _ _ _ _ _ (by decide) (by decide) moves ha

theorem tied2 : Tied (Cert.KernelIdeal.comparator_f32_i32_d0 (F := Ideal)) 0x41A00000#32 (sizes Cert.KernelIdeal.lit6) (sizes Cert.KernelIdeal.lit7)
    (sizesR Cert.ReferenceIdeal.lit5) (offs Cert.KernelIdeal.lit8) (offsR Cert.ReferenceIdeal.lit4) a :=
  tied a _ side2 _ _ _ _ _ (by decide) (by decide) moves ha

end Ties

end Cert.Targets

namespace Cert.Pre_nonneg

open Idealize.ShloMosaic

/-- The shape relations the precondition takes. -/
theorem facts : Facts where
  bcast_S_S64x1000x5 := by decide
  reducesTo_S64x1000x5_S_d0_1_2 := by decide
  h_S_ := by decide

instance : Subsingleton S_.Idx := ⟨fun _ _ => funext fun d => d.elim0⟩

/-- Labels the precondition holds of have no negative entry. -/
theorem entries_nonneg [Facts] (a : FVec Ideal S64x1000x5 .f32) (h : fn (F := Ideal) a = fun _ => 1#1) (i : S64x1000x5.Idx) : 0 ≤ a i := by
  unfold fn at h
  have e := Host.reduce_andi_all _ _ Facts.reducesTo_S64x1000x5_S_d0_1_2 Facts.h_S_ (fun d => d.elim0) (congrFun h _) i
  replace e : Ideal.cmp .oge (a i) (Ideal.ofBits .f32 0x00000000#32) = 1#1 := e
  rw [Ideal.ofBits_zero_f32] at e
  by_contra n
  rw [show Ideal.cmp .oge (a i) 0 = 0#1 by simp [Ideal.cmp, n]] at e
  exact absurd e (by decide)

end Cert.Pre_nonneg

end
-- ==== Proof.lean ====
/- The kernel and the reference end, leave the labels as they were, and where no label is negative give the same twelve results over the reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Tables
public import Idealize.ShloMosaic.Adequacy

@[expose] public section

noncomputable section

namespace Cert.Proof

open Idealize.ShloMosaic Idealize.ShloMosaic.TcCoe Idealize.SL.Sem Cert.Targets Cert.KernelIdeal.Gen

/-- The reference ends with its labels as launched and nothing pending. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0 :=
  (θ_run Cert.ReferenceIdeal.defs _ _).mono (fun r h => ⟨fun c => (h c).2.2.2.2.2.2.2.2.2.2.2.2, sem_eq_zero_of_no_sems (by decide) r.2⟩)
    (Cert.ReferenceIdeal.Value.values m ρ)

/-- The twelve results of the reference are the kernel's, where no label is negative. -/
theorem same_results (m : (ℓ : Loc Cert.ReferenceIdeal.nD Cert.ReferenceIdeal.τ Cert.ReferenceIdeal.sig) → Buf (Elt Ideal) ℓ)
    (ρ : Dev Cert.ReferenceIdeal.nD → PrngReg) (a : Dev Cert.ReferenceIdeal.nD → FVec Ideal Cert.ReferenceIdeal.S64x1000x5 .f32) (ha : ∀ c i, 0 ≤ a c i)
    (hm : ∀ c : Dev Cert.ReferenceIdeal.nD, m ((c.tc : Thread Cert.ReferenceIdeal.nD Cert.ReferenceIdeal.τ).loc Cert.ReferenceIdeal.main_arg0) = a c) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
      r.2.mem ((c.tc : Thread Cert.ReferenceIdeal.nD Cert.ReferenceIdeal.τ).loc Cert.ReferenceIdeal.main_v96) = anchor0 (a c)
      ∧ r.2.mem ((c.tc : Thread Cert.ReferenceIdeal.nD Cert.ReferenceIdeal.τ).loc Cert.ReferenceIdeal.main_v90) = row0 (a c)
      ∧ r.2.mem ((c.tc : Thread Cert.ReferenceIdeal.nD Cert.ReferenceIdeal.τ).loc Cert.ReferenceIdeal.main_v88) = col0 (a c)
      ∧ r.2.mem ((c.tc : Thread Cert.ReferenceIdeal.nD Cert.ReferenceIdeal.τ).loc Cert.ReferenceIdeal.main_v99) = boxT0 (a c)
      ∧ r.2.mem ((c.tc : Thread Cert.ReferenceIdeal.nD Cert.ReferenceIdeal.τ).loc Cert.ReferenceIdeal.main_v196) = anchor1 (a c)
      ∧ r.2.mem ((c.tc : Thread Cert.ReferenceIdeal.nD Cert.ReferenceIdeal.τ).loc Cert.ReferenceIdeal.main_v190) = row1 (a c)
      ∧ r.2.mem ((c.tc : Thread Cert.ReferenceIdeal.nD Cert.ReferenceIdeal.τ).loc Cert.ReferenceIdeal.main_v188) = col1 (a c)
      ∧ r.2.mem ((c.tc : Thread Cert.ReferenceIdeal.nD Cert.ReferenceIdeal.τ).loc Cert.ReferenceIdeal.main_v199) = boxT1 (a c)
      ∧ r.2.mem ((c.tc : Thread Cert.ReferenceIdeal.nD Cert.ReferenceIdeal.τ).loc Cert.ReferenceIdeal.main_v296) = anchor2 (a c)
      ∧ r.2.mem ((c.tc : Thread Cert.ReferenceIdeal.nD Cert.ReferenceIdeal.τ).loc Cert.ReferenceIdeal.main_v290) = row2 (a c)
      ∧ r.2.mem ((c.tc : Thread Cert.ReferenceIdeal.nD Cert.ReferenceIdeal.τ).loc Cert.ReferenceIdeal.main_v288) = col2 (a c)
      ∧ r.2.mem ((c.tc : Thread Cert.ReferenceIdeal.nD Cert.ReferenceIdeal.τ).loc Cert.ReferenceIdeal.main_v299) = boxT2 (a c)
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) := by
  refine (θ_run Cert.ReferenceIdeal.defs _ _).mono (fun r h c => ?_) (Cert.ReferenceIdeal.Value.values m ρ)
  obtain ⟨h0, h1, h2, h3, h4, h5, h6, h7, h8, h9, h10, h11, harg⟩ := h c
  rw [hm c] at h0 h1 h2 h3 h4 h5 h6 h7 h8 h9 h10 h11
  have E0 := tied0 (a c) (ha c)
  have E1 := tied1 (a c) (ha c)
  have E2 := tied2 (a c) (ha c)
  exact ⟨h0.trans (anchor_eq sel0 taken0 E0).symm, h1.trans (row_eq sel0 taken0 E0 _).symm, h2.trans (col_eq sel0 taken0 E0 _).symm,
    h3.trans (box_eq sel0 taken0 E0 _).symm, h4.trans (anchor_eq sel1 taken1 E1).symm, h5.trans (row_eq sel1 taken1 E1 _).symm,
    h6.trans (col_eq sel1 taken1 E1 _).symm, h7.trans (box_eq sel1 taken1 E1 _).symm, h8.trans (anchor_eq sel2 taken2 E2).symm,
    h9.trans (row_eq sel2 taken2 E2 _).symm, h10.trans (col_eq sel2 taken2 E2 _).symm, h11.trans (box_eq sel2 taken2 E2 _).symm, harg⟩

theorem claim : Cert.Claim := by
  refine ⟨Cert.Kernel.Gen.facts, Cert.KernelIdeal.Gen.facts, Cert.ReferenceIdeal.Gen.facts, Cert.Pre_nonneg.facts, fun m ρ _ => Cert.Kernel.Gen.frame m ρ,
    fun m ρ _ => Cert.KernelIdeal.Gen.frame m ρ, fun m ρ _ => Cert.KernelIdeal.Gen.frame m ρ, fun m ρ _ => reference_frame m ρ,
    fun m ρ _ => reference_frame m ρ, trivial, fun m g m' g' pre same => ?_⟩
  have ha : ∀ c i, 0 ≤ labels m c i := fun c => @Cert.Pre_nonneg.entries_nonneg Cert.Pre_nonneg.facts (labels m c) (pre c)
  exact ⟨fun c => anchor0 (labels m c), fun c => row0 (labels m c), fun c => col0 (labels m c), fun c => boxT0 (labels m c),
    fun c => anchor1 (labels m c), fun c => row1 (labels m c), fun c => col1 (labels m c), fun c => boxT1 (labels m c),
    fun c => anchor2 (labels m c), fun c => row2 (labels m c), fun c => col2 (labels m c), fun c => boxT2 (labels m c),
    run m g, same_results m' g' (fun c => labels m c) ha same⟩

end Cert.Proof

end
